-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxReferenceIdeal (m : (ℓ : Loc Cert.DownDxReferenceIdeal.nD Cert.DownDxReferenceIdeal.τ Cert.DownDxReferenceIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxReferenceIdeal (m : (ℓ : Loc Cert.UpDxReferenceIdeal.nD Cert.UpDxReferenceIdeal.τ Cert.UpDxReferenceIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxReferenceIdeal (m : (ℓ : Loc Cert.InDxReferenceIdeal.nD Cert.InDxReferenceIdeal.τ Cert.InDxReferenceIdeal.sig) → Buf (Elt Ideal) ℓ) : Prop :=
  True

def Pre_InDwA (m : (ℓ : Loc Cert.InDwA.nD Cert.InDwA.τ Cert.InDwA.sig) → Buf (Elt Bits) ℓ) : Prop :=
  True

def Pre_InDwAIdeal (m : (ℓ : Loc Cert.InDwAIdeal.nD Cert.InDwAIdeal.τ Cert.InDwAIdeal.sig) → Buf (Elt Ideal) ℓ) : Prop :=
  True

def Pre_InDwAReferenceIdeal (m : (ℓ : Loc Cert.InDwAReferenceIdeal.nD Cert.InDwAReferenceIdeal.τ Cert.InDwAReferenceIdeal.sig) → Buf (Elt Ideal) ℓ) : Prop :=
  True

def Pre_InDwB (m : (ℓ : Loc Cert.InDwB.nD Cert.InDwB.τ Cert.InDwB.sig) → Buf (Elt Bits) ℓ) : Prop :=
  True

def Pre_InDwBIdeal (m : (ℓ : Loc Cert.InDwBIdeal.nD Cert.InDwBIdeal.τ Cert.InDwBIdeal.sig) → Buf (Elt Ideal) ℓ) : Prop :=
  True

def Pre_InDwBReferenceIdeal (m : (ℓ : Loc Cert.InDwBReferenceIdeal.nD Cert.InDwBReferenceIdeal.τ Cert.InDwBReferenceIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxReferenceIdeal (m : (ℓ : Loc Cert.OutDxReferenceIdeal.nD Cert.OutDxReferenceIdeal.τ Cert.OutDxReferenceIdeal.sig) → Buf (Elt Ideal) ℓ) : Prop :=
  True

def Pre_GateDw (m : (ℓ : Loc Cert.GateDw.nD Cert.GateDw.τ Cert.GateDw.sig) → Buf (Elt Bits) ℓ) : Prop :=
  True

def Pre_GateDwIdeal (m : (ℓ : Loc Cert.GateDwIdeal.nD Cert.GateDwIdeal.τ Cert.GateDwIdeal.sig) → Buf (Elt Ideal) ℓ) : Prop :=
  True

def Pre_GateDwReferenceIdeal (m : (ℓ : Loc Cert.GateDwReferenceIdeal.nD Cert.GateDwReferenceIdeal.τ Cert.GateDwReferenceIdeal.sig) → Buf (Elt Ideal) ℓ) : Prop :=
  True

def Pre_GateDx (m : (ℓ : Loc Cert.GateDx.nD Cert.GateDx.τ Cert.GateDx.sig) → Buf (Elt Bits) ℓ) : Prop :=
  True

def Pre_GateDxIdeal (m : (ℓ : Loc Cert.GateDxIdeal.nD Cert.GateDxIdeal.τ Cert.GateDxIdeal.sig) → Buf (Elt Ideal) ℓ) : Prop :=
  True

def Pre_GateDxReferenceIdeal (m : (ℓ : Loc Cert.GateDxReferenceIdeal.nD Cert.GateDxReferenceIdeal.τ Cert.GateDxReferenceIdeal.sig) → Buf (Elt Ideal) ℓ) : Prop :=
  True

def Pre_PleDw (m : (ℓ : Loc Cert.PleDw.nD Cert.PleDw.τ Cert.PleDw.sig) → Buf (Elt Bits) ℓ) : Prop :=
  True

def Pre_PleDwIdeal (m : (ℓ : Loc Cert.PleDwIdeal.nD Cert.PleDwIdeal.τ Cert.PleDwIdeal.sig) → Buf (Elt Ideal) ℓ) : Prop :=
  True

def Pre_PleDwReferenceIdeal (m : (ℓ : Loc Cert.PleDwReferenceIdeal.nD Cert.PleDwReferenceIdeal.τ Cert.PleDwReferenceIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdReferenceIdeal (m : (ℓ : Loc Cert.InFwdReferenceIdeal.nD Cert.InFwdReferenceIdeal.τ Cert.InFwdReferenceIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdReferenceIdeal (m : (ℓ : Loc Cert.UpFwdReferenceIdeal.nD Cert.UpFwdReferenceIdeal.τ Cert.UpFwdReferenceIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdReferenceIdeal (m : (ℓ : Loc Cert.DownFwdReferenceIdeal.nD Cert.DownFwdReferenceIdeal.τ Cert.DownFwdReferenceIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdReferenceIdeal (m : (ℓ : Loc Cert.OutFwdReferenceIdeal.nD Cert.OutFwdReferenceIdeal.τ Cert.OutFwdReferenceIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdReferenceIdeal (m : (ℓ : Loc Cert.GateFwdReferenceIdeal.nD Cert.GateFwdReferenceIdeal.τ Cert.GateFwdReferenceIdeal.sig) → Buf (Elt Ideal) ℓ) : Prop :=
  True

def Pre_PleFwd (m : (ℓ : Loc Cert.PleFwd.nD Cert.PleFwd.τ Cert.PleFwd.sig) → Buf (Elt Bits) ℓ) : Prop :=
  True

def Pre_PleFwdIdeal (m : (ℓ : Loc Cert.PleFwdIdeal.nD Cert.PleFwdIdeal.τ Cert.PleFwdIdeal.sig) → Buf (Elt Ideal) ℓ) : Prop :=
  True

def Pre_PleFwdReferenceIdeal (m : (ℓ : Loc Cert.PleFwdReferenceIdeal.nD Cert.PleFwdReferenceIdeal.τ Cert.PleFwdReferenceIdeal.sig) → Buf (Elt Ideal) ℓ) : Prop :=
  True

def Pre_Narrow (m : (ℓ : Loc Cert.Narrow.nD Cert.Narrow.τ Cert.Narrow.sig) → Buf (Elt Bits) ℓ) : Prop :=
  True

def Pre_NarrowIdeal (m : (ℓ : Loc Cert.NarrowIdeal.nD Cert.NarrowIdeal.τ Cert.NarrowIdeal.sig) → Buf (Elt Ideal) ℓ) : Prop :=
  True

def Pre_NarrowReferenceIdeal (m : (ℓ : Loc Cert.NarrowReferenceIdeal.nD Cert.NarrowReferenceIdeal.τ Cert.NarrowReferenceIdeal.sig) → Buf (Elt Ideal) ℓ) : Prop :=
  True

def Pre_NarrowDw (m : (ℓ : Loc Cert.NarrowDw.nD Cert.NarrowDw.τ Cert.NarrowDw.sig) → Buf (Elt Bits) ℓ) : Prop :=
  True

def Pre_NarrowDwIdeal (m : (ℓ : Loc Cert.NarrowDwIdeal.nD Cert.NarrowDwIdeal.τ Cert.NarrowDwIdeal.sig) → Buf (Elt Ideal) ℓ) : Prop :=
  True

def Pre_NarrowDwReferenceIdeal (m : (ℓ : Loc Cert.NarrowDwReferenceIdeal.nD Cert.NarrowDwReferenceIdeal.τ Cert.NarrowDwReferenceIdeal.sig) → Buf (Elt Ideal) ℓ) : Prop :=
  True

def Pre_NarrowDx (m : (ℓ : Loc Cert.NarrowDx.nD Cert.NarrowDx.τ Cert.NarrowDx.sig) → Buf (Elt Bits) ℓ) : Prop :=
  True

def Pre_NarrowDxIdeal (m : (ℓ : Loc Cert.NarrowDxIdeal.nD Cert.NarrowDxIdeal.τ Cert.NarrowDxIdeal.sig) → Buf (Elt Ideal) ℓ) : Prop :=
  True

def Pre_NarrowDxReferenceIdeal (m : (ℓ : Loc Cert.NarrowDxReferenceIdeal.nD Cert.NarrowDxReferenceIdeal.τ Cert.NarrowDxReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2)
      ∧ r.2.mem ((c.tc : Thread Cert.DownDx.nD Cert.DownDx.τ).loc Cert.DownDx.main_arg3) = m ((c.tc : Thread Cert.DownDx.nD Cert.DownDx.τ).loc Cert.DownDx.main_arg3))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2)
      ∧ r.2.mem ((c.tc : Thread Cert.DownDxIdeal.nD Cert.DownDxIdeal.τ).loc Cert.DownDxIdeal.main_arg3) = m ((c.tc : Thread Cert.DownDxIdeal.nD Cert.DownDxIdeal.τ).loc Cert.DownDxIdeal.main_arg3))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1)
      ∧ r.2.mem ((c.tc : Thread Cert.DownDxReferenceIdeal.nD Cert.DownDxReferenceIdeal.τ).loc Cert.DownDxReferenceIdeal.main_arg2) = m ((c.tc : Thread Cert.DownDxReferenceIdeal.nD Cert.DownDxReferenceIdeal.τ).loc Cert.DownDxReferenceIdeal.main_arg2)
      ∧ r.2.mem ((c.tc : Thread Cert.DownDxReferenceIdeal.nD Cert.DownDxReferenceIdeal.τ).loc Cert.DownDxReferenceIdeal.main_arg3) = m ((c.tc : Thread Cert.DownDxReferenceIdeal.nD Cert.DownDxReferenceIdeal.τ).loc Cert.DownDxReferenceIdeal.main_arg3))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1)
      ∧ r.2.mem ((c.tc : Thread Cert.DownDwReferenceIdeal.nD Cert.DownDwReferenceIdeal.τ).loc Cert.DownDwReferenceIdeal.main_arg2) = m ((c.tc : Thread Cert.DownDwReferenceIdeal.nD Cert.DownDwReferenceIdeal.τ).loc Cert.DownDwReferenceIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2)
      ∧ r.2.mem ((c.tc : Thread Cert.UpDw.nD Cert.UpDw.τ).loc Cert.UpDw.main_arg3) = m ((c.tc : Thread Cert.UpDw.nD Cert.UpDw.τ).loc Cert.UpDw.main_arg3))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2)
      ∧ r.2.mem ((c.tc : Thread Cert.UpDwIdeal.nD Cert.UpDwIdeal.τ).loc Cert.UpDwIdeal.main_arg3) = m ((c.tc : Thread Cert.UpDwIdeal.nD Cert.UpDwIdeal.τ).loc Cert.UpDwIdeal.main_arg3))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1)
      ∧ r.2.mem ((c.tc : Thread Cert.UpDwReferenceIdeal.nD Cert.UpDwReferenceIdeal.τ).loc Cert.UpDwReferenceIdeal.main_arg2) = m ((c.tc : Thread Cert.UpDwReferenceIdeal.nD Cert.UpDwReferenceIdeal.τ).loc Cert.UpDwReferenceIdeal.main_arg2)
      ∧ r.2.mem ((c.tc : Thread Cert.UpDwReferenceIdeal.nD Cert.UpDwReferenceIdeal.τ).loc Cert.UpDwReferenceIdeal.main_arg3) = m ((c.tc : Thread Cert.UpDwReferenceIdeal.nD Cert.UpDwReferenceIdeal.τ).loc Cert.UpDwReferenceIdeal.main_arg3))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3))
      ∧ r.2.sem = fun _ => 0)

def quiescent_UpDxReferenceIdeal [hUpDxReferenceIdeal : Cert.UpDxReferenceIdeal.Facts] : Prop :=
  ∀ (m : (ℓ : Loc Cert.UpDxReferenceIdeal.nD Cert.UpDxReferenceIdeal.τ Cert.UpDxReferenceIdeal.sig) → Buf (Elt Ideal) ℓ) (g : Dev Cert.UpDxReferenceIdeal.nD → PrngReg), Pre_UpDxReferenceIdeal m →
    θ_run (Cert.UpDxReferenceIdeal.defs (F := Ideal)) (onTc (τ := Cert.UpDxReferenceIdeal.τ) (Cert.UpDxReferenceIdeal.main (F := Ideal))) ⟨m, fun _ => 0, g⟩ (fun r => (∀ c : Dev Cert.UpDxReferenceIdeal.nD,
      r.2.mem ((c.tc : Thread Cert.UpDxReferenceIdeal.nD Cert.UpDxReferenceIdeal.τ).loc Cert.UpDxReferenceIdeal.main_arg0) = m ((c.tc : Thread Cert.UpDxReferenceIdeal.nD Cert.UpDxReferenceIdeal.τ).loc Cert.UpDxReferenceIdeal.main_arg0)
      ∧ r.2.mem ((c.tc : Thread Cert.UpDxReferenceIdeal.nD Cert.UpDxReferenceIdeal.τ).loc Cert.UpDxReferenceIdeal.main_arg1) = m ((c.tc : Thread Cert.UpDxReferenceIdeal.nD Cert.UpDxReferenceIdeal.τ).loc Cert.UpDxReferenceIdeal.main_arg1)
      ∧ r.2.mem ((c.tc : Thread Cert.UpDxReferenceIdeal.nD Cert.UpDxReferenceIdeal.τ).loc Cert.UpDxReferenceIdeal.main_arg2) = m ((c.tc : Thread Cert.UpDxReferenceIdeal.nD Cert.UpDxReferenceIdeal.τ).loc Cert.UpDxReferenceIdeal.main_arg2)
      ∧ r.2.mem ((c.tc : Thread Cert.UpDxReferenceIdeal.nD Cert.UpDxReferenceIdeal.τ).loc Cert.UpDxReferenceIdeal.main_arg3) = m ((c.tc : Thread Cert.UpDxReferenceIdeal.nD Cert.UpDxReferenceIdeal.τ).loc Cert.UpDxReferenceIdeal.main_arg3))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ r.2.sem = fun _ => 0)

def quiescent_InDxReferenceIdeal [hInDxReferenceIdeal : Cert.InDxReferenceIdeal.Facts] : Prop :=
  ∀ (m : (ℓ : Loc Cert.InDxReferenceIdeal.nD Cert.InDxReferenceIdeal.τ Cert.InDxReferenceIdeal.sig) → Buf (Elt Ideal) ℓ) (g : Dev Cert.InDxReferenceIdeal.nD → PrngReg), Pre_InDxReferenceIdeal m →
    θ_run (Cert.InDxReferenceIdeal.defs (F := Ideal)) (onTc (τ := Cert.InDxReferenceIdeal.τ) (Cert.InDxReferenceIdeal.main (F := Ideal))) ⟨m, fun _ => 0, g⟩ (fun r => (∀ c : Dev Cert.InDxReferenceIdeal.nD,
      r.2.mem ((c.tc : Thread Cert.InDxReferenceIdeal.nD Cert.InDxReferenceIdeal.τ).loc Cert.InDxReferenceIdeal.main_arg0) = m ((c.tc : Thread Cert.InDxReferenceIdeal.nD Cert.InDxReferenceIdeal.τ).loc Cert.InDxReferenceIdeal.main_arg0)
      ∧ r.2.mem ((c.tc : Thread Cert.InDxReferenceIdeal.nD Cert.InDxReferenceIdeal.τ).loc Cert.InDxReferenceIdeal.main_arg1) = m ((c.tc : Thread Cert.InDxReferenceIdeal.nD Cert.InDxReferenceIdeal.τ).loc Cert.InDxReferenceIdeal.main_arg1)
      ∧ r.2.mem ((c.tc : Thread Cert.InDxReferenceIdeal.nD Cert.InDxReferenceIdeal.τ).loc Cert.InDxReferenceIdeal.main_arg2) = m ((c.tc : Thread Cert.InDxReferenceIdeal.nD Cert.InDxReferenceIdeal.τ).loc Cert.InDxReferenceIdeal.main_arg2))
      ∧ r.2.sem = fun _ => 0)

def quiescent_InDwA [hInDwA : Cert.InDwA.Facts] : Prop :=
  ∀ (m : (ℓ : Loc Cert.InDwA.nD Cert.InDwA.τ Cert.InDwA.sig) → Buf (Elt Bits) ℓ) (g : Dev Cert.InDwA.nD → PrngReg), Pre_InDwA m →
    θ_run (Cert.InDwA.defs (F := Bits)) (onTc (τ := Cert.InDwA.τ) (Cert.InDwA.main (F := Bits))) ⟨m, fun _ => 0, g⟩ (fun r => (∀ c : Dev Cert.InDwA.nD,
      r.2.mem ((c.tc : Thread Cert.InDwA.nD Cert.InDwA.τ).loc Cert.InDwA.main_arg0) = m ((c.tc : Thread Cert.InDwA.nD Cert.InDwA.τ).loc Cert.InDwA.main_arg0)
      ∧ r.2.mem ((c.tc : Thread Cert.InDwA.nD Cert.InDwA.τ).loc Cert.InDwA.main_arg1) = m ((c.tc : Thread Cert.InDwA.nD Cert.InDwA.τ).loc Cert.InDwA.main_arg1)
      ∧ r.2.mem ((c.tc : Thread Cert.InDwA.nD Cert.InDwA.τ).loc Cert.InDwA.main_arg2) = m ((c.tc : Thread Cert.InDwA.nD Cert.InDwA.τ).loc Cert.InDwA.main_arg2))
      ∧ r.2.sem = fun _ => 0)

def quiescent_InDwAIdeal [hInDwAIdeal : Cert.InDwAIdeal.Facts] : Prop :=
  ∀ (m : (ℓ : Loc Cert.InDwAIdeal.nD Cert.InDwAIdeal.τ Cert.InDwAIdeal.sig) → Buf (Elt Ideal) ℓ) (g : Dev Cert.InDwAIdeal.nD → PrngReg), Pre_InDwAIdeal m →
    θ_run (Cert.InDwAIdeal.defs (F := Ideal)) (onTc (τ := Cert.InDwAIdeal.τ) (Cert.InDwAIdeal.main (F := Ideal))) ⟨m, fun _ => 0, g⟩ (fun r => (∀ c : Dev Cert.InDwAIdeal.nD,
      r.2.mem ((c.tc : Thread Cert.InDwAIdeal.nD Cert.InDwAIdeal.τ).loc Cert.InDwAIdeal.main_arg0) = m ((c.tc : Thread Cert.InDwAIdeal.nD Cert.InDwAIdeal.τ).loc Cert.InDwAIdeal.main_arg0)
      ∧ r.2.mem ((c.tc : Thread Cert.InDwAIdeal.nD Cert.InDwAIdeal.τ).loc Cert.InDwAIdeal.main_arg1) = m ((c.tc : Thread Cert.InDwAIdeal.nD Cert.InDwAIdeal.τ).loc Cert.InDwAIdeal.main_arg1)
      ∧ r.2.mem ((c.tc : Thread Cert.InDwAIdeal.nD Cert.InDwAIdeal.τ).loc Cert.InDwAIdeal.main_arg2) = m ((c.tc : Thread Cert.InDwAIdeal.nD Cert.InDwAIdeal.τ).loc Cert.InDwAIdeal.main_arg2))
      ∧ r.2.sem = fun _ => 0)

def quiescent_InDwAReferenceIdeal [hInDwAReferenceIdeal : Cert.InDwAReferenceIdeal.Facts] : Prop :=
  ∀ (m : (ℓ : Loc Cert.InDwAReferenceIdeal.nD Cert.InDwAReferenceIdeal.τ Cert.InDwAReferenceIdeal.sig) → Buf (Elt Ideal) ℓ) (g : Dev Cert.InDwAReferenceIdeal.nD → PrngReg), Pre_InDwAReferenceIdeal m →
    θ_run (Cert.InDwAReferenceIdeal.defs (F := Ideal)) (onTc (τ := Cert.InDwAReferenceIdeal.τ) (Cert.InDwAReferenceIdeal.main (F := Ideal))) ⟨m, fun _ => 0, g⟩ (fun r => (∀ c : Dev Cert.InDwAReferenceIdeal.nD,
      r.2.mem ((c.tc : Thread Cert.InDwAReferenceIdeal.nD Cert.InDwAReferenceIdeal.τ).loc Cert.InDwAReferenceIdeal.main_arg0) = m ((c.tc : Thread Cert.InDwAReferenceIdeal.nD Cert.InDwAReferenceIdeal.τ).loc Cert.InDwAReferenceIdeal.main_arg0)
      ∧ r.2.mem ((c.tc : Thread Cert.InDwAReferenceIdeal.nD Cert.InDwAReferenceIdeal.τ).loc Cert.InDwAReferenceIdeal.main_arg1) = m ((c.tc : Thread Cert.InDwAReferenceIdeal.nD Cert.InDwAReferenceIdeal.τ).loc Cert.InDwAReferenceIdeal.main_arg1)
      ∧ r.2.mem ((c.tc : Thread Cert.InDwAReferenceIdeal.nD Cert.InDwAReferenceIdeal.τ).loc Cert.InDwAReferenceIdeal.main_arg2) = m ((c.tc : Thread Cert.InDwAReferenceIdeal.nD Cert.InDwAReferenceIdeal.τ).loc Cert.InDwAReferenceIdeal.main_arg2))
      ∧ r.2.sem = fun _ => 0)

def quiescent_InDwB [hInDwB : Cert.InDwB.Facts] : Prop :=
  ∀ (m : (ℓ : Loc Cert.InDwB.nD Cert.InDwB.τ Cert.InDwB.sig) → Buf (Elt Bits) ℓ) (g : Dev Cert.InDwB.nD → PrngReg), Pre_InDwB m →
    θ_run (Cert.InDwB.defs (F := Bits)) (onTc (τ := Cert.InDwB.τ) (Cert.InDwB.main (F := Bits))) ⟨m, fun _ => 0, g⟩ (fun r => (∀ c : Dev Cert.InDwB.nD,
      r.2.mem ((c.tc : Thread Cert.InDwB.nD Cert.InDwB.τ).loc Cert.InDwB.main_arg0) = m ((c.tc : Thread Cert.InDwB.nD Cert.InDwB.τ).loc Cert.InDwB.main_arg0)
      ∧ r.2.mem ((c.tc : Thread Cert.InDwB.nD Cert.InDwB.τ).loc Cert.InDwB.main_arg1) = m ((c.tc : Thread Cert.InDwB.nD Cert.InDwB.τ).loc Cert.InDwB.main_arg1)
      ∧ r.2.mem ((c.tc : Thread Cert.InDwB.nD Cert.InDwB.τ).loc Cert.InDwB.main_arg2) = m ((c.tc : Thread Cert.InDwB.nD Cert.InDwB.τ).loc Cert.InDwB.main_arg2))
      ∧ r.2.sem = fun _ => 0)

def quiescent_InDwBIdeal [hInDwBIdeal : Cert.InDwBIdeal.Facts] : Prop :=
  ∀ (m : (ℓ : Loc Cert.InDwBIdeal.nD Cert.InDwBIdeal.τ Cert.InDwBIdeal.sig) → Buf (Elt Ideal) ℓ) (g : Dev Cert.InDwBIdeal.nD → PrngReg), Pre_InDwBIdeal m →
    θ_run (Cert.InDwBIdeal.defs (F := Ideal)) (onTc (τ := Cert.InDwBIdeal.τ) (Cert.InDwBIdeal.main (F := Ideal))) ⟨m, fun _ => 0, g⟩ (fun r => (∀ c : Dev Cert.InDwBIdeal.nD,
      r.2.mem ((c.tc : Thread Cert.InDwBIdeal.nD Cert.InDwBIdeal.τ).loc Cert.InDwBIdeal.main_arg0) = m ((c.tc : Thread Cert.InDwBIdeal.nD Cert.InDwBIdeal.τ).loc Cert.InDwBIdeal.main_arg0)
      ∧ r.2.mem ((c.tc : Thread Cert.InDwBIdeal.nD Cert.InDwBIdeal.τ).loc Cert.InDwBIdeal.main_arg1) = m ((c.tc : Thread Cert.InDwBIdeal.nD Cert.InDwBIdeal.τ).loc Cert.InDwBIdeal.main_arg1)
      ∧ r.2.mem ((c.tc : Thread Cert.InDwBIdeal.nD Cert.InDwBIdeal.τ).loc Cert.InDwBIdeal.main_arg2) = m ((c.tc : Thread Cert.InDwBIdeal.nD Cert.InDwBIdeal.τ).loc Cert.InDwBIdeal.main_arg2))
      ∧ r.2.sem = fun _ => 0)

def quiescent_InDwBReferenceIdeal [hInDwBReferenceIdeal : Cert.InDwBReferenceIdeal.Facts] : Prop :=
  ∀ (m : (ℓ : Loc Cert.InDwBReferenceIdeal.nD Cert.InDwBReferenceIdeal.τ Cert.InDwBReferenceIdeal.sig) → Buf (Elt Ideal) ℓ) (g : Dev Cert.InDwBReferenceIdeal.nD → PrngReg), Pre_InDwBReferenceIdeal m →
    θ_run (Cert.InDwBReferenceIdeal.defs (F := Ideal)) (onTc (τ := Cert.InDwBReferenceIdeal.τ) (Cert.InDwBReferenceIdeal.main (F := Ideal))) ⟨m, fun _ => 0, g⟩ (fun r => (∀ c : Dev Cert.InDwBReferenceIdeal.nD,
      r.2.mem ((c.tc : Thread Cert.InDwBReferenceIdeal.nD Cert.InDwBReferenceIdeal.τ).loc Cert.InDwBReferenceIdeal.main_arg0) = m ((c.tc : Thread Cert.InDwBReferenceIdeal.nD Cert.InDwBReferenceIdeal.τ).loc Cert.InDwBReferenceIdeal.main_arg0)
      ∧ r.2.mem ((c.tc : Thread Cert.InDwBReferenceIdeal.nD Cert.InDwBReferenceIdeal.τ).loc Cert.InDwBReferenceIdeal.main_arg1) = m ((c.tc : Thread Cert.InDwBReferenceIdeal.nD Cert.InDwBReferenceIdeal.τ).loc Cert.InDwBReferenceIdeal.main_arg1)
      ∧ r.2.mem ((c.tc : Thread Cert.InDwBReferenceIdeal.nD Cert.InDwBReferenceIdeal.τ).loc Cert.InDwBReferenceIdeal.main_arg2) = m ((c.tc : Thread Cert.InDwBReferenceIdeal.nD Cert.InDwBReferenceIdeal.τ).loc Cert.InDwBReferenceIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1)
      ∧ r.2.mem ((c.tc : Thread Cert.OutDwReferenceIdeal.nD Cert.OutDwReferenceIdeal.τ).loc Cert.OutDwReferenceIdeal.main_arg2) = m ((c.tc : Thread Cert.OutDwReferenceIdeal.nD Cert.OutDwReferenceIdeal.τ).loc Cert.OutDwReferenceIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1)
      ∧ r.2.mem ((c.tc : Thread Cert.OutDx.nD Cert.OutDx.τ).loc Cert.OutDx.main_arg2) = m ((c.tc : Thread Cert.OutDx.nD Cert.OutDx.τ).loc Cert.OutDx.main_arg2))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ r.2.sem = fun _ => 0)

def quiescent_OutDxReferenceIdeal [hOutDxReferenceIdeal : Cert.OutDxReferenceIdeal.Facts] : Prop :=
  ∀ (m : (ℓ : Loc Cert.OutDxReferenceIdeal.nD Cert.OutDxReferenceIdeal.τ Cert.OutDxReferenceIdeal.sig) → Buf (Elt Ideal) ℓ) (g : Dev Cert.OutDxReferenceIdeal.nD → PrngReg), Pre_OutDxReferenceIdeal m →
    θ_run (Cert.OutDxReferenceIdeal.defs (F := Ideal)) (onTc (τ := Cert.OutDxReferenceIdeal.τ) (Cert.OutDxReferenceIdeal.main (F := Ideal))) ⟨m, fun _ => 0, g⟩ (fun r => (∀ c : Dev Cert.OutDxReferenceIdeal.nD,
      r.2.mem ((c.tc : Thread Cert.OutDxReferenceIdeal.nD Cert.OutDxReferenceIdeal.τ).loc Cert.OutDxReferenceIdeal.main_arg0) = m ((c.tc : Thread Cert.OutDxReferenceIdeal.nD Cert.OutDxReferenceIdeal.τ).loc Cert.OutDxReferenceIdeal.main_arg0)
      ∧ r.2.mem ((c.tc : Thread Cert.OutDxReferenceIdeal.nD Cert.OutDxReferenceIdeal.τ).loc Cert.OutDxReferenceIdeal.main_arg1) = m ((c.tc : Thread Cert.OutDxReferenceIdeal.nD Cert.OutDxReferenceIdeal.τ).loc Cert.OutDxReferenceIdeal.main_arg1)
      ∧ r.2.mem ((c.tc : Thread Cert.OutDxReferenceIdeal.nD Cert.OutDxReferenceIdeal.τ).loc Cert.OutDxReferenceIdeal.main_arg2) = m ((c.tc : Thread Cert.OutDxReferenceIdeal.nD Cert.OutDxReferenceIdeal.τ).loc Cert.OutDxReferenceIdeal.main_arg2))
      ∧ r.2.sem = fun _ => 0)

def quiescent_GateDw [hGateDw : Cert.GateDw.Facts] : Prop :=
  ∀ (m : (ℓ : Loc Cert.GateDw.nD Cert.GateDw.τ Cert.GateDw.sig) → Buf (Elt Bits) ℓ) (g : Dev Cert.GateDw.nD → PrngReg), Pre_GateDw m →
    θ_run (Cert.GateDw.defs (F := Bits)) (onTc (τ := Cert.GateDw.τ) (Cert.GateDw.main (F := Bits))) ⟨m, fun _ => 0, g⟩ (fun r => (∀ c : Dev Cert.GateDw.nD,
      r.2.mem ((c.tc : Thread Cert.GateDw.nD Cert.GateDw.τ).loc Cert.GateDw.main_arg0) = m ((c.tc : Thread Cert.GateDw.nD Cert.GateDw.τ).loc Cert.GateDw.main_arg0)
      ∧ r.2.mem ((c.tc : Thread Cert.GateDw.nD Cert.GateDw.τ).loc Cert.GateDw.main_arg1) = m ((c.tc : Thread Cert.GateDw.nD Cert.GateDw.τ).loc Cert.GateDw.main_arg1)
      ∧ r.2.mem ((c.tc : Thread Cert.GateDw.nD Cert.GateDw.τ).loc Cert.GateDw.main_arg2) = m ((c.tc : Thread Cert.GateDw.nD Cert.GateDw.τ).loc Cert.GateDw.main_arg2)
      ∧ r.2.mem ((c.tc : Thread Cert.GateDw.nD Cert.GateDw.τ).loc Cert.GateDw.main_arg3) = m ((c.tc : Thread Cert.GateDw.nD Cert.GateDw.τ).loc Cert.GateDw.main_arg3)
      ∧ r.2.mem ((c.tc : Thread Cert.GateDw.nD Cert.GateDw.τ).loc Cert.GateDw.main_arg4) = m ((c.tc : Thread Cert.GateDw.nD Cert.GateDw.τ).loc Cert.GateDw.main_arg4))
      ∧ r.2.sem = fun _ => 0)

def quiescent_GateDwIdeal [hGateDwIdeal : Cert.GateDwIdeal.Facts] : Prop :=
  ∀ (m : (ℓ : Loc Cert.GateDwIdeal.nD Cert.GateDwIdeal.τ Cert.GateDwIdeal.sig) → Buf (Elt Ideal) ℓ) (g : Dev Cert.GateDwIdeal.nD → PrngReg), Pre_GateDwIdeal m →
    θ_run (Cert.GateDwIdeal.defs (F := Ideal)) (onTc (τ := Cert.GateDwIdeal.τ) (Cert.GateDwIdeal.main (F := Ideal))) ⟨m, fun _ => 0, g⟩ (fun r => (∀ c : Dev Cert.GateDwIdeal.nD,
      r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
      ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1)
      ∧ r.2.mem ((c.tc : Thread Cert.GateDwIdeal.nD Cert.GateDwIdeal.τ).loc Cert.GateDwIdeal.main_arg2) = m ((c.tc : Thread Cert.GateDwIdeal.nD Cert.GateDwIdeal.τ).loc Cert.GateDwIdeal.main_arg2)
      ∧ r.2.mem ((c.tc : Thread Cert.GateDwIdeal.nD Cert.GateDwIdeal.τ).loc Cert.GateDwIdeal.main_arg3) = m ((c.tc : Thread Cert.GateDwIdeal.nD Cert.GateDwIdeal.τ).loc Cert.GateDwIdeal.main_arg3)
      ∧ r.2.mem ((c.tc : Thread Cert.GateDwIdeal.nD Cert.GateDwIdeal.τ).loc Cert.GateDwIdeal.main_arg4) = m ((c.tc : Thread Cert.GateDwIdeal.nD Cert.GateDwIdeal.τ).loc Cert.GateDwIdeal.main_arg4))
      ∧ r.2.sem = fun _ => 0)

def quiescent_GateDwReferenceIdeal [hGateDwReferenceIdeal : Cert.GateDwReferenceIdeal.Facts] : Prop :=
  ∀ (m : (ℓ : Loc Cert.GateDwReferenceIdeal.nD Cert.GateDwReferenceIdeal.τ Cert.GateDwReferenceIdeal.sig) → Buf (Elt Ideal) ℓ) (g : Dev Cert.GateDwReferenceIdeal.nD → PrngReg), Pre_GateDwReferenceIdeal m →
    θ_run (Cert.GateDwReferenceIdeal.defs (F := Ideal)) (onTc (τ := Cert.GateDwReferenceIdeal.τ) (Cert.GateDwReferenceIdeal.main (F := Ideal))) ⟨m, fun _ => 0, g⟩ (fun r => (∀ c : Dev Cert.GateDwReferenceIdeal.nD,
      r.2.mem ((c.tc : Thread Cert.GateDwReferenceIdeal.nD Cert.GateDwReferenceIdeal.τ).loc Cert.GateDwReferenceIdeal.main_arg0) = m ((c.tc : Thread Cert.GateDwReferenceIdeal.nD Cert.GateDwReferenceIdeal.τ).loc Cert.GateDwReferenceIdeal.main_arg0)
      ∧ r.2.mem ((c.tc : Thread Cert.GateDwReferenceIdeal.nD Cert.GateDwReferenceIdeal.τ).loc Cert.GateDwReferenceIdeal.main_arg1) = m ((c.tc : Thread Cert.GateDwReferenceIdeal.nD Cert.GateDwReferenceIdeal.τ).loc Cert.GateDwReferenceIdeal.main_arg1)
      ∧ r.2.mem ((c.tc : Thread Cert.GateDwReferenceIdeal.nD Cert.GateDwReferenceIdeal.τ).loc Cert.GateDwReferenceIdeal.main_arg2) = m ((c.tc : Thread Cert.GateDwReferenceIdeal.nD Cert.GateDwReferenceIdeal.τ).loc Cert.GateDwReferenceIdeal.main_arg2)
      ∧ r.2.mem ((c.tc : Thread Cert.GateDwReferenceIdeal.nD Cert.GateDwReferenceIdeal.τ).loc Cert.GateDwReferenceIdeal.main_arg3) = m ((c.tc : Thread Cert.GateDwReferenceIdeal.nD Cert.GateDwReferenceIdeal.τ).loc Cert.GateDwReferenceIdeal.main_arg3)
      ∧ r.2.mem ((c.tc : Thread Cert.GateDwReferenceIdeal.nD Cert.GateDwReferenceIdeal.τ).loc Cert.GateDwReferenceIdeal.main_arg4) = m ((c.tc : Thread Cert.GateDwReferenceIdeal.nD Cert.GateDwReferenceIdeal.τ).loc Cert.GateDwReferenceIdeal.main_arg4))
      ∧ r.2.sem = fun _ => 0)

def quiescent_GateDx [hGateDx : Cert.GateDx.Facts] : Prop :=
  ∀ (m : (ℓ : Loc Cert.GateDx.nD Cert.GateDx.τ Cert.GateDx.sig) → Buf (Elt Bits) ℓ) (g : Dev Cert.GateDx.nD → PrngReg), Pre_GateDx m →
    θ_run (Cert.GateDx.defs (F := Bits)) (onTc (τ := Cert.GateDx.τ) (Cert.GateDx.main (F := Bits))) ⟨m, fun _ => 0, g⟩ (fun r => (∀ c : Dev Cert.GateDx.nD,
      r.2.mem ((c.tc : Thread Cert.GateDx.nD Cert.GateDx.τ).loc Cert.GateDx.main_arg0) = m ((c.tc : Thread Cert.GateDx.nD Cert.GateDx.τ).loc Cert.GateDx.main_arg0)
      ∧ r.2.mem ((c.tc : Thread Cert.GateDx.nD Cert.GateDx.τ).loc Cert.GateDx.main_arg1) = m ((c.tc : Thread Cert.GateDx.nD Cert.GateDx.τ).loc Cert.GateDx.main_arg1)
      ∧ r.2.mem ((c.tc : Thread Cert.GateDx.nD Cert.GateDx.τ).loc Cert.GateDx.main_arg2) = m ((c.tc : Thread Cert.GateDx.nD Cert.GateDx.τ).loc Cert.GateDx.main_arg2)
      ∧ r.2.mem ((c.tc : Thread Cert.GateDx.nD Cert.GateDx.τ).loc Cert.GateDx.main_arg3) = m ((c.tc : Thread Cert.GateDx.nD Cert.GateDx.τ).loc Cert.GateDx.main_arg3)
      ∧ r.2.mem ((c.tc : Thread Cert.GateDx.nD Cert.GateDx.τ).loc Cert.GateDx.main_arg4) = m ((c.tc : Thread Cert.GateDx.nD Cert.GateDx.τ).loc Cert.GateDx.main_arg4))
      ∧ r.2.sem = fun _ => 0)

def quiescent_GateDxIdeal [hGateDxIdeal : Cert.GateDxIdeal.Facts] : Prop :=
  ∀ (m : (ℓ : Loc Cert.GateDxIdeal.nD Cert.GateDxIdeal.τ Cert.GateDxIdeal.sig) → Buf (Elt Ideal) ℓ) (g : Dev Cert.GateDxIdeal.nD → PrngReg), Pre_GateDxIdeal m →
    θ_run (Cert.GateDxIdeal.defs (F := Ideal)) (onTc (τ := Cert.GateDxIdeal.τ) (Cert.GateDxIdeal.main (F := Ideal))) ⟨m, fun _ => 0, g⟩ (fun r => (∀ c : Dev Cert.GateDxIdeal.nD,
      r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
      ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1)
      ∧ r.2.mem ((c.tc : Thread Cert.GateDxIdeal.nD Cert.GateDxIdeal.τ).loc Cert.GateDxIdeal.main_arg2) = m ((c.tc : Thread Cert.GateDxIdeal.nD Cert.GateDxIdeal.τ).loc Cert.GateDxIdeal.main_arg2)
      ∧ r.2.mem ((c.tc : Thread Cert.GateDxIdeal.nD Cert.GateDxIdeal.τ).loc Cert.GateDxIdeal.main_arg3) = m ((c.tc : Thread Cert.GateDxIdeal.nD Cert.GateDxIdeal.τ).loc Cert.GateDxIdeal.main_arg3)
      ∧ r.2.mem ((c.tc : Thread Cert.GateDxIdeal.nD Cert.GateDxIdeal.τ).loc Cert.GateDxIdeal.main_arg4) = m ((c.tc : Thread Cert.GateDxIdeal.nD Cert.GateDxIdeal.τ).loc Cert.GateDxIdeal.main_arg4))
      ∧ r.2.sem = fun _ => 0)

def quiescent_GateDxReferenceIdeal [hGateDxReferenceIdeal : Cert.GateDxReferenceIdeal.Facts] : Prop :=
  ∀ (m : (ℓ : Loc Cert.GateDxReferenceIdeal.nD Cert.GateDxReferenceIdeal.τ Cert.GateDxReferenceIdeal.sig) → Buf (Elt Ideal) ℓ) (g : Dev Cert.GateDxReferenceIdeal.nD → PrngReg), Pre_GateDxReferenceIdeal m →
    θ_run (Cert.GateDxReferenceIdeal.defs (F := Ideal)) (onTc (τ := Cert.GateDxReferenceIdeal.τ) (Cert.GateDxReferenceIdeal.main (F := Ideal))) ⟨m, fun _ => 0, g⟩ (fun r => (∀ c : Dev Cert.GateDxReferenceIdeal.nD,
      r.2.mem ((c.tc : Thread Cert.GateDxReferenceIdeal.nD Cert.GateDxReferenceIdeal.τ).loc Cert.GateDxReferenceIdeal.main_arg0) = m ((c.tc : Thread Cert.GateDxReferenceIdeal.nD Cert.GateDxReferenceIdeal.τ).loc Cert.GateDxReferenceIdeal.main_arg0)
      ∧ r.2.mem ((c.tc : Thread Cert.GateDxReferenceIdeal.nD Cert.GateDxReferenceIdeal.τ).loc Cert.GateDxReferenceIdeal.main_arg1) = m ((c.tc : Thread Cert.GateDxReferenceIdeal.nD Cert.GateDxReferenceIdeal.τ).loc Cert.GateDxReferenceIdeal.main_arg1)
      ∧ r.2.mem ((c.tc : Thread Cert.GateDxReferenceIdeal.nD Cert.GateDxReferenceIdeal.τ).loc Cert.GateDxReferenceIdeal.main_arg2) = m ((c.tc : Thread Cert.GateDxReferenceIdeal.nD Cert.GateDxReferenceIdeal.τ).loc Cert.GateDxReferenceIdeal.main_arg2)
      ∧ r.2.mem ((c.tc : Thread Cert.GateDxReferenceIdeal.nD Cert.GateDxReferenceIdeal.τ).loc Cert.GateDxReferenceIdeal.main_arg3) = m ((c.tc : Thread Cert.GateDxReferenceIdeal.nD Cert.GateDxReferenceIdeal.τ).loc Cert.GateDxReferenceIdeal.main_arg3)
      ∧ r.2.mem ((c.tc : Thread Cert.GateDxReferenceIdeal.nD Cert.GateDxReferenceIdeal.τ).loc Cert.GateDxReferenceIdeal.main_arg4) = m ((c.tc : Thread Cert.GateDxReferenceIdeal.nD Cert.GateDxReferenceIdeal.τ).loc Cert.GateDxReferenceIdeal.main_arg4))
      ∧ r.2.sem = fun _ => 0)

def quiescent_PleDw [hPleDw : Cert.PleDw.Facts] : Prop :=
  ∀ (m : (ℓ : Loc Cert.PleDw.nD Cert.PleDw.τ Cert.PleDw.sig) → Buf (Elt Bits) ℓ) (g : Dev Cert.PleDw.nD → PrngReg), Pre_PleDw m →
    θ_run (Cert.PleDw.defs (F := Bits)) (onTc (τ := Cert.PleDw.τ) (Cert.PleDw.main (F := Bits))) ⟨m, fun _ => 0, g⟩ (fun r => (∀ c : Dev Cert.PleDw.nD,
      r.2.mem ((c.tc : Thread Cert.PleDw.nD Cert.PleDw.τ).loc Cert.PleDw.main_arg0) = m ((c.tc : Thread Cert.PleDw.nD Cert.PleDw.τ).loc Cert.PleDw.main_arg0)
      ∧ r.2.mem ((c.tc : Thread Cert.PleDw.nD Cert.PleDw.τ).loc Cert.PleDw.main_arg1) = m ((c.tc : Thread Cert.PleDw.nD Cert.PleDw.τ).loc Cert.PleDw.main_arg1)
      ∧ r.2.mem ((c.tc : Thread Cert.PleDw.nD Cert.PleDw.τ).loc Cert.PleDw.main_arg2) = m ((c.tc : Thread Cert.PleDw.nD Cert.PleDw.τ).loc Cert.PleDw.main_arg2)
      ∧ r.2.mem ((c.tc : Thread Cert.PleDw.nD Cert.PleDw.τ).loc Cert.PleDw.main_arg3) = m ((c.tc : Thread Cert.PleDw.nD Cert.PleDw.τ).loc Cert.PleDw.main_arg3)
      ∧ r.2.mem ((c.tc : Thread Cert.PleDw.nD Cert.PleDw.τ).loc Cert.PleDw.main_arg4) = m ((c.tc : Thread Cert.PleDw.nD Cert.PleDw.τ).loc Cert.PleDw.main_arg4))
      ∧ r.2.sem = fun _ => 0)

def quiescent_PleDwIdeal [hPleDwIdeal : Cert.PleDwIdeal.Facts] : Prop :=
  ∀ (m : (ℓ : Loc Cert.PleDwIdeal.nD Cert.PleDwIdeal.τ Cert.PleDwIdeal.sig) → Buf (Elt Ideal) ℓ) (g : Dev Cert.PleDwIdeal.nD → PrngReg), Pre_PleDwIdeal m →
    θ_run (Cert.PleDwIdeal.defs (F := Ideal)) (onTc (τ := Cert.PleDwIdeal.τ) (Cert.PleDwIdeal.main (F := Ideal))) ⟨m, fun _ => 0, g⟩ (fun r => (∀ c : Dev Cert.PleDwIdeal.nD,
      r.2.mem ((c.tc : Thread Cert.PleDwIdeal.nD Cert.PleDwIdeal.τ).loc Cert.PleDwIdeal.main_arg0) = m ((c.tc : Thread Cert.PleDwIdeal.nD Cert.PleDwIdeal.τ).loc Cert.PleDwIdeal.main_arg0)
      ∧ r.2.mem ((c.tc : Thread Cert.PleDwIdeal.nD Cert.PleDwIdeal.τ).loc Cert.PleDwIdeal.main_arg1) = m ((c.tc : Thread Cert.PleDwIdeal.nD Cert.PleDwIdeal.τ).loc Cert.PleDwIdeal.main_arg1)
      ∧ r.2.mem ((c.tc : Thread Cert.PleDwIdeal.nD Cert.PleDwIdeal.τ).loc Cert.PleDwIdeal.main_arg2) = m ((c.tc : Thread Cert.PleDwIdeal.nD Cert.PleDwIdeal.τ).loc Cert.PleDwIdeal.main_arg2)
      ∧ r.2.mem ((c.tc : Thread Cert.PleDwIdeal.nD Cert.PleDwIdeal.τ).loc Cert.PleDwIdeal.main_arg3) = m ((c.tc : Thread Cert.PleDwIdeal.nD Cert.PleDwIdeal.τ).loc Cert.PleDwIdeal.main_arg3)
      ∧ r.2.mem ((c.tc : Thread Cert.PleDwIdeal.nD Cert.PleDwIdeal.τ).loc Cert.PleDwIdeal.main_arg4) = m ((c.tc : Thread Cert.PleDwIdeal.nD Cert.PleDwIdeal.τ).loc Cert.PleDwIdeal.main_arg4))
      ∧ r.2.sem = fun _ => 0)

def quiescent_PleDwReferenceIdeal [hPleDwReferenceIdeal : Cert.PleDwReferenceIdeal.Facts] : Prop :=
  ∀ (m : (ℓ : Loc Cert.PleDwReferenceIdeal.nD Cert.PleDwReferenceIdeal.τ Cert.PleDwReferenceIdeal.sig) → Buf (Elt Ideal) ℓ) (g : Dev Cert.PleDwReferenceIdeal.nD → PrngReg), Pre_PleDwReferenceIdeal m →
    θ_run (Cert.PleDwReferenceIdeal.defs (F := Ideal)) (onTc (τ := Cert.PleDwReferenceIdeal.τ) (Cert.PleDwReferenceIdeal.main (F := Ideal))) ⟨m, fun _ => 0, g⟩ (fun r => (∀ c : Dev Cert.PleDwReferenceIdeal.nD,
      r.2.mem ((c.tc : Thread Cert.PleDwReferenceIdeal.nD Cert.PleDwReferenceIdeal.τ).loc Cert.PleDwReferenceIdeal.main_arg0) = m ((c.tc : Thread Cert.PleDwReferenceIdeal.nD Cert.PleDwReferenceIdeal.τ).loc Cert.PleDwReferenceIdeal.main_arg0)
      ∧ r.2.mem ((c.tc : Thread Cert.PleDwReferenceIdeal.nD Cert.PleDwReferenceIdeal.τ).loc Cert.PleDwReferenceIdeal.main_arg1) = m ((c.tc : Thread Cert.PleDwReferenceIdeal.nD Cert.PleDwReferenceIdeal.τ).loc Cert.PleDwReferenceIdeal.main_arg1)
      ∧ r.2.mem ((c.tc : Thread Cert.PleDwReferenceIdeal.nD Cert.PleDwReferenceIdeal.τ).loc Cert.PleDwReferenceIdeal.main_arg2) = m ((c.tc : Thread Cert.PleDwReferenceIdeal.nD Cert.PleDwReferenceIdeal.τ).loc Cert.PleDwReferenceIdeal.main_arg2)
      ∧ r.2.mem ((c.tc : Thread Cert.PleDwReferenceIdeal.nD Cert.PleDwReferenceIdeal.τ).loc Cert.PleDwReferenceIdeal.main_arg3) = m ((c.tc : Thread Cert.PleDwReferenceIdeal.nD Cert.PleDwReferenceIdeal.τ).loc Cert.PleDwReferenceIdeal.main_arg3)
      ∧ r.2.mem ((c.tc : Thread Cert.PleDwReferenceIdeal.nD Cert.PleDwReferenceIdeal.τ).loc Cert.PleDwReferenceIdeal.main_arg4) = m ((c.tc : Thread Cert.PleDwReferenceIdeal.nD Cert.PleDwReferenceIdeal.τ).loc Cert.PleDwReferenceIdeal.main_arg4))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdReferenceIdeal [hInFwdReferenceIdeal : Cert.InFwdReferenceIdeal.Facts] : Prop :=
  ∀ (m : (ℓ : Loc Cert.InFwdReferenceIdeal.nD Cert.InFwdReferenceIdeal.τ Cert.InFwdReferenceIdeal.sig) → Buf (Elt Ideal) ℓ) (g : Dev Cert.InFwdReferenceIdeal.nD → PrngReg), Pre_InFwdReferenceIdeal m →
    θ_run (Cert.InFwdReferenceIdeal.defs (F := Ideal)) (onTc (τ := Cert.InFwdReferenceIdeal.τ) (Cert.InFwdReferenceIdeal.main (F := Ideal))) ⟨m, fun _ => 0, g⟩ (fun r => (∀ c : Dev Cert.InFwdReferenceIdeal.nD,
      r.2.mem ((c.tc : Thread Cert.InFwdReferenceIdeal.nD Cert.InFwdReferenceIdeal.τ).loc Cert.InFwdReferenceIdeal.main_arg0) = m ((c.tc : Thread Cert.InFwdReferenceIdeal.nD Cert.InFwdReferenceIdeal.τ).loc Cert.InFwdReferenceIdeal.main_arg0)
      ∧ r.2.mem ((c.tc : Thread Cert.InFwdReferenceIdeal.nD Cert.InFwdReferenceIdeal.τ).loc Cert.InFwdReferenceIdeal.main_arg1) = m ((c.tc : Thread Cert.InFwdReferenceIdeal.nD Cert.InFwdReferenceIdeal.τ).loc Cert.InFwdReferenceIdeal.main_arg1))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_UpFwdReferenceIdeal [hUpFwdReferenceIdeal : Cert.UpFwdReferenceIdeal.Facts] : Prop :=
  ∀ (m : (ℓ : Loc Cert.UpFwdReferenceIdeal.nD Cert.UpFwdReferenceIdeal.τ Cert.UpFwdReferenceIdeal.sig) → Buf (Elt Ideal) ℓ) (g : Dev Cert.UpFwdReferenceIdeal.nD → PrngReg), Pre_UpFwdReferenceIdeal m →
    θ_run (Cert.UpFwdReferenceIdeal.defs (F := Ideal)) (onTc (τ := Cert.UpFwdReferenceIdeal.τ) (Cert.UpFwdReferenceIdeal.main (F := Ideal))) ⟨m, fun _ => 0, g⟩ (fun r => (∀ c : Dev Cert.UpFwdReferenceIdeal.nD,
      r.2.mem ((c.tc : Thread Cert.UpFwdReferenceIdeal.nD Cert.UpFwdReferenceIdeal.τ).loc Cert.UpFwdReferenceIdeal.main_arg0) = m ((c.tc : Thread Cert.UpFwdReferenceIdeal.nD Cert.UpFwdReferenceIdeal.τ).loc Cert.UpFwdReferenceIdeal.main_arg0)
      ∧ r.2.mem ((c.tc : Thread Cert.UpFwdReferenceIdeal.nD Cert.UpFwdReferenceIdeal.τ).loc Cert.UpFwdReferenceIdeal.main_arg1) = m ((c.tc : Thread Cert.UpFwdReferenceIdeal.nD Cert.UpFwdReferenceIdeal.τ).loc Cert.UpFwdReferenceIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2)
      ∧ r.2.mem ((c.tc : Thread Cert.DownFwd.nD Cert.DownFwd.τ).loc Cert.DownFwd.main_arg3) = m ((c.tc : Thread Cert.DownFwd.nD Cert.DownFwd.τ).loc Cert.DownFwd.main_arg3)
      ∧ r.2.mem ((c.tc : Thread Cert.DownFwd.nD Cert.DownFwd.τ).loc Cert.DownFwd.main_arg4) = m ((c.tc : Thread Cert.DownFwd.nD Cert.DownFwd.τ).loc Cert.DownFwd.main_arg4))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
      ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3)
      ∧ r.2.mem ((c.tc : Thread Cert.DownFwdIdeal.nD Cert.DownFwdIdeal.τ).loc Cert.DownFwdIdeal.main_arg4) = m ((c.tc : Thread Cert.DownFwdIdeal.nD Cert.DownFwdIdeal.τ).loc Cert.DownFwdIdeal.main_arg4))
      ∧ r.2.sem = fun _ => 0)

def quiescent_DownFwdReferenceIdeal [hDownFwdReferenceIdeal : Cert.DownFwdReferenceIdeal.Facts] : Prop :=
  ∀ (m : (ℓ : Loc Cert.DownFwdReferenceIdeal.nD Cert.DownFwdReferenceIdeal.τ Cert.DownFwdReferenceIdeal.sig) → Buf (Elt Ideal) ℓ) (g : Dev Cert.DownFwdReferenceIdeal.nD → PrngReg), Pre_DownFwdReferenceIdeal m →
    θ_run (Cert.DownFwdReferenceIdeal.defs (F := Ideal)) (onTc (τ := Cert.DownFwdReferenceIdeal.τ) (Cert.DownFwdReferenceIdeal.main (F := Ideal))) ⟨m, fun _ => 0, g⟩ (fun r => (∀ c : Dev Cert.DownFwdReferenceIdeal.nD,
      r.2.mem ((c.tc : Thread Cert.DownFwdReferenceIdeal.nD Cert.DownFwdReferenceIdeal.τ).loc Cert.DownFwdReferenceIdeal.main_arg0) = m ((c.tc : Thread Cert.DownFwdReferenceIdeal.nD Cert.DownFwdReferenceIdeal.τ).loc Cert.DownFwdReferenceIdeal.main_arg0)
      ∧ r.2.mem ((c.tc : Thread Cert.DownFwdReferenceIdeal.nD Cert.DownFwdReferenceIdeal.τ).loc Cert.DownFwdReferenceIdeal.main_arg1) = m ((c.tc : Thread Cert.DownFwdReferenceIdeal.nD Cert.DownFwdReferenceIdeal.τ).loc Cert.DownFwdReferenceIdeal.main_arg1)
      ∧ r.2.mem ((c.tc : Thread Cert.DownFwdReferenceIdeal.nD Cert.DownFwdReferenceIdeal.τ).loc Cert.DownFwdReferenceIdeal.main_arg2) = m ((c.tc : Thread Cert.DownFwdReferenceIdeal.nD Cert.DownFwdReferenceIdeal.τ).loc Cert.DownFwdReferenceIdeal.main_arg2)
      ∧ r.2.mem ((c.tc : Thread Cert.DownFwdReferenceIdeal.nD Cert.DownFwdReferenceIdeal.τ).loc Cert.DownFwdReferenceIdeal.main_arg3) = m ((c.tc : Thread Cert.DownFwdReferenceIdeal.nD Cert.DownFwdReferenceIdeal.τ).loc Cert.DownFwdReferenceIdeal.main_arg3)
      ∧ r.2.mem ((c.tc : Thread Cert.DownFwdReferenceIdeal.nD Cert.DownFwdReferenceIdeal.τ).loc Cert.DownFwdReferenceIdeal.main_arg4) = m ((c.tc : Thread Cert.DownFwdReferenceIdeal.nD Cert.DownFwdReferenceIdeal.τ).loc Cert.DownFwdReferenceIdeal.main_arg4))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ r.2.sem = fun _ => 0)

def quiescent_OutFwdReferenceIdeal [hOutFwdReferenceIdeal : Cert.OutFwdReferenceIdeal.Facts] : Prop :=
  ∀ (m : (ℓ : Loc Cert.OutFwdReferenceIdeal.nD Cert.OutFwdReferenceIdeal.τ Cert.OutFwdReferenceIdeal.sig) → Buf (Elt Ideal) ℓ) (g : Dev Cert.OutFwdReferenceIdeal.nD → PrngReg), Pre_OutFwdReferenceIdeal m →
    θ_run (Cert.OutFwdReferenceIdeal.defs (F := Ideal)) (onTc (τ := Cert.OutFwdReferenceIdeal.τ) (Cert.OutFwdReferenceIdeal.main (F := Ideal))) ⟨m, fun _ => 0, g⟩ (fun r => (∀ c : Dev Cert.OutFwdReferenceIdeal.nD,
      r.2.mem ((c.tc : Thread Cert.OutFwdReferenceIdeal.nD Cert.OutFwdReferenceIdeal.τ).loc Cert.OutFwdReferenceIdeal.main_arg0) = m ((c.tc : Thread Cert.OutFwdReferenceIdeal.nD Cert.OutFwdReferenceIdeal.τ).loc Cert.OutFwdReferenceIdeal.main_arg0)
      ∧ r.2.mem ((c.tc : Thread Cert.OutFwdReferenceIdeal.nD Cert.OutFwdReferenceIdeal.τ).loc Cert.OutFwdReferenceIdeal.main_arg1) = m ((c.tc : Thread Cert.OutFwdReferenceIdeal.nD Cert.OutFwdReferenceIdeal.τ).loc Cert.OutFwdReferenceIdeal.main_arg1)
      ∧ r.2.mem ((c.tc : Thread Cert.OutFwdReferenceIdeal.nD Cert.OutFwdReferenceIdeal.τ).loc Cert.OutFwdReferenceIdeal.main_arg2) = m ((c.tc : Thread Cert.OutFwdReferenceIdeal.nD Cert.OutFwdReferenceIdeal.τ).loc Cert.OutFwdReferenceIdeal.main_arg2)
      ∧ r.2.mem ((c.tc : Thread Cert.OutFwdReferenceIdeal.nD Cert.OutFwdReferenceIdeal.τ).loc Cert.OutFwdReferenceIdeal.main_arg3) = m ((c.tc : Thread Cert.OutFwdReferenceIdeal.nD Cert.OutFwdReferenceIdeal.τ).loc Cert.OutFwdReferenceIdeal.main_arg3))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2)
      ∧ r.2.mem ((c.tc : Thread Cert.GateFwd.nD Cert.GateFwd.τ).loc Cert.GateFwd.main_arg3) = m ((c.tc : Thread Cert.GateFwd.nD Cert.GateFwd.τ).loc Cert.GateFwd.main_arg3)
      ∧ r.2.mem ((c.tc : Thread Cert.GateFwd.nD Cert.GateFwd.τ).loc Cert.GateFwd.main_arg4) = m ((c.tc : Thread Cert.GateFwd.nD Cert.GateFwd.τ).loc Cert.GateFwd.main_arg4))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
      ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
      ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4))
      ∧ r.2.sem = fun _ => 0)

def quiescent_GateFwdReferenceIdeal [hGateFwdReferenceIdeal : Cert.GateFwdReferenceIdeal.Facts] : Prop :=
  ∀ (m : (ℓ : Loc Cert.GateFwdReferenceIdeal.nD Cert.GateFwdReferenceIdeal.τ Cert.GateFwdReferenceIdeal.sig) → Buf (Elt Ideal) ℓ) (g : Dev Cert.GateFwdReferenceIdeal.nD → PrngReg), Pre_GateFwdReferenceIdeal m →
    θ_run (Cert.GateFwdReferenceIdeal.defs (F := Ideal)) (onTc (τ := Cert.GateFwdReferenceIdeal.τ) (Cert.GateFwdReferenceIdeal.main (F := Ideal))) ⟨m, fun _ => 0, g⟩ (fun r => (∀ c : Dev Cert.GateFwdReferenceIdeal.nD,
      r.2.mem ((c.tc : Thread Cert.GateFwdReferenceIdeal.nD Cert.GateFwdReferenceIdeal.τ).loc Cert.GateFwdReferenceIdeal.main_arg0) = m ((c.tc : Thread Cert.GateFwdReferenceIdeal.nD Cert.GateFwdReferenceIdeal.τ).loc Cert.GateFwdReferenceIdeal.main_arg0)
      ∧ r.2.mem ((c.tc : Thread Cert.GateFwdReferenceIdeal.nD Cert.GateFwdReferenceIdeal.τ).loc Cert.GateFwdReferenceIdeal.main_arg1) = m ((c.tc : Thread Cert.GateFwdReferenceIdeal.nD Cert.GateFwdReferenceIdeal.τ).loc Cert.GateFwdReferenceIdeal.main_arg1)
      ∧ r.2.mem ((c.tc : Thread Cert.GateFwdReferenceIdeal.nD Cert.GateFwdReferenceIdeal.τ).loc Cert.GateFwdReferenceIdeal.main_arg2) = m ((c.tc : Thread Cert.GateFwdReferenceIdeal.nD Cert.GateFwdReferenceIdeal.τ).loc Cert.GateFwdReferenceIdeal.main_arg2)
      ∧ r.2.mem ((c.tc : Thread Cert.GateFwdReferenceIdeal.nD Cert.GateFwdReferenceIdeal.τ).loc Cert.GateFwdReferenceIdeal.main_arg3) = m ((c.tc : Thread Cert.GateFwdReferenceIdeal.nD Cert.GateFwdReferenceIdeal.τ).loc Cert.GateFwdReferenceIdeal.main_arg3)
      ∧ r.2.mem ((c.tc : Thread Cert.GateFwdReferenceIdeal.nD Cert.GateFwdReferenceIdeal.τ).loc Cert.GateFwdReferenceIdeal.main_arg4) = m ((c.tc : Thread Cert.GateFwdReferenceIdeal.nD Cert.GateFwdReferenceIdeal.τ).loc Cert.GateFwdReferenceIdeal.main_arg4))
      ∧ r.2.sem = fun _ => 0)

def quiescent_PleFwd [hPleFwd : Cert.PleFwd.Facts] : Prop :=
  ∀ (m : (ℓ : Loc Cert.PleFwd.nD Cert.PleFwd.τ Cert.PleFwd.sig) → Buf (Elt Bits) ℓ) (g : Dev Cert.PleFwd.nD → PrngReg), Pre_PleFwd m →
    θ_run (Cert.PleFwd.defs (F := Bits)) (onTc (τ := Cert.PleFwd.τ) (Cert.PleFwd.main (F := Bits))) ⟨m, fun _ => 0, g⟩ (fun r => (∀ c : Dev Cert.PleFwd.nD,
      r.2.mem ((c.tc : Thread Cert.PleFwd.nD Cert.PleFwd.τ).loc Cert.PleFwd.main_arg0) = m ((c.tc : Thread Cert.PleFwd.nD Cert.PleFwd.τ).loc Cert.PleFwd.main_arg0)
      ∧ r.2.mem ((c.tc : Thread Cert.PleFwd.nD Cert.PleFwd.τ).loc Cert.PleFwd.main_arg1) = m ((c.tc : Thread Cert.PleFwd.nD Cert.PleFwd.τ).loc Cert.PleFwd.main_arg1))
      ∧ r.2.sem = fun _ => 0)

def quiescent_PleFwdIdeal [hPleFwdIdeal : Cert.PleFwdIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg), Pre_PleFwdIdeal m →
    θ_run (Cert.PleFwdIdeal.defs (F := Ideal)) (onTc (τ := Cert.PleFwdIdeal.τ) (Cert.PleFwdIdeal.main (F := Ideal))) ⟨m, fun _ => 0, g⟩ (fun r => (∀ c : Dev Cert.PleFwdIdeal.nD,
      r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
      ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1))
      ∧ r.2.sem = fun _ => 0)

def quiescent_PleFwdReferenceIdeal [hPleFwdReferenceIdeal : Cert.PleFwdReferenceIdeal.Facts] : Prop :=
  ∀ (m : (ℓ : Loc Cert.PleFwdReferenceIdeal.nD Cert.PleFwdReferenceIdeal.τ Cert.PleFwdReferenceIdeal.sig) → Buf (Elt Ideal) ℓ) (g : Dev Cert.PleFwdReferenceIdeal.nD → PrngReg), Pre_PleFwdReferenceIdeal m →
    θ_run (Cert.PleFwdReferenceIdeal.defs (F := Ideal)) (onTc (τ := Cert.PleFwdReferenceIdeal.τ) (Cert.PleFwdReferenceIdeal.main (F := Ideal))) ⟨m, fun _ => 0, g⟩ (fun r => (∀ c : Dev Cert.PleFwdReferenceIdeal.nD,
      r.2.mem ((c.tc : Thread Cert.PleFwdReferenceIdeal.nD Cert.PleFwdReferenceIdeal.τ).loc Cert.PleFwdReferenceIdeal.main_arg0) = m ((c.tc : Thread Cert.PleFwdReferenceIdeal.nD Cert.PleFwdReferenceIdeal.τ).loc Cert.PleFwdReferenceIdeal.main_arg0)
      ∧ r.2.mem ((c.tc : Thread Cert.PleFwdReferenceIdeal.nD Cert.PleFwdReferenceIdeal.τ).loc Cert.PleFwdReferenceIdeal.main_arg1) = m ((c.tc : Thread Cert.PleFwdReferenceIdeal.nD Cert.PleFwdReferenceIdeal.τ).loc Cert.PleFwdReferenceIdeal.main_arg1))
      ∧ r.2.sem = fun _ => 0)

def quiescent_Narrow [hNarrow : Cert.Narrow.Facts] : Prop :=
  ∀ (m : (ℓ : Loc Cert.Narrow.nD Cert.Narrow.τ Cert.Narrow.sig) → Buf (Elt Bits) ℓ) (g : Dev Cert.Narrow.nD → PrngReg), Pre_Narrow m →
    θ_run (Cert.Narrow.defs (F := Bits)) (onTc (τ := Cert.Narrow.τ) (Cert.Narrow.main (F := Bits))) ⟨m, fun _ => 0, g⟩ (fun r => (∀ c : Dev Cert.Narrow.nD,
      r.2.mem ((c.tc : Thread Cert.Narrow.nD Cert.Narrow.τ).loc Cert.Narrow.main_arg0) = m ((c.tc : Thread Cert.Narrow.nD Cert.Narrow.τ).loc Cert.Narrow.main_arg0)
      ∧ r.2.mem ((c.tc : Thread Cert.Narrow.nD Cert.Narrow.τ).loc Cert.Narrow.main_arg1) = m ((c.tc : Thread Cert.Narrow.nD Cert.Narrow.τ).loc Cert.Narrow.main_arg1))
      ∧ r.2.sem = fun _ => 0)

def quiescent_NarrowIdeal [hNarrowIdeal : Cert.NarrowIdeal.Facts] : Prop :=
  ∀ (m : (ℓ : Loc Cert.NarrowIdeal.nD Cert.NarrowIdeal.τ Cert.NarrowIdeal.sig) → Buf (Elt Ideal) ℓ) (g : Dev Cert.NarrowIdeal.nD → PrngReg), Pre_NarrowIdeal m →
    θ_run (Cert.NarrowIdeal.defs (F := Ideal)) (onTc (τ := Cert.NarrowIdeal.τ) (Cert.NarrowIdeal.main (F := Ideal))) ⟨m, fun _ => 0, g⟩ (fun r => (∀ c : Dev Cert.NarrowIdeal.nD,
      r.2.mem ((c.tc : Thread Cert.NarrowIdeal.nD Cert.NarrowIdeal.τ).loc Cert.NarrowIdeal.main_arg0) = m ((c.tc : Thread Cert.NarrowIdeal.nD Cert.NarrowIdeal.τ).loc Cert.NarrowIdeal.main_arg0)
      ∧ r.2.mem ((c.tc : Thread Cert.NarrowIdeal.nD Cert.NarrowIdeal.τ).loc Cert.NarrowIdeal.main_arg1) = m ((c.tc : Thread Cert.NarrowIdeal.nD Cert.NarrowIdeal.τ).loc Cert.NarrowIdeal.main_arg1))
      ∧ r.2.sem = fun _ => 0)

def quiescent_NarrowReferenceIdeal [hNarrowReferenceIdeal : Cert.NarrowReferenceIdeal.Facts] : Prop :=
  ∀ (m : (ℓ : Loc Cert.NarrowReferenceIdeal.nD Cert.NarrowReferenceIdeal.τ Cert.NarrowReferenceIdeal.sig) → Buf (Elt Ideal) ℓ) (g : Dev Cert.NarrowReferenceIdeal.nD → PrngReg), Pre_NarrowReferenceIdeal m →
    θ_run (Cert.NarrowReferenceIdeal.defs (F := Ideal)) (onTc (τ := Cert.NarrowReferenceIdeal.τ) (Cert.NarrowReferenceIdeal.main (F := Ideal))) ⟨m, fun _ => 0, g⟩ (fun r => (∀ c : Dev Cert.NarrowReferenceIdeal.nD,
      r.2.mem ((c.tc : Thread Cert.NarrowReferenceIdeal.nD Cert.NarrowReferenceIdeal.τ).loc Cert.NarrowReferenceIdeal.main_arg0) = m ((c.tc : Thread Cert.NarrowReferenceIdeal.nD Cert.NarrowReferenceIdeal.τ).loc Cert.NarrowReferenceIdeal.main_arg0)
      ∧ r.2.mem ((c.tc : Thread Cert.NarrowReferenceIdeal.nD Cert.NarrowReferenceIdeal.τ).loc Cert.NarrowReferenceIdeal.main_arg1) = m ((c.tc : Thread Cert.NarrowReferenceIdeal.nD Cert.NarrowReferenceIdeal.τ).loc Cert.NarrowReferenceIdeal.main_arg1))
      ∧ r.2.sem = fun _ => 0)

def quiescent_NarrowDw [hNarrowDw : Cert.NarrowDw.Facts] : Prop :=
  ∀ (m : (ℓ : Loc Cert.NarrowDw.nD Cert.NarrowDw.τ Cert.NarrowDw.sig) → Buf (Elt Bits) ℓ) (g : Dev Cert.NarrowDw.nD → PrngReg), Pre_NarrowDw m →
    θ_run (Cert.NarrowDw.defs (F := Bits)) (onTc (τ := Cert.NarrowDw.τ) (Cert.NarrowDw.main (F := Bits))) ⟨m, fun _ => 0, g⟩ (fun r => (∀ c : Dev Cert.NarrowDw.nD,
      r.2.mem ((c.tc : Thread Cert.NarrowDw.nD Cert.NarrowDw.τ).loc Cert.NarrowDw.main_arg0) = m ((c.tc : Thread Cert.NarrowDw.nD Cert.NarrowDw.τ).loc Cert.NarrowDw.main_arg0)
      ∧ r.2.mem ((c.tc : Thread Cert.NarrowDw.nD Cert.NarrowDw.τ).loc Cert.NarrowDw.main_arg1) = m ((c.tc : Thread Cert.NarrowDw.nD Cert.NarrowDw.τ).loc Cert.NarrowDw.main_arg1)
      ∧ r.2.mem ((c.tc : Thread Cert.NarrowDw.nD Cert.NarrowDw.τ).loc Cert.NarrowDw.main_arg2) = m ((c.tc : Thread Cert.NarrowDw.nD Cert.NarrowDw.τ).loc Cert.NarrowDw.main_arg2))
      ∧ r.2.sem = fun _ => 0)

def quiescent_NarrowDwIdeal [hNarrowDwIdeal : Cert.NarrowDwIdeal.Facts] : Prop :=
  ∀ (m : (ℓ : Loc Cert.NarrowDwIdeal.nD Cert.NarrowDwIdeal.τ Cert.NarrowDwIdeal.sig) → Buf (Elt Ideal) ℓ) (g : Dev Cert.NarrowDwIdeal.nD → PrngReg), Pre_NarrowDwIdeal m →
    θ_run (Cert.NarrowDwIdeal.defs (F := Ideal)) (onTc (τ := Cert.NarrowDwIdeal.τ) (Cert.NarrowDwIdeal.main (F := Ideal))) ⟨m, fun _ => 0, g⟩ (fun r => (∀ c : Dev Cert.NarrowDwIdeal.nD,
      r.2.mem ((c.tc : Thread Cert.NarrowDwIdeal.nD Cert.NarrowDwIdeal.τ).loc Cert.NarrowDwIdeal.main_arg0) = m ((c.tc : Thread Cert.NarrowDwIdeal.nD Cert.NarrowDwIdeal.τ).loc Cert.NarrowDwIdeal.main_arg0)
      ∧ r.2.mem ((c.tc : Thread Cert.NarrowDwIdeal.nD Cert.NarrowDwIdeal.τ).loc Cert.NarrowDwIdeal.main_arg1) = m ((c.tc : Thread Cert.NarrowDwIdeal.nD Cert.NarrowDwIdeal.τ).loc Cert.NarrowDwIdeal.main_arg1)
      ∧ r.2.mem ((c.tc : Thread Cert.NarrowDwIdeal.nD Cert.NarrowDwIdeal.τ).loc Cert.NarrowDwIdeal.main_arg2) = m ((c.tc : Thread Cert.NarrowDwIdeal.nD Cert.NarrowDwIdeal.τ).loc Cert.NarrowDwIdeal.main_arg2))
      ∧ r.2.sem = fun _ => 0)

def quiescent_NarrowDwReferenceIdeal [hNarrowDwReferenceIdeal : Cert.NarrowDwReferenceIdeal.Facts] : Prop :=
  ∀ (m : (ℓ : Loc Cert.NarrowDwReferenceIdeal.nD Cert.NarrowDwReferenceIdeal.τ Cert.NarrowDwReferenceIdeal.sig) → Buf (Elt Ideal) ℓ) (g : Dev Cert.NarrowDwReferenceIdeal.nD → PrngReg), Pre_NarrowDwReferenceIdeal m →
    θ_run (Cert.NarrowDwReferenceIdeal.defs (F := Ideal)) (onTc (τ := Cert.NarrowDwReferenceIdeal.τ) (Cert.NarrowDwReferenceIdeal.main (F := Ideal))) ⟨m, fun _ => 0, g⟩ (fun r => (∀ c : Dev Cert.NarrowDwReferenceIdeal.nD,
      r.2.mem ((c.tc : Thread Cert.NarrowDwReferenceIdeal.nD Cert.NarrowDwReferenceIdeal.τ).loc Cert.NarrowDwReferenceIdeal.main_arg0) = m ((c.tc : Thread Cert.NarrowDwReferenceIdeal.nD Cert.NarrowDwReferenceIdeal.τ).loc Cert.NarrowDwReferenceIdeal.main_arg0)
      ∧ r.2.mem ((c.tc : Thread Cert.NarrowDwReferenceIdeal.nD Cert.NarrowDwReferenceIdeal.τ).loc Cert.NarrowDwReferenceIdeal.main_arg1) = m ((c.tc : Thread Cert.NarrowDwReferenceIdeal.nD Cert.NarrowDwReferenceIdeal.τ).loc Cert.NarrowDwReferenceIdeal.main_arg1)
      ∧ r.2.mem ((c.tc : Thread Cert.NarrowDwReferenceIdeal.nD Cert.NarrowDwReferenceIdeal.τ).loc Cert.NarrowDwReferenceIdeal.main_arg2) = m ((c.tc : Thread Cert.NarrowDwReferenceIdeal.nD Cert.NarrowDwReferenceIdeal.τ).loc Cert.NarrowDwReferenceIdeal.main_arg2))
      ∧ r.2.sem = fun _ => 0)

def quiescent_NarrowDx [hNarrowDx : Cert.NarrowDx.Facts] : Prop :=
  ∀ (m : (ℓ : Loc Cert.NarrowDx.nD Cert.NarrowDx.τ Cert.NarrowDx.sig) → Buf (Elt Bits) ℓ) (g : Dev Cert.NarrowDx.nD → PrngReg), Pre_NarrowDx m →
    θ_run (Cert.NarrowDx.defs (F := Bits)) (onTc (τ := Cert.NarrowDx.τ) (Cert.NarrowDx.main (F := Bits))) ⟨m, fun _ => 0, g⟩ (fun r => (∀ c : Dev Cert.NarrowDx.nD,
      r.2.mem ((c.tc : Thread Cert.NarrowDx.nD Cert.NarrowDx.τ).loc Cert.NarrowDx.main_arg0) = m ((c.tc : Thread Cert.NarrowDx.nD Cert.NarrowDx.τ).loc Cert.NarrowDx.main_arg0)
      ∧ r.2.mem ((c.tc : Thread Cert.NarrowDx.nD Cert.NarrowDx.τ).loc Cert.NarrowDx.main_arg1) = m ((c.tc : Thread Cert.NarrowDx.nD Cert.NarrowDx.τ).loc Cert.NarrowDx.main_arg1)
      ∧ r.2.mem ((c.tc : Thread Cert.NarrowDx.nD Cert.NarrowDx.τ).loc Cert.NarrowDx.main_arg2) = m ((c.tc : Thread Cert.NarrowDx.nD Cert.NarrowDx.τ).loc Cert.NarrowDx.main_arg2)
      ∧ r.2.mem ((c.tc : Thread Cert.NarrowDx.nD Cert.NarrowDx.τ).loc Cert.NarrowDx.main_arg3) = m ((c.tc : Thread Cert.NarrowDx.nD Cert.NarrowDx.τ).loc Cert.NarrowDx.main_arg3)
      ∧ r.2.mem ((c.tc : Thread Cert.NarrowDx.nD Cert.NarrowDx.τ).loc Cert.NarrowDx.main_arg4) = m ((c.tc : Thread Cert.NarrowDx.nD Cert.NarrowDx.τ).loc Cert.NarrowDx.main_arg4))
      ∧ r.2.sem = fun _ => 0)

def quiescent_NarrowDxIdeal [hNarrowDxIdeal : Cert.NarrowDxIdeal.Facts] : Prop :=
  ∀ (m : (ℓ : Loc Cert.NarrowDxIdeal.nD Cert.NarrowDxIdeal.τ Cert.NarrowDxIdeal.sig) → Buf (Elt Ideal) ℓ) (g : Dev Cert.NarrowDxIdeal.nD → PrngReg), Pre_NarrowDxIdeal m →
    θ_run (Cert.NarrowDxIdeal.defs (F := Ideal)) (onTc (τ := Cert.NarrowDxIdeal.τ) (Cert.NarrowDxIdeal.main (F := Ideal))) ⟨m, fun _ => 0, g⟩ (fun r => (∀ c : Dev Cert.NarrowDxIdeal.nD,
      r.2.mem ((c.tc : Thread Cert.NarrowDxIdeal.nD Cert.NarrowDxIdeal.τ).loc Cert.NarrowDxIdeal.main_arg0) = m ((c.tc : Thread Cert.NarrowDxIdeal.nD Cert.NarrowDxIdeal.τ).loc Cert.NarrowDxIdeal.main_arg0)
      ∧ r.2.mem ((c.tc : Thread Cert.NarrowDxIdeal.nD Cert.NarrowDxIdeal.τ).loc Cert.NarrowDxIdeal.main_arg1) = m ((c.tc : Thread Cert.NarrowDxIdeal.nD Cert.NarrowDxIdeal.τ).loc Cert.NarrowDxIdeal.main_arg1)
      ∧ r.2.mem ((c.tc : Thread Cert.NarrowDxIdeal.nD Cert.NarrowDxIdeal.τ).loc Cert.NarrowDxIdeal.main_arg2) = m ((c.tc : Thread Cert.NarrowDxIdeal.nD Cert.NarrowDxIdeal.τ).loc Cert.NarrowDxIdeal.main_arg2)
      ∧ r.2.mem ((c.tc : Thread Cert.NarrowDxIdeal.nD Cert.NarrowDxIdeal.τ).loc Cert.NarrowDxIdeal.main_arg3) = m ((c.tc : Thread Cert.NarrowDxIdeal.nD Cert.NarrowDxIdeal.τ).loc Cert.NarrowDxIdeal.main_arg3)
      ∧ r.2.mem ((c.tc : Thread Cert.NarrowDxIdeal.nD Cert.NarrowDxIdeal.τ).loc Cert.NarrowDxIdeal.main_arg4) = m ((c.tc : Thread Cert.NarrowDxIdeal.nD Cert.NarrowDxIdeal.τ).loc Cert.NarrowDxIdeal.main_arg4))
      ∧ r.2.sem = fun _ => 0)

def quiescent_NarrowDxReferenceIdeal [hNarrowDxReferenceIdeal : Cert.NarrowDxReferenceIdeal.Facts] : Prop :=
  ∀ (m : (ℓ : Loc Cert.NarrowDxReferenceIdeal.nD Cert.NarrowDxReferenceIdeal.τ Cert.NarrowDxReferenceIdeal.sig) → Buf (Elt Ideal) ℓ) (g : Dev Cert.NarrowDxReferenceIdeal.nD → PrngReg), Pre_NarrowDxReferenceIdeal m →
    θ_run (Cert.NarrowDxReferenceIdeal.defs (F := Ideal)) (onTc (τ := Cert.NarrowDxReferenceIdeal.τ) (Cert.NarrowDxReferenceIdeal.main (F := Ideal))) ⟨m, fun _ => 0, g⟩ (fun r => (∀ c : Dev Cert.NarrowDxReferenceIdeal.nD,
      r.2.mem ((c.tc : Thread Cert.NarrowDxReferenceIdeal.nD Cert.NarrowDxReferenceIdeal.τ).loc Cert.NarrowDxReferenceIdeal.main_arg0) = m ((c.tc : Thread Cert.NarrowDxReferenceIdeal.nD Cert.NarrowDxReferenceIdeal.τ).loc Cert.NarrowDxReferenceIdeal.main_arg0)
      ∧ r.2.mem ((c.tc : Thread Cert.NarrowDxReferenceIdeal.nD Cert.NarrowDxReferenceIdeal.τ).loc Cert.NarrowDxReferenceIdeal.main_arg1) = m ((c.tc : Thread Cert.NarrowDxReferenceIdeal.nD Cert.NarrowDxReferenceIdeal.τ).loc Cert.NarrowDxReferenceIdeal.main_arg1)
      ∧ r.2.mem ((c.tc : Thread Cert.NarrowDxReferenceIdeal.nD Cert.NarrowDxReferenceIdeal.τ).loc Cert.NarrowDxReferenceIdeal.main_arg2) = m ((c.tc : Thread Cert.NarrowDxReferenceIdeal.nD Cert.NarrowDxReferenceIdeal.τ).loc Cert.NarrowDxReferenceIdeal.main_arg2)
      ∧ r.2.mem ((c.tc : Thread Cert.NarrowDxReferenceIdeal.nD Cert.NarrowDxReferenceIdeal.τ).loc Cert.NarrowDxReferenceIdeal.main_arg3) = m ((c.tc : Thread Cert.NarrowDxReferenceIdeal.nD Cert.NarrowDxReferenceIdeal.τ).loc Cert.NarrowDxReferenceIdeal.main_arg3)
      ∧ r.2.mem ((c.tc : Thread Cert.NarrowDxReferenceIdeal.nD Cert.NarrowDxReferenceIdeal.τ).loc Cert.NarrowDxReferenceIdeal.main_arg4) = m ((c.tc : Thread Cert.NarrowDxReferenceIdeal.nD Cert.NarrowDxReferenceIdeal.τ).loc Cert.NarrowDxReferenceIdeal.main_arg4))
      ∧ r.2.sem = fun _ => 0)

def preserves_DownDx_DownDxIdeal : Prop :=
  True

def algebraic_DownDxIdeal_DownDxReferenceIdeal [hDownDxIdeal : Cert.DownDxIdeal.Facts] [hDownDxReferenceIdeal : Cert.DownDxReferenceIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxIdeal m →
    (∀ c : Dev Cert.DownDxIdeal.nD,
      m' ((c.tc : Thread Cert.DownDxReferenceIdeal.nD Cert.DownDxReferenceIdeal.τ).loc Cert.DownDxReferenceIdeal.main_arg0) = m ((c.tc : Thread Cert.DownDxIdeal.nD Cert.DownDxIdeal.τ).loc Cert.DownDxIdeal.main_arg0)
      ∧ m' ((c.tc : Thread Cert.DownDxReferenceIdeal.nD Cert.DownDxReferenceIdeal.τ).loc Cert.DownDxReferenceIdeal.main_arg1) = m ((c.tc : Thread Cert.DownDxIdeal.nD Cert.DownDxIdeal.τ).loc Cert.DownDxIdeal.main_arg1)
      ∧ m' ((c.tc : Thread Cert.DownDxReferenceIdeal.nD Cert.DownDxReferenceIdeal.τ).loc Cert.DownDxReferenceIdeal.main_arg2) = m ((c.tc : Thread Cert.DownDxIdeal.nD Cert.DownDxIdeal.τ).loc Cert.DownDxIdeal.main_arg2)
      ∧ m' ((c.tc : Thread Cert.DownDxReferenceIdeal.nD Cert.DownDxReferenceIdeal.τ).loc Cert.DownDxReferenceIdeal.main_arg3) = m ((c.tc : Thread Cert.DownDxIdeal.nD Cert.DownDxIdeal.τ).loc Cert.DownDxIdeal.main_arg3)) →
    ∃ (v0 : (c : Dev Cert.DownDxIdeal.nD) → Buf (Elt Ideal) ((c.tc : Thread Cert.DownDxIdeal.nD Cert.DownDxIdeal.τ).loc Cert.DownDxIdeal.main_v3)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v3) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2)
          ∧ r.2.mem ((c.tc : Thread Cert.DownDxIdeal.nD Cert.DownDxIdeal.τ).loc Cert.DownDxIdeal.main_arg3) = m ((c.tc : Thread Cert.DownDxIdeal.nD Cert.DownDxIdeal.τ).loc Cert.DownDxIdeal.main_arg3))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v13) = v0 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1)
          ∧ r.2.mem ((c.tc : Thread Cert.DownDxReferenceIdeal.nD Cert.DownDxReferenceIdeal.τ).loc Cert.DownDxReferenceIdeal.main_arg2) = m' ((c.tc : Thread Cert.DownDxReferenceIdeal.nD Cert.DownDxReferenceIdeal.τ).loc Cert.DownDxReferenceIdeal.main_arg2)
          ∧ r.2.mem ((c.tc : Thread Cert.DownDxReferenceIdeal.nD Cert.DownDxReferenceIdeal.τ).loc Cert.DownDxReferenceIdeal.main_arg3) = m' ((c.tc : Thread Cert.DownDxReferenceIdeal.nD Cert.DownDxReferenceIdeal.τ).loc Cert.DownDxReferenceIdeal.main_arg3))

def preserves_DownDw_DownDwIdeal : Prop :=
  True

def algebraic_DownDwIdeal_DownDwReferenceIdeal [hDownDwIdeal : Cert.DownDwIdeal.Facts] [hDownDwReferenceIdeal : Cert.DownDwReferenceIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwIdeal m →
    (∀ c : Dev Cert.DownDwIdeal.nD,
      m' ((c.tc : Thread Cert.DownDwReferenceIdeal.nD Cert.DownDwReferenceIdeal.τ).loc Cert.DownDwReferenceIdeal.main_arg0) = m ((c.tc : Thread Cert.DownDwIdeal.nD Cert.DownDwIdeal.τ).loc Cert.DownDwIdeal.main_arg0)
      ∧ m' ((c.tc : Thread Cert.DownDwReferenceIdeal.nD Cert.DownDwReferenceIdeal.τ).loc Cert.DownDwReferenceIdeal.main_arg1) = m ((c.tc : Thread Cert.DownDwIdeal.nD Cert.DownDwIdeal.τ).loc Cert.DownDwIdeal.main_arg1)
      ∧ m' ((c.tc : Thread Cert.DownDwReferenceIdeal.nD Cert.DownDwReferenceIdeal.τ).loc Cert.DownDwReferenceIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v5)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v5) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v6) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1)
          ∧ r.2.mem ((c.tc : Thread Cert.DownDwReferenceIdeal.nD Cert.DownDwReferenceIdeal.τ).loc Cert.DownDwReferenceIdeal.main_arg2) = m' ((c.tc : Thread Cert.DownDwReferenceIdeal.nD Cert.DownDwReferenceIdeal.τ).loc Cert.DownDwReferenceIdeal.main_arg2))

def preserves_UpDw_UpDwIdeal : Prop :=
  True

def algebraic_UpDwIdeal_UpDwReferenceIdeal [hUpDwIdeal : Cert.UpDwIdeal.Facts] [hUpDwReferenceIdeal : Cert.UpDwReferenceIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwIdeal m →
    (∀ c : Dev Cert.UpDwIdeal.nD,
      m' ((c.tc : Thread Cert.UpDwReferenceIdeal.nD Cert.UpDwReferenceIdeal.τ).loc Cert.UpDwReferenceIdeal.main_arg0) = m ((c.tc : Thread Cert.UpDwIdeal.nD Cert.UpDwIdeal.τ).loc Cert.UpDwIdeal.main_arg0)
      ∧ m' ((c.tc : Thread Cert.UpDwReferenceIdeal.nD Cert.UpDwReferenceIdeal.τ).loc Cert.UpDwReferenceIdeal.main_arg1) = m ((c.tc : Thread Cert.UpDwIdeal.nD Cert.UpDwIdeal.τ).loc Cert.UpDwIdeal.main_arg1)
      ∧ m' ((c.tc : Thread Cert.UpDwReferenceIdeal.nD Cert.UpDwReferenceIdeal.τ).loc Cert.UpDwReferenceIdeal.main_arg2) = m ((c.tc : Thread Cert.UpDwIdeal.nD Cert.UpDwIdeal.τ).loc Cert.UpDwIdeal.main_arg2)
      ∧ m' ((c.tc : Thread Cert.UpDwReferenceIdeal.nD Cert.UpDwReferenceIdeal.τ).loc Cert.UpDwReferenceIdeal.main_arg3) = m ((c.tc : Thread Cert.UpDwIdeal.nD Cert.UpDwIdeal.τ).loc Cert.UpDwIdeal.main_arg3)) →
    ∃ (v0 : (c : Dev Cert.UpDwIdeal.nD) → Buf (Elt Ideal) ((c.tc : Thread Cert.UpDwIdeal.nD Cert.UpDwIdeal.τ).loc Cert.UpDwIdeal.main_v15)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v15) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2)
          ∧ r.2.mem ((c.tc : Thread Cert.UpDwIdeal.nD Cert.UpDwIdeal.τ).loc Cert.UpDwIdeal.main_arg3) = m ((c.tc : Thread Cert.UpDwIdeal.nD Cert.UpDwIdeal.τ).loc Cert.UpDwIdeal.main_arg3))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v23) = v0 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1)
          ∧ r.2.mem ((c.tc : Thread Cert.UpDwReferenceIdeal.nD Cert.UpDwReferenceIdeal.τ).loc Cert.UpDwReferenceIdeal.main_arg2) = m' ((c.tc : Thread Cert.UpDwReferenceIdeal.nD Cert.UpDwReferenceIdeal.τ).loc Cert.UpDwReferenceIdeal.main_arg2)
          ∧ r.2.mem ((c.tc : Thread Cert.UpDwReferenceIdeal.nD Cert.UpDwReferenceIdeal.τ).loc Cert.UpDwReferenceIdeal.main_arg3) = m' ((c.tc : Thread Cert.UpDwReferenceIdeal.nD Cert.UpDwReferenceIdeal.τ).loc Cert.UpDwReferenceIdeal.main_arg3))

def preserves_UpDx_UpDxIdeal : Prop :=
  True

def algebraic_UpDxIdeal_UpDxReferenceIdeal [hUpDxIdeal : Cert.UpDxIdeal.Facts] [hUpDxReferenceIdeal : Cert.UpDxReferenceIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxReferenceIdeal.nD Cert.UpDxReferenceIdeal.τ Cert.UpDxReferenceIdeal.sig) → Buf (Elt Ideal) ℓ) (g' : Dev Cert.UpDxReferenceIdeal.nD → PrngReg), Pre_UpDxIdeal m →
    (∀ c : Dev Cert.UpDxIdeal.nD,
      m' ((c.tc : Thread Cert.UpDxReferenceIdeal.nD Cert.UpDxReferenceIdeal.τ).loc Cert.UpDxReferenceIdeal.main_arg0) = m ((c.tc : Thread Cert.UpDxIdeal.nD Cert.UpDxIdeal.τ).loc Cert.UpDxIdeal.main_arg0)
      ∧ m' ((c.tc : Thread Cert.UpDxReferenceIdeal.nD Cert.UpDxReferenceIdeal.τ).loc Cert.UpDxReferenceIdeal.main_arg1) = m ((c.tc : Thread Cert.UpDxIdeal.nD Cert.UpDxIdeal.τ).loc Cert.UpDxIdeal.main_arg1)
      ∧ m' ((c.tc : Thread Cert.UpDxReferenceIdeal.nD Cert.UpDxReferenceIdeal.τ).loc Cert.UpDxReferenceIdeal.main_arg2) = m ((c.tc : Thread Cert.UpDxIdeal.nD Cert.UpDxIdeal.τ).loc Cert.UpDxIdeal.main_arg2)
      ∧ m' ((c.tc : Thread Cert.UpDxReferenceIdeal.nD Cert.UpDxReferenceIdeal.τ).loc Cert.UpDxReferenceIdeal.main_arg3) = m ((c.tc : Thread Cert.UpDxIdeal.nD Cert.UpDxIdeal.τ).loc Cert.UpDxIdeal.main_arg3)) →
    ∃ (v0 : (c : Dev Cert.UpDxIdeal.nD) → Buf (Elt Ideal) ((c.tc : Thread Cert.UpDxIdeal.nD Cert.UpDxIdeal.τ).loc Cert.UpDxIdeal.main_v17)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v17) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3))
      ∧ θ_run (Cert.UpDxReferenceIdeal.defs (F := Ideal)) (onTc (τ := Cert.UpDxReferenceIdeal.τ) (Cert.UpDxReferenceIdeal.main (F := Ideal))) ⟨m', fun _ => 0, g'⟩ (fun r => ∀ c : Dev Cert.UpDxReferenceIdeal.nD,
          r.2.mem ((c.tc : Thread Cert.UpDxReferenceIdeal.nD Cert.UpDxReferenceIdeal.τ).loc Cert.UpDxReferenceIdeal.main_v13) = v0 c
          ∧ r.2.mem ((c.tc : Thread Cert.UpDxReferenceIdeal.nD Cert.UpDxReferenceIdeal.τ).loc Cert.UpDxReferenceIdeal.main_arg0) = m' ((c.tc : Thread Cert.UpDxReferenceIdeal.nD Cert.UpDxReferenceIdeal.τ).loc Cert.UpDxReferenceIdeal.main_arg0)
          ∧ r.2.mem ((c.tc : Thread Cert.UpDxReferenceIdeal.nD Cert.UpDxReferenceIdeal.τ).loc Cert.UpDxReferenceIdeal.main_arg1) = m' ((c.tc : Thread Cert.UpDxReferenceIdeal.nD Cert.UpDxReferenceIdeal.τ).loc Cert.UpDxReferenceIdeal.main_arg1)
          ∧ r.2.mem ((c.tc : Thread Cert.UpDxReferenceIdeal.nD Cert.UpDxReferenceIdeal.τ).loc Cert.UpDxReferenceIdeal.main_arg2) = m' ((c.tc : Thread Cert.UpDxReferenceIdeal.nD Cert.UpDxReferenceIdeal.τ).loc Cert.UpDxReferenceIdeal.main_arg2)
          ∧ r.2.mem ((c.tc : Thread Cert.UpDxReferenceIdeal.nD Cert.UpDxReferenceIdeal.τ).loc Cert.UpDxReferenceIdeal.main_arg3) = m' ((c.tc : Thread Cert.UpDxReferenceIdeal.nD Cert.UpDxReferenceIdeal.τ).loc Cert.UpDxReferenceIdeal.main_arg3))

def preserves_InDx_InDxIdeal : Prop :=
  True

def algebraic_InDxIdeal_InDxReferenceIdeal [hInDxIdeal : Cert.InDxIdeal.Facts] [hInDxReferenceIdeal : Cert.InDxReferenceIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxReferenceIdeal.nD Cert.InDxReferenceIdeal.τ Cert.InDxReferenceIdeal.sig) → Buf (Elt Ideal) ℓ) (g' : Dev Cert.InDxReferenceIdeal.nD → PrngReg), Pre_InDxIdeal m →
    (∀ c : Dev Cert.InDxIdeal.nD,
      m' ((c.tc : Thread Cert.InDxReferenceIdeal.nD Cert.InDxReferenceIdeal.τ).loc Cert.InDxReferenceIdeal.main_arg0) = m ((c.tc : Thread Cert.InDxIdeal.nD Cert.InDxIdeal.τ).loc Cert.InDxIdeal.main_arg0)
      ∧ m' ((c.tc : Thread Cert.InDxReferenceIdeal.nD Cert.InDxReferenceIdeal.τ).loc Cert.InDxReferenceIdeal.main_arg1) = m ((c.tc : Thread Cert.InDxIdeal.nD Cert.InDxIdeal.τ).loc Cert.InDxIdeal.main_arg1)
      ∧ m' ((c.tc : Thread Cert.InDxReferenceIdeal.nD Cert.InDxReferenceIdeal.τ).loc Cert.InDxReferenceIdeal.main_arg2) = m ((c.tc : Thread Cert.InDxIdeal.nD Cert.InDxIdeal.τ).loc Cert.InDxIdeal.main_arg2)) →
    ∃ (v0 : (c : Dev Cert.InDxIdeal.nD) → Buf (Elt Ideal) ((c.tc : Thread Cert.InDxIdeal.nD Cert.InDxIdeal.τ).loc Cert.InDxIdeal.main_v3)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v3) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ θ_run (Cert.InDxReferenceIdeal.defs (F := Ideal)) (onTc (τ := Cert.InDxReferenceIdeal.τ) (Cert.InDxReferenceIdeal.main (F := Ideal))) ⟨m', fun _ => 0, g'⟩ (fun r => ∀ c : Dev Cert.InDxReferenceIdeal.nD,
          r.2.mem ((c.tc : Thread Cert.InDxReferenceIdeal.nD Cert.InDxReferenceIdeal.τ).loc Cert.InDxReferenceIdeal.main_v1) = v0 c
          ∧ r.2.mem ((c.tc : Thread Cert.InDxReferenceIdeal.nD Cert.InDxReferenceIdeal.τ).loc Cert.InDxReferenceIdeal.main_arg0) = m' ((c.tc : Thread Cert.InDxReferenceIdeal.nD Cert.InDxReferenceIdeal.τ).loc Cert.InDxReferenceIdeal.main_arg0)
          ∧ r.2.mem ((c.tc : Thread Cert.InDxReferenceIdeal.nD Cert.InDxReferenceIdeal.τ).loc Cert.InDxReferenceIdeal.main_arg1) = m' ((c.tc : Thread Cert.InDxReferenceIdeal.nD Cert.InDxReferenceIdeal.τ).loc Cert.InDxReferenceIdeal.main_arg1)
          ∧ r.2.mem ((c.tc : Thread Cert.InDxReferenceIdeal.nD Cert.InDxReferenceIdeal.τ).loc Cert.InDxReferenceIdeal.main_arg2) = m' ((c.tc : Thread Cert.InDxReferenceIdeal.nD Cert.InDxReferenceIdeal.τ).loc Cert.InDxReferenceIdeal.main_arg2))

def preserves_InDwA_InDwAIdeal : Prop :=
  True

def algebraic_InDwAIdeal_InDwAReferenceIdeal [hInDwAIdeal : Cert.InDwAIdeal.Facts] [hInDwAReferenceIdeal : Cert.InDwAReferenceIdeal.Facts] : Prop :=
  ∀ (m : (ℓ : Loc Cert.InDwAIdeal.nD Cert.InDwAIdeal.τ Cert.InDwAIdeal.sig) → Buf (Elt Ideal) ℓ) (g : Dev Cert.InDwAIdeal.nD → PrngReg)
    (m' : (ℓ : Loc Cert.InDwAReferenceIdeal.nD Cert.InDwAReferenceIdeal.τ Cert.InDwAReferenceIdeal.sig) → Buf (Elt Ideal) ℓ) (g' : Dev Cert.InDwAReferenceIdeal.nD → PrngReg), Pre_InDwAIdeal m →
    (∀ c : Dev Cert.InDwAIdeal.nD,
      m' ((c.tc : Thread Cert.InDwAReferenceIdeal.nD Cert.InDwAReferenceIdeal.τ).loc Cert.InDwAReferenceIdeal.main_arg0) = m ((c.tc : Thread Cert.InDwAIdeal.nD Cert.InDwAIdeal.τ).loc Cert.InDwAIdeal.main_arg0)
      ∧ m' ((c.tc : Thread Cert.InDwAReferenceIdeal.nD Cert.InDwAReferenceIdeal.τ).loc Cert.InDwAReferenceIdeal.main_arg1) = m ((c.tc : Thread Cert.InDwAIdeal.nD Cert.InDwAIdeal.τ).loc Cert.InDwAIdeal.main_arg1)
      ∧ m' ((c.tc : Thread Cert.InDwAReferenceIdeal.nD Cert.InDwAReferenceIdeal.τ).loc Cert.InDwAReferenceIdeal.main_arg2) = m ((c.tc : Thread Cert.InDwAIdeal.nD Cert.InDwAIdeal.τ).loc Cert.InDwAIdeal.main_arg2)) →
    ∃ (v0 : (c : Dev Cert.InDwAIdeal.nD) → Buf (Elt Ideal) ((c.tc : Thread Cert.InDwAIdeal.nD Cert.InDwAIdeal.τ).loc Cert.InDwAIdeal.main_v2)),
      θ_run (Cert.InDwAIdeal.defs (F := Ideal)) (onTc (τ := Cert.InDwAIdeal.τ) (Cert.InDwAIdeal.main (F := Ideal))) ⟨m, fun _ => 0, g⟩ (fun r => ∀ c : Dev Cert.InDwAIdeal.nD,
          r.2.mem ((c.tc : Thread Cert.InDwAIdeal.nD Cert.InDwAIdeal.τ).loc Cert.InDwAIdeal.main_v2) = v0 c
          ∧ r.2.mem ((c.tc : Thread Cert.InDwAIdeal.nD Cert.InDwAIdeal.τ).loc Cert.InDwAIdeal.main_arg0) = m ((c.tc : Thread Cert.InDwAIdeal.nD Cert.InDwAIdeal.τ).loc Cert.InDwAIdeal.main_arg0)
          ∧ r.2.mem ((c.tc : Thread Cert.InDwAIdeal.nD Cert.InDwAIdeal.τ).loc Cert.InDwAIdeal.main_arg1) = m ((c.tc : Thread Cert.InDwAIdeal.nD Cert.InDwAIdeal.τ).loc Cert.InDwAIdeal.main_arg1)
          ∧ r.2.mem ((c.tc : Thread Cert.InDwAIdeal.nD Cert.InDwAIdeal.τ).loc Cert.InDwAIdeal.main_arg2) = m ((c.tc : Thread Cert.InDwAIdeal.nD Cert.InDwAIdeal.τ).loc Cert.InDwAIdeal.main_arg2))
      ∧ θ_run (Cert.InDwAReferenceIdeal.defs (F := Ideal)) (onTc (τ := Cert.InDwAReferenceIdeal.τ) (Cert.InDwAReferenceIdeal.main (F := Ideal))) ⟨m', fun _ => 0, g'⟩ (fun r => ∀ c : Dev Cert.InDwAReferenceIdeal.nD,
          r.2.mem ((c.tc : Thread Cert.InDwAReferenceIdeal.nD Cert.InDwAReferenceIdeal.τ).loc Cert.InDwAReferenceIdeal.main_v4) = v0 c
          ∧ r.2.mem ((c.tc : Thread Cert.InDwAReferenceIdeal.nD Cert.InDwAReferenceIdeal.τ).loc Cert.InDwAReferenceIdeal.main_arg0) = m' ((c.tc : Thread Cert.InDwAReferenceIdeal.nD Cert.InDwAReferenceIdeal.τ).loc Cert.InDwAReferenceIdeal.main_arg0)
          ∧ r.2.mem ((c.tc : Thread Cert.InDwAReferenceIdeal.nD Cert.InDwAReferenceIdeal.τ).loc Cert.InDwAReferenceIdeal.main_arg1) = m' ((c.tc : Thread Cert.InDwAReferenceIdeal.nD Cert.InDwAReferenceIdeal.τ).loc Cert.InDwAReferenceIdeal.main_arg1)
          ∧ r.2.mem ((c.tc : Thread Cert.InDwAReferenceIdeal.nD Cert.InDwAReferenceIdeal.τ).loc Cert.InDwAReferenceIdeal.main_arg2) = m' ((c.tc : Thread Cert.InDwAReferenceIdeal.nD Cert.InDwAReferenceIdeal.τ).loc Cert.InDwAReferenceIdeal.main_arg2))

def preserves_InDwB_InDwBIdeal : Prop :=
  True

def algebraic_InDwBIdeal_InDwBReferenceIdeal [hInDwBIdeal : Cert.InDwBIdeal.Facts] [hInDwBReferenceIdeal : Cert.InDwBReferenceIdeal.Facts] : Prop :=
  ∀ (m : (ℓ : Loc Cert.InDwBIdeal.nD Cert.InDwBIdeal.τ Cert.InDwBIdeal.sig) → Buf (Elt Ideal) ℓ) (g : Dev Cert.InDwBIdeal.nD → PrngReg)
    (m' : (ℓ : Loc Cert.InDwBReferenceIdeal.nD Cert.InDwBReferenceIdeal.τ Cert.InDwBReferenceIdeal.sig) → Buf (Elt Ideal) ℓ) (g' : Dev Cert.InDwBReferenceIdeal.nD → PrngReg), Pre_InDwBIdeal m →
    (∀ c : Dev Cert.InDwBIdeal.nD,
      m' ((c.tc : Thread Cert.InDwBReferenceIdeal.nD Cert.InDwBReferenceIdeal.τ).loc Cert.InDwBReferenceIdeal.main_arg0) = m ((c.tc : Thread Cert.InDwBIdeal.nD Cert.InDwBIdeal.τ).loc Cert.InDwBIdeal.main_arg0)
      ∧ m' ((c.tc : Thread Cert.InDwBReferenceIdeal.nD Cert.InDwBReferenceIdeal.τ).loc Cert.InDwBReferenceIdeal.main_arg1) = m ((c.tc : Thread Cert.InDwBIdeal.nD Cert.InDwBIdeal.τ).loc Cert.InDwBIdeal.main_arg1)
      ∧ m' ((c.tc : Thread Cert.InDwBReferenceIdeal.nD Cert.InDwBReferenceIdeal.τ).loc Cert.InDwBReferenceIdeal.main_arg2) = m ((c.tc : Thread Cert.InDwBIdeal.nD Cert.InDwBIdeal.τ).loc Cert.InDwBIdeal.main_arg2)) →
    ∃ (v0 : (c : Dev Cert.InDwBIdeal.nD) → Buf (Elt Ideal) ((c.tc : Thread Cert.InDwBIdeal.nD Cert.InDwBIdeal.τ).loc Cert.InDwBIdeal.main_v2)),
      θ_run (Cert.InDwBIdeal.defs (F := Ideal)) (onTc (τ := Cert.InDwBIdeal.τ) (Cert.InDwBIdeal.main (F := Ideal))) ⟨m, fun _ => 0, g⟩ (fun r => ∀ c : Dev Cert.InDwBIdeal.nD,
          r.2.mem ((c.tc : Thread Cert.InDwBIdeal.nD Cert.InDwBIdeal.τ).loc Cert.InDwBIdeal.main_v2) = v0 c
          ∧ r.2.mem ((c.tc : Thread Cert.InDwBIdeal.nD Cert.InDwBIdeal.τ).loc Cert.InDwBIdeal.main_arg0) = m ((c.tc : Thread Cert.InDwBIdeal.nD Cert.InDwBIdeal.τ).loc Cert.InDwBIdeal.main_arg0)
          ∧ r.2.mem ((c.tc : Thread Cert.InDwBIdeal.nD Cert.InDwBIdeal.τ).loc Cert.InDwBIdeal.main_arg1) = m ((c.tc : Thread Cert.InDwBIdeal.nD Cert.InDwBIdeal.τ).loc Cert.InDwBIdeal.main_arg1)
          ∧ r.2.mem ((c.tc : Thread Cert.InDwBIdeal.nD Cert.InDwBIdeal.τ).loc Cert.InDwBIdeal.main_arg2) = m ((c.tc : Thread Cert.InDwBIdeal.nD Cert.InDwBIdeal.τ).loc Cert.InDwBIdeal.main_arg2))
      ∧ θ_run (Cert.InDwBReferenceIdeal.defs (F := Ideal)) (onTc (τ := Cert.InDwBReferenceIdeal.τ) (Cert.InDwBReferenceIdeal.main (F := Ideal))) ⟨m', fun _ => 0, g'⟩ (fun r => ∀ c : Dev Cert.InDwBReferenceIdeal.nD,
          r.2.mem ((c.tc : Thread Cert.InDwBReferenceIdeal.nD Cert.InDwBReferenceIdeal.τ).loc Cert.InDwBReferenceIdeal.main_v4) = v0 c
          ∧ r.2.mem ((c.tc : Thread Cert.InDwBReferenceIdeal.nD Cert.InDwBReferenceIdeal.τ).loc Cert.InDwBReferenceIdeal.main_arg0) = m' ((c.tc : Thread Cert.InDwBReferenceIdeal.nD Cert.InDwBReferenceIdeal.τ).loc Cert.InDwBReferenceIdeal.main_arg0)
          ∧ r.2.mem ((c.tc : Thread Cert.InDwBReferenceIdeal.nD Cert.InDwBReferenceIdeal.τ).loc Cert.InDwBReferenceIdeal.main_arg1) = m' ((c.tc : Thread Cert.InDwBReferenceIdeal.nD Cert.InDwBReferenceIdeal.τ).loc Cert.InDwBReferenceIdeal.main_arg1)
          ∧ r.2.mem ((c.tc : Thread Cert.InDwBReferenceIdeal.nD Cert.InDwBReferenceIdeal.τ).loc Cert.InDwBReferenceIdeal.main_arg2) = m' ((c.tc : Thread Cert.InDwBReferenceIdeal.nD Cert.InDwBReferenceIdeal.τ).loc Cert.InDwBReferenceIdeal.main_arg2))

def preserves_OutDw_OutDwIdeal : Prop :=
  True

def algebraic_OutDwIdeal_OutDwReferenceIdeal [hOutDwIdeal : Cert.OutDwIdeal.Facts] [hOutDwReferenceIdeal : Cert.OutDwReferenceIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwIdeal m →
    (∀ c : Dev Cert.OutDwIdeal.nD,
      m' ((c.tc : Thread Cert.OutDwReferenceIdeal.nD Cert.OutDwReferenceIdeal.τ).loc Cert.OutDwReferenceIdeal.main_arg0) = m ((c.tc : Thread Cert.OutDwIdeal.nD Cert.OutDwIdeal.τ).loc Cert.OutDwIdeal.main_arg0)
      ∧ m' ((c.tc : Thread Cert.OutDwReferenceIdeal.nD Cert.OutDwReferenceIdeal.τ).loc Cert.OutDwReferenceIdeal.main_arg1) = m ((c.tc : Thread Cert.OutDwIdeal.nD Cert.OutDwIdeal.τ).loc Cert.OutDwIdeal.main_arg1)
      ∧ m' ((c.tc : Thread Cert.OutDwReferenceIdeal.nD Cert.OutDwReferenceIdeal.τ).loc Cert.OutDwReferenceIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v2) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1)
          ∧ r.2.mem ((c.tc : Thread Cert.OutDwReferenceIdeal.nD Cert.OutDwReferenceIdeal.τ).loc Cert.OutDwReferenceIdeal.main_arg2) = m' ((c.tc : Thread Cert.OutDwReferenceIdeal.nD Cert.OutDwReferenceIdeal.τ).loc Cert.OutDwReferenceIdeal.main_arg2))

def preserves_OutDx_OutDxIdeal : Prop :=
  True

def algebraic_OutDxIdeal_OutDxReferenceIdeal [hOutDxIdeal : Cert.OutDxIdeal.Facts] [hOutDxReferenceIdeal : Cert.OutDxReferenceIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxReferenceIdeal.nD Cert.OutDxReferenceIdeal.τ Cert.OutDxReferenceIdeal.sig) → Buf (Elt Ideal) ℓ) (g' : Dev Cert.OutDxReferenceIdeal.nD → PrngReg), Pre_OutDxIdeal m →
    (∀ c : Dev Cert.OutDxIdeal.nD,
      m' ((c.tc : Thread Cert.OutDxReferenceIdeal.nD Cert.OutDxReferenceIdeal.τ).loc Cert.OutDxReferenceIdeal.main_arg0) = m ((c.tc : Thread Cert.OutDxIdeal.nD Cert.OutDxIdeal.τ).loc Cert.OutDxIdeal.main_arg0)
      ∧ m' ((c.tc : Thread Cert.OutDxReferenceIdeal.nD Cert.OutDxReferenceIdeal.τ).loc Cert.OutDxReferenceIdeal.main_arg1) = m ((c.tc : Thread Cert.OutDxIdeal.nD Cert.OutDxIdeal.τ).loc Cert.OutDxIdeal.main_arg1)
      ∧ m' ((c.tc : Thread Cert.OutDxReferenceIdeal.nD Cert.OutDxReferenceIdeal.τ).loc Cert.OutDxReferenceIdeal.main_arg2) = m ((c.tc : Thread Cert.OutDxIdeal.nD Cert.OutDxIdeal.τ).loc Cert.OutDxIdeal.main_arg2)) →
    ∃ (v0 : (c : Dev Cert.OutDxIdeal.nD) → Buf (Elt Ideal) ((c.tc : Thread Cert.OutDxIdeal.nD Cert.OutDxIdeal.τ).loc Cert.OutDxIdeal.main_v2)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v2) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
          ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ θ_run (Cert.OutDxReferenceIdeal.defs (F := Ideal)) (onTc (τ := Cert.OutDxReferenceIdeal.τ) (Cert.OutDxReferenceIdeal.main (F := Ideal))) ⟨m', fun _ => 0, g'⟩ (fun r => ∀ c : Dev Cert.OutDxReferenceIdeal.nD,
          r.2.mem ((c.tc : Thread Cert.OutDxReferenceIdeal.nD Cert.OutDxReferenceIdeal.τ).loc Cert.OutDxReferenceIdeal.main_v1) = v0 c
          ∧ r.2.mem ((c.tc : Thread Cert.OutDxReferenceIdeal.nD Cert.OutDxReferenceIdeal.τ).loc Cert.OutDxReferenceIdeal.main_arg0) = m' ((c.tc : Thread Cert.OutDxReferenceIdeal.nD Cert.OutDxReferenceIdeal.τ).loc Cert.OutDxReferenceIdeal.main_arg0)
          ∧ r.2.mem ((c.tc : Thread Cert.OutDxReferenceIdeal.nD Cert.OutDxReferenceIdeal.τ).loc Cert.OutDxReferenceIdeal.main_arg1) = m' ((c.tc : Thread Cert.OutDxReferenceIdeal.nD Cert.OutDxReferenceIdeal.τ).loc Cert.OutDxReferenceIdeal.main_arg1)
          ∧ r.2.mem ((c.tc : Thread Cert.OutDxReferenceIdeal.nD Cert.OutDxReferenceIdeal.τ).loc Cert.OutDxReferenceIdeal.main_arg2) = m' ((c.tc : Thread Cert.OutDxReferenceIdeal.nD Cert.OutDxReferenceIdeal.τ).loc Cert.OutDxReferenceIdeal.main_arg2))

def preserves_GateDw_GateDwIdeal : Prop :=
  True

def algebraic_GateDwIdeal_GateDwReferenceIdeal [hGateDwIdeal : Cert.GateDwIdeal.Facts] [hGateDwReferenceIdeal : Cert.GateDwReferenceIdeal.Facts] : Prop :=
  ∀ (m : (ℓ : Loc Cert.GateDwIdeal.nD Cert.GateDwIdeal.τ Cert.GateDwIdeal.sig) → Buf (Elt Ideal) ℓ) (g : Dev Cert.GateDwIdeal.nD → PrngReg)
    (m' : (ℓ : Loc Cert.GateDwReferenceIdeal.nD Cert.GateDwReferenceIdeal.τ Cert.GateDwReferenceIdeal.sig) → Buf (Elt Ideal) ℓ) (g' : Dev Cert.GateDwReferenceIdeal.nD → PrngReg), Pre_GateDwIdeal m →
    (∀ c : Dev Cert.GateDwIdeal.nD,
      m' ((c.tc : Thread Cert.GateDwReferenceIdeal.nD Cert.GateDwReferenceIdeal.τ).loc Cert.GateDwReferenceIdeal.main_arg0) = m ((c.tc : Thread Cert.GateDwIdeal.nD Cert.GateDwIdeal.τ).loc Cert.GateDwIdeal.main_arg0)
      ∧ m' ((c.tc : Thread Cert.GateDwReferenceIdeal.nD Cert.GateDwReferenceIdeal.τ).loc Cert.GateDwReferenceIdeal.main_arg1) = m ((c.tc : Thread Cert.GateDwIdeal.nD Cert.GateDwIdeal.τ).loc Cert.GateDwIdeal.main_arg1)
      ∧ m' ((c.tc : Thread Cert.GateDwReferenceIdeal.nD Cert.GateDwReferenceIdeal.τ).loc Cert.GateDwReferenceIdeal.main_arg2) = m ((c.tc : Thread Cert.GateDwIdeal.nD Cert.GateDwIdeal.τ).loc Cert.GateDwIdeal.main_arg2)
      ∧ m' ((c.tc : Thread Cert.GateDwReferenceIdeal.nD Cert.GateDwReferenceIdeal.τ).loc Cert.GateDwReferenceIdeal.main_arg3) = m ((c.tc : Thread Cert.GateDwIdeal.nD Cert.GateDwIdeal.τ).loc Cert.GateDwIdeal.main_arg3)
      ∧ m' ((c.tc : Thread Cert.GateDwReferenceIdeal.nD Cert.GateDwReferenceIdeal.τ).loc Cert.GateDwReferenceIdeal.main_arg4) = m ((c.tc : Thread Cert.GateDwIdeal.nD Cert.GateDwIdeal.τ).loc Cert.GateDwIdeal.main_arg4)) →
    ∃ (v0 : (c : Dev Cert.GateDwIdeal.nD) → Buf (Elt Ideal) ((c.tc : Thread Cert.GateDwIdeal.nD Cert.GateDwIdeal.τ).loc Cert.GateDwIdeal.main_v17)),
      θ_run (Cert.GateDwIdeal.defs (F := Ideal)) (onTc (τ := Cert.GateDwIdeal.τ) (Cert.GateDwIdeal.main (F := Ideal))) ⟨m, fun _ => 0, g⟩ (fun r => ∀ c : Dev Cert.GateDwIdeal.nD,
          r.2.mem ((c.tc : Thread Cert.GateDwIdeal.nD Cert.GateDwIdeal.τ).loc Cert.GateDwIdeal.main_v17) = v0 c
          ∧ r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
          ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1)
          ∧ r.2.mem ((c.tc : Thread Cert.GateDwIdeal.nD Cert.GateDwIdeal.τ).loc Cert.GateDwIdeal.main_arg2) = m ((c.tc : Thread Cert.GateDwIdeal.nD Cert.GateDwIdeal.τ).loc Cert.GateDwIdeal.main_arg2)
          ∧ r.2.mem ((c.tc : Thread Cert.GateDwIdeal.nD Cert.GateDwIdeal.τ).loc Cert.GateDwIdeal.main_arg3) = m ((c.tc : Thread Cert.GateDwIdeal.nD Cert.GateDwIdeal.τ).loc Cert.GateDwIdeal.main_arg3)
          ∧ r.2.mem ((c.tc : Thread Cert.GateDwIdeal.nD Cert.GateDwIdeal.τ).loc Cert.GateDwIdeal.main_arg4) = m ((c.tc : Thread Cert.GateDwIdeal.nD Cert.GateDwIdeal.τ).loc Cert.GateDwIdeal.main_arg4))
      ∧ θ_run (Cert.GateDwReferenceIdeal.defs (F := Ideal)) (onTc (τ := Cert.GateDwReferenceIdeal.τ) (Cert.GateDwReferenceIdeal.main (F := Ideal))) ⟨m', fun _ => 0, g'⟩ (fun r => ∀ c : Dev Cert.GateDwReferenceIdeal.nD,
          r.2.mem ((c.tc : Thread Cert.GateDwReferenceIdeal.nD Cert.GateDwReferenceIdeal.τ).loc Cert.GateDwReferenceIdeal.main_v15) = v0 c
          ∧ r.2.mem ((c.tc : Thread Cert.GateDwReferenceIdeal.nD Cert.GateDwReferenceIdeal.τ).loc Cert.GateDwReferenceIdeal.main_arg0) = m' ((c.tc : Thread Cert.GateDwReferenceIdeal.nD Cert.GateDwReferenceIdeal.τ).loc Cert.GateDwReferenceIdeal.main_arg0)
          ∧ r.2.mem ((c.tc : Thread Cert.GateDwReferenceIdeal.nD Cert.GateDwReferenceIdeal.τ).loc Cert.GateDwReferenceIdeal.main_arg1) = m' ((c.tc : Thread Cert.GateDwReferenceIdeal.nD Cert.GateDwReferenceIdeal.τ).loc Cert.GateDwReferenceIdeal.main_arg1)
          ∧ r.2.mem ((c.tc : Thread Cert.GateDwReferenceIdeal.nD Cert.GateDwReferenceIdeal.τ).loc Cert.GateDwReferenceIdeal.main_arg2) = m' ((c.tc : Thread Cert.GateDwReferenceIdeal.nD Cert.GateDwReferenceIdeal.τ).loc Cert.GateDwReferenceIdeal.main_arg2)
          ∧ r.2.mem ((c.tc : Thread Cert.GateDwReferenceIdeal.nD Cert.GateDwReferenceIdeal.τ).loc Cert.GateDwReferenceIdeal.main_arg3) = m' ((c.tc : Thread Cert.GateDwReferenceIdeal.nD Cert.GateDwReferenceIdeal.τ).loc Cert.GateDwReferenceIdeal.main_arg3)
          ∧ r.2.mem ((c.tc : Thread Cert.GateDwReferenceIdeal.nD Cert.GateDwReferenceIdeal.τ).loc Cert.GateDwReferenceIdeal.main_arg4) = m' ((c.tc : Thread Cert.GateDwReferenceIdeal.nD Cert.GateDwReferenceIdeal.τ).loc Cert.GateDwReferenceIdeal.main_arg4))

def preserves_GateDx_GateDxIdeal : Prop :=
  True

def algebraic_GateDxIdeal_GateDxReferenceIdeal [hGateDxIdeal : Cert.GateDxIdeal.Facts] [hGateDxReferenceIdeal : Cert.GateDxReferenceIdeal.Facts] : Prop :=
  ∀ (m : (ℓ : Loc Cert.GateDxIdeal.nD Cert.GateDxIdeal.τ Cert.GateDxIdeal.sig) → Buf (Elt Ideal) ℓ) (g : Dev Cert.GateDxIdeal.nD → PrngReg)
    (m' : (ℓ : Loc Cert.GateDxReferenceIdeal.nD Cert.GateDxReferenceIdeal.τ Cert.GateDxReferenceIdeal.sig) → Buf (Elt Ideal) ℓ) (g' : Dev Cert.GateDxReferenceIdeal.nD → PrngReg), Pre_GateDxIdeal m →
    (∀ c : Dev Cert.GateDxIdeal.nD,
      m' ((c.tc : Thread Cert.GateDxReferenceIdeal.nD Cert.GateDxReferenceIdeal.τ).loc Cert.GateDxReferenceIdeal.main_arg0) = m ((c.tc : Thread Cert.GateDxIdeal.nD Cert.GateDxIdeal.τ).loc Cert.GateDxIdeal.main_arg0)
      ∧ m' ((c.tc : Thread Cert.GateDxReferenceIdeal.nD Cert.GateDxReferenceIdeal.τ).loc Cert.GateDxReferenceIdeal.main_arg1) = m ((c.tc : Thread Cert.GateDxIdeal.nD Cert.GateDxIdeal.τ).loc Cert.GateDxIdeal.main_arg1)
      ∧ m' ((c.tc : Thread Cert.GateDxReferenceIdeal.nD Cert.GateDxReferenceIdeal.τ).loc Cert.GateDxReferenceIdeal.main_arg2) = m ((c.tc : Thread Cert.GateDxIdeal.nD Cert.GateDxIdeal.τ).loc Cert.GateDxIdeal.main_arg2)
      ∧ m' ((c.tc : Thread Cert.GateDxReferenceIdeal.nD Cert.GateDxReferenceIdeal.τ).loc Cert.GateDxReferenceIdeal.main_arg3) = m ((c.tc : Thread Cert.GateDxIdeal.nD Cert.GateDxIdeal.τ).loc Cert.GateDxIdeal.main_arg3)
      ∧ m' ((c.tc : Thread Cert.GateDxReferenceIdeal.nD Cert.GateDxReferenceIdeal.τ).loc Cert.GateDxReferenceIdeal.main_arg4) = m ((c.tc : Thread Cert.GateDxIdeal.nD Cert.GateDxIdeal.τ).loc Cert.GateDxIdeal.main_arg4)) →
    ∃ (v0 : (c : Dev Cert.GateDxIdeal.nD) → Buf (Elt Ideal) ((c.tc : Thread Cert.GateDxIdeal.nD Cert.GateDxIdeal.τ).loc Cert.GateDxIdeal.main_v17)),
      θ_run (Cert.GateDxIdeal.defs (F := Ideal)) (onTc (τ := Cert.GateDxIdeal.τ) (Cert.GateDxIdeal.main (F := Ideal))) ⟨m, fun _ => 0, g⟩ (fun r => ∀ c : Dev Cert.GateDxIdeal.nD,
          r.2.mem ((c.tc : Thread Cert.GateDxIdeal.nD Cert.GateDxIdeal.τ).loc Cert.GateDxIdeal.main_v17) = v0 c
          ∧ r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
          ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1)
          ∧ r.2.mem ((c.tc : Thread Cert.GateDxIdeal.nD Cert.GateDxIdeal.τ).loc Cert.GateDxIdeal.main_arg2) = m ((c.tc : Thread Cert.GateDxIdeal.nD Cert.GateDxIdeal.τ).loc Cert.GateDxIdeal.main_arg2)
          ∧ r.2.mem ((c.tc : Thread Cert.GateDxIdeal.nD Cert.GateDxIdeal.τ).loc Cert.GateDxIdeal.main_arg3) = m ((c.tc : Thread Cert.GateDxIdeal.nD Cert.GateDxIdeal.τ).loc Cert.GateDxIdeal.main_arg3)
          ∧ r.2.mem ((c.tc : Thread Cert.GateDxIdeal.nD Cert.GateDxIdeal.τ).loc Cert.GateDxIdeal.main_arg4) = m ((c.tc : Thread Cert.GateDxIdeal.nD Cert.GateDxIdeal.τ).loc Cert.GateDxIdeal.main_arg4))
      ∧ θ_run (Cert.GateDxReferenceIdeal.defs (F := Ideal)) (onTc (τ := Cert.GateDxReferenceIdeal.τ) (Cert.GateDxReferenceIdeal.main (F := Ideal))) ⟨m', fun _ => 0, g'⟩ (fun r => ∀ c : Dev Cert.GateDxReferenceIdeal.nD,
          r.2.mem ((c.tc : Thread Cert.GateDxReferenceIdeal.nD Cert.GateDxReferenceIdeal.τ).loc Cert.GateDxReferenceIdeal.main_v14) = v0 c
          ∧ r.2.mem ((c.tc : Thread Cert.GateDxReferenceIdeal.nD Cert.GateDxReferenceIdeal.τ).loc Cert.GateDxReferenceIdeal.main_arg0) = m' ((c.tc : Thread Cert.GateDxReferenceIdeal.nD Cert.GateDxReferenceIdeal.τ).loc Cert.GateDxReferenceIdeal.main_arg0)
          ∧ r.2.mem ((c.tc : Thread Cert.GateDxReferenceIdeal.nD Cert.GateDxReferenceIdeal.τ).loc Cert.GateDxReferenceIdeal.main_arg1) = m' ((c.tc : Thread Cert.GateDxReferenceIdeal.nD Cert.GateDxReferenceIdeal.τ).loc Cert.GateDxReferenceIdeal.main_arg1)
          ∧ r.2.mem ((c.tc : Thread Cert.GateDxReferenceIdeal.nD Cert.GateDxReferenceIdeal.τ).loc Cert.GateDxReferenceIdeal.main_arg2) = m' ((c.tc : Thread Cert.GateDxReferenceIdeal.nD Cert.GateDxReferenceIdeal.τ).loc Cert.GateDxReferenceIdeal.main_arg2)
          ∧ r.2.mem ((c.tc : Thread Cert.GateDxReferenceIdeal.nD Cert.GateDxReferenceIdeal.τ).loc Cert.GateDxReferenceIdeal.main_arg3) = m' ((c.tc : Thread Cert.GateDxReferenceIdeal.nD Cert.GateDxReferenceIdeal.τ).loc Cert.GateDxReferenceIdeal.main_arg3)
          ∧ r.2.mem ((c.tc : Thread Cert.GateDxReferenceIdeal.nD Cert.GateDxReferenceIdeal.τ).loc Cert.GateDxReferenceIdeal.main_arg4) = m' ((c.tc : Thread Cert.GateDxReferenceIdeal.nD Cert.GateDxReferenceIdeal.τ).loc Cert.GateDxReferenceIdeal.main_arg4))

def preserves_PleDw_PleDwIdeal : Prop :=
  True

def algebraic_PleDwIdeal_PleDwReferenceIdeal [hPleDwIdeal : Cert.PleDwIdeal.Facts] [hPleDwReferenceIdeal : Cert.PleDwReferenceIdeal.Facts] : Prop :=
  ∀ (m : (ℓ : Loc Cert.PleDwIdeal.nD Cert.PleDwIdeal.τ Cert.PleDwIdeal.sig) → Buf (Elt Ideal) ℓ) (g : Dev Cert.PleDwIdeal.nD → PrngReg)
    (m' : (ℓ : Loc Cert.PleDwReferenceIdeal.nD Cert.PleDwReferenceIdeal.τ Cert.PleDwReferenceIdeal.sig) → Buf (Elt Ideal) ℓ) (g' : Dev Cert.PleDwReferenceIdeal.nD → PrngReg), Pre_PleDwIdeal m →
    (∀ c : Dev Cert.PleDwIdeal.nD,
      m' ((c.tc : Thread Cert.PleDwReferenceIdeal.nD Cert.PleDwReferenceIdeal.τ).loc Cert.PleDwReferenceIdeal.main_arg0) = m ((c.tc : Thread Cert.PleDwIdeal.nD Cert.PleDwIdeal.τ).loc Cert.PleDwIdeal.main_arg0)
      ∧ m' ((c.tc : Thread Cert.PleDwReferenceIdeal.nD Cert.PleDwReferenceIdeal.τ).loc Cert.PleDwReferenceIdeal.main_arg1) = m ((c.tc : Thread Cert.PleDwIdeal.nD Cert.PleDwIdeal.τ).loc Cert.PleDwIdeal.main_arg1)
      ∧ m' ((c.tc : Thread Cert.PleDwReferenceIdeal.nD Cert.PleDwReferenceIdeal.τ).loc Cert.PleDwReferenceIdeal.main_arg2) = m ((c.tc : Thread Cert.PleDwIdeal.nD Cert.PleDwIdeal.τ).loc Cert.PleDwIdeal.main_arg2)
      ∧ m' ((c.tc : Thread Cert.PleDwReferenceIdeal.nD Cert.PleDwReferenceIdeal.τ).loc Cert.PleDwReferenceIdeal.main_arg3) = m ((c.tc : Thread Cert.PleDwIdeal.nD Cert.PleDwIdeal.τ).loc Cert.PleDwIdeal.main_arg3)
      ∧ m' ((c.tc : Thread Cert.PleDwReferenceIdeal.nD Cert.PleDwReferenceIdeal.τ).loc Cert.PleDwReferenceIdeal.main_arg4) = m ((c.tc : Thread Cert.PleDwIdeal.nD Cert.PleDwIdeal.τ).loc Cert.PleDwIdeal.main_arg4)) →
    ∃ (v0 : (c : Dev Cert.PleDwIdeal.nD) → Buf (Elt Ideal) ((c.tc : Thread Cert.PleDwIdeal.nD Cert.PleDwIdeal.τ).loc Cert.PleDwIdeal.main_v16)),
      θ_run (Cert.PleDwIdeal.defs (F := Ideal)) (onTc (τ := Cert.PleDwIdeal.τ) (Cert.PleDwIdeal.main (F := Ideal))) ⟨m, fun _ => 0, g⟩ (fun r => ∀ c : Dev Cert.PleDwIdeal.nD,
          r.2.mem ((c.tc : Thread Cert.PleDwIdeal.nD Cert.PleDwIdeal.τ).loc Cert.PleDwIdeal.main_v16) = v0 c
          ∧ r.2.mem ((c.tc : Thread Cert.PleDwIdeal.nD Cert.PleDwIdeal.τ).loc Cert.PleDwIdeal.main_arg0) = m ((c.tc : Thread Cert.PleDwIdeal.nD Cert.PleDwIdeal.τ).loc Cert.PleDwIdeal.main_arg0)
          ∧ r.2.mem ((c.tc : Thread Cert.PleDwIdeal.nD Cert.PleDwIdeal.τ).loc Cert.PleDwIdeal.main_arg1) = m ((c.tc : Thread Cert.PleDwIdeal.nD Cert.PleDwIdeal.τ).loc Cert.PleDwIdeal.main_arg1)
          ∧ r.2.mem ((c.tc : Thread Cert.PleDwIdeal.nD Cert.PleDwIdeal.τ).loc Cert.PleDwIdeal.main_arg2) = m ((c.tc : Thread Cert.PleDwIdeal.nD Cert.PleDwIdeal.τ).loc Cert.PleDwIdeal.main_arg2)
          ∧ r.2.mem ((c.tc : Thread Cert.PleDwIdeal.nD Cert.PleDwIdeal.τ).loc Cert.PleDwIdeal.main_arg3) = m ((c.tc : Thread Cert.PleDwIdeal.nD Cert.PleDwIdeal.τ).loc Cert.PleDwIdeal.main_arg3)
          ∧ r.2.mem ((c.tc : Thread Cert.PleDwIdeal.nD Cert.PleDwIdeal.τ).loc Cert.PleDwIdeal.main_arg4) = m ((c.tc : Thread Cert.PleDwIdeal.nD Cert.PleDwIdeal.τ).loc Cert.PleDwIdeal.main_arg4))
      ∧ θ_run (Cert.PleDwReferenceIdeal.defs (F := Ideal)) (onTc (τ := Cert.PleDwReferenceIdeal.τ) (Cert.PleDwReferenceIdeal.main (F := Ideal))) ⟨m', fun _ => 0, g'⟩ (fun r => ∀ c : Dev Cert.PleDwReferenceIdeal.nD,
          r.2.mem ((c.tc : Thread Cert.PleDwReferenceIdeal.nD Cert.PleDwReferenceIdeal.τ).loc Cert.PleDwReferenceIdeal.main_v20) = v0 c
          ∧ r.2.mem ((c.tc : Thread Cert.PleDwReferenceIdeal.nD Cert.PleDwReferenceIdeal.τ).loc Cert.PleDwReferenceIdeal.main_arg0) = m' ((c.tc : Thread Cert.PleDwReferenceIdeal.nD Cert.PleDwReferenceIdeal.τ).loc Cert.PleDwReferenceIdeal.main_arg0)
          ∧ r.2.mem ((c.tc : Thread Cert.PleDwReferenceIdeal.nD Cert.PleDwReferenceIdeal.τ).loc Cert.PleDwReferenceIdeal.main_arg1) = m' ((c.tc : Thread Cert.PleDwReferenceIdeal.nD Cert.PleDwReferenceIdeal.τ).loc Cert.PleDwReferenceIdeal.main_arg1)
          ∧ r.2.mem ((c.tc : Thread Cert.PleDwReferenceIdeal.nD Cert.PleDwReferenceIdeal.τ).loc Cert.PleDwReferenceIdeal.main_arg2) = m' ((c.tc : Thread Cert.PleDwReferenceIdeal.nD Cert.PleDwReferenceIdeal.τ).loc Cert.PleDwReferenceIdeal.main_arg2)
          ∧ r.2.mem ((c.tc : Thread Cert.PleDwReferenceIdeal.nD Cert.PleDwReferenceIdeal.τ).loc Cert.PleDwReferenceIdeal.main_arg3) = m' ((c.tc : Thread Cert.PleDwReferenceIdeal.nD Cert.PleDwReferenceIdeal.τ).loc Cert.PleDwReferenceIdeal.main_arg3)
          ∧ r.2.mem ((c.tc : Thread Cert.PleDwReferenceIdeal.nD Cert.PleDwReferenceIdeal.τ).loc Cert.PleDwReferenceIdeal.main_arg4) = m' ((c.tc : Thread Cert.PleDwReferenceIdeal.nD Cert.PleDwReferenceIdeal.τ).loc Cert.PleDwReferenceIdeal.main_arg4))

def preserves_InFwd_InFwdIdeal : Prop :=
  True

def algebraic_InFwdIdeal_InFwdReferenceIdeal [hInFwdIdeal : Cert.InFwdIdeal.Facts] [hInFwdReferenceIdeal : Cert.InFwdReferenceIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdReferenceIdeal.nD Cert.InFwdReferenceIdeal.τ Cert.InFwdReferenceIdeal.sig) → Buf (Elt Ideal) ℓ) (g' : Dev Cert.InFwdReferenceIdeal.nD → PrngReg), Pre_InFwdIdeal m →
    (∀ c : Dev Cert.InFwdIdeal.nD,
      m' ((c.tc : Thread Cert.InFwdReferenceIdeal.nD Cert.InFwdReferenceIdeal.τ).loc Cert.InFwdReferenceIdeal.main_arg0) = m ((c.tc : Thread Cert.InFwdIdeal.nD Cert.InFwdIdeal.τ).loc Cert.InFwdIdeal.main_arg0)
      ∧ m' ((c.tc : Thread Cert.InFwdReferenceIdeal.nD Cert.InFwdReferenceIdeal.τ).loc Cert.InFwdReferenceIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v3)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v3) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdReferenceIdeal.defs (F := Ideal)) (onTc (τ := Cert.InFwdReferenceIdeal.τ) (Cert.InFwdReferenceIdeal.main (F := Ideal))) ⟨m', fun _ => 0, g'⟩ (fun r => ∀ c : Dev Cert.InFwdReferenceIdeal.nD,
          r.2.mem ((c.tc : Thread Cert.InFwdReferenceIdeal.nD Cert.InFwdReferenceIdeal.τ).loc Cert.InFwdReferenceIdeal.main_v0) = v0 c
          ∧ r.2.mem ((c.tc : Thread Cert.InFwdReferenceIdeal.nD Cert.InFwdReferenceIdeal.τ).loc Cert.InFwdReferenceIdeal.main_arg0) = m' ((c.tc : Thread Cert.InFwdReferenceIdeal.nD Cert.InFwdReferenceIdeal.τ).loc Cert.InFwdReferenceIdeal.main_arg0)
          ∧ r.2.mem ((c.tc : Thread Cert.InFwdReferenceIdeal.nD Cert.InFwdReferenceIdeal.τ).loc Cert.InFwdReferenceIdeal.main_arg1) = m' ((c.tc : Thread Cert.InFwdReferenceIdeal.nD Cert.InFwdReferenceIdeal.τ).loc Cert.InFwdReferenceIdeal.main_arg1))

def preserves_UpFwd_UpFwdIdeal : Prop :=
  True

def algebraic_UpFwdIdeal_UpFwdReferenceIdeal [hUpFwdIdeal : Cert.UpFwdIdeal.Facts] [hUpFwdReferenceIdeal : Cert.UpFwdReferenceIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdReferenceIdeal.nD Cert.UpFwdReferenceIdeal.τ Cert.UpFwdReferenceIdeal.sig) → Buf (Elt Ideal) ℓ) (g' : Dev Cert.UpFwdReferenceIdeal.nD → PrngReg), Pre_UpFwdIdeal m →
    (∀ c : Dev Cert.UpFwdIdeal.nD,
      m' ((c.tc : Thread Cert.UpFwdReferenceIdeal.nD Cert.UpFwdReferenceIdeal.τ).loc Cert.UpFwdReferenceIdeal.main_arg0) = m ((c.tc : Thread Cert.UpFwdIdeal.nD Cert.UpFwdIdeal.τ).loc Cert.UpFwdIdeal.main_arg0)
      ∧ m' ((c.tc : Thread Cert.UpFwdReferenceIdeal.nD Cert.UpFwdReferenceIdeal.τ).loc Cert.UpFwdReferenceIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v4_0)) (v1 : (c : Dev Cert.UpFwdIdeal.nD) → Buf (Elt Ideal) ((c.tc : Thread Cert.UpFwdIdeal.nD Cert.UpFwdIdeal.τ).loc Cert.UpFwdIdeal.main_v4_1)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v4_0) = v0 c
          ∧ r.2.mem ((c.tc : Thread Cert.UpFwdIdeal.nD Cert.UpFwdIdeal.τ).loc Cert.UpFwdIdeal.main_v4_1) = v1 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.UpFwdReferenceIdeal.defs (F := Ideal)) (onTc (τ := Cert.UpFwdReferenceIdeal.τ) (Cert.UpFwdReferenceIdeal.main (F := Ideal))) ⟨m', fun _ => 0, g'⟩ (fun r => ∀ c : Dev Cert.UpFwdReferenceIdeal.nD,
          r.2.mem ((c.tc : Thread Cert.UpFwdReferenceIdeal.nD Cert.UpFwdReferenceIdeal.τ).loc Cert.UpFwdReferenceIdeal.main_v0) = v0 c
          ∧ r.2.mem ((c.tc : Thread Cert.UpFwdReferenceIdeal.nD Cert.UpFwdReferenceIdeal.τ).loc Cert.UpFwdReferenceIdeal.main_v3) = v1 c
          ∧ r.2.mem ((c.tc : Thread Cert.UpFwdReferenceIdeal.nD Cert.UpFwdReferenceIdeal.τ).loc Cert.UpFwdReferenceIdeal.main_arg0) = m' ((c.tc : Thread Cert.UpFwdReferenceIdeal.nD Cert.UpFwdReferenceIdeal.τ).loc Cert.UpFwdReferenceIdeal.main_arg0)
          ∧ r.2.mem ((c.tc : Thread Cert.UpFwdReferenceIdeal.nD Cert.UpFwdReferenceIdeal.τ).loc Cert.UpFwdReferenceIdeal.main_arg1) = m' ((c.tc : Thread Cert.UpFwdReferenceIdeal.nD Cert.UpFwdReferenceIdeal.τ).loc Cert.UpFwdReferenceIdeal.main_arg1))

def preserves_DownFwd_DownFwdIdeal : Prop :=
  True

def algebraic_DownFwdIdeal_DownFwdReferenceIdeal [hDownFwdIdeal : Cert.DownFwdIdeal.Facts] [hDownFwdReferenceIdeal : Cert.DownFwdReferenceIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdReferenceIdeal.nD Cert.DownFwdReferenceIdeal.τ Cert.DownFwdReferenceIdeal.sig) → Buf (Elt Ideal) ℓ) (g' : Dev Cert.DownFwdReferenceIdeal.nD → PrngReg), Pre_DownFwdIdeal m →
    (∀ c : Dev Cert.DownFwdIdeal.nD,
      m' ((c.tc : Thread Cert.DownFwdReferenceIdeal.nD Cert.DownFwdReferenceIdeal.τ).loc Cert.DownFwdReferenceIdeal.main_arg0) = m ((c.tc : Thread Cert.DownFwdIdeal.nD Cert.DownFwdIdeal.τ).loc Cert.DownFwdIdeal.main_arg0)
      ∧ m' ((c.tc : Thread Cert.DownFwdReferenceIdeal.nD Cert.DownFwdReferenceIdeal.τ).loc Cert.DownFwdReferenceIdeal.main_arg1) = m ((c.tc : Thread Cert.DownFwdIdeal.nD Cert.DownFwdIdeal.τ).loc Cert.DownFwdIdeal.main_arg1)
      ∧ m' ((c.tc : Thread Cert.DownFwdReferenceIdeal.nD Cert.DownFwdReferenceIdeal.τ).loc Cert.DownFwdReferenceIdeal.main_arg2) = m ((c.tc : Thread Cert.DownFwdIdeal.nD Cert.DownFwdIdeal.τ).loc Cert.DownFwdIdeal.main_arg2)
      ∧ m' ((c.tc : Thread Cert.DownFwdReferenceIdeal.nD Cert.DownFwdReferenceIdeal.τ).loc Cert.DownFwdReferenceIdeal.main_arg3) = m ((c.tc : Thread Cert.DownFwdIdeal.nD Cert.DownFwdIdeal.τ).loc Cert.DownFwdIdeal.main_arg3)
      ∧ m' ((c.tc : Thread Cert.DownFwdReferenceIdeal.nD Cert.DownFwdReferenceIdeal.τ).loc Cert.DownFwdReferenceIdeal.main_arg4) = m ((c.tc : Thread Cert.DownFwdIdeal.nD Cert.DownFwdIdeal.τ).loc Cert.DownFwdIdeal.main_arg4)) →
    ∃ (v0 : (c : Dev Cert.DownFwdIdeal.nD) → Buf (Elt Ideal) ((c.tc : Thread Cert.DownFwdIdeal.nD Cert.DownFwdIdeal.τ).loc Cert.DownFwdIdeal.main_v5_0)) (v1 : (c : Dev Cert.DownFwdIdeal.nD) → Buf (Elt Ideal) ((c.tc : Thread Cert.DownFwdIdeal.nD Cert.DownFwdIdeal.τ).loc Cert.DownFwdIdeal.main_v5_1)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v5_0) = v0 c
          ∧ r.2.mem ((c.tc : Thread Cert.DownFwdIdeal.nD Cert.DownFwdIdeal.τ).loc Cert.DownFwdIdeal.main_v5_1) = v1 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
          ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3)
          ∧ r.2.mem ((c.tc : Thread Cert.DownFwdIdeal.nD Cert.DownFwdIdeal.τ).loc Cert.DownFwdIdeal.main_arg4) = m ((c.tc : Thread Cert.DownFwdIdeal.nD Cert.DownFwdIdeal.τ).loc Cert.DownFwdIdeal.main_arg4))
      ∧ θ_run (Cert.DownFwdReferenceIdeal.defs (F := Ideal)) (onTc (τ := Cert.DownFwdReferenceIdeal.τ) (Cert.DownFwdReferenceIdeal.main (F := Ideal))) ⟨m', fun _ => 0, g'⟩ (fun r => ∀ c : Dev Cert.DownFwdReferenceIdeal.nD,
          r.2.mem ((c.tc : Thread Cert.DownFwdReferenceIdeal.nD Cert.DownFwdReferenceIdeal.τ).loc Cert.DownFwdReferenceIdeal.main_v4) = v0 c
          ∧ r.2.mem ((c.tc : Thread Cert.DownFwdReferenceIdeal.nD Cert.DownFwdReferenceIdeal.τ).loc Cert.DownFwdReferenceIdeal.main_v19) = v1 c
          ∧ r.2.mem ((c.tc : Thread Cert.DownFwdReferenceIdeal.nD Cert.DownFwdReferenceIdeal.τ).loc Cert.DownFwdReferenceIdeal.main_arg0) = m' ((c.tc : Thread Cert.DownFwdReferenceIdeal.nD Cert.DownFwdReferenceIdeal.τ).loc Cert.DownFwdReferenceIdeal.main_arg0)
          ∧ r.2.mem ((c.tc : Thread Cert.DownFwdReferenceIdeal.nD Cert.DownFwdReferenceIdeal.τ).loc Cert.DownFwdReferenceIdeal.main_arg1) = m' ((c.tc : Thread Cert.DownFwdReferenceIdeal.nD Cert.DownFwdReferenceIdeal.τ).loc Cert.DownFwdReferenceIdeal.main_arg1)
          ∧ r.2.mem ((c.tc : Thread Cert.DownFwdReferenceIdeal.nD Cert.DownFwdReferenceIdeal.τ).loc Cert.DownFwdReferenceIdeal.main_arg2) = m' ((c.tc : Thread Cert.DownFwdReferenceIdeal.nD Cert.DownFwdReferenceIdeal.τ).loc Cert.DownFwdReferenceIdeal.main_arg2)
          ∧ r.2.mem ((c.tc : Thread Cert.DownFwdReferenceIdeal.nD Cert.DownFwdReferenceIdeal.τ).loc Cert.DownFwdReferenceIdeal.main_arg3) = m' ((c.tc : Thread Cert.DownFwdReferenceIdeal.nD Cert.DownFwdReferenceIdeal.τ).loc Cert.DownFwdReferenceIdeal.main_arg3)
          ∧ r.2.mem ((c.tc : Thread Cert.DownFwdReferenceIdeal.nD Cert.DownFwdReferenceIdeal.τ).loc Cert.DownFwdReferenceIdeal.main_arg4) = m' ((c.tc : Thread Cert.DownFwdReferenceIdeal.nD Cert.DownFwdReferenceIdeal.τ).loc Cert.DownFwdReferenceIdeal.main_arg4))

def preserves_OutFwd_OutFwdIdeal : Prop :=
  True

def algebraic_OutFwdIdeal_OutFwdReferenceIdeal [hOutFwdIdeal : Cert.OutFwdIdeal.Facts] [hOutFwdReferenceIdeal : Cert.OutFwdReferenceIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdReferenceIdeal.nD Cert.OutFwdReferenceIdeal.τ Cert.OutFwdReferenceIdeal.sig) → Buf (Elt Ideal) ℓ) (g' : Dev Cert.OutFwdReferenceIdeal.nD → PrngReg), Pre_OutFwdIdeal m →
    (∀ c : Dev Cert.OutFwdIdeal.nD,
      m' ((c.tc : Thread Cert.OutFwdReferenceIdeal.nD Cert.OutFwdReferenceIdeal.τ).loc Cert.OutFwdReferenceIdeal.main_arg0) = m ((c.tc : Thread Cert.OutFwdIdeal.nD Cert.OutFwdIdeal.τ).loc Cert.OutFwdIdeal.main_arg0)
      ∧ m' ((c.tc : Thread Cert.OutFwdReferenceIdeal.nD Cert.OutFwdReferenceIdeal.τ).loc Cert.OutFwdReferenceIdeal.main_arg1) = m ((c.tc : Thread Cert.OutFwdIdeal.nD Cert.OutFwdIdeal.τ).loc Cert.OutFwdIdeal.main_arg1)
      ∧ m' ((c.tc : Thread Cert.OutFwdReferenceIdeal.nD Cert.OutFwdReferenceIdeal.τ).loc Cert.OutFwdReferenceIdeal.main_arg2) = m ((c.tc : Thread Cert.OutFwdIdeal.nD Cert.OutFwdIdeal.τ).loc Cert.OutFwdIdeal.main_arg2)
      ∧ m' ((c.tc : Thread Cert.OutFwdReferenceIdeal.nD Cert.OutFwdReferenceIdeal.τ).loc Cert.OutFwdReferenceIdeal.main_arg3) = m ((c.tc : Thread Cert.OutFwdIdeal.nD Cert.OutFwdIdeal.τ).loc Cert.OutFwdIdeal.main_arg3)) →
    ∃ (v0 : (c : Dev Cert.OutFwdIdeal.nD) → Buf (Elt Ideal) ((c.tc : Thread Cert.OutFwdIdeal.nD Cert.OutFwdIdeal.τ).loc Cert.OutFwdIdeal.main_v2_0)) (v1 : (c : Dev Cert.OutFwdIdeal.nD) → Buf (Elt Ideal) ((c.tc : Thread Cert.OutFwdIdeal.nD Cert.OutFwdIdeal.τ).loc Cert.OutFwdIdeal.main_v2_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v2_0) = v0 c
          ∧ r.2.mem ((c.tc : Thread Cert.OutFwdIdeal.nD Cert.OutFwdIdeal.τ).loc Cert.OutFwdIdeal.main_v2_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ θ_run (Cert.OutFwdReferenceIdeal.defs (F := Ideal)) (onTc (τ := Cert.OutFwdReferenceIdeal.τ) (Cert.OutFwdReferenceIdeal.main (F := Ideal))) ⟨m', fun _ => 0, g'⟩ (fun r => ∀ c : Dev Cert.OutFwdReferenceIdeal.nD,
          r.2.mem ((c.tc : Thread Cert.OutFwdReferenceIdeal.nD Cert.OutFwdReferenceIdeal.τ).loc Cert.OutFwdReferenceIdeal.main_v1) = v0 c
          ∧ r.2.mem ((c.tc : Thread Cert.OutFwdReferenceIdeal.nD Cert.OutFwdReferenceIdeal.τ).loc Cert.OutFwdReferenceIdeal.main_v16) = v1 c
          ∧ r.2.mem ((c.tc : Thread Cert.OutFwdReferenceIdeal.nD Cert.OutFwdReferenceIdeal.τ).loc Cert.OutFwdReferenceIdeal.main_arg0) = m' ((c.tc : Thread Cert.OutFwdReferenceIdeal.nD Cert.OutFwdReferenceIdeal.τ).loc Cert.OutFwdReferenceIdeal.main_arg0)
          ∧ r.2.mem ((c.tc : Thread Cert.OutFwdReferenceIdeal.nD Cert.OutFwdReferenceIdeal.τ).loc Cert.OutFwdReferenceIdeal.main_arg1) = m' ((c.tc : Thread Cert.OutFwdReferenceIdeal.nD Cert.OutFwdReferenceIdeal.τ).loc Cert.OutFwdReferenceIdeal.main_arg1)
          ∧ r.2.mem ((c.tc : Thread Cert.OutFwdReferenceIdeal.nD Cert.OutFwdReferenceIdeal.τ).loc Cert.OutFwdReferenceIdeal.main_arg2) = m' ((c.tc : Thread Cert.OutFwdReferenceIdeal.nD Cert.OutFwdReferenceIdeal.τ).loc Cert.OutFwdReferenceIdeal.main_arg2)
          ∧ r.2.mem ((c.tc : Thread Cert.OutFwdReferenceIdeal.nD Cert.OutFwdReferenceIdeal.τ).loc Cert.OutFwdReferenceIdeal.main_arg3) = m' ((c.tc : Thread Cert.OutFwdReferenceIdeal.nD Cert.OutFwdReferenceIdeal.τ).loc Cert.OutFwdReferenceIdeal.main_arg3))

def preserves_GateFwd_GateFwdIdeal : Prop :=
  True

def algebraic_GateFwdIdeal_GateFwdReferenceIdeal [hGateFwdIdeal : Cert.GateFwdIdeal.Facts] [hGateFwdReferenceIdeal : Cert.GateFwdReferenceIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdReferenceIdeal.nD Cert.GateFwdReferenceIdeal.τ Cert.GateFwdReferenceIdeal.sig) → Buf (Elt Ideal) ℓ) (g' : Dev Cert.GateFwdReferenceIdeal.nD → PrngReg), Pre_GateFwdIdeal m →
    (∀ c : Dev Cert.GateFwdIdeal.nD,
      m' ((c.tc : Thread Cert.GateFwdReferenceIdeal.nD Cert.GateFwdReferenceIdeal.τ).loc Cert.GateFwdReferenceIdeal.main_arg0) = m ((c.tc : Thread Cert.GateFwdIdeal.nD Cert.GateFwdIdeal.τ).loc Cert.GateFwdIdeal.main_arg0)
      ∧ m' ((c.tc : Thread Cert.GateFwdReferenceIdeal.nD Cert.GateFwdReferenceIdeal.τ).loc Cert.GateFwdReferenceIdeal.main_arg1) = m ((c.tc : Thread Cert.GateFwdIdeal.nD Cert.GateFwdIdeal.τ).loc Cert.GateFwdIdeal.main_arg1)
      ∧ m' ((c.tc : Thread Cert.GateFwdReferenceIdeal.nD Cert.GateFwdReferenceIdeal.τ).loc Cert.GateFwdReferenceIdeal.main_arg2) = m ((c.tc : Thread Cert.GateFwdIdeal.nD Cert.GateFwdIdeal.τ).loc Cert.GateFwdIdeal.main_arg2)
      ∧ m' ((c.tc : Thread Cert.GateFwdReferenceIdeal.nD Cert.GateFwdReferenceIdeal.τ).loc Cert.GateFwdReferenceIdeal.main_arg3) = m ((c.tc : Thread Cert.GateFwdIdeal.nD Cert.GateFwdIdeal.τ).loc Cert.GateFwdIdeal.main_arg3)
      ∧ m' ((c.tc : Thread Cert.GateFwdReferenceIdeal.nD Cert.GateFwdReferenceIdeal.τ).loc Cert.GateFwdReferenceIdeal.main_arg4) = m ((c.tc : Thread Cert.GateFwdIdeal.nD Cert.GateFwdIdeal.τ).loc Cert.GateFwdIdeal.main_arg4)) →
    ∃ (v0 : (c : Dev Cert.GateFwdIdeal.nD) → Buf (Elt Ideal) ((c.tc : Thread Cert.GateFwdIdeal.nD Cert.GateFwdIdeal.τ).loc Cert.GateFwdIdeal.main_v3_0)) (v1 : (c : Dev Cert.GateFwdIdeal.nD) → Buf (Elt Ideal) ((c.tc : Thread Cert.GateFwdIdeal.nD Cert.GateFwdIdeal.τ).loc Cert.GateFwdIdeal.main_v3_1)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v3_0) = v0 c
          ∧ r.2.mem ((c.tc : Thread Cert.GateFwdIdeal.nD Cert.GateFwdIdeal.τ).loc Cert.GateFwdIdeal.main_v3_1) = v1 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
          ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
          ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4))
      ∧ θ_run (Cert.GateFwdReferenceIdeal.defs (F := Ideal)) (onTc (τ := Cert.GateFwdReferenceIdeal.τ) (Cert.GateFwdReferenceIdeal.main (F := Ideal))) ⟨m', fun _ => 0, g'⟩ (fun r => ∀ c : Dev Cert.GateFwdReferenceIdeal.nD,
          r.2.mem ((c.tc : Thread Cert.GateFwdReferenceIdeal.nD Cert.GateFwdReferenceIdeal.τ).loc Cert.GateFwdReferenceIdeal.main_v0) = v0 c
          ∧ r.2.mem ((c.tc : Thread Cert.GateFwdReferenceIdeal.nD Cert.GateFwdReferenceIdeal.τ).loc Cert.GateFwdReferenceIdeal.main_v10) = v1 c
          ∧ r.2.mem ((c.tc : Thread Cert.GateFwdReferenceIdeal.nD Cert.GateFwdReferenceIdeal.τ).loc Cert.GateFwdReferenceIdeal.main_arg0) = m' ((c.tc : Thread Cert.GateFwdReferenceIdeal.nD Cert.GateFwdReferenceIdeal.τ).loc Cert.GateFwdReferenceIdeal.main_arg0)
          ∧ r.2.mem ((c.tc : Thread Cert.GateFwdReferenceIdeal.nD Cert.GateFwdReferenceIdeal.τ).loc Cert.GateFwdReferenceIdeal.main_arg1) = m' ((c.tc : Thread Cert.GateFwdReferenceIdeal.nD Cert.GateFwdReferenceIdeal.τ).loc Cert.GateFwdReferenceIdeal.main_arg1)
          ∧ r.2.mem ((c.tc : Thread Cert.GateFwdReferenceIdeal.nD Cert.GateFwdReferenceIdeal.τ).loc Cert.GateFwdReferenceIdeal.main_arg2) = m' ((c.tc : Thread Cert.GateFwdReferenceIdeal.nD Cert.GateFwdReferenceIdeal.τ).loc Cert.GateFwdReferenceIdeal.main_arg2)
          ∧ r.2.mem ((c.tc : Thread Cert.GateFwdReferenceIdeal.nD Cert.GateFwdReferenceIdeal.τ).loc Cert.GateFwdReferenceIdeal.main_arg3) = m' ((c.tc : Thread Cert.GateFwdReferenceIdeal.nD Cert.GateFwdReferenceIdeal.τ).loc Cert.GateFwdReferenceIdeal.main_arg3)
          ∧ r.2.mem ((c.tc : Thread Cert.GateFwdReferenceIdeal.nD Cert.GateFwdReferenceIdeal.τ).loc Cert.GateFwdReferenceIdeal.main_arg4) = m' ((c.tc : Thread Cert.GateFwdReferenceIdeal.nD Cert.GateFwdReferenceIdeal.τ).loc Cert.GateFwdReferenceIdeal.main_arg4))

def preserves_PleFwd_PleFwdIdeal : Prop :=
  True

def algebraic_PleFwdIdeal_PleFwdReferenceIdeal [hPleFwdIdeal : Cert.PleFwdIdeal.Facts] [hPleFwdReferenceIdeal : Cert.PleFwdReferenceIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg)
    (m' : (ℓ : Loc Cert.PleFwdReferenceIdeal.nD Cert.PleFwdReferenceIdeal.τ Cert.PleFwdReferenceIdeal.sig) → Buf (Elt Ideal) ℓ) (g' : Dev Cert.PleFwdReferenceIdeal.nD → PrngReg), Pre_PleFwdIdeal m →
    (∀ c : Dev Cert.PleFwdIdeal.nD,
      m' ((c.tc : Thread Cert.PleFwdReferenceIdeal.nD Cert.PleFwdReferenceIdeal.τ).loc Cert.PleFwdReferenceIdeal.main_arg0) = m ((c.tc : Thread Cert.PleFwdIdeal.nD Cert.PleFwdIdeal.τ).loc Cert.PleFwdIdeal.main_arg0)
      ∧ m' ((c.tc : Thread Cert.PleFwdReferenceIdeal.nD Cert.PleFwdReferenceIdeal.τ).loc Cert.PleFwdReferenceIdeal.main_arg1) = m ((c.tc : Thread Cert.PleFwdIdeal.nD Cert.PleFwdIdeal.τ).loc Cert.PleFwdIdeal.main_arg1)) →
    ∃ (v0 : (c : Dev Cert.PleFwdIdeal.nD) → Buf (Elt Ideal) ((c.tc : Thread Cert.PleFwdIdeal.nD Cert.PleFwdIdeal.τ).loc Cert.PleFwdIdeal.main_v3)),
      θ_run (Cert.PleFwdIdeal.defs (F := Ideal)) (onTc (τ := Cert.PleFwdIdeal.τ) (Cert.PleFwdIdeal.main (F := Ideal))) ⟨m, fun _ => 0, g⟩ (fun r => ∀ c : Dev Cert.PleFwdIdeal.nD,
          r.2.mem ((c.tc : Thread Cert.PleFwdIdeal.nD Cert.PleFwdIdeal.τ).loc Cert.PleFwdIdeal.main_v3) = v0 c
          ∧ r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
          ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1))
      ∧ θ_run (Cert.PleFwdReferenceIdeal.defs (F := Ideal)) (onTc (τ := Cert.PleFwdReferenceIdeal.τ) (Cert.PleFwdReferenceIdeal.main (F := Ideal))) ⟨m', fun _ => 0, g'⟩ (fun r => ∀ c : Dev Cert.PleFwdReferenceIdeal.nD,
          r.2.mem ((c.tc : Thread Cert.PleFwdReferenceIdeal.nD Cert.PleFwdReferenceIdeal.τ).loc Cert.PleFwdReferenceIdeal.main_v0) = v0 c
          ∧ r.2.mem ((c.tc : Thread Cert.PleFwdReferenceIdeal.nD Cert.PleFwdReferenceIdeal.τ).loc Cert.PleFwdReferenceIdeal.main_arg0) = m' ((c.tc : Thread Cert.PleFwdReferenceIdeal.nD Cert.PleFwdReferenceIdeal.τ).loc Cert.PleFwdReferenceIdeal.main_arg0)
          ∧ r.2.mem ((c.tc : Thread Cert.PleFwdReferenceIdeal.nD Cert.PleFwdReferenceIdeal.τ).loc Cert.PleFwdReferenceIdeal.main_arg1) = m' ((c.tc : Thread Cert.PleFwdReferenceIdeal.nD Cert.PleFwdReferenceIdeal.τ).loc Cert.PleFwdReferenceIdeal.main_arg1))

def preserves_Narrow_NarrowIdeal : Prop :=
  True

def algebraic_NarrowIdeal_NarrowReferenceIdeal [hNarrowIdeal : Cert.NarrowIdeal.Facts] [hNarrowReferenceIdeal : Cert.NarrowReferenceIdeal.Facts] : Prop :=
  ∀ (m : (ℓ : Loc Cert.NarrowIdeal.nD Cert.NarrowIdeal.τ Cert.NarrowIdeal.sig) → Buf (Elt Ideal) ℓ) (g : Dev Cert.NarrowIdeal.nD → PrngReg)
    (m' : (ℓ : Loc Cert.NarrowReferenceIdeal.nD Cert.NarrowReferenceIdeal.τ Cert.NarrowReferenceIdeal.sig) → Buf (Elt Ideal) ℓ) (g' : Dev Cert.NarrowReferenceIdeal.nD → PrngReg), Pre_NarrowIdeal m →
    (∀ c : Dev Cert.NarrowIdeal.nD,
      m' ((c.tc : Thread Cert.NarrowReferenceIdeal.nD Cert.NarrowReferenceIdeal.τ).loc Cert.NarrowReferenceIdeal.main_arg0) = m ((c.tc : Thread Cert.NarrowIdeal.nD Cert.NarrowIdeal.τ).loc Cert.NarrowIdeal.main_arg0)
      ∧ m' ((c.tc : Thread Cert.NarrowReferenceIdeal.nD Cert.NarrowReferenceIdeal.τ).loc Cert.NarrowReferenceIdeal.main_arg1) = m ((c.tc : Thread Cert.NarrowIdeal.nD Cert.NarrowIdeal.τ).loc Cert.NarrowIdeal.main_arg1)) →
    ∃ (v0 : (c : Dev Cert.NarrowIdeal.nD) → Buf (Elt Ideal) ((c.tc : Thread Cert.NarrowIdeal.nD Cert.NarrowIdeal.τ).loc Cert.NarrowIdeal.main_v3)),
      θ_run (Cert.NarrowIdeal.defs (F := Ideal)) (onTc (τ := Cert.NarrowIdeal.τ) (Cert.NarrowIdeal.main (F := Ideal))) ⟨m, fun _ => 0, g⟩ (fun r => ∀ c : Dev Cert.NarrowIdeal.nD,
          r.2.mem ((c.tc : Thread Cert.NarrowIdeal.nD Cert.NarrowIdeal.τ).loc Cert.NarrowIdeal.main_v3) = v0 c
          ∧ r.2.mem ((c.tc : Thread Cert.NarrowIdeal.nD Cert.NarrowIdeal.τ).loc Cert.NarrowIdeal.main_arg0) = m ((c.tc : Thread Cert.NarrowIdeal.nD Cert.NarrowIdeal.τ).loc Cert.NarrowIdeal.main_arg0)
          ∧ r.2.mem ((c.tc : Thread Cert.NarrowIdeal.nD Cert.NarrowIdeal.τ).loc Cert.NarrowIdeal.main_arg1) = m ((c.tc : Thread Cert.NarrowIdeal.nD Cert.NarrowIdeal.τ).loc Cert.NarrowIdeal.main_arg1))
      ∧ θ_run (Cert.NarrowReferenceIdeal.defs (F := Ideal)) (onTc (τ := Cert.NarrowReferenceIdeal.τ) (Cert.NarrowReferenceIdeal.main (F := Ideal))) ⟨m', fun _ => 0, g'⟩ (fun r => ∀ c : Dev Cert.NarrowReferenceIdeal.nD,
          r.2.mem ((c.tc : Thread Cert.NarrowReferenceIdeal.nD Cert.NarrowReferenceIdeal.τ).loc Cert.NarrowReferenceIdeal.main_v0) = v0 c
          ∧ r.2.mem ((c.tc : Thread Cert.NarrowReferenceIdeal.nD Cert.NarrowReferenceIdeal.τ).loc Cert.NarrowReferenceIdeal.main_arg0) = m' ((c.tc : Thread Cert.NarrowReferenceIdeal.nD Cert.NarrowReferenceIdeal.τ).loc Cert.NarrowReferenceIdeal.main_arg0)
          ∧ r.2.mem ((c.tc : Thread Cert.NarrowReferenceIdeal.nD Cert.NarrowReferenceIdeal.τ).loc Cert.NarrowReferenceIdeal.main_arg1) = m' ((c.tc : Thread Cert.NarrowReferenceIdeal.nD Cert.NarrowReferenceIdeal.τ).loc Cert.NarrowReferenceIdeal.main_arg1))

def preserves_NarrowDw_NarrowDwIdeal : Prop :=
  True

def algebraic_NarrowDwIdeal_NarrowDwReferenceIdeal [hNarrowDwIdeal : Cert.NarrowDwIdeal.Facts] [hNarrowDwReferenceIdeal : Cert.NarrowDwReferenceIdeal.Facts] : Prop :=
  ∀ (m : (ℓ : Loc Cert.NarrowDwIdeal.nD Cert.NarrowDwIdeal.τ Cert.NarrowDwIdeal.sig) → Buf (Elt Ideal) ℓ) (g : Dev Cert.NarrowDwIdeal.nD → PrngReg)
    (m' : (ℓ : Loc Cert.NarrowDwReferenceIdeal.nD Cert.NarrowDwReferenceIdeal.τ Cert.NarrowDwReferenceIdeal.sig) → Buf (Elt Ideal) ℓ) (g' : Dev Cert.NarrowDwReferenceIdeal.nD → PrngReg), Pre_NarrowDwIdeal m →
    (∀ c : Dev Cert.NarrowDwIdeal.nD,
      m' ((c.tc : Thread Cert.NarrowDwReferenceIdeal.nD Cert.NarrowDwReferenceIdeal.τ).loc Cert.NarrowDwReferenceIdeal.main_arg0) = m ((c.tc : Thread Cert.NarrowDwIdeal.nD Cert.NarrowDwIdeal.τ).loc Cert.NarrowDwIdeal.main_arg0)
      ∧ m' ((c.tc : Thread Cert.NarrowDwReferenceIdeal.nD Cert.NarrowDwReferenceIdeal.τ).loc Cert.NarrowDwReferenceIdeal.main_arg1) = m ((c.tc : Thread Cert.NarrowDwIdeal.nD Cert.NarrowDwIdeal.τ).loc Cert.NarrowDwIdeal.main_arg1)
      ∧ m' ((c.tc : Thread Cert.NarrowDwReferenceIdeal.nD Cert.NarrowDwReferenceIdeal.τ).loc Cert.NarrowDwReferenceIdeal.main_arg2) = m ((c.tc : Thread Cert.NarrowDwIdeal.nD Cert.NarrowDwIdeal.τ).loc Cert.NarrowDwIdeal.main_arg2)) →
    ∃ (v0 : (c : Dev Cert.NarrowDwIdeal.nD) → Buf (Elt Ideal) ((c.tc : Thread Cert.NarrowDwIdeal.nD Cert.NarrowDwIdeal.τ).loc Cert.NarrowDwIdeal.main_v1)),
      θ_run (Cert.NarrowDwIdeal.defs (F := Ideal)) (onTc (τ := Cert.NarrowDwIdeal.τ) (Cert.NarrowDwIdeal.main (F := Ideal))) ⟨m, fun _ => 0, g⟩ (fun r => ∀ c : Dev Cert.NarrowDwIdeal.nD,
          r.2.mem ((c.tc : Thread Cert.NarrowDwIdeal.nD Cert.NarrowDwIdeal.τ).loc Cert.NarrowDwIdeal.main_v1) = v0 c
          ∧ r.2.mem ((c.tc : Thread Cert.NarrowDwIdeal.nD Cert.NarrowDwIdeal.τ).loc Cert.NarrowDwIdeal.main_arg0) = m ((c.tc : Thread Cert.NarrowDwIdeal.nD Cert.NarrowDwIdeal.τ).loc Cert.NarrowDwIdeal.main_arg0)
          ∧ r.2.mem ((c.tc : Thread Cert.NarrowDwIdeal.nD Cert.NarrowDwIdeal.τ).loc Cert.NarrowDwIdeal.main_arg1) = m ((c.tc : Thread Cert.NarrowDwIdeal.nD Cert.NarrowDwIdeal.τ).loc Cert.NarrowDwIdeal.main_arg1)
          ∧ r.2.mem ((c.tc : Thread Cert.NarrowDwIdeal.nD Cert.NarrowDwIdeal.τ).loc Cert.NarrowDwIdeal.main_arg2) = m ((c.tc : Thread Cert.NarrowDwIdeal.nD Cert.NarrowDwIdeal.τ).loc Cert.NarrowDwIdeal.main_arg2))
      ∧ θ_run (Cert.NarrowDwReferenceIdeal.defs (F := Ideal)) (onTc (τ := Cert.NarrowDwReferenceIdeal.τ) (Cert.NarrowDwReferenceIdeal.main (F := Ideal))) ⟨m', fun _ => 0, g'⟩ (fun r => ∀ c : Dev Cert.NarrowDwReferenceIdeal.nD,
          r.2.mem ((c.tc : Thread Cert.NarrowDwReferenceIdeal.nD Cert.NarrowDwReferenceIdeal.τ).loc Cert.NarrowDwReferenceIdeal.main_v3) = v0 c
          ∧ r.2.mem ((c.tc : Thread Cert.NarrowDwReferenceIdeal.nD Cert.NarrowDwReferenceIdeal.τ).loc Cert.NarrowDwReferenceIdeal.main_arg0) = m' ((c.tc : Thread Cert.NarrowDwReferenceIdeal.nD Cert.NarrowDwReferenceIdeal.τ).loc Cert.NarrowDwReferenceIdeal.main_arg0)
          ∧ r.2.mem ((c.tc : Thread Cert.NarrowDwReferenceIdeal.nD Cert.NarrowDwReferenceIdeal.τ).loc Cert.NarrowDwReferenceIdeal.main_arg1) = m' ((c.tc : Thread Cert.NarrowDwReferenceIdeal.nD Cert.NarrowDwReferenceIdeal.τ).loc Cert.NarrowDwReferenceIdeal.main_arg1)
          ∧ r.2.mem ((c.tc : Thread Cert.NarrowDwReferenceIdeal.nD Cert.NarrowDwReferenceIdeal.τ).loc Cert.NarrowDwReferenceIdeal.main_arg2) = m' ((c.tc : Thread Cert.NarrowDwReferenceIdeal.nD Cert.NarrowDwReferenceIdeal.τ).loc Cert.NarrowDwReferenceIdeal.main_arg2))

def preserves_NarrowDx_NarrowDxIdeal : Prop :=
  True

def algebraic_NarrowDxIdeal_NarrowDxReferenceIdeal [hNarrowDxIdeal : Cert.NarrowDxIdeal.Facts] [hNarrowDxReferenceIdeal : Cert.NarrowDxReferenceIdeal.Facts] : Prop :=
  ∀ (m : (ℓ : Loc Cert.NarrowDxIdeal.nD Cert.NarrowDxIdeal.τ Cert.NarrowDxIdeal.sig) → Buf (Elt Ideal) ℓ) (g : Dev Cert.NarrowDxIdeal.nD → PrngReg)
    (m' : (ℓ : Loc Cert.NarrowDxReferenceIdeal.nD Cert.NarrowDxReferenceIdeal.τ Cert.NarrowDxReferenceIdeal.sig) → Buf (Elt Ideal) ℓ) (g' : Dev Cert.NarrowDxReferenceIdeal.nD → PrngReg), Pre_NarrowDxIdeal m →
    (∀ c : Dev Cert.NarrowDxIdeal.nD,
      m' ((c.tc : Thread Cert.NarrowDxReferenceIdeal.nD Cert.NarrowDxReferenceIdeal.τ).loc Cert.NarrowDxReferenceIdeal.main_arg0) = m ((c.tc : Thread Cert.NarrowDxIdeal.nD Cert.NarrowDxIdeal.τ).loc Cert.NarrowDxIdeal.main_arg0)
      ∧ m' ((c.tc : Thread Cert.NarrowDxReferenceIdeal.nD Cert.NarrowDxReferenceIdeal.τ).loc Cert.NarrowDxReferenceIdeal.main_arg1) = m ((c.tc : Thread Cert.NarrowDxIdeal.nD Cert.NarrowDxIdeal.τ).loc Cert.NarrowDxIdeal.main_arg1)
      ∧ m' ((c.tc : Thread Cert.NarrowDxReferenceIdeal.nD Cert.NarrowDxReferenceIdeal.τ).loc Cert.NarrowDxReferenceIdeal.main_arg2) = m ((c.tc : Thread Cert.NarrowDxIdeal.nD Cert.NarrowDxIdeal.τ).loc Cert.NarrowDxIdeal.main_arg2)
      ∧ m' ((c.tc : Thread Cert.NarrowDxReferenceIdeal.nD Cert.NarrowDxReferenceIdeal.τ).loc Cert.NarrowDxReferenceIdeal.main_arg3) = m ((c.tc : Thread Cert.NarrowDxIdeal.nD Cert.NarrowDxIdeal.τ).loc Cert.NarrowDxIdeal.main_arg3)
      ∧ m' ((c.tc : Thread Cert.NarrowDxReferenceIdeal.nD Cert.NarrowDxReferenceIdeal.τ).loc Cert.NarrowDxReferenceIdeal.main_arg4) = m ((c.tc : Thread Cert.NarrowDxIdeal.nD Cert.NarrowDxIdeal.τ).loc Cert.NarrowDxIdeal.main_arg4)) →
    ∃ (v0 : (c : Dev Cert.NarrowDxIdeal.nD) → Buf (Elt Ideal) ((c.tc : Thread Cert.NarrowDxIdeal.nD Cert.NarrowDxIdeal.τ).loc Cert.NarrowDxIdeal.main_v4)),
      θ_run (Cert.NarrowDxIdeal.defs (F := Ideal)) (onTc (τ := Cert.NarrowDxIdeal.τ) (Cert.NarrowDxIdeal.main (F := Ideal))) ⟨m, fun _ => 0, g⟩ (fun r => ∀ c : Dev Cert.NarrowDxIdeal.nD,
          r.2.mem ((c.tc : Thread Cert.NarrowDxIdeal.nD Cert.NarrowDxIdeal.τ).loc Cert.NarrowDxIdeal.main_v4) = v0 c
          ∧ r.2.mem ((c.tc : Thread Cert.NarrowDxIdeal.nD Cert.NarrowDxIdeal.τ).loc Cert.NarrowDxIdeal.main_arg0) = m ((c.tc : Thread Cert.NarrowDxIdeal.nD Cert.NarrowDxIdeal.τ).loc Cert.NarrowDxIdeal.main_arg0)
          ∧ r.2.mem ((c.tc : Thread Cert.NarrowDxIdeal.nD Cert.NarrowDxIdeal.τ).loc Cert.NarrowDxIdeal.main_arg1) = m ((c.tc : Thread Cert.NarrowDxIdeal.nD Cert.NarrowDxIdeal.τ).loc Cert.NarrowDxIdeal.main_arg1)
          ∧ r.2.mem ((c.tc : Thread Cert.NarrowDxIdeal.nD Cert.NarrowDxIdeal.τ).loc Cert.NarrowDxIdeal.main_arg2) = m ((c.tc : Thread Cert.NarrowDxIdeal.nD Cert.NarrowDxIdeal.τ).loc Cert.NarrowDxIdeal.main_arg2)
          ∧ r.2.mem ((c.tc : Thread Cert.NarrowDxIdeal.nD Cert.NarrowDxIdeal.τ).loc Cert.NarrowDxIdeal.main_arg3) = m ((c.tc : Thread Cert.NarrowDxIdeal.nD Cert.NarrowDxIdeal.τ).loc Cert.NarrowDxIdeal.main_arg3)
          ∧ r.2.mem ((c.tc : Thread Cert.NarrowDxIdeal.nD Cert.NarrowDxIdeal.τ).loc Cert.NarrowDxIdeal.main_arg4) = m ((c.tc : Thread Cert.NarrowDxIdeal.nD Cert.NarrowDxIdeal.τ).loc Cert.NarrowDxIdeal.main_arg4))
      ∧ θ_run (Cert.NarrowDxReferenceIdeal.defs (F := Ideal)) (onTc (τ := Cert.NarrowDxReferenceIdeal.τ) (Cert.NarrowDxReferenceIdeal.main (F := Ideal))) ⟨m', fun _ => 0, g'⟩ (fun r => ∀ c : Dev Cert.NarrowDxReferenceIdeal.nD,
          r.2.mem ((c.tc : Thread Cert.NarrowDxReferenceIdeal.nD Cert.NarrowDxReferenceIdeal.τ).loc Cert.NarrowDxReferenceIdeal.main_v4) = v0 c
          ∧ r.2.mem ((c.tc : Thread Cert.NarrowDxReferenceIdeal.nD Cert.NarrowDxReferenceIdeal.τ).loc Cert.NarrowDxReferenceIdeal.main_arg0) = m' ((c.tc : Thread Cert.NarrowDxReferenceIdeal.nD Cert.NarrowDxReferenceIdeal.τ).loc Cert.NarrowDxReferenceIdeal.main_arg0)
          ∧ r.2.mem ((c.tc : Thread Cert.NarrowDxReferenceIdeal.nD Cert.NarrowDxReferenceIdeal.τ).loc Cert.NarrowDxReferenceIdeal.main_arg1) = m' ((c.tc : Thread Cert.NarrowDxReferenceIdeal.nD Cert.NarrowDxReferenceIdeal.τ).loc Cert.NarrowDxReferenceIdeal.main_arg1)
          ∧ r.2.mem ((c.tc : Thread Cert.NarrowDxReferenceIdeal.nD Cert.NarrowDxReferenceIdeal.τ).loc Cert.NarrowDxReferenceIdeal.main_arg2) = m' ((c.tc : Thread Cert.NarrowDxReferenceIdeal.nD Cert.NarrowDxReferenceIdeal.τ).loc Cert.NarrowDxReferenceIdeal.main_arg2)
          ∧ r.2.mem ((c.tc : Thread Cert.NarrowDxReferenceIdeal.nD Cert.NarrowDxReferenceIdeal.τ).loc Cert.NarrowDxReferenceIdeal.main_arg3) = m' ((c.tc : Thread Cert.NarrowDxReferenceIdeal.nD Cert.NarrowDxReferenceIdeal.τ).loc Cert.NarrowDxReferenceIdeal.main_arg3)
          ∧ r.2.mem ((c.tc : Thread Cert.NarrowDxReferenceIdeal.nD Cert.NarrowDxReferenceIdeal.τ).loc Cert.NarrowDxReferenceIdeal.main_arg4) = m' ((c.tc : Thread Cert.NarrowDxReferenceIdeal.nD Cert.NarrowDxReferenceIdeal.τ).loc Cert.NarrowDxReferenceIdeal.main_arg4))

def Claim : Prop :=
  ∃ (hKernel : Cert.Kernel.Facts) (hKernelIdeal : Cert.KernelIdeal.Facts) (hDownDx : Cert.DownDx.Facts) (hDownDxIdeal : Cert.DownDxIdeal.Facts) (hDownDxReferenceIdeal : Cert.DownDxReferenceIdeal.Facts) (hDownDw : Cert.DownDw.Facts) (hDownDwIdeal : Cert.DownDwIdeal.Facts) (hDownDwReferenceIdeal : Cert.DownDwReferenceIdeal.Facts) (hUpDw : Cert.UpDw.Facts) (hUpDwIdeal : Cert.UpDwIdeal.Facts) (hUpDwReferenceIdeal : Cert.UpDwReferenceIdeal.Facts) (hUpDx : Cert.UpDx.Facts) (hUpDxIdeal : Cert.UpDxIdeal.Facts) (hUpDxReferenceIdeal : Cert.UpDxReferenceIdeal.Facts) (hInDx : Cert.InDx.Facts) (hInDxIdeal : Cert.InDxIdeal.Facts) (hInDxReferenceIdeal : Cert.InDxReferenceIdeal.Facts) (hInDwA : Cert.InDwA.Facts) (hInDwAIdeal : Cert.InDwAIdeal.Facts) (hInDwAReferenceIdeal : Cert.InDwAReferenceIdeal.Facts) (hInDwB : Cert.InDwB.Facts) (hInDwBIdeal : Cert.InDwBIdeal.Facts) (hInDwBReferenceIdeal : Cert.InDwBReferenceIdeal.Facts) (hOutDw : Cert.OutDw.Facts) (hOutDwIdeal : Cert.OutDwIdeal.Facts) (hOutDwReferenceIdeal : Cert.OutDwReferenceIdeal.Facts) (hOutDx : Cert.OutDx.Facts) (hOutDxIdeal : Cert.OutDxIdeal.Facts) (hOutDxReferenceIdeal : Cert.OutDxReferenceIdeal.Facts) (hGateDw : Cert.GateDw.Facts) (hGateDwIdeal : Cert.GateDwIdeal.Facts) (hGateDwReferenceIdeal : Cert.GateDwReferenceIdeal.Facts) (hGateDx : Cert.GateDx.Facts) (hGateDxIdeal : Cert.GateDxIdeal.Facts) (hGateDxReferenceIdeal : Cert.GateDxReferenceIdeal.Facts) (hPleDw : Cert.PleDw.Facts) (hPleDwIdeal : Cert.PleDwIdeal.Facts) (hPleDwReferenceIdeal : Cert.PleDwReferenceIdeal.Facts) (hInFwd : Cert.InFwd.Facts) (hInFwdIdeal : Cert.InFwdIdeal.Facts) (hInFwdReferenceIdeal : Cert.InFwdReferenceIdeal.Facts) (hUpFwd : Cert.UpFwd.Facts) (hUpFwdIdeal : Cert.UpFwdIdeal.Facts) (hUpFwdReferenceIdeal : Cert.UpFwdReferenceIdeal.Facts) (hDownFwd : Cert.DownFwd.Facts) (hDownFwdIdeal : Cert.DownFwdIdeal.Facts) (hDownFwdReferenceIdeal : Cert.DownFwdReferenceIdeal.Facts) (hOutFwd : Cert.OutFwd.Facts) (hOutFwdIdeal : Cert.OutFwdIdeal.Facts) (hOutFwdReferenceIdeal : Cert.OutFwdReferenceIdeal.Facts) (hGateFwd : Cert.GateFwd.Facts) (hGateFwdIdeal : Cert.GateFwdIdeal.Facts) (hGateFwdReferenceIdeal : Cert.GateFwdReferenceIdeal.Facts) (hPleFwd : Cert.PleFwd.Facts) (hPleFwdIdeal : Cert.PleFwdIdeal.Facts) (hPleFwdReferenceIdeal : Cert.PleFwdReferenceIdeal.Facts) (hNarrow : Cert.Narrow.Facts) (hNarrowIdeal : Cert.NarrowIdeal.Facts) (hNarrowReferenceIdeal : Cert.NarrowReferenceIdeal.Facts) (hNarrowDw : Cert.NarrowDw.Facts) (hNarrowDwIdeal : Cert.NarrowDwIdeal.Facts) (hNarrowDwReferenceIdeal : Cert.NarrowDwReferenceIdeal.Facts) (hNarrowDx : Cert.NarrowDx.Facts) (hNarrowDxIdeal : Cert.NarrowDxIdeal.Facts) (hNarrowDxReferenceIdeal : Cert.NarrowDxReferenceIdeal.Facts),
    quiescent_Kernel (hKernel := hKernel)
    ∧ quiescent_KernelIdeal (hKernelIdeal := hKernelIdeal)
    ∧ quiescent_DownDx (hDownDx := hDownDx)
    ∧ quiescent_DownDxIdeal (hDownDxIdeal := hDownDxIdeal)
    ∧ quiescent_DownDxReferenceIdeal (hDownDxReferenceIdeal := hDownDxReferenceIdeal)
    ∧ quiescent_DownDw (hDownDw := hDownDw)
    ∧ quiescent_DownDwIdeal (hDownDwIdeal := hDownDwIdeal)
    ∧ quiescent_DownDwReferenceIdeal (hDownDwReferenceIdeal := hDownDwReferenceIdeal)
    ∧ quiescent_UpDw (hUpDw := hUpDw)
    ∧ quiescent_UpDwIdeal (hUpDwIdeal := hUpDwIdeal)
    ∧ quiescent_UpDwReferenceIdeal (hUpDwReferenceIdeal := hUpDwReferenceIdeal)
    ∧ quiescent_UpDx (hUpDx := hUpDx)
    ∧ quiescent_UpDxIdeal (hUpDxIdeal := hUpDxIdeal)
    ∧ quiescent_UpDxReferenceIdeal (hUpDxReferenceIdeal := hUpDxReferenceIdeal)
    ∧ quiescent_InDx (hInDx := hInDx)
    ∧ quiescent_InDxIdeal (hInDxIdeal := hInDxIdeal)
    ∧ quiescent_InDxReferenceIdeal (hInDxReferenceIdeal := hInDxReferenceIdeal)
    ∧ quiescent_InDwA (hInDwA := hInDwA)
    ∧ quiescent_InDwAIdeal (hInDwAIdeal := hInDwAIdeal)
    ∧ quiescent_InDwAReferenceIdeal (hInDwAReferenceIdeal := hInDwAReferenceIdeal)
    ∧ quiescent_InDwB (hInDwB := hInDwB)
    ∧ quiescent_InDwBIdeal (hInDwBIdeal := hInDwBIdeal)
    ∧ quiescent_InDwBReferenceIdeal (hInDwBReferenceIdeal := hInDwBReferenceIdeal)
    ∧ quiescent_OutDw (hOutDw := hOutDw)
    ∧ quiescent_OutDwIdeal (hOutDwIdeal := hOutDwIdeal)
    ∧ quiescent_OutDwReferenceIdeal (hOutDwReferenceIdeal := hOutDwReferenceIdeal)
    ∧ quiescent_OutDx (hOutDx := hOutDx)
    ∧ quiescent_OutDxIdeal (hOutDxIdeal := hOutDxIdeal)
    ∧ quiescent_OutDxReferenceIdeal (hOutDxReferenceIdeal := hOutDxReferenceIdeal)
    ∧ quiescent_GateDw (hGateDw := hGateDw)
    ∧ quiescent_GateDwIdeal (hGateDwIdeal := hGateDwIdeal)
    ∧ quiescent_GateDwReferenceIdeal (hGateDwReferenceIdeal := hGateDwReferenceIdeal)
    ∧ quiescent_GateDx (hGateDx := hGateDx)
    ∧ quiescent_GateDxIdeal (hGateDxIdeal := hGateDxIdeal)
    ∧ quiescent_GateDxReferenceIdeal (hGateDxReferenceIdeal := hGateDxReferenceIdeal)
    ∧ quiescent_PleDw (hPleDw := hPleDw)
    ∧ quiescent_PleDwIdeal (hPleDwIdeal := hPleDwIdeal)
    ∧ quiescent_PleDwReferenceIdeal (hPleDwReferenceIdeal := hPleDwReferenceIdeal)
    ∧ quiescent_InFwd (hInFwd := hInFwd)
    ∧ quiescent_InFwdIdeal (hInFwdIdeal := hInFwdIdeal)
    ∧ quiescent_InFwdReferenceIdeal (hInFwdReferenceIdeal := hInFwdReferenceIdeal)
    ∧ quiescent_UpFwd (hUpFwd := hUpFwd)
    ∧ quiescent_UpFwdIdeal (hUpFwdIdeal := hUpFwdIdeal)
    ∧ quiescent_UpFwdReferenceIdeal (hUpFwdReferenceIdeal := hUpFwdReferenceIdeal)
    ∧ quiescent_DownFwd (hDownFwd := hDownFwd)
    ∧ quiescent_DownFwdIdeal (hDownFwdIdeal := hDownFwdIdeal)
    ∧ quiescent_DownFwdReferenceIdeal (hDownFwdReferenceIdeal := hDownFwdReferenceIdeal)
    ∧ quiescent_OutFwd (hOutFwd := hOutFwd)
    ∧ quiescent_OutFwdIdeal (hOutFwdIdeal := hOutFwdIdeal)
    ∧ quiescent_OutFwdReferenceIdeal (hOutFwdReferenceIdeal := hOutFwdReferenceIdeal)
    ∧ quiescent_GateFwd (hGateFwd := hGateFwd)
    ∧ quiescent_GateFwdIdeal (hGateFwdIdeal := hGateFwdIdeal)
    ∧ quiescent_GateFwdReferenceIdeal (hGateFwdReferenceIdeal := hGateFwdReferenceIdeal)
    ∧ quiescent_PleFwd (hPleFwd := hPleFwd)
    ∧ quiescent_PleFwdIdeal (hPleFwdIdeal := hPleFwdIdeal)
    ∧ quiescent_PleFwdReferenceIdeal (hPleFwdReferenceIdeal := hPleFwdReferenceIdeal)
    ∧ quiescent_Narrow (hNarrow := hNarrow)
    ∧ quiescent_NarrowIdeal (hNarrowIdeal := hNarrowIdeal)
    ∧ quiescent_NarrowReferenceIdeal (hNarrowReferenceIdeal := hNarrowReferenceIdeal)
    ∧ quiescent_NarrowDw (hNarrowDw := hNarrowDw)
    ∧ quiescent_NarrowDwIdeal (hNarrowDwIdeal := hNarrowDwIdeal)
    ∧ quiescent_NarrowDwReferenceIdeal (hNarrowDwReferenceIdeal := hNarrowDwReferenceIdeal)
    ∧ quiescent_NarrowDx (hNarrowDx := hNarrowDx)
    ∧ quiescent_NarrowDxIdeal (hNarrowDxIdeal := hNarrowDxIdeal)
    ∧ quiescent_NarrowDxReferenceIdeal (hNarrowDxReferenceIdeal := hNarrowDxReferenceIdeal)
    ∧ preserves_DownDx_DownDxIdeal
    ∧ algebraic_DownDxIdeal_DownDxReferenceIdeal (hDownDxIdeal := hDownDxIdeal) (hDownDxReferenceIdeal := hDownDxReferenceIdeal)
    ∧ preserves_DownDw_DownDwIdeal
    ∧ algebraic_DownDwIdeal_DownDwReferenceIdeal (hDownDwIdeal := hDownDwIdeal) (hDownDwReferenceIdeal := hDownDwReferenceIdeal)
    ∧ preserves_UpDw_UpDwIdeal
    ∧ algebraic_UpDwIdeal_UpDwReferenceIdeal (hUpDwIdeal := hUpDwIdeal) (hUpDwReferenceIdeal := hUpDwReferenceIdeal)
    ∧ preserves_UpDx_UpDxIdeal
    ∧ algebraic_UpDxIdeal_UpDxReferenceIdeal (hUpDxIdeal := hUpDxIdeal) (hUpDxReferenceIdeal := hUpDxReferenceIdeal)
    ∧ preserves_InDx_InDxIdeal
    ∧ algebraic_InDxIdeal_InDxReferenceIdeal (hInDxIdeal := hInDxIdeal) (hInDxReferenceIdeal := hInDxReferenceIdeal)
    ∧ preserves_InDwA_InDwAIdeal
    ∧ algebraic_InDwAIdeal_InDwAReferenceIdeal (hInDwAIdeal := hInDwAIdeal) (hInDwAReferenceIdeal := hInDwAReferenceIdeal)
    ∧ preserves_InDwB_InDwBIdeal
    ∧ algebraic_InDwBIdeal_InDwBReferenceIdeal (hInDwBIdeal := hInDwBIdeal) (hInDwBReferenceIdeal := hInDwBReferenceIdeal)
    ∧ preserves_OutDw_OutDwIdeal
    ∧ algebraic_OutDwIdeal_OutDwReferenceIdeal (hOutDwIdeal := hOutDwIdeal) (hOutDwReferenceIdeal := hOutDwReferenceIdeal)
    ∧ preserves_OutDx_OutDxIdeal
    ∧ algebraic_OutDxIdeal_OutDxReferenceIdeal (hOutDxIdeal := hOutDxIdeal) (hOutDxReferenceIdeal := hOutDxReferenceIdeal)
    ∧ preserves_GateDw_GateDwIdeal
    ∧ algebraic_GateDwIdeal_GateDwReferenceIdeal (hGateDwIdeal := hGateDwIdeal) (hGateDwReferenceIdeal := hGateDwReferenceIdeal)
    ∧ preserves_GateDx_GateDxIdeal
    ∧ algebraic_GateDxIdeal_GateDxReferenceIdeal (hGateDxIdeal := hGateDxIdeal) (hGateDxReferenceIdeal := hGateDxReferenceIdeal)
    ∧ preserves_PleDw_PleDwIdeal
    ∧ algebraic_PleDwIdeal_PleDwReferenceIdeal (hPleDwIdeal := hPleDwIdeal) (hPleDwReferenceIdeal := hPleDwReferenceIdeal)
    ∧ preserves_InFwd_InFwdIdeal
    ∧ algebraic_InFwdIdeal_InFwdReferenceIdeal (hInFwdIdeal := hInFwdIdeal) (hInFwdReferenceIdeal := hInFwdReferenceIdeal)
    ∧ preserves_UpFwd_UpFwdIdeal
    ∧ algebraic_UpFwdIdeal_UpFwdReferenceIdeal (hUpFwdIdeal := hUpFwdIdeal) (hUpFwdReferenceIdeal := hUpFwdReferenceIdeal)
    ∧ preserves_DownFwd_DownFwdIdeal
    ∧ algebraic_DownFwdIdeal_DownFwdReferenceIdeal (hDownFwdIdeal := hDownFwdIdeal) (hDownFwdReferenceIdeal := hDownFwdReferenceIdeal)
    ∧ preserves_OutFwd_OutFwdIdeal
    ∧ algebraic_OutFwdIdeal_OutFwdReferenceIdeal (hOutFwdIdeal := hOutFwdIdeal) (hOutFwdReferenceIdeal := hOutFwdReferenceIdeal)
    ∧ preserves_GateFwd_GateFwdIdeal
    ∧ algebraic_GateFwdIdeal_GateFwdReferenceIdeal (hGateFwdIdeal := hGateFwdIdeal) (hGateFwdReferenceIdeal := hGateFwdReferenceIdeal)
    ∧ preserves_PleFwd_PleFwdIdeal
    ∧ algebraic_PleFwdIdeal_PleFwdReferenceIdeal (hPleFwdIdeal := hPleFwdIdeal) (hPleFwdReferenceIdeal := hPleFwdReferenceIdeal)
    ∧ preserves_Narrow_NarrowIdeal
    ∧ algebraic_NarrowIdeal_NarrowReferenceIdeal (hNarrowIdeal := hNarrowIdeal) (hNarrowReferenceIdeal := hNarrowReferenceIdeal)
    ∧ preserves_NarrowDw_NarrowDwIdeal
    ∧ algebraic_NarrowDwIdeal_NarrowDwReferenceIdeal (hNarrowDwIdeal := hNarrowDwIdeal) (hNarrowDwReferenceIdeal := hNarrowDwReferenceIdeal)
    ∧ preserves_NarrowDx_NarrowDxIdeal
    ∧ algebraic_NarrowDxIdeal_NarrowDxReferenceIdeal (hNarrowDxIdeal := hNarrowDxIdeal) (hNarrowDxReferenceIdeal := hNarrowDxReferenceIdeal)
-- ==== Kernel.lean ====
abbrev S2x2048x18432 : Shape := ⟨3, ![2, 2048, 18432]⟩
abbrev S2x2048x128 : Shape := ⟨3, ![2, 2048, 128]⟩
abbrev S16x1024 : Shape := ⟨2, ![16, 1024]⟩
abbrev S1x1024 : Shape := ⟨2, ![1, 1024]⟩
abbrev S2x2048x2048 : Shape := ⟨3, ![2, 2048, 2048]⟩
abbrev S_ : Shape := ⟨0, ![]⟩
abbrev S128x1024 : Shape := ⟨2, ![128, 1024]⟩
abbrev S128x4x256 : Shape := ⟨3, ![128, 4, 256]⟩
abbrev S4x128x256 : Shape := ⟨3, ![4, 128, 256]⟩
abbrev S4x1x256 : Shape := ⟨3, ![4, 1, 256]⟩
abbrev S4x2x32x512x256 : Shape := ⟨5, ![4, 2, 32, 512, 256]⟩
abbrev S2x64x1024 : Shape := ⟨3, ![2, 64, 1024]⟩
abbrev S2x64x2048 : Shape := ⟨3, ![2, 64, 2048]⟩
abbrev S2x64x128 : Shape := ⟨3, ![2, 64, 128]⟩
abbrev S4x2x1x512x256 : Shape := ⟨5, ![4, 2, 1, 512, 256]⟩
abbrev S1x8x512x256 : Shape := ⟨4, ![1, 8, 512, 256]⟩
abbrev S8x512x256 : Shape := ⟨3, ![8, 512, 256]⟩
abbrev S4x2x512x256 : Shape := ⟨4, ![4, 2, 512, 256]⟩
abbrev S1x64x256 : Shape := ⟨3, ![1, 64, 256]⟩
abbrev S64x256 : Shape := ⟨2, ![64, 256]⟩
abbrev S8x64x256 : Shape := ⟨3, ![8, 64, 256]⟩
abbrev S1x64x512 : Shape := ⟨3, ![1, 64, 512]⟩
abbrev S64x512 : Shape := ⟨2, ![64, 512]⟩
abbrev S8x64x512 : Shape := ⟨3, ![8, 64, 512]⟩
abbrev S1x64x128 : Shape := ⟨3, ![1, 64, 128]⟩
abbrev S64x128 : Shape := ⟨2, ![64, 128]⟩
abbrev S8x64x128 : Shape := ⟨3, ![8, 64, 128]⟩
abbrev S1x128x256 : Shape := ⟨3, ![1, 128, 256]⟩
abbrev S128x256 : Shape := ⟨2, ![128, 256]⟩
abbrev S8x128x256 : Shape := ⟨3, ![8, 128, 256]⟩
abbrev S1x1x256 : Shape := ⟨3, ![1, 1, 256]⟩
abbrev S1x256 : Shape := ⟨2, ![1, 256]⟩
abbrev S8x1x256 : Shape := ⟨3, ![8, 1, 256]⟩
abbrev S64x64 : Shape := ⟨2, ![64, 64]⟩
abbrev S1x64x64 : Shape := ⟨3, ![1, 64, 64]⟩
abbrev S8x64x64 : Shape := ⟨3, ![8, 64, 64]⟩
abbrev S8x256 : Shape := ⟨2, ![8, 256]⟩
abbrev S2x2048x1024 : Shape := ⟨3, ![2, 2048, 1024]⟩

abbrev nBuf : Space → Nat
  | .hbm => 23
  | .vmem => 40
  | .smem => 0
  | _ => 0

abbrev bufTy : (tb : Table) → Fin (tcTables nBuf tb) → BufTy
  | .hbm, ⟨0, _⟩ => ⟨S2x2048x18432, .f32⟩
  | .hbm, ⟨1, _⟩ => ⟨S2x2048x128, .f32⟩
  | .hbm, ⟨2, _⟩ => ⟨S16x1024, .f32⟩
  | .hbm, ⟨3, _⟩ => ⟨S1x1024, .f32⟩
  | .hbm, ⟨4, _⟩ => ⟨S2x2048x2048, .f32⟩
  | .hbm, ⟨5, _⟩ => ⟨S_, .i32⟩
  | .hbm, ⟨6, _⟩ => ⟨S_, .f32⟩
  | .hbm, ⟨7, _⟩ => ⟨S128x1024, .f32⟩
  | .hbm, ⟨8, _⟩ => ⟨S128x4x256, .f32⟩
  | .hbm, ⟨9, _⟩ => ⟨S4x128x256, .f32⟩
  | .hbm, ⟨10, _⟩ => ⟨S4x1x256, .f32⟩
  | .hbm, ⟨11, _⟩ => ⟨S2x2048x2048, .f32⟩
  | .hbm, ⟨12, _⟩ => ⟨S4x2x32x512x256, .f32⟩
  | .hbm, ⟨13, _⟩ => ⟨S2x2048x1024, .bf16⟩
  | .hbm, ⟨14, _⟩ => ⟨S2x2048x1024, .bf16⟩
  | .hbm, ⟨15, _⟩ => ⟨S2x2048x2048, .bf16⟩
  | .hbm, ⟨16, _⟩ => ⟨S2x2048x128, .f32⟩
  | .hbm, ⟨17, _⟩ => ⟨S4x128x256, .f32⟩
  | .hbm, ⟨18, _⟩ => ⟨S4x1x256, .f32⟩
  | .hbm, ⟨19, _⟩ => ⟨S128x4x256, .f32⟩
  | .hbm, ⟨20, _⟩ => ⟨S128x1024, .f32⟩
  | .hbm, ⟨21, _⟩ => ⟨S16x1024, .f32⟩
  | .hbm, ⟨22, _⟩ => ⟨S1x1024, .f32⟩
  | .local _ .vmem, ⟨0, _⟩ => ⟨S2x64x1024, .f32⟩
  | .local _ .vmem, ⟨1, _⟩ => ⟨S2x64x1024, .f32⟩
  | .local _ .vmem, ⟨2, _⟩ => ⟨S2x64x1024, .f32⟩
  | .local _ .vmem, ⟨3, _⟩ => ⟨S2x64x1024, .f32⟩
  | .local _ .vmem, ⟨4, _⟩ => ⟨S2x64x2048, .f32⟩
  | .local _ .vmem, ⟨5, _⟩ => ⟨S2x64x2048, .f32⟩
  | .local _ .vmem, ⟨6, _⟩ => ⟨S2x64x128, .f32⟩
  | .local _ .vmem, ⟨7, _⟩ => ⟨S2x64x128, .f32⟩
  | .local _ .vmem, ⟨8, _⟩ => ⟨S4x128x256, .f32⟩
  | .local _ .vmem, ⟨9, _⟩ => ⟨S4x1x256, .f32⟩
  | .local _ .vmem, ⟨10, _⟩ => ⟨S2x64x2048, .f32⟩
  | .local _ .vmem, ⟨11, _⟩ => ⟨S2x64x2048, .f32⟩
  | .local _ .vmem, ⟨12, _⟩ => ⟨S4x2x1x512x256, .f32⟩
  | .local _ .vmem, ⟨13, _⟩ => ⟨S4x2x1x512x256, .f32⟩
  | .local _ .vmem, ⟨14, _⟩ => ⟨S1x8x512x256, .f32⟩
  | .local _ .vmem, ⟨15, _⟩ => ⟨S2x64x1024, .f32⟩
  | .local _ .vmem, ⟨16, _⟩ => ⟨S2x64x1024, .f32⟩
  | .local _ .vmem, ⟨17, _⟩ => ⟨S2x64x1024, .f32⟩
  | .local _ .vmem, ⟨18, _⟩ => ⟨S2x64x1024, .f32⟩
  | .local _ .vmem, ⟨19, _⟩ => ⟨S2x64x2048, .f32⟩
  | .local _ .vmem, ⟨20, _⟩ => ⟨S2x64x2048, .f32⟩
  | .local _ .vmem, ⟨21, _⟩ => ⟨S2x64x128, .f32⟩
  | .local _ .vmem, ⟨22, _⟩ => ⟨S2x64x128, .f32⟩
  | .local _ .vmem, ⟨23, _⟩ => ⟨S4x128x256, .f32⟩
  | .local _ .vmem, ⟨24, _⟩ => ⟨S4x1x256, .f32⟩
  | .local _ .vmem, ⟨25, _⟩ => ⟨S4x2x1x512x256, .f32⟩
  | .local _ .vmem, ⟨26, _⟩ => ⟨S4x2x1x512x256, .f32⟩
  | .local _ .vmem, ⟨27, _⟩ => ⟨S2x64x2048, .f32⟩
  | .local _ .vmem, ⟨28, _⟩ => ⟨S2x64x2048, .f32⟩
  | .local _ .vmem, ⟨29, _⟩ => ⟨S2x64x1024, .bf16⟩
  | .local _ .vmem, ⟨30, _⟩ => ⟨S2x64x1024, .bf16⟩
  | .local _ .vmem, ⟨31, _⟩ => ⟨S2x64x1024, .bf16⟩
  | .local _ .vmem, ⟨32, _⟩ => ⟨S2x64x1024, .bf16⟩
  | .local _ .vmem, ⟨33, _⟩ => ⟨S2x64x2048, .bf16⟩
  | .local _ .vmem, ⟨34, _⟩ => ⟨S2x64x2048, .bf16⟩
  | .local _ .vmem, ⟨35, _⟩ => ⟨S2x64x128, .f32⟩
  | .local _ .vmem, ⟨36, _⟩ => ⟨S2x64x128, .f32⟩
  | .local _ .vmem, ⟨37, _⟩ => ⟨S4x128x256, .f32⟩
  | .local _ .vmem, ⟨38, _⟩ => ⟨S4x1x256, .f32⟩
  | .local _ .vmem, ⟨39, _⟩ => ⟨S1x8x512x256, .f32⟩
  | _, _ => ⟨S2x2048x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc1_stg9_0 : Ref sig .tc := ⟨.vmem, 31, rfl⟩
abbrev cc1_stg9_1 : Ref sig .tc := ⟨.vmem, 32, rfl⟩
abbrev cc1_stg10_0 : Ref sig .tc := ⟨.vmem, 33, rfl⟩
abbrev cc1_stg10_1 : Ref sig .tc := ⟨.vmem, 34, rfl⟩
abbrev cc1_stg11_0 : Ref sig .tc := ⟨.vmem, 35, rfl⟩
abbrev cc1_stg11_1 : Ref sig .tc := ⟨.vmem, 36, rfl⟩
abbrev cc1_stg12_0 : Ref sig .tc := ⟨.vmem, 37, rfl⟩
abbrev cc1_stg13_0 : Ref sig .tc := ⟨.vmem, 38, rfl⟩
abbrev cc1_scratch0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem10_1 : DmaSem sig := 33
abbrev cc1_sem11_0 : DmaSem sig := 34
abbrev cc1_sem11_1 : DmaSem sig := 35
abbrev cc1_sem12_0 : DmaSem sig := 36
abbrev cc1_sem13_0 : DmaSem sig := 37

abbrev nD : Nat := 1
abbrev τ : Topo := Topo.v7x

variable {F : FTy → Type} [FloatOps F]

abbrev grid0 : Pipeline.Grid := ⟨2, ![32, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 4 → Nat :=
  let arg1 : BitVec 32 := BitVec.ofNat 32 (i 1).val
  let v270 : Index := Scalar.indexCast arg1
  let c0_186 : Index := 0#32
  let c0_187 : Index := 0#32
  let c0_188 : Index := 0#32
  ![v270.toNat, 0, 0, 0]
def k0_off2 (i : grid0.Coords) : Fin 4 → Nat :=
  let arg1 : BitVec 32 := BitVec.ofNat 32 (i 1).val
  let v3 : Index := Scalar.indexCast arg1
  let c0 : Index := 0#32
  let c0_1 : Index := 0#32
  let c0_2 : Index := 0#32
  ![v3.toNat, 0, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![c0_i32.toNat, arg0.toNat, v0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![c0_i32.toNat, arg0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, arg0.toNat, c0_i32_0.toNat, c0_i32_1.toNat]

abbrev stage0_0 : Fin 2 → Memref sig .tc .vmem S2x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S4x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S2x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x2x1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![32, 1], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_off1 (i : grid1.Coords) : Fin 4 → Nat :=
  let arg1 : BitVec 32 := BitVec.ofNat 32 (i 1).val
  let v729 : Index := Scalar.indexCast arg1
  let c0_392 : Index := 0#32
  let c0_393 : Index := 0#32
  let c0_394 : Index := 0#32
  ![v729.toNat, 0, 0, 0]
def k1_off2 (i : grid1.Coords) : Fin 4 → Nat :=
  let arg1 : BitVec 32 := BitVec.ofNat 32 (i 1).val
  let v251 : Index := Scalar.indexCast arg1
  let c0_186 : Index := 0#32
  let c0_187 : Index := 0#32
  let c0_188 : Index := 0#32
  ![v251.toNat, 0, 0, 0]
def k1_off3 (i : grid1.Coords) (c0_i32_223 : BitVec 32) : Fin 3 → Nat :=
  let arg1 : BitVec 32 := BitVec.ofNat 32 (i 1).val
  let c4_i32 : BitVec 32 := 4#32
  let v368 : BitVec 32 := Scalar.muli arg1 c4_i32
  let v369 : BitVec 32 := Scalar.addi v368 c0_i32_223
  let v370 : Index := Scalar.indexCast v369
  let c0_224 : Index := 0#32
  let c0_225 : Index := 0#32
  ![v370.toNat, 0, 0]
def k1_off4 (i : grid1.Coords) (c0_i32_229 : BitVec 32) : Fin 3 → Nat :=
  let arg1 : BitVec 32 := BitVec.ofNat 32 (i 1).val
  let c4_i32_228 : BitVec 32 := 4#32
  let v380 : BitVec 32 := Scalar.muli arg1 c4_i32_228
  let v381 : BitVec 32 := Scalar.addi v380 c0_i32_229
  let v382 : Index := Scalar.indexCast v381
  let c0_230 : Index := 0#32
  let c0_231 : Index := 0#32
  ![v382.toNat, 0, 0]
def k1_cond3 (i : grid1.Coords) : BitVec 1 :=
  let arg1 : BitVec 32 := BitVec.ofNat 32 (i 1).val
  let c0_i32_379 : BitVec 32 := 0#32
  let v699 : BitVec 1 := Scalar.cmpi .eq arg1 c0_i32_379
  let v700 : BitVec 32 := Scalar.extui v699
  let c0_i32_380 : BitVec 32 := 0#32
  let v701 : BitVec 1 := Scalar.cmpi .ne v700 c0_i32_380
  v701

def k1_cond4 (i : grid1.Coords) : BitVec 1 :=
  let arg1 : BitVec 32 := BitVec.ofNat 32 (i 1).val
  let c0_i32_381 : BitVec 32 := 0#32
  let v702 : BitVec 1 := Scalar.cmpi .sgt arg1 c0_i32_381
  let v703 : BitVec 32 := Scalar.extui v702
  let c0_i32_382 : BitVec 32 := 0#32
  let v704 : BitVec 1 := Scalar.cmpi .ne v703 c0_i32_382
  v704

def k1_cond5 (i : grid1.Coords) : BitVec 1 :=
  let arg1 : BitVec 32 := BitVec.ofNat 32 (i 1).val
  let c0_i32_384 : BitVec 32 := 0#32
  let v718 : BitVec 1 := Scalar.cmpi .eq arg1 c0_i32_384
  let v719 : BitVec 32 := Scalar.extui v718
  let c0_i32_385 : BitVec 32 := 0#32
  let v720 : BitVec 1 := Scalar.cmpi .ne v719 c0_i32_385
  v720

def k1_cond6 (i : grid1.Coords) : BitVec 1 :=
  let arg1 : BitVec 32 := BitVec.ofNat 32 (i 1).val
  let c0_i32_386 : BitVec 32 := 0#32
  let v721 : BitVec 1 := Scalar.cmpi .sgt arg1 c0_i32_386
  let v722 : BitVec 32 := Scalar.extui v721
  let c0_i32_387 : BitVec 32 := 0#32
  let v723 : BitVec 1 := Scalar.cmpi .ne v722 c0_i32_387
  v723

def cc1_transform_0 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  let c0_i32_0 : BitVec 32 := 0#32
  ![c0_i32.toNat, v0.toNat, arg1.toNat]

def cc1_transform_1 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c1_i32 : BitVec 32 := 1#32
  let v1 : BitVec 32 := Scalar.addi c1_i32 arg1
  let c0_i32 : BitVec 32 := 0#32
  let c0_i32_0 : BitVec 32 := 0#32
  ![c0_i32.toNat, v0.toNat, v1.toNat]

def cc1_transform_2 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c1_i32 : BitVec 32 := 1#32
  let v1 : BitVec 32 := Scalar.addi c1_i32 arg1
  let c0_i32 : BitVec 32 := 0#32
  let c0_i32_0 : BitVec 32 := 0#32
  ![c0_i32.toNat, v0.toNat, v1.toNat]

def cc1_transform_3 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_6 (i : grid1.Coords) : Fin 5 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![arg1.toNat, c0_i32.toNat, v0.toNat, c0_i32_0.toNat, c0_i32_1.toNat]

def cc1_transform_7 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  let c0_i32_0 : BitVec 32 := 0#32
  ![c0_i32.toNat, v0.toNat, arg1.toNat]

def cc1_transform_8 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  let c0_i32_0 : BitVec 32 := 0#32
  ![c0_i32.toNat, v0.toNat, arg1.toNat]

def cc1_transform_9 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  let c0_i32_0 : BitVec 32 := 0#32
  ![c0_i32.toNat, v0.toNat, arg1.toNat]

def cc1_transform_10 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  let c0_i32_0 : BitVec 32 := 0#32
  ![c0_i32.toNat, v0.toNat, arg1.toNat]

def cc1_transform_11 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S2x64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2x64x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2x64x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2x64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S4x128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, true]

abbrev stage1_5 : Fin 1 → Memref sig .tc .vmem S4x1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, true]

abbrev stage1_6 : Fin 2 → Memref sig .tc .vmem S4x2x1x512x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S2x64x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S2x64x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S2x64x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S2x64x2048 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S2x64x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 1 → Memref sig .tc .vmem S4x128x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S4x1x256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]
-- ==== DownDx.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S1024x2048 : Shape := ⟨2, ![1024, 2048]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S4096x2048, .bf16⟩
  | .hbm, ⟨6, _⟩ => ⟨S8192x2048, .bf16⟩
  | .hbm, ⟨7, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxReferenceIdeal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .i1⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== DownDw.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x2048, .f32⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x8192, .bf16⟩
  | .hbm, ⟨9, _⟩ => ⟨S4096x2048, .bf16⟩
  | .hbm, ⟨10, _⟩ => ⟨S8192x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S4096x2048 : Shape := ⟨2, ![4096, 2048]⟩
abbrev S2048x8192 : Shape := ⟨2, ![2048, 8192]⟩
abbrev S_ : Shape := ⟨0, ![]⟩
abbrev S8192x2048 : Shape := ⟨2, ![8192, 2048]⟩
abbrev S4096x8192 : Shape := ⟨2, ![4096, 8192]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x2048, .f32⟩
  | .hbm, ⟨3, _⟩ => ⟨S_, .f32⟩
  | .hbm, ⟨4, _⟩ => ⟨S8192x2048, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x2048, .f32⟩
  | .hbm, ⟨11, _⟩ => ⟨S2048x8192, .f32⟩
  | .hbm, ⟨12, _⟩ => ⟨S8192x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== UpDw.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩
abbrev S4x2048x2048 : Shape := ⟨3, ![4, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 26
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .i1⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | .hbm, ⟨24, _⟩ => ⟨S4096x2048, .bf16⟩
  | .hbm, ⟨25, _⟩ => ⟨S4x2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwReferenceIdeal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩
abbrev S2048x2048 : Shape := ⟨2, ![2048, 2048]⟩
abbrev S1x2048x2048 : Shape := ⟨3, ![1, 2048, 2048]⟩
abbrev S4x2048x2048 : Shape := ⟨3, ![4, 2048, 2048]⟩

abbrev nBuf : Space → Nat
  | .hbm => 34
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .i1⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S8192x2048, .f32⟩
  | .hbm, ⟨24, _⟩ => ⟨S2048x8192, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S1x2048x2048, .f32⟩
  | .hbm, ⟨30, _⟩ => ⟨S1x2048x2048, .f32⟩
  | .hbm, ⟨31, _⟩ => ⟨S1x2048x2048, .f32⟩
  | .hbm, ⟨32, _⟩ => ⟨S1x2048x2048, .f32⟩
  | .hbm, ⟨33, _⟩ => ⟨S4x2048x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== UpDx.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩
abbrev S2048x4x2048 : Shape := ⟨3, ![2048, 4, 2048]⟩
abbrev S4x2048x2048 : Shape := ⟨3, ![4, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 28
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .i1⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | .hbm, ⟨24, _⟩ => ⟨S2048x8192, .bf16⟩
  | .hbm, ⟨25, _⟩ => ⟨S2048x4x2048, .bf16⟩
  | .hbm, ⟨26, _⟩ => ⟨S4x2048x2048, .bf16⟩
  | .hbm, ⟨27, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxReferenceIdeal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .i1⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== InDx.lean ====
abbrev S4096x2048 : Shape := ⟨2, ![4096, 2048]⟩
abbrev S2048x18432 : Shape := ⟨2, ![2048, 18432]⟩
abbrev S4096x18432 : Shape := ⟨2, ![4096, 18432]⟩
abbrev S18432x2048 : Shape := ⟨2, ![18432, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x18432, .f32⟩
  | .hbm, ⟨2, _⟩ => ⟨S4096x18432, .f32⟩
  | .hbm, ⟨3, _⟩ => ⟨S18432x2048, .f32⟩
  | .hbm, ⟨4, _⟩ => ⟨S18432x2048, .bf16⟩
  | .hbm, ⟨5, _⟩ => ⟨S4096x18432, .bf16⟩
  | .hbm, ⟨6, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 9], ![false, false, false]⟩

def k0_cond3 (i : grid0.Coords) : BitVec 1 :=
  let arg2 : BitVec 32 := BitVec.ofNat 32 (i 2).val
  let c8_i32_6 : BitVec 32 := 8#32
  let v13 : BitVec 1 := Scalar.cmpi .eq arg2 c8_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxReferenceIdeal.lean ====
abbrev S4096x2048 : Shape := ⟨2, ![4096, 2048]⟩
abbrev S2048x18432 : Shape := ⟨2, ![2048, 18432]⟩
abbrev S4096x18432 : Shape := ⟨2, ![4096, 18432]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x18432, .f32⟩
  | .hbm, ⟨2, _⟩ => ⟨S4096x18432, .f32⟩
  | .hbm, ⟨3, _⟩ => ⟨S4096x18432, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== InDwA.lean ====
abbrev S4096x2048 : Shape := ⟨2, ![4096, 2048]⟩
abbrev S2048x18432 : Shape := ⟨2, ![2048, 18432]⟩
abbrev S4096x18432 : Shape := ⟨2, ![4096, 18432]⟩
abbrev S12288x2048 : Shape := ⟨2, ![12288, 2048]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x18432, .f32⟩
  | .hbm, ⟨2, _⟩ => ⟨S4096x18432, .f32⟩
  | .hbm, ⟨3, _⟩ => ⟨S4096x18432, .bf16⟩
  | .hbm, ⟨4, _⟩ => ⟨S4096x2048, .bf16⟩
  | .hbm, ⟨5, _⟩ => ⟨S12288x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![12, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwAReferenceIdeal.lean ====
abbrev S4096x2048 : Shape := ⟨2, ![4096, 2048]⟩
abbrev S2048x18432 : Shape := ⟨2, ![2048, 18432]⟩
abbrev S4096x18432 : Shape := ⟨2, ![4096, 18432]⟩
abbrev S18432x2048 : Shape := ⟨2, ![18432, 2048]⟩
abbrev S12288x2048 : Shape := ⟨2, ![12288, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x18432, .f32⟩
  | .hbm, ⟨2, _⟩ => ⟨S4096x18432, .f32⟩
  | .hbm, ⟨3, _⟩ => ⟨S4096x18432, .f32⟩
  | .hbm, ⟨4, _⟩ => ⟨S18432x2048, .f32⟩
  | .hbm, ⟨5, _⟩ => ⟨S2048x18432, .f32⟩
  | .hbm, ⟨6, _⟩ => ⟨S18432x2048, .f32⟩
  | .hbm, ⟨7, _⟩ => ⟨S12288x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDwB.lean ====
abbrev S4096x2048 : Shape := ⟨2, ![4096, 2048]⟩
abbrev S2048x18432 : Shape := ⟨2, ![2048, 18432]⟩
abbrev S4096x18432 : Shape := ⟨2, ![4096, 18432]⟩
abbrev S6144x2048 : Shape := ⟨2, ![6144, 2048]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x18432, .f32⟩
  | .hbm, ⟨2, _⟩ => ⟨S4096x18432, .f32⟩
  | .hbm, ⟨3, _⟩ => ⟨S4096x18432, .bf16⟩
  | .hbm, ⟨4, _⟩ => ⟨S4096x2048, .bf16⟩
  | .hbm, ⟨5, _⟩ => ⟨S6144x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg0
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwBReferenceIdeal.lean ====
abbrev S4096x2048 : Shape := ⟨2, ![4096, 2048]⟩
abbrev S2048x18432 : Shape := ⟨2, ![2048, 18432]⟩
abbrev S4096x18432 : Shape := ⟨2, ![4096, 18432]⟩
abbrev S18432x2048 : Shape := ⟨2, ![18432, 2048]⟩
abbrev S6144x2048 : Shape := ⟨2, ![6144, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x18432, .f32⟩
  | .hbm, ⟨2, _⟩ => ⟨S4096x18432, .f32⟩
  | .hbm, ⟨3, _⟩ => ⟨S4096x18432, .f32⟩
  | .hbm, ⟨4, _⟩ => ⟨S18432x2048, .f32⟩
  | .hbm, ⟨5, _⟩ => ⟨S2048x18432, .f32⟩
  | .hbm, ⟨6, _⟩ => ⟨S18432x2048, .f32⟩
  | .hbm, ⟨7, _⟩ => ⟨S6144x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDw.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S4096x2048, .bf16⟩
  | .hbm, ⟨5, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwReferenceIdeal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S2048x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxReferenceIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== GateDw.lean ====
abbrev S4096x2048 : Shape := ⟨2, ![4096, 2048]⟩
abbrev S4096x256 : Shape := ⟨2, ![4096, 256]⟩
abbrev S2048x2048 : Shape := ⟨2, ![2048, 2048]⟩
abbrev S256x2048 : Shape := ⟨2, ![256, 2048]⟩
abbrev S_ : Shape := ⟨0, ![]⟩
abbrev S2048x1024 : Shape := ⟨2, ![2048, 1024]⟩
abbrev S1024x1024 : Shape := ⟨2, ![1024, 1024]⟩

abbrev nBuf : Space → Nat
  | .hbm => 26
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x256, .f32⟩
  | .hbm, ⟨2, _⟩ => ⟨S2048x2048, .f32⟩
  | .hbm, ⟨3, _⟩ => ⟨S256x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .bf16⟩
  | .hbm, ⟨24, _⟩ => ⟨S4096x2048, .bf16⟩
  | .hbm, ⟨25, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDwReferenceIdeal.lean ====
abbrev S4096x2048 : Shape := ⟨2, ![4096, 2048]⟩
abbrev S4096x256 : Shape := ⟨2, ![4096, 256]⟩
abbrev S2048x2048 : Shape := ⟨2, ![2048, 2048]⟩
abbrev S256x2048 : Shape := ⟨2, ![256, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x256, .f32⟩
  | .hbm, ⟨2, _⟩ => ⟨S2048x2048, .f32⟩
  | .hbm, ⟨3, _⟩ => ⟨S256x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S2048x2048, .f32⟩
  | .hbm, ⟨23, _⟩ => ⟨S2048x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== GateDx.lean ====
abbrev S4096x2048 : Shape := ⟨2, ![4096, 2048]⟩
abbrev S4096x256 : Shape := ⟨2, ![4096, 256]⟩
abbrev S2048x2048 : Shape := ⟨2, ![2048, 2048]⟩
abbrev S256x2048 : Shape := ⟨2, ![256, 2048]⟩
abbrev S_ : Shape := ⟨0, ![]⟩
abbrev S1024x2048 : Shape := ⟨2, ![1024, 2048]⟩
abbrev S1024x1024 : Shape := ⟨2, ![1024, 1024]⟩

abbrev nBuf : Space → Nat
  | .hbm => 26
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x256, .f32⟩
  | .hbm, ⟨2, _⟩ => ⟨S2048x2048, .f32⟩
  | .hbm, ⟨3, _⟩ => ⟨S256x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .bf16⟩
  | .hbm, ⟨24, _⟩ => ⟨S2048x2048, .bf16⟩
  | .hbm, ⟨25, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDxReferenceIdeal.lean ====
abbrev S4096x2048 : Shape := ⟨2, ![4096, 2048]⟩
abbrev S4096x256 : Shape := ⟨2, ![4096, 256]⟩
abbrev S2048x2048 : Shape := ⟨2, ![2048, 2048]⟩
abbrev S256x2048 : Shape := ⟨2, ![256, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x256, .f32⟩
  | .hbm, ⟨2, _⟩ => ⟨S2048x2048, .f32⟩
  | .hbm, ⟨3, _⟩ => ⟨S256x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== PleDw.lean ====
abbrev S4096x2048 : Shape := ⟨2, ![4096, 2048]⟩
abbrev S4096x256 : Shape := ⟨2, ![4096, 256]⟩
abbrev S2048x2048 : Shape := ⟨2, ![2048, 2048]⟩
abbrev S256x2048 : Shape := ⟨2, ![256, 2048]⟩
abbrev S_ : Shape := ⟨0, ![]⟩
abbrev S4x256x512 : Shape := ⟨3, ![4, 256, 512]⟩
abbrev S2048x256 : Shape := ⟨2, ![2048, 256]⟩
abbrev S2048x512 : Shape := ⟨2, ![2048, 512]⟩
abbrev S1x256x512 : Shape := ⟨3, ![1, 256, 512]⟩
abbrev S256x512 : Shape := ⟨2, ![256, 512]⟩

abbrev nBuf : Space → Nat
  | .hbm => 25
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x256, .f32⟩
  | .hbm, ⟨2, _⟩ => ⟨S2048x2048, .f32⟩
  | .hbm, ⟨3, _⟩ => ⟨S256x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .bf16⟩
  | .hbm, ⟨24, _⟩ => ⟨S4x256x512, .f32⟩
  | .local _ .vmem, ⟨0, _⟩ => ⟨S2048x256, .f32⟩
  | .local _ .vmem, ⟨1, _⟩ => ⟨S2048x256, .f32⟩
  | .local _ .vmem, ⟨2, _⟩ => ⟨S2048x512, .bf16⟩
  | .local _ .vmem, ⟨3, _⟩ => ⟨S2048x512, .bf16⟩
  | .local _ .vmem, ⟨4, _⟩ => ⟨S1x256x512, .f32⟩
  | .local _ .vmem, ⟨5, _⟩ => ⟨S1x256x512, .f32⟩
  | .local _ .vmem, ⟨6, _⟩ => ⟨S256x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleDwReferenceIdeal.lean ====
abbrev S4096x2048 : Shape := ⟨2, ![4096, 2048]⟩
abbrev S4096x256 : Shape := ⟨2, ![4096, 256]⟩
abbrev S2048x2048 : Shape := ⟨2, ![2048, 2048]⟩
abbrev S256x2048 : Shape := ⟨2, ![256, 2048]⟩
abbrev S_ : Shape := ⟨0, ![]⟩
abbrev S2048x256 : Shape := ⟨2, ![2048, 256]⟩
abbrev S256x512 : Shape := ⟨2, ![256, 512]⟩
abbrev S1x256x512 : Shape := ⟨3, ![1, 256, 512]⟩
abbrev S4x256x512 : Shape := ⟨3, ![4, 256, 512]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x256, .f32⟩
  | .hbm, ⟨2, _⟩ => ⟨S2048x2048, .f32⟩
  | .hbm, ⟨3, _⟩ => ⟨S256x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S2048x256, .f32⟩
  | .hbm, ⟨18, _⟩ => ⟨S256x2048, .f32⟩
  | .hbm, ⟨19, _⟩ => ⟨S256x512, .f32⟩
  | .hbm, ⟨20, _⟩ => ⟨S256x512, .f32⟩
  | .hbm, ⟨21, _⟩ => ⟨S256x512, .f32⟩
  | .hbm, ⟨22, _⟩ => ⟨S256x512, .f32⟩
  | .hbm, ⟨23, _⟩ => ⟨S1x256x512, .f32⟩
  | .hbm, ⟨24, _⟩ => ⟨S1x256x512, .f32⟩
  | .hbm, ⟨25, _⟩ => ⟨S1x256x512, .f32⟩
  | .hbm, ⟨26, _⟩ => ⟨S1x256x512, .f32⟩
  | .hbm, ⟨27, _⟩ => ⟨S4x256x512, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== InFwd.lean ====
abbrev S4096x2048 : Shape := ⟨2, ![4096, 2048]⟩
abbrev S2048x18432 : Shape := ⟨2, ![2048, 18432]⟩
abbrev S18432x2048 : Shape := ⟨2, ![18432, 2048]⟩
abbrev S4096x18432 : Shape := ⟨2, ![4096, 18432]⟩
abbrev S1024x2048 : Shape := ⟨2, ![1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x18432, .f32⟩
  | .hbm, ⟨2, _⟩ => ⟨S18432x2048, .f32⟩
  | .hbm, ⟨3, _⟩ => ⟨S18432x2048, .bf16⟩
  | .hbm, ⟨4, _⟩ => ⟨S4096x2048, .bf16⟩
  | .hbm, ⟨5, _⟩ => ⟨S4096x18432, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 18, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdReferenceIdeal.lean ====
abbrev S4096x2048 : Shape := ⟨2, ![4096, 2048]⟩
abbrev S2048x18432 : Shape := ⟨2, ![2048, 18432]⟩
abbrev S4096x18432 : Shape := ⟨2, ![4096, 18432]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x18432, .f32⟩
  | .hbm, ⟨2, _⟩ => ⟨S4096x18432, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UpFwd.lean ====
abbrev S4096x2048 : Shape := ⟨2, ![4096, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S2048x8192, .bf16⟩
  | .hbm, ⟨3, _⟩ => ⟨S2048x4x2048, .bf16⟩
  | .hbm, ⟨4, _⟩ => ⟨S4x2048x2048, .bf16⟩
  | .hbm, ⟨5, _⟩ => ⟨S4096x2048, .bf16⟩
  | .hbm, ⟨6, _⟩ => ⟨S4096x8192, .f32⟩
  | .hbm, ⟨7, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpFwdReferenceIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== DownFwd.lean ====
abbrev S4096x2048 : Shape := ⟨2, ![4096, 2048]⟩
abbrev S2048x8192 : Shape := ⟨2, ![2048, 8192]⟩
abbrev S8192x2048 : Shape := ⟨2, ![8192, 2048]⟩
abbrev S1x2048 : Shape := ⟨2, ![1, 2048]⟩
abbrev S4096x8192 : Shape := ⟨2, ![4096, 8192]⟩
abbrev S_ : Shape := ⟨0, ![]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 14
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S1x2048, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x8192, .bf16⟩
  | .hbm, ⟨11, _⟩ => ⟨S8192x2048, .bf16⟩
  | .hbm, ⟨12, _⟩ => ⟨S4096x2048, .f32⟩
  | .hbm, ⟨13, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownFwdReferenceIdeal.lean ====
abbrev S4096x2048 : Shape := ⟨2, ![4096, 2048]⟩
abbrev S2048x8192 : Shape := ⟨2, ![2048, 8192]⟩
abbrev S8192x2048 : Shape := ⟨2, ![8192, 2048]⟩
abbrev S1x2048 : Shape := ⟨2, ![1, 2048]⟩
abbrev S4096x8192 : Shape := ⟨2, ![4096, 8192]⟩
abbrev S_ : Shape := ⟨0, ![]⟩
abbrev S2048 : Shape := ⟨1, ![2048]⟩
abbrev S4096 : Shape := ⟨1, ![4096]⟩
abbrev S4096x1 : Shape := ⟨2, ![4096, 1]⟩

abbrev nBuf : Space → Nat
  | .hbm => 30
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S1x2048, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x2048, .f32⟩
  | .hbm, ⟨11, _⟩ => ⟨S4096x2048, .f32⟩
  | .hbm, ⟨12, _⟩ => ⟨S2048, .f32⟩
  | .hbm, ⟨13, _⟩ => ⟨S4096x2048, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== OutFwd.lean ====
abbrev S4096x2048 : Shape := ⟨2, ![4096, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S4096x2048, .bf16⟩
  | .hbm, ⟨5, _⟩ => ⟨S2048x2048, .bf16⟩
  | .hbm, ⟨6, _⟩ => ⟨S4096x2048, .f32⟩
  | .hbm, ⟨7, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutFwdReferenceIdeal.lean ====
abbrev S4096x2048 : Shape := ⟨2, ![4096, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== GateFwd.lean ====
abbrev S4096x2048 : Shape := ⟨2, ![4096, 2048]⟩
abbrev S4096x256 : Shape := ⟨2, ![4096, 256]⟩
abbrev S2048x2048 : Shape := ⟨2, ![2048, 2048]⟩
abbrev S256x2048 : Shape := ⟨2, ![256, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 10
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x256, .f32⟩
  | .hbm, ⟨2, _⟩ => ⟨S2048x2048, .f32⟩
  | .hbm, ⟨3, _⟩ => ⟨S256x2048, .f32⟩
  | .hbm, ⟨4, _⟩ => ⟨S4096x2048, .f32⟩
  | .hbm, ⟨5, _⟩ => ⟨S4096x2048, .bf16⟩
  | .hbm, ⟨6, _⟩ => ⟨S2048x2048, .bf16⟩
  | .hbm, ⟨7, _⟩ => ⟨S4096x2048, .f32⟩
  | .hbm, ⟨8, _⟩ => ⟨S4096x2048, .f32⟩
  | .hbm, ⟨9, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GateFwdReferenceIdeal.lean ====
abbrev S4096x2048 : Shape := ⟨2, ![4096, 2048]⟩
abbrev S4096x256 : Shape := ⟨2, ![4096, 256]⟩
abbrev S2048x2048 : Shape := ⟨2, ![2048, 2048]⟩
abbrev S256x2048 : Shape := ⟨2, ![256, 2048]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x256, .f32⟩
  | .hbm, ⟨2, _⟩ => ⟨S2048x2048, .f32⟩
  | .hbm, ⟨3, _⟩ => ⟨S256x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== PleFwd.lean ====
abbrev S4096x256 : Shape := ⟨2, ![4096, 256]⟩
abbrev S256x2048 : Shape := ⟨2, ![256, 2048]⟩
abbrev S256x4x512 : Shape := ⟨3, ![256, 4, 512]⟩
abbrev S4x256x512 : Shape := ⟨3, ![4, 256, 512]⟩
abbrev S4096x2048 : Shape := ⟨2, ![4096, 2048]⟩
abbrev S1024x256 : Shape := ⟨2, ![1024, 256]⟩
abbrev S1x256x512 : Shape := ⟨3, ![1, 256, 512]⟩
abbrev S1024x512 : Shape := ⟨2, ![1024, 512]⟩
abbrev S256x512 : Shape := ⟨2, ![256, 512]⟩

abbrev nBuf : Space → Nat
  | .hbm => 6
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S256x2048, .bf16⟩
  | .hbm, ⟨3, _⟩ => ⟨S256x4x512, .bf16⟩
  | .hbm, ⟨4, _⟩ => ⟨S4x256x512, .bf16⟩
  | .hbm, ⟨5, _⟩ => ⟨S4096x2048, .f32⟩
  | .local _ .vmem, ⟨0, _⟩ => ⟨S1024x256, .f32⟩
  | .local _ .vmem, ⟨1, _⟩ => ⟨S1024x256, .f32⟩
  | .local _ .vmem, ⟨2, _⟩ => ⟨S1x256x512, .bf16⟩
  | .local _ .vmem, ⟨3, _⟩ => ⟨S1x256x512, .bf16⟩
  | .local _ .vmem, ⟨4, _⟩ => ⟨S1024x512, .f32⟩
  | .local _ .vmem, ⟨5, _⟩ => ⟨S1024x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleFwdReferenceIdeal.lean ====
abbrev S4096x256 : Shape := ⟨2, ![4096, 256]⟩
abbrev S256x2048 : Shape := ⟨2, ![256, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Narrow.lean ====
abbrev S4096x2048 : Shape := ⟨2, ![4096, 2048]⟩
abbrev S2048x128 : Shape := ⟨2, ![2048, 128]⟩
abbrev S128x2048 : Shape := ⟨2, ![128, 2048]⟩
abbrev S4096x128 : Shape := ⟨2, ![4096, 128]⟩
abbrev S1024x2048 : Shape := ⟨2, ![1024, 2048]⟩
abbrev S1024x128 : Shape := ⟨2, ![1024, 128]⟩

abbrev nBuf : Space → Nat
  | .hbm => 6
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x128, .f32⟩
  | .hbm, ⟨2, _⟩ => ⟨S4096x2048, .bf16⟩
  | .hbm, ⟨3, _⟩ => ⟨S128x2048, .f32⟩
  | .hbm, ⟨4, _⟩ => ⟨S128x2048, .bf16⟩
  | .hbm, ⟨5, _⟩ => ⟨S4096x128, .f32⟩
  | .local _ .vmem, ⟨0, _⟩ => ⟨S1024x2048, .bf16⟩
  | .local _ .vmem, ⟨1, _⟩ => ⟨S1024x2048, .bf16⟩
  | .local _ .vmem, ⟨2, _⟩ => ⟨S128x2048, .bf16⟩
  | .local _ .vmem, ⟨3, _⟩ => ⟨S1024x128, .f32⟩
  | .local _ .vmem, ⟨4, _⟩ => ⟨S1024x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NarrowReferenceIdeal.lean ====
abbrev S4096x2048 : Shape := ⟨2, ![4096, 2048]⟩
abbrev S2048x128 : Shape := ⟨2, ![2048, 128]⟩
abbrev S4096x128 : Shape := ⟨2, ![4096, 128]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x128, .f32⟩
  | .hbm, ⟨2, _⟩ => ⟨S4096x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== NarrowDw.lean ====
abbrev S4096x2048 : Shape := ⟨2, ![4096, 2048]⟩
abbrev S2048x128 : Shape := ⟨2, ![2048, 128]⟩
abbrev S4096x128 : Shape := ⟨2, ![4096, 128]⟩
abbrev S128x2048 : Shape := ⟨2, ![128, 2048]⟩
abbrev S2048x1024 : Shape := ⟨2, ![2048, 1024]⟩
abbrev S128x1024 : Shape := ⟨2, ![128, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x128, .f32⟩
  | .hbm, ⟨2, _⟩ => ⟨S4096x128, .f32⟩
  | .hbm, ⟨3, _⟩ => ⟨S4096x2048, .bf16⟩
  | .hbm, ⟨4, _⟩ => ⟨S128x2048, .f32⟩
  | .local _ .vmem, ⟨0, _⟩ => ⟨S2048x128, .f32⟩
  | .local _ .vmem, ⟨1, _⟩ => ⟨S2048x128, .f32⟩
  | .local _ .vmem, ⟨2, _⟩ => ⟨S2048x1024, .bf16⟩
  | .local _ .vmem, ⟨3, _⟩ => ⟨S2048x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NarrowDwReferenceIdeal.lean ====
abbrev S4096x2048 : Shape := ⟨2, ![4096, 2048]⟩
abbrev S2048x128 : Shape := ⟨2, ![2048, 128]⟩
abbrev S4096x128 : Shape := ⟨2, ![4096, 128]⟩
abbrev S128x2048 : Shape := ⟨2, ![128, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x128, .f32⟩
  | .hbm, ⟨2, _⟩ => ⟨S4096x128, .f32⟩
  | .hbm, ⟨3, _⟩ => ⟨S4096x128, .f32⟩
  | .hbm, ⟨4, _⟩ => ⟨S128x2048, .f32⟩
  | .hbm, ⟨5, _⟩ => ⟨S2048x128, .f32⟩
  | .hbm, ⟨6, _⟩ => ⟨S128x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== NarrowDx.lean ====
abbrev S4096x2048 : Shape := ⟨2, ![4096, 2048]⟩
abbrev S2048x18432 : Shape := ⟨2, ![2048, 18432]⟩
abbrev S2048x128 : Shape := ⟨2, ![2048, 128]⟩
abbrev S4096x18432 : Shape := ⟨2, ![4096, 18432]⟩
abbrev S4096x128 : Shape := ⟨2, ![4096, 128]⟩
abbrev S128x2048 : Shape := ⟨2, ![128, 2048]⟩
abbrev S1024x128 : Shape := ⟨2, ![1024, 128]⟩
abbrev S128x1024 : Shape := ⟨2, ![128, 1024]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x18432, .f32⟩
  | .hbm, ⟨2, _⟩ => ⟨S2048x128, .f32⟩
  | .hbm, ⟨3, _⟩ => ⟨S4096x18432, .f32⟩
  | .hbm, ⟨4, _⟩ => ⟨S4096x128, .f32⟩
  | .hbm, ⟨5, _⟩ => ⟨S4096x18432, .f32⟩
  | .hbm, ⟨6, _⟩ => ⟨S4096x2048, .f32⟩
  | .hbm, ⟨7, _⟩ => ⟨S128x2048, .f32⟩
  | .hbm, ⟨8, _⟩ => ⟨S128x2048, .bf16⟩
  | .hbm, ⟨9, _⟩ => ⟨S4096x2048, .f32⟩
  | .local _ .vmem, ⟨0, _⟩ => ⟨S1024x128, .f32⟩
  | .local _ .vmem, ⟨1, _⟩ => ⟨S1024x128, .f32⟩
  | .local _ .vmem, ⟨2, _⟩ => ⟨S128x1024, .bf16⟩
  | .local _ .vmem, ⟨3, _⟩ => ⟨S128x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== NarrowDxReferenceIdeal.lean ====
abbrev S4096x2048 : Shape := ⟨2, ![4096, 2048]⟩
abbrev S2048x18432 : Shape := ⟨2, ![2048, 18432]⟩
abbrev S2048x128 : Shape := ⟨2, ![2048, 128]⟩
abbrev S4096x18432 : Shape := ⟨2, ![4096, 18432]⟩
abbrev S4096x128 : Shape := ⟨2, ![4096, 128]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x18432, .f32⟩
  | .hbm, ⟨2, _⟩ => ⟨S2048x128, .f32⟩
  | .hbm, ⟨3, _⟩ => ⟨S4096x18432, .f32⟩
  | .hbm, ⟨4, _⟩ => ⟨S4096x128, .f32⟩
  | .hbm, ⟨5, _⟩ => ⟨S4096x18432, .f32⟩
  | .hbm, ⟨6, _⟩ => ⟨S4096x128, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Proof.Blocks.lean ====
/-
  Products of matrices of extended reals, cut along the contracted axis. A kernel adds up the products of one stretch of
  that axis after another; `nn_blocks`, `nt_blocks` and `tn_blocks` say that the sum of the stretches' products is the
  product over the whole axis, the operands' blocks being read where the arrays hold them.
-/
module

public import Idealize.ShloMosaic.Lib.Pipeline.ValueKit

@[expose] public section

noncomputable section

namespace Cert.Blocks

open Idealize.ShloMosaic

/-- A matrix of extended reals. -/
abbrev Mat (a b : ℕ) : Type := (⟨2, ![a, b]⟩ : Shape).Idx → EReal

variable {K M N K' M' N' S : ℕ}

/-- `x · y`. -/
def nn (x : Mat M K) (y : Mat K N) : Mat M N := fun j => ∑ k : Fin K, x (ix2 (j 0) k) * y (ix2 k (j 1))
/-- `x · yᵀ`. -/
def nt (x : Mat M K) (y : Mat N K) : Mat M N := fun j => ∑ k : Fin K, x (ix2 (j 0) k) * y (ix2 (j 1) k)
/-- `xᵀ · y`. -/
def tn (x : Mat K M) (y : Mat K N) : Mat M N := fun j => ∑ k : Fin K, x (ix2 k (j 0)) * y (ix2 k (j 1))

/-- Place `k` of stretch `s`. -/
theorem place_lt (hK : K = S * K') (s : Fin S) (k : Fin K') : s.val * K' + k.val < K :=
  Fin.mul_add_lt_of_eq_mul hK s k

theorem nn_blocks (hK : K = S * K') (bx : Fin S → Mat M' K') (by' : Fin S → Mat K' N') (x : Mat M K) (y : Mat K N)
    (i : (⟨2, ![M', N']⟩ : Shape).Idx) (j : (⟨2, ![M, N]⟩ : Shape).Idx)
    (hx : ∀ s k, bx s (ix2 (i 0) k) = x (ix2 (j 0) ⟨s.val * K' + k.val, place_lt hK s k⟩))
    (hy : ∀ s k, by' s (ix2 k (i 1)) = y (ix2 ⟨s.val * K' + k.val, place_lt hK s k⟩ (j 1))) :
    ∑ s : Fin S, nn (bx s) (by' s) i = nn x y j :=
  Fin.sum_mul_add_congr (fun s k _ => by rw [hx s k, hy s k]) hK

theorem nt_blocks (hK : K = S * K') (bx : Fin S → Mat M' K') (by' : Fin S → Mat N' K') (x : Mat M K) (y : Mat N K)
    (i : (⟨2, ![M', N']⟩ : Shape).Idx) (j : (⟨2, ![M, N]⟩ : Shape).Idx)
    (hx : ∀ s k, bx s (ix2 (i 0) k) = x (ix2 (j 0) ⟨s.val * K' + k.val, place_lt hK s k⟩))
    (hy : ∀ s k, by' s (ix2 (i 1) k) = y (ix2 (j 1) ⟨s.val * K' + k.val, place_lt hK s k⟩)) :
    ∑ s : Fin S, nt (bx s) (by' s) i = nt x y j :=
  Fin.sum_mul_add_congr (fun s k _ => by rw [hx s k, hy s k]) hK

theorem tn_blocks (hK : K = S * K') (bx : Fin S → Mat K' M') (by' : Fin S → Mat K' N') (x : Mat K M) (y : Mat K N)
    (i : (⟨2, ![M', N']⟩ : Shape).Idx) (j : (⟨2, ![M, N]⟩ : Shape).Idx)
    (hx : ∀ s k, bx s (ix2 k (i 0)) = x (ix2 ⟨s.val * K' + k.val, place_lt hK s k⟩ (j 0)))
    (hy : ∀ s k, by' s (ix2 k (i 1)) = y (ix2 ⟨s.val * K' + k.val, place_lt hK s k⟩ (j 1))) :
    ∑ s : Fin S, tn (bx s) (by' s) i = tn x y j :=
  Fin.sum_mul_add_congr (fun s k _ => by rw [hx s k, hy s k]) hK

/-- Two, as the programs write it. -/
def two : EReal := Ideal.ofBits FTy.f32 1073741824#32

/-- The gradient of the MLP's hidden units: `jax.vjp` of the squared rectifier, at the gradient of its output. -/
def hiddenGrad (h : Mat 4096 2048) (wUp : Mat 2048 8192) (wDown : Mat 8192 2048) (dx : Mat 4096 2048) : Mat 4096 8192 := fun i =>
  if 0 < nn h wUp i then nt dx wDown i * (two * max (nn h wUp i) 0) else 0

/-- The same at one place, as the kernel computes it: of the product `r` and the hidden unit `u`. -/
def scaled (r u : EReal) : EReal := r * two * max u 0

theorem hiddenGrad_apply (h : Mat 4096 2048) (wUp : Mat 2048 8192) (wDown : Mat 8192 2048) (dx : Mat 4096 2048) (i) :
    scaled (nt dx wDown i) (nn h wUp i) = hiddenGrad h wUp wDown dx i := by
  unfold hiddenGrad scaled
  split
  · rw [mul_assoc]
  · next h0 => rw [max_eq_right (not_lt.1 h0), mul_zero]

theorem mul_congr {a b a' b' : EReal} (ha : a' = a) (hb : b' = b) : a * b = a' * b' := by rw [ha, hb]
theorem mul_swap {a b a' b' : EReal} (ha : a' = a) (hb : b' = b) : b * a = a' * b' := by rw [ha, hb, mul_comm]

theorem nt_congr (x' : Mat M' K) (y' : Mat N' K) (x : Mat M K) (y : Mat N K)
    (i : (⟨2, ![M', N']⟩ : Shape).Idx) (j : (⟨2, ![M, N]⟩ : Shape).Idx)
    (hx : ∀ k, x' (ix2 (i 0) k) = x (ix2 (j 0) k)) (hy : ∀ k, y' (ix2 (i 1) k) = y (ix2 (j 1) k)) : nt x' y' i = nt x y j :=
  Finset.sum_congr rfl fun k _ => by rw [hx k, hy k]

/-- What a run of `J` points leaves when the first stores its term in an accumulator, each later one adds its own to
    it, and the last stores the sum in the output: the sum of the run's terms. `o` is the output after each point, `a`
    the accumulator. -/
theorem run_sum {ι : Type*} {n : ℕ} (J : ℕ) [NeZero J] (o a : (p : ℕ) → p < n → ι → EReal) (term : Fin n → ι → EReal)
    (hJ : 1 < J)
    (first : ∀ t : Fin n, t.val % J = 0 → ∀ i, a t.val t.isLt i = term t i)
    (middle : ∀ t : Fin n, t.val % J ≠ 0 → t.val % J ≠ J - 1 → ∀ i,
      a t.val t.isLt i = a (t.val - 1) (Nat.lt_of_le_of_lt (Nat.sub_le _ _) t.isLt) i + term t i)
    (last : ∀ t : Fin n, t.val % J = J - 1 → ∀ i,
      o t.val t.isLt i = a (t.val - 1) (Nat.lt_of_le_of_lt (Nat.sub_le _ _) t.isLt) i + term t i)
    (t : Fin n) (ht : t.val % J = J - 1) (i : ι) :
    o t.val t.isLt i = ∑ s : Fin J, term ⟨J * (t.val / J) + s.val, Pipeline.run_point_lt_of_flush t ht s⟩ i := by
  have before : ∀ t : Fin n, t.val % J ≠ 0 → (t.val - 1) % J ≠ J - 1 := fun t h0 h1 => by
    have h2 := Nat.div_add_mod (t.val - 1) J
    have h3 : t.val = J * ((t.val - 1) / J + 1) := by
      have : t.val ≠ 0 := fun h => h0 (by rw [h, Nat.zero_mod])
      rw [Nat.mul_add, Nat.mul_one]; omega
    exact h0 (by rw [h3, Nat.mul_mod_right])
  have h := Pipeline.eq_sum_fin_of_reset_step_apply_of_flush (fun p hp => if p % J = J - 1 then o p hp else a p hp) J
    (fun _ => 0) term
    (fun t h0 i => by
      rw [if_neg (by omega), first t h0, zero_add])
    (fun t h0 i => by
      rw [if_neg (before t h0)]
      by_cases h1 : t.val % J = J - 1
      · rw [if_pos h1]; exact last t h1 i
      · rw [if_neg h1]; exact middle t h0 h1 i)
    t ht i
  rwa [if_pos ht, zero_add] at h

end Cert.Blocks

end
-- ==== Proof.DownDx.lean ====
/-
  The gradient through the MLP's second weight and its activation, `(dx2 · w_downᵀ) · 2 · max(u, 0)`: the kernel's blocks
  each hold the whole contracted axis; the reference multiplies in the other order and selects by the sign of `u`.
-/
module

public import proofs.«01_k».proof.Defs
public import proofs.«01_k».proof.Proof.Gen.DownDx
public import proofs.«01_k».proof.Proof.Gen.DownDxIdeal.Value
public import proofs.«01_k».proof.Proof.Gen.DownDxReferenceIdeal.Run
public import proofs.«01_k».proof.Proof.Blocks

@[expose] public section

noncomputable section

namespace Cert.DownDxIdeal.Hand

open Cert.DownDxIdeal Cert.DownDxIdeal.Gen Idealize.ShloMosaic Idealize.ShloMosaic.TcCoe Idealize.SL.Sem Cert.Blocks

variable (m : (ℓ : Loc nD τ sig) → Buf (Elt Ideal) ℓ) (ρ : Dev nD → PrngReg)

theorem body_apply (x y : Vec Ideal S1024x2048 .bf16) (u : Vec Ideal S1024x1024 .f32) (j : S1024x1024.Idx) :
    k0_pay1 x y u j = scaled (nt x y j) (u j) := by
  pointwise [k0_pay1, nt, scaled, two]

theorem index0 : ∀ t : Fin cfg0.N, win0_0.index t = ![t.val / 8, 0] := (by decide +kernel : ∀ t : Fin grid0.N, _)
theorem index1 : ∀ t : Fin cfg0.N, win0_1.index t = ![t.val % 8, 0] := (by decide +kernel : ∀ t : Fin grid0.N, _)
theorem index2 : ∀ t : Fin cfg0.N, win0_2.index t = ![t.val / 8, t.val % 8] := (by decide +kernel : ∀ t : Fin grid0.N, _)
theorem index3 : ∀ t : Fin cfg0.N, win0_3.index t = ![t.val / 8, t.val % 8] := (by decide +kernel : ∀ t : Fin grid0.N, _)

/-- The result, of what the call is given. -/
theorem final (c : Dev nD) : (dats m 0 c).arrAt 3 cfg0.N
    = (fun j => scaled (nt (V m c main_v1 : FVec Ideal S4096x2048 .bf16) (V m c main_v2 : FVec Ideal S8192x2048 .bf16) j)
      ((V m c main_v0 : FVec Ideal S4096x8192 .f32) j) : Mat 4096 8192) := by
  refine (dats m 0 c).arrAt_eq_of_covers 3 _ (by decide +kernel) fun t hf y => ?_
  blk_simp
  rw [after0_3]
  unfold out0_3
  frame_out
  rw [body_apply]
  refine congrArg₂ scaled (nt_congr _ _ _ _ y _ (fun k => ?_) fun k => ?_) ?_
  · blk_ext [iblk, index0, index3]
  · blk_ext [iblk, index1, index3]
  · blk_ext [iblk, index2, index3]

theorem u_apply (c : Dev nD) (i : S4096x8192.Idx) : (V m c main_v0 : FVec Ideal S4096x8192 .f32) i = nn (m ((c : Thread nD τ).loc main_arg0) : FVec Ideal S4096x2048 .f32) (m ((c : Thread nD τ).loc main_arg1) : FVec Ideal S2048x8192 .f32) i := by
  entry_read
  pointwise [nn]

theorem dx2_apply (c : Dev nD) (i : S4096x2048.Idx) : (V m c main_v1 : FVec Ideal S4096x2048 .bf16) i = (m ((c : Thread nD τ).loc main_arg3) : FVec Ideal S4096x2048 .f32) i := by
  entry_read
  pointwise

theorem w_down_apply (c : Dev nD) (i : S8192x2048.Idx) : (V m c main_v2 : FVec Ideal S8192x2048 .bf16) i = (m ((c : Thread nD τ).loc main_arg2) : FVec Ideal S8192x2048 .f32) i := by
  entry_read
  pointwise

/-- The result, of the arguments. -/
theorem final_args (c : Dev nD) : (dats m 0 c).arrAt 3 cfg0.N = hiddenGrad (m ((c : Thread nD τ).loc main_arg0) : FVec Ideal S4096x2048 .f32) (m ((c : Thread nD τ).loc main_arg1) : FVec Ideal S2048x8192 .f32) (m ((c : Thread nD τ).loc main_arg2) : FVec Ideal S8192x2048 .f32) (m ((c : Thread nD τ).loc main_arg3) : FVec Ideal S4096x2048 .f32) := by
  rw [final]
  funext j
  rw [← hiddenGrad_apply]
  exact congrArg₂ scaled (nt_congr _ _ _ _ j _ (fun k => dx2_apply m c _) fun k => w_down_apply m c _) (u_apply m c _)

end Cert.DownDxIdeal.Hand

namespace Cert.DownDx.Hand

open Idealize.ShloMosaic Idealize.ShloMosaic.TcCoe Idealize.SL.Sem Cert.Blocks

/-- The two texts' kernel bodies are one. -/
theorem bodies_eq : Cert.DownDx.defs₀ (F := Bits) = Cert.DownDxIdeal.defs₀ (F := Bits) := by
  refine congrArg (Defs.onTc (nD := Cert.DownDxIdeal.nD) (τ := Cert.DownDxIdeal.τ) (sig := Cert.DownDxIdeal.sig) (Λ := Cert.DownDxIdeal.Λ₀))
    (funext fun l => funext fun x => ?_)
  match l, x with
  | ⟨0, _⟩, (t, s) => rfl

theorem defs_eq : Cert.DownDx.defs (F := Bits) = Cert.DownDxIdeal.defs (F := Bits) :=
  congrArg (Pipeline.defs (Cert.DownDxIdeal.pcfgs (F := Bits))) bodies_eq

theorem frame : Cert.quiescent_DownDx (hDownDx := Cert.DownDx.Gen.facts) := fun m ρ _ => by
  rw [defs_eq]
  exact Cert.DownDxIdeal.Gen.frame (F := Bits) m ρ

theorem frameIdeal : Cert.quiescent_DownDxIdeal (hDownDxIdeal := Cert.DownDxIdeal.Gen.facts) := fun m ρ _ =>
  Cert.DownDxIdeal.Gen.frame m ρ

theorem frameReference : Cert.quiescent_DownDxReferenceIdeal (hDownDxReferenceIdeal := Cert.DownDxReferenceIdeal.Gen.facts) := fun m ρ _ =>
  (θ_run Cert.DownDxReferenceIdeal.defs _ _).mono (fun _ h => ⟨fun c => (h c).2, sem_eq_zero_of_no_sems (by decide) _⟩)
    (Cert.DownDxReferenceIdeal.Value.run m ρ)

theorem algebraic : Cert.algebraic_DownDxIdeal_DownDxReferenceIdeal (hDownDxIdeal := Cert.DownDxIdeal.Gen.facts)
    (hDownDxReferenceIdeal := Cert.DownDxReferenceIdeal.Gen.facts) := by
  intro m g m' g' _ hm
  refine ⟨_, (θ_run Cert.DownDxIdeal.defs _ _).mono (fun _ h c => ⟨(h c).1.trans (Cert.DownDxIdeal.Hand.final_args m c), (h c).2⟩) (Cert.DownDxIdeal.Value.run_blocks m g),
    (θ_run Cert.DownDxReferenceIdeal.defs _ _).mono (fun _ h c => ⟨(h c).1.trans ?_, (h c).2⟩) (Cert.DownDxReferenceIdeal.Value.run m' g')⟩
  obtain ⟨h0, h1, h2, h3⟩ := hm c
  rw [h0, h1, h2, h3]
  funext j
  pointwise [hiddenGrad, two, nn, nt]

end Cert.DownDx.Hand
-- ==== Proof.DownDw.lean ====
/-
  The gradient of the MLP's second weight, `actᵀ · dx2`: the kernel walks the 4096 tokens in two blocks, keeps the first
  block's product in its accumulator and adds the second; the reference is one product over all tokens.
-/
module

public import proofs.«01_k».proof.Defs
public import proofs.«01_k».proof.Proof.Gen.DownDw
public import proofs.«01_k».proof.Proof.Gen.DownDwIdeal.Value
public import proofs.«01_k».proof.Proof.Gen.DownDwReferenceIdeal.Run
public import proofs.«01_k».proof.Proof.Blocks

@[expose] public section

noncomputable section

namespace Cert.DownDwIdeal.Hand

open Cert.DownDwIdeal Cert.DownDwIdeal.Gen Idealize.ShloMosaic Idealize.ShloMosaic.TcCoe Idealize.SL.Sem Cert.Blocks

variable (m : (ℓ : Loc nD τ sig) → Buf (Elt Ideal) ℓ) (ρ : Dev nD → PrngReg)

theorem first_apply (x y : Vec Ideal S2048x1024 .bf16) (j : S1024x1024.Idx) : k0_pay2 x y j = tn x y j := by
  pointwise [k0_pay2, k0_pay1, tn]

theorem add_apply (x y : Vec Ideal S2048x1024 .bf16) (z : Vec Ideal S1024x1024 .f32) (j : S1024x1024.Idx) :
    k0_pay4 x y z j = z j + tn x y j := by
  pointwise [k0_pay4, k0_pay1, tn]

/-- What a block of the result holds once it is written back: the two blocks of tokens' products. -/
theorem out (c : Dev nD) (t : Fin cfg0.N) (h : t.val % 2 = 1) (j : S1024x1024.Idx) :
    (outsAt0 m c t.val t.isLt).1 j = ∑ s : Fin 2,
      tn (iblk m c 0 ⟨2 * (t.val / 2) + s.val, Pipeline.run_point_lt_of_flush t h s⟩ : Vec Ideal S2048x1024 .bf16)
        (iblk m c 1 ⟨2 * (t.val / 2) + s.val, Pipeline.run_point_lt_of_flush t h s⟩ : Vec Ideal S2048x1024 .bf16) j :=
  run_sum 2 (fun p hp => (outsAt0 m c p hp).1) (fun p hp => (outsAt0 m c p hp).2)
    (fun t => tn (iblk m c 0 t : Vec Ideal S2048x1024 .bf16) (iblk m c 1 t : Vec Ideal S2048x1024 .bf16)) (by decide)
    (fun t h0 i => by
      rw [outsAt0_A m c t h0 (by omega)]
      frame_out
      exact first_apply _ _ i)
    (fun t h0 h1 i => absurd h1 (by omega))
    (fun t h0 i => by
      rw [outsAt0_B m c t (by omega) h0]
      frame_out
      rw [(Memref.isWhole_whole cc0_scratch0).read_unread]
      exact add_apply _ _ _ i)
    t h j

theorem index0 : ∀ t : Fin cfg0.N, win0_0.index t = ![t.val % 2, t.val / 4] := (by decide +kernel : ∀ t : Fin grid0.N, _)
theorem index1 : ∀ t : Fin cfg0.N, win0_1.index t = ![t.val % 2, t.val / 2 % 2] := (by decide +kernel : ∀ t : Fin grid0.N, _)
theorem index2 : ∀ t : Fin cfg0.N, win0_2.index t = ![t.val / 4, t.val / 2 % 2] := (by decide +kernel : ∀ t : Fin grid0.N, _)

/-- The result: the product over all tokens of what the call is given. -/
theorem final (c : Dev nD) : (dats m 0 c).arrAt 2 cfg0.N
    = tn (V m c main_v3 : FVec Ideal S4096x8192 .bf16) (V m c main_v4 : FVec Ideal S4096x2048 .bf16) := by
  refine (dats m 0 c).arrAt_eq_of_covers 2 _ (by decide +kernel) fun t hf y => ?_
  have ht : t.val % 2 = 1 := (flush0_2 t).mp hf
  blk_simp
  rw [after0_2, out m c t ht y]
  exact tn_blocks (by decide) _ _ _ _ y _ (fun s k => by blk_ext [iblk, index0, index2]) (fun s k => by blk_ext [iblk, index1, index2])

/-- The activation the call is given: the rectified product's square. -/
theorem act_apply (c : Dev nD) (i : S4096x8192.Idx) : (V m c main_v3 : FVec Ideal S4096x8192 .bf16) i
    = max (nn (m ((c : Thread nD τ).loc main_arg0) : FVec Ideal S4096x2048 .f32) (m ((c : Thread nD τ).loc main_arg1) : FVec Ideal S2048x8192 .f32) i) 0
      * max (nn (m ((c : Thread nD τ).loc main_arg0) : FVec Ideal S4096x2048 .f32) (m ((c : Thread nD τ).loc main_arg1) : FVec Ideal S2048x8192 .f32) i) 0 := by
  simp only [V, hostOps0, hostOps0_1, hostOps0_2, List.flatten_cons, List.flatten_nil, List.append_nil, List.cons_append,
    List.nil_append, StableHlo.TRef.binary, StableHlo.TRef.nullary, StableHlo.TRef.unary, StableHlo.TRef.toBuf, StableHlo.TRef.ofBuf, cast_eq]
  entry_read
  pointwise [nn]

theorem dx2_apply (c : Dev nD) (i : S4096x2048.Idx) : (V m c main_v4 : FVec Ideal S4096x2048 .bf16) i
    = (m ((c : Thread nD τ).loc main_arg2) : FVec Ideal S4096x2048 .f32) i := by
  simp only [V, hostOps0, hostOps0_1, hostOps0_2, List.flatten_cons, List.flatten_nil, List.append_nil, List.cons_append,
    List.nil_append, StableHlo.TRef.binary, StableHlo.TRef.nullary, StableHlo.TRef.unary, StableHlo.TRef.toBuf, StableHlo.TRef.ofBuf, cast_eq]
  entry_read
  pointwise

end Cert.DownDwIdeal.Hand

namespace Cert.DownDw.Hand

open Idealize.ShloMosaic Idealize.ShloMosaic.TcCoe Idealize.SL.Sem Cert.Blocks

/-- The two texts' kernel bodies are one. -/
theorem bodies_eq : Cert.DownDw.defs₀ (F := Bits) = Cert.DownDwIdeal.defs₀ (F := Bits) := by
  refine congrArg (Defs.onTc (nD := Cert.DownDwIdeal.nD) (τ := Cert.DownDwIdeal.τ) (sig := Cert.DownDwIdeal.sig) (Λ := Cert.DownDwIdeal.Λ₀))
    (funext fun l => funext fun x => ?_)
  match l, x with
  | ⟨0, _⟩, (t, s) => rfl

theorem defs_eq : Cert.DownDw.defs (F := Bits) = Cert.DownDwIdeal.defs (F := Bits) :=
  congrArg (Pipeline.defs (Cert.DownDwIdeal.pcfgs (F := Bits))) bodies_eq

theorem frame : Cert.quiescent_DownDw (hDownDw := Cert.DownDw.Gen.facts) := fun m ρ _ => by
  rw [defs_eq]
  exact Cert.DownDwIdeal.Gen.frame (F := Bits) m ρ

theorem frameIdeal : Cert.quiescent_DownDwIdeal (hDownDwIdeal := Cert.DownDwIdeal.Gen.facts) := fun m ρ _ =>
  Cert.DownDwIdeal.Gen.frame m ρ

theorem frameReference : Cert.quiescent_DownDwReferenceIdeal (hDownDwReferenceIdeal := Cert.DownDwReferenceIdeal.Gen.facts) := fun m ρ _ =>
  (θ_run Cert.DownDwReferenceIdeal.defs _ _).mono (fun _ h => ⟨fun c => (h c).2, sem_eq_zero_of_no_sems (by decide) _⟩)
    (Cert.DownDwReferenceIdeal.Value.run m ρ)

theorem algebraic : Cert.algebraic_DownDwIdeal_DownDwReferenceIdeal (hDownDwIdeal := Cert.DownDwIdeal.Gen.facts)
    (hDownDwReferenceIdeal := Cert.DownDwReferenceIdeal.Gen.facts) := by
  intro m g m' g' _ hm
  refine ⟨_, (θ_run Cert.DownDwIdeal.defs _ _).mono (fun _ h c => ⟨(h c).1.trans (Cert.DownDwIdeal.Hand.final m c), (h c).2⟩) (Cert.DownDwIdeal.Value.run_blocks m g),
    (θ_run Cert.DownDwReferenceIdeal.defs _ _).mono (fun _ h c => ⟨(h c).1.trans ?_, (h c).2⟩) (Cert.DownDwReferenceIdeal.Value.run m' g')⟩
  obtain ⟨h0, h1, h2⟩ := hm c
  rw [h0, h1, h2]
  funext j
  pointwise [tn]
  exact Finset.sum_congr rfl fun k _ => mul_swap (Cert.DownDwIdeal.Hand.act_apply m c (ix2 k (j 0))) (Cert.DownDwIdeal.Hand.dx2_apply m c (ix2 k (j 1)))

end Cert.DownDw.Hand
-- ==== Proof.UpDw.lean ====
/-
  The gradient of the MLP's first weight, `h2ᵀ · du`, laid out in the weight's four slots: the kernel walks the 4096 tokens
  in two blocks and writes each block of the product into the slot its columns lie in; the reference splits the whole
  product and stacks the parts.
-/
module

public import proofs.«01_k».proof.Defs
public import proofs.«01_k».proof.Proof.Gen.UpDw
public import proofs.«01_k».proof.Proof.Gen.UpDwIdeal.Value
public import proofs.«01_k».proof.Proof.Gen.UpDwReferenceIdeal.Run
public import proofs.«01_k».proof.Proof.Blocks

@[expose] public section

noncomputable section

namespace Cert.UpDwIdeal.Hand

open Cert.UpDwIdeal Cert.UpDwIdeal.Gen Idealize.ShloMosaic Idealize.ShloMosaic.TcCoe Idealize.SL.Sem Cert.Blocks

variable (m : (ℓ : Loc nD τ sig) → Buf (Elt Ideal) ℓ) (ρ : Dev nD → PrngReg)

/-- A place of a block by its row and column. -/
abbrev place (i : S1024x1024.Idx) : S1x1024x1024.Idx := ix3 0 (i 0) (i 1)

theorem first_apply (x y : Vec Ideal S2048x1024 .bf16) (j : S1024x1024.Idx) : k0_pay2 x y j = tn x y j := by
  pointwise [k0_pay2, k0_pay1, tn]

theorem add_apply (x y : Vec Ideal S2048x1024 .bf16) (z : Vec Ideal S1024x1024 .f32) (j : S1024x1024.Idx) :
    k0_pay4 x y z (place j) = z j + tn x y j := by
  pointwise [k0_pay4, k0_pay1, tn, place]

/-- What a block of the result holds once it is written back: the two blocks of tokens' products. -/
theorem out (c : Dev nD) (t : Fin cfg0.N) (h : t.val % 2 = 1) (j : S1024x1024.Idx) :
    (outsAt0 m c t.val t.isLt).1 (place j) = ∑ s : Fin 2,
      tn (iblk m c 0 ⟨2 * (t.val / 2) + s.val, Pipeline.run_point_lt_of_flush t h s⟩ : Vec Ideal S2048x1024 .bf16)
        (iblk m c 1 ⟨2 * (t.val / 2) + s.val, Pipeline.run_point_lt_of_flush t h s⟩ : Vec Ideal S2048x1024 .bf16) j :=
  run_sum 2 (fun p hp j => (outsAt0 m c p hp).1 (place j)) (fun p hp => (outsAt0 m c p hp).2)
    (fun t => tn (iblk m c 0 t : Vec Ideal S2048x1024 .bf16) (iblk m c 1 t : Vec Ideal S2048x1024 .bf16)) (by decide)
    (fun t h0 i => by
      rw [outsAt0_A m c t h0 (by omega)]
      frame_out
      exact first_apply _ _ i)
    (fun t h0 h1 i => absurd h1 (by omega))
    (fun t h0 i => by
      rw [outsAt0_B m c t (by omega) h0]
      frame_out
      rw [(Memref.isWhole_whole cc0_scratch0).read_unread]
      exact add_apply _ _ _ i)
    t h j

theorem index0 : ∀ t : Fin cfg0.N, win0_0.index t = ![t.val % 2, t.val / 16] := (by decide +kernel : ∀ t : Fin grid0.N, _)
theorem index1 : ∀ t : Fin cfg0.N, win0_1.index t = ![t.val % 2, t.val / 2 % 8] := (by decide +kernel : ∀ t : Fin grid0.N, _)
theorem index2 : ∀ t : Fin cfg0.N, win0_2.index t = ![t.val / 4 % 4, t.val / 16, t.val / 2 % 2] := (by decide +kernel : ∀ t : Fin grid0.N, _)

/-- A place of the slots as one of the product laid out side by side. -/
def wide (i : S4x2048x2048.Idx) : (⟨2, ![2048, 8192]⟩ : Shape).Idx :=
  ix2 (i 1) ⟨(i 0).val * 2048 + (i 2).val, place_lt (K := 8192) (S := 4) (K' := 2048) rfl (i 0) (i 2)⟩

theorem row_read (c : Dev nD) (t : Fin cfg0.N) (k : Fin 2048) (r : Fin 1024) (p : Fin 4096) (n : Fin 2048)
    (hp : p.val = t.val % 2 * 2048 + k.val) (hn : n.val = t.val / 16 * 1024 + r.val) :
    (iblk m c 0 t : Vec Ideal S2048x1024 .bf16) (ix2 k r) = (V m c main_v14 : FVec Ideal S4096x2048 .bf16) (ix2 p n) := by
  blk_ext [iblk, index0]

theorem col_read (c : Dev nD) (t : Fin cfg0.N) (k : Fin 2048) (r : Fin 1024) (p : Fin 4096) (n : Fin 8192)
    (hp : p.val = t.val % 2 * 2048 + k.val) (hn : n.val = t.val / 2 % 8 * 1024 + r.val) :
    (iblk m c 1 t : Vec Ideal S2048x1024 .bf16) (ix2 k r) = (V m c main_v13 : FVec Ideal S4096x8192 .bf16) (ix2 p n) := by
  blk_ext [iblk, index1]

theorem emb0 (t : Fin cfg0.N) (y : S1x1024x1024.Idx) : ((win0_2.blk t).view.emb y 0).val = t.val / 4 % 4 := by
  blk_simp [index2]
theorem emb1 (t : Fin cfg0.N) (y : S1x1024x1024.Idx) : ((win0_2.blk t).view.emb y 1).val = t.val / 16 * 1024 + (y 1).val := by
  blk_simp [index2]
theorem emb2 (t : Fin cfg0.N) (y : S1x1024x1024.Idx) : ((win0_2.blk t).view.emb y 2).val = t.val / 2 % 2 * 1024 + (y 2).val := by
  blk_simp [index2]

/-- The result: the product over all tokens of what the call is given. -/
theorem final (c : Dev nD) : (dats m 0 c).arrAt 2 cfg0.N
    = fun i : S4x2048x2048.Idx => tn (V m c main_v14 : FVec Ideal S4096x2048 .bf16) (V m c main_v13 : FVec Ideal S4096x8192 .bf16) (wide i) := by
  refine (dats m 0 c).arrAt_eq_of_covers 2 _ (by decide +kernel) fun t hf y => ?_
  have ht : t.val % 2 = 1 := (flush0_2 t).mp hf
  have hy : y = place (ix2 (n0 := 1024) (n1 := 1024) (y 1) (y 2)) :=
    (eq_ix3 (n0 := 1) (n1 := 1024) (n2 := 1024) y).trans (congrArg (fun a => ix3 a _ _) (Fin.fin_one_eq_zero _))
  have e0 := emb0 t y
  have e1 := emb1 t y
  have e2 := emb2 t y
  blk_simp
  rw [after0_2]
  refine (congrArg _ hy).trans ((out m c t ht _).trans ?_)
  generalize (win0_2.blk t).view.emb y = z at e0 e1 e2 ⊢
  refine tn_blocks (by decide) _ _ _ _ _ _ (fun s k => ?_) (fun s k => ?_)
  · have := s.isLt
    refine row_read m c _ k (y 1) _ _ ?_ ?_
    · dsimp only; omega
    · refine Eq.trans e1 ?_
      dsimp only; omega
  · have := s.isLt
    refine col_read m c _ k (y 2) _ _ ?_ ?_
    · dsimp only; omega
    · refine Eq.trans (congrArg₂ (fun a b => a * 2048 + b) e0 e2) ?_
      dsimp only; omega

theorem hidden_entry (c : Dev nD) (i : S4096x8192.Idx) : (V m c main_v13 : FVec Ideal S4096x8192 .bf16) i
    = hiddenGrad (m ((c : Thread nD τ).loc main_arg0) : FVec Ideal S4096x2048 .f32) (m ((c : Thread nD τ).loc main_arg1) : FVec Ideal S2048x8192 .f32) (m ((c : Thread nD τ).loc main_arg2) : FVec Ideal S8192x2048 .f32) (m ((c : Thread nD τ).loc main_arg3) : FVec Ideal S4096x2048 .f32) i := by
  simp only [V, hostOps0, hostOps0_1, hostOps0_2, List.flatten_cons, List.flatten_nil, List.append_nil, List.cons_append,
    List.nil_append, StableHlo.TRef.binary, StableHlo.TRef.nullary, StableHlo.TRef.unary, StableHlo.TRef.toBuf, StableHlo.TRef.ofBuf, cast_eq]
  entry_read
  pointwise [hiddenGrad, two, nn, nt]

theorem h2_apply (c : Dev nD) (i : S4096x2048.Idx) : (V m c main_v14 : FVec Ideal S4096x2048 .bf16) i = (m ((c : Thread nD τ).loc main_arg0) : FVec Ideal S4096x2048 .f32) i := by
  simp only [V, hostOps0, hostOps0_1, hostOps0_2, List.flatten_cons, List.flatten_nil, List.append_nil, List.cons_append,
    List.nil_append, StableHlo.TRef.binary, StableHlo.TRef.nullary, StableHlo.TRef.unary, StableHlo.TRef.toBuf, StableHlo.TRef.ofBuf, cast_eq]
  entry_read
  pointwise

/-- The result, of the arguments. -/
theorem final_args (c : Dev nD) : (dats m 0 c).arrAt 2 cfg0.N = fun i : S4x2048x2048.Idx => tn (m ((c : Thread nD τ).loc main_arg0) : FVec Ideal S4096x2048 .f32) (hiddenGrad (m ((c : Thread nD τ).loc main_arg0) : FVec Ideal S4096x2048 .f32) (m ((c : Thread nD τ).loc main_arg1) : FVec Ideal S2048x8192 .f32) (m ((c : Thread nD τ).loc main_arg2) : FVec Ideal S8192x2048 .f32) (m ((c : Thread nD τ).loc main_arg3) : FVec Ideal S4096x2048 .f32)) (wide i) := by
  rw [final]
  funext i
  exact Finset.sum_congr rfl fun k _ => congrArg₂ (fun a b : EReal => a * b) (h2_apply m c _) (hidden_entry m c _)

end Cert.UpDwIdeal.Hand

namespace Cert.UpDwReferenceIdeal.Hand

open Cert.UpDwReferenceIdeal Cert.UpDwReferenceIdeal.Facts Cert.UpDwReferenceIdeal.Gen Idealize.ShloMosaic Cert.Blocks

/-- Four parts of the columns, stacked: at a place, the product laid out side by side. -/
theorem stack_apply (g : FVec Ideal S2048x8192 .f32) (i : S4x2048x2048.Idx) :
    (concatenate S4x2048x2048 0 [⟨S1x2048x2048, (broadcastInDim S1x2048x2048 ![1, 2] bcast_S2048x2048_S1x2048x2048_1_2 (extractStridedSlice S2048x2048 ![0, 0] g slices_S2048x8192_S2048x2048_0_0) : FVec Ideal S1x2048x2048 .f32)⟩, ⟨S1x2048x2048, (broadcastInDim S1x2048x2048 ![1, 2] bcast_S2048x2048_S1x2048x2048_1_2 (extractStridedSlice S2048x2048 ![0, 2048] g slices_S2048x8192_S2048x2048_0_2048) : FVec Ideal S1x2048x2048 .f32)⟩, ⟨S1x2048x2048, (broadcastInDim S1x2048x2048 ![1, 2] bcast_S2048x2048_S1x2048x2048_1_2 (extractStridedSlice S2048x2048 ![0, 4096] g slices_S2048x8192_S2048x2048_0_4096) : FVec Ideal S1x2048x2048 .f32)⟩, ⟨S1x2048x2048, (broadcastInDim S1x2048x2048 ![1, 2] bcast_S2048x2048_S1x2048x2048_1_2 (extractStridedSlice S2048x2048 ![0, 6144] g slices_S2048x8192_S2048x2048_0_6144) : FVec Ideal S1x2048x2048 .f32)⟩]
      concatenates_S1x2048x2048_S1x2048x2048_S1x2048x2048_S1x2048x2048_S4x2048x2048_d0 : FVec Ideal S4x2048x2048 .f32) i
    = g (Cert.UpDwIdeal.Hand.wide i) := by
  pointwise [Cert.UpDwIdeal.Hand.wide]
  have h4 : (i 0).val < 4 := (i 0).isLt
  split_ifs with h0 h1 h2 <;> exact congrArg g (congrArg (ix2 _) (Fin.ext (by dsimp only; omega)))

end Cert.UpDwReferenceIdeal.Hand

namespace Cert.UpDw.Hand

open Idealize.ShloMosaic Idealize.ShloMosaic.TcCoe Idealize.SL.Sem Cert.Blocks

/-- The two texts' kernel bodies are one. -/
theorem bodies_eq : Cert.UpDw.defs₀ (F := Bits) = Cert.UpDwIdeal.defs₀ (F := Bits) := by
  refine congrArg (Defs.onTc (nD := Cert.UpDwIdeal.nD) (τ := Cert.UpDwIdeal.τ) (sig := Cert.UpDwIdeal.sig) (Λ := Cert.UpDwIdeal.Λ₀))
    (funext fun l => funext fun x => ?_)
  match l, x with
  | ⟨0, _⟩, (t, s) => rfl

theorem defs_eq : Cert.UpDw.defs (F := Bits) = Cert.UpDwIdeal.defs (F := Bits) :=
  congrArg (Pipeline.defs (Cert.UpDwIdeal.pcfgs (F := Bits))) bodies_eq

theorem frame : Cert.quiescent_UpDw (hUpDw := Cert.UpDw.Gen.facts) := fun m ρ _ => by
  rw [defs_eq]
  exact Cert.UpDwIdeal.Gen.frame (F := Bits) m ρ

theorem frameIdeal : Cert.quiescent_UpDwIdeal (hUpDwIdeal := Cert.UpDwIdeal.Gen.facts) := fun m ρ _ =>
  Cert.UpDwIdeal.Gen.frame m ρ

theorem frameReference : Cert.quiescent_UpDwReferenceIdeal (hUpDwReferenceIdeal := Cert.UpDwReferenceIdeal.Gen.facts) := fun m ρ _ =>
  (θ_run Cert.UpDwReferenceIdeal.defs _ _).mono (fun _ h => ⟨fun c => (h c).2, sem_eq_zero_of_no_sems (by decide) _⟩)
    (Cert.UpDwReferenceIdeal.Value.run m ρ)

theorem algebraic : Cert.algebraic_UpDwIdeal_UpDwReferenceIdeal (hUpDwIdeal := Cert.UpDwIdeal.Gen.facts)
    (hUpDwReferenceIdeal := Cert.UpDwReferenceIdeal.Gen.facts) := by
  intro m g m' g' _ hm
  refine ⟨_, (θ_run Cert.UpDwIdeal.defs _ _).mono (fun _ h c => ⟨(h c).1.trans (Cert.UpDwIdeal.Hand.final_args m c), (h c).2⟩) (Cert.UpDwIdeal.Value.run_blocks m g),
    (θ_run Cert.UpDwReferenceIdeal.defs _ _).mono (fun _ h c => ⟨(h c).1.trans ?_, (h c).2⟩) (Cert.UpDwReferenceIdeal.Value.run m' g')⟩
  obtain ⟨h0, h1, h2, h3⟩ := hm c
  unfold Cert.UpDwReferenceIdeal.Value.res_main_v23
  rw [h0, h1, h2, h3]
  funext i
  refine (Cert.UpDwReferenceIdeal.Hand.stack_apply _ i).trans ?_
  pointwise [hiddenGrad, two, nn, nt, tn]
  exact Finset.sum_congr rfl fun k _ => mul_comm (G := EReal) _ _

end Cert.UpDw.Hand
-- ==== Proof.UpDx.lean ====
/-
  The gradient through the MLP's first weight, `du · w_upᵀ`: the kernel walks the 8192 hidden units in four stretches, one
  of the weight's slots each, and adds their products up in its accumulator; the reference is one product.
-/
module

public import proofs.«01_k».proof.Defs
public import proofs.«01_k».proof.Proof.Gen.UpDx
public import proofs.«01_k».proof.Proof.Gen.UpDxIdeal.Value
public import proofs.«01_k».proof.Proof.Gen.UpDxReferenceIdeal.Run
public import proofs.«01_k».proof.Proof.Blocks

@[expose] public section

noncomputable section

namespace Cert.UpDxIdeal.Hand

open Cert.UpDxIdeal Cert.UpDxIdeal.Gen Idealize.ShloMosaic Idealize.ShloMosaic.TcCoe Idealize.SL.Sem Cert.Blocks

variable (m : (ℓ : Loc nD τ sig) → Buf (Elt Ideal) ℓ) (ρ : Dev nD → PrngReg)

/-- A slot of the weight as a matrix. -/
abbrev slot (y : Vec Ideal S1x1024x2048 .bf16) : Mat 1024 2048 := fun i => y (ix3 0 (i 0) (i 1))

theorem first_apply (x : Vec Ideal S1024x2048 .bf16) (y : Vec Ideal S1x1024x2048 .bf16) (j : S1024x1024.Idx) : k0_pay2 x y j = nt x (slot y) j := by
  pointwise [k0_pay2, k0_pay1, nt, slot]

theorem middle_apply (x : Vec Ideal S1024x2048 .bf16) (y : Vec Ideal S1x1024x2048 .bf16) (z : Vec Ideal S1024x1024 .f32) (j : S1024x1024.Idx) :
    k0_pay3 x y z j = z j + nt x (slot y) j := by
  pointwise [k0_pay3, k0_pay1, nt, slot]

theorem last_apply (x : Vec Ideal S1024x2048 .bf16) (y : Vec Ideal S1x1024x2048 .bf16) (z : Vec Ideal S1024x1024 .f32) (j : S1024x1024.Idx) :
    k0_pay4 x y z j = z j + nt x (slot y) j := by
  pointwise [k0_pay4, k0_pay1, nt, slot]

/-- What a block of the result holds once it is written back: the four stretches' products. -/
theorem out (c : Dev nD) (t : Fin cfg0.N) (h : t.val % 4 = 3) (j : S1024x1024.Idx) :
    (outsAt0 m c t.val t.isLt).1 j = ∑ s : Fin 4,
      nt (iblk m c 0 ⟨4 * (t.val / 4) + s.val, Pipeline.run_point_lt_of_flush t h s⟩ : Vec Ideal S1024x2048 .bf16)
        (slot (iblk m c 1 ⟨4 * (t.val / 4) + s.val, Pipeline.run_point_lt_of_flush t h s⟩ : Vec Ideal S1x1024x2048 .bf16)) j :=
  run_sum 4 (fun p hp => (outsAt0 m c p hp).1) (fun p hp => (outsAt0 m c p hp).2)
    (fun t => nt (iblk m c 0 t : Vec Ideal S1024x2048 .bf16) (slot (iblk m c 1 t : Vec Ideal S1x1024x2048 .bf16))) (by decide)
    (fun t h0 i => by
      rw [outsAt0_A m c t h0 (by omega) (by omega)]
      frame_out
      exact first_apply _ _ i)
    (fun t h0 h1 i => by
      rw [outsAt0_B m c t h0 (by omega) h1]
      frame_out
      rw [(Memref.isWhole_whole cc0_scratch0).read_unread]
      exact middle_apply _ _ _ i)
    (fun t h0 i => by
      rw [outsAt0_C m c t (by omega) (by omega) h0]
      frame_out
      rw [(Memref.isWhole_whole cc0_scratch0).read_unread]
      exact last_apply _ _ _ i)
    t h j

theorem index0 : ∀ t : Fin cfg0.N, win0_0.index t = ![t.val / 8, t.val % 4] := (by decide +kernel : ∀ t : Fin grid0.N, _)
theorem index1 : ∀ t : Fin cfg0.N, win0_1.index t = ![t.val % 4, t.val / 4 % 2, 0] := (by decide +kernel : ∀ t : Fin grid0.N, _)
theorem index2 : ∀ t : Fin cfg0.N, win0_2.index t = ![t.val / 8, t.val / 4 % 2] := (by decide +kernel : ∀ t : Fin grid0.N, _)

/-- The weight's slots the call is given. -/
theorem w_up_apply (c : Dev nD) (s : Fin 4) (n k : Fin 2048) : (V m c main_v16 : FVec Ideal S4x2048x2048 .bf16) (ix3 s n k)
    = (m ((c : Thread nD τ).loc main_arg1) : FVec Ideal S2048x8192 .f32) (ix2 n ⟨s.val * 2048 + k.val, place_lt rfl s k⟩) := by
  simp only [V, hostOps0, hostOps0_1, hostOps0_2, List.flatten_cons, List.flatten_nil, List.append_nil, List.cons_append,
    List.nil_append, StableHlo.TRef.binary, StableHlo.TRef.nullary, StableHlo.TRef.unary, StableHlo.TRef.toBuf, StableHlo.TRef.ofBuf, cast_eq]
  entry_read
  pointwise

/-- The slots side by side. -/
def wide (c : Dev nD) : Mat 2048 8192 := fun i =>
  (V m c main_v16 : FVec Ideal S4x2048x2048 .bf16) (ix3 ⟨(i 1).val / 2048, by have : (i 1).val < 8192 := (i 1).isLt; omega⟩ (i 0) ⟨(i 1).val % 2048, by omega⟩)

/-- The result: the product over all hidden units of what the call is given. -/
theorem final (c : Dev nD) : (dats m 0 c).arrAt 2 cfg0.N = nt (V m c main_v13 : FVec Ideal S4096x8192 .bf16) (wide m c) := by
  refine (dats m 0 c).arrAt_eq_of_covers 2 _ (by decide +kernel) fun t hf y => ?_
  have ht : t.val % 4 = 3 := (flush0_2 t).mp hf
  blk_simp
  rw [after0_2, out m c t ht y]
  refine nt_blocks (by decide) _ _ _ _ y _ (fun s k => ?_) (fun s k => ?_)
  · blk_ext [iblk, index0, index2]
  · unfold slot wide
    blk_ext [iblk, index1, index2]

theorem hidden_entry (c : Dev nD) (i : S4096x8192.Idx) : (V m c main_v13 : FVec Ideal S4096x8192 .bf16) i
    = hiddenGrad (m ((c : Thread nD τ).loc main_arg0) : FVec Ideal S4096x2048 .f32) (m ((c : Thread nD τ).loc main_arg1) : FVec Ideal S2048x8192 .f32) (m ((c : Thread nD τ).loc main_arg2) : FVec Ideal S8192x2048 .f32) (m ((c : Thread nD τ).loc main_arg3) : FVec Ideal S4096x2048 .f32) i := by
  simp only [V, hostOps0, hostOps0_1, hostOps0_2, List.flatten_cons, List.flatten_nil, List.append_nil, List.cons_append,
    List.nil_append, StableHlo.TRef.binary, StableHlo.TRef.nullary, StableHlo.TRef.unary, StableHlo.TRef.toBuf, StableHlo.TRef.ofBuf, cast_eq]
  entry_read
  pointwise [hiddenGrad, two, nn, nt]

/-- The result, of the arguments. -/
theorem final_args (c : Dev nD) : (dats m 0 c).arrAt 2 cfg0.N = nt (hiddenGrad (m ((c : Thread nD τ).loc main_arg0) : FVec Ideal S4096x2048 .f32) (m ((c : Thread nD τ).loc main_arg1) : FVec Ideal S2048x8192 .f32) (m ((c : Thread nD τ).loc main_arg2) : FVec Ideal S8192x2048 .f32) (m ((c : Thread nD τ).loc main_arg3) : FVec Ideal S4096x2048 .f32)) (m ((c : Thread nD τ).loc main_arg1) : FVec Ideal S2048x8192 .f32) := by
  rw [final]
  funext j
  refine nt_congr _ _ _ _ j _ (fun k => hidden_entry m c _) fun k => ?_
  unfold wide
  refine (w_up_apply m c _ _ _).trans ?_
  exact congrArg _ (congrArg (ix2 _) (Fin.ext (Nat.div_add_mod' _ _)))

end Cert.UpDxIdeal.Hand

namespace Cert.UpDx.Hand

open Idealize.ShloMosaic Idealize.ShloMosaic.TcCoe Idealize.SL.Sem Cert.Blocks

/-- The two texts' kernel bodies are one. -/
theorem bodies_eq : Cert.UpDx.defs₀ (F := Bits) = Cert.UpDxIdeal.defs₀ (F := Bits) := by
  refine congrArg (Defs.onTc (nD := Cert.UpDxIdeal.nD) (τ := Cert.UpDxIdeal.τ) (sig := Cert.UpDxIdeal.sig) (Λ := Cert.UpDxIdeal.Λ₀))
    (funext fun l => funext fun x => ?_)
  match l, x with
  | ⟨0, _⟩, (t, s) => rfl

theorem defs_eq : Cert.UpDx.defs (F := Bits) = Cert.UpDxIdeal.defs (F := Bits) :=
  congrArg (Pipeline.defs (Cert.UpDxIdeal.pcfgs (F := Bits))) bodies_eq

theorem frame : Cert.quiescent_UpDx (hUpDx := Cert.UpDx.Gen.facts) := fun m ρ _ => by
  rw [defs_eq]
  exact Cert.UpDxIdeal.Gen.frame (F := Bits) m ρ

theorem frameIdeal : Cert.quiescent_UpDxIdeal (hUpDxIdeal := Cert.UpDxIdeal.Gen.facts) := fun m ρ _ =>
  Cert.UpDxIdeal.Gen.frame m ρ

theorem frameReference : Cert.quiescent_UpDxReferenceIdeal (hUpDxReferenceIdeal := Cert.UpDxReferenceIdeal.Gen.facts) := fun m ρ _ =>
  (θ_run Cert.UpDxReferenceIdeal.defs _ _).mono (fun _ h => ⟨fun c => (h c).2, sem_eq_zero_of_no_sems (by decide) _⟩)
    (Cert.UpDxReferenceIdeal.Value.run m ρ)

theorem algebraic : Cert.algebraic_UpDxIdeal_UpDxReferenceIdeal (hUpDxIdeal := Cert.UpDxIdeal.Gen.facts)
    (hUpDxReferenceIdeal := Cert.UpDxReferenceIdeal.Gen.facts) := by
  intro m g m' g' _ hm
  refine ⟨_, (θ_run Cert.UpDxIdeal.defs _ _).mono (fun _ h c => ⟨(h c).1.trans (Cert.UpDxIdeal.Hand.final_args m c), (h c).2⟩) (Cert.UpDxIdeal.Value.run_blocks m g),
    (θ_run Cert.UpDxReferenceIdeal.defs _ _).mono (fun _ h c => ⟨(h c).1.trans ?_, (h c).2⟩) (Cert.UpDxReferenceIdeal.Value.run m' g')⟩
  obtain ⟨h0, h1, h2, h3⟩ := hm c
  rw [h0, h1, h2, h3]
  funext j
  pointwise [hiddenGrad, two, nn, nt]

end Cert.UpDx.Hand
-- ==== Proof.InDx.lean ====
/-
  The gradient through the input projection, `dz · w_inᵀ`: the kernel walks the 18432 columns in nine stretches and adds
  their products up in its accumulator; the reference is one product.
-/
module

public import proofs.«01_k».proof.Defs
public import proofs.«01_k».proof.Proof.Gen.InDx
public import proofs.«01_k».proof.Proof.Gen.InDxIdeal.Value
public import proofs.«01_k».proof.Proof.Gen.InDxReferenceIdeal.Run
public import proofs.«01_k».proof.Proof.Blocks

@[expose] public section

noncomputable section

namespace Cert.InDxIdeal.Hand

open Cert.InDxIdeal Cert.InDxIdeal.Gen Idealize.ShloMosaic Idealize.ShloMosaic.TcCoe Idealize.SL.Sem Cert.Blocks

variable (m : (ℓ : Loc nD τ sig) → Buf (Elt Ideal) ℓ) (ρ : Dev nD → PrngReg)

theorem first_apply (x : Vec Ideal S1024x2048 .bf16) (y : Vec Ideal S2048x1024 .bf16) (j : S1024x1024.Idx) : k0_pay2 x y j = nn x y j := by
  pointwise [k0_pay2, k0_pay1, nn]

theorem middle_apply (x : Vec Ideal S1024x2048 .bf16) (y : Vec Ideal S2048x1024 .bf16) (z : Vec Ideal S1024x1024 .f32) (j : S1024x1024.Idx) :
    k0_pay3 x y z j = z j + nn x y j := by
  pointwise [k0_pay3, k0_pay1, nn]

theorem last_apply (x : Vec Ideal S1024x2048 .bf16) (y : Vec Ideal S2048x1024 .bf16) (z : Vec Ideal S1024x1024 .f32) (j : S1024x1024.Idx) :
    k0_pay4 x y z j = z j + nn x y j := by
  pointwise [k0_pay4, k0_pay1, nn]

/-- What a block of the result holds once it is written back: the stretches' products. -/
theorem out (c : Dev nD) (t : Fin cfg0.N) (h : t.val % 9 = 8) (j : S1024x1024.Idx) :
    (outsAt0 m c t.val t.isLt).1 j = ∑ s : Fin 9,
      nn (iblk m c 0 ⟨9 * (t.val / 9) + s.val, Pipeline.run_point_lt_of_flush t h s⟩ : Vec Ideal S1024x2048 .bf16)
        (iblk m c 1 ⟨9 * (t.val / 9) + s.val, Pipeline.run_point_lt_of_flush t h s⟩ : Vec Ideal S2048x1024 .bf16) j :=
  run_sum 9 (fun p hp => (outsAt0 m c p hp).1) (fun p hp => (outsAt0 m c p hp).2)
    (fun t => nn (iblk m c 0 t : Vec Ideal S1024x2048 .bf16) (iblk m c 1 t : Vec Ideal S2048x1024 .bf16)) (by decide)
    (fun t h0 i => by
      rw [outsAt0_A m c t h0 (by omega) (by omega)]
      frame_out
      exact first_apply _ _ i)
    (fun t h0 h1 i => by
      rw [outsAt0_B m c t h0 (by omega) (by omega)]
      frame_out
      rw [(Memref.isWhole_whole cc0_scratch0).read_unread]
      exact middle_apply _ _ _ i)
    (fun t h0 i => by
      rw [outsAt0_C m c t (by omega) (by omega) h0]
      frame_out
      rw [(Memref.isWhole_whole cc0_scratch0).read_unread]
      exact last_apply _ _ _ i)
    t h j

theorem index0 : ∀ t : Fin cfg0.N, win0_0.index t = ![t.val / 18, t.val % 9] := (by decide +kernel : ∀ t : Fin grid0.N, _)
theorem index1 : ∀ t : Fin cfg0.N, win0_1.index t = ![t.val % 9, t.val / 9 % 2] := (by decide +kernel : ∀ t : Fin grid0.N, _)
theorem index2 : ∀ t : Fin cfg0.N, win0_2.index t = ![t.val / 18, t.val / 9 % 2] := (by decide +kernel : ∀ t : Fin grid0.N, _)

/-- The result: the whole product of what the call is given. -/
theorem final (c : Dev nD) : (dats m 0 c).arrAt 2 cfg0.N = nn (V m c main_v2 : FVec Ideal S4096x18432 .bf16) (V m c main_v1 : FVec Ideal S18432x2048 .bf16) := by
  refine (dats m 0 c).arrAt_eq_of_covers 2 _ (by decide +kernel) fun t hf y => ?_
  have ht : t.val % 9 = 8 := (flush0_2 t).mp hf
  blk_simp
  rw [after0_2, out m c t ht y]
  exact nn_blocks (by decide) _ _ _ _ y _ (fun s k => by blk_ext [iblk, index0, index2]) (fun s k => by blk_ext [iblk, index1, index2])

theorem dz_apply (c : Dev nD) (i : S4096x18432.Idx) : (V m c main_v2 : FVec Ideal S4096x18432 .bf16) i
    = (m ((c : Thread nD τ).loc main_arg2) : FVec Ideal S4096x18432 .f32) i := by
  entry_read
  pointwise

theorem w_in_apply (c : Dev nD) (i : S18432x2048.Idx) : (V m c main_v1 : FVec Ideal S18432x2048 .bf16) i
    = (m ((c : Thread nD τ).loc main_arg1) : FVec Ideal S2048x18432 .f32) (ix2 (i 1) (i 0)) := by
  entry_read
  pointwise

/-- The result, of the arguments. -/
theorem final_args (c : Dev nD) : (dats m 0 c).arrAt 2 cfg0.N = nt (m ((c : Thread nD τ).loc main_arg2) : FVec Ideal S4096x18432 .f32) (m ((c : Thread nD τ).loc main_arg1) : FVec Ideal S2048x18432 .f32) := by
  rw [final]
  funext j
  exact Finset.sum_congr rfl fun k _ => congrArg₂ (fun a b : EReal => a * b) (dz_apply m c _) (w_in_apply m c _)

end Cert.InDxIdeal.Hand

namespace Cert.InDx.Hand

open Idealize.ShloMosaic Idealize.ShloMosaic.TcCoe Idealize.SL.Sem Cert.Blocks

/-- The two texts' kernel bodies are one. -/
theorem bodies_eq : Cert.InDx.defs₀ (F := Bits) = Cert.InDxIdeal.defs₀ (F := Bits) := by
  refine congrArg (Defs.onTc (nD := Cert.InDxIdeal.nD) (τ := Cert.InDxIdeal.τ) (sig := Cert.InDxIdeal.sig) (Λ := Cert.InDxIdeal.Λ₀))
    (funext fun l => funext fun x => ?_)
  match l, x with
  | ⟨0, _⟩, (t, s) => rfl

theorem defs_eq : Cert.InDx.defs (F := Bits) = Cert.InDxIdeal.defs (F := Bits) :=
  congrArg (Pipeline.defs (Cert.InDxIdeal.pcfgs (F := Bits))) bodies_eq

theorem frame : Cert.quiescent_InDx (hInDx := Cert.InDx.Gen.facts) := fun m ρ _ => by
  rw [defs_eq]
  exact Cert.InDxIdeal.Gen.frame (F := Bits) m ρ

theorem frameIdeal : Cert.quiescent_InDxIdeal (hInDxIdeal := Cert.InDxIdeal.Gen.facts) := fun m ρ _ =>
  Cert.InDxIdeal.Gen.frame m ρ

theorem frameReference : Cert.quiescent_InDxReferenceIdeal (hInDxReferenceIdeal := Cert.InDxReferenceIdeal.Gen.facts) := fun m ρ _ =>
  (θ_run Cert.InDxReferenceIdeal.defs _ _).mono (fun _ h => ⟨fun c => (h c).2, sem_eq_zero_of_no_sems (by decide) _⟩)
    (Cert.InDxReferenceIdeal.Value.run m ρ)

theorem algebraic : Cert.algebraic_InDxIdeal_InDxReferenceIdeal (hInDxIdeal := Cert.InDxIdeal.Gen.facts)
    (hInDxReferenceIdeal := Cert.InDxReferenceIdeal.Gen.facts) := by
  intro m g m' g' _ hm
  refine ⟨_, (θ_run Cert.InDxIdeal.defs _ _).mono (fun _ h c => ⟨(h c).1.trans (Cert.InDxIdeal.Hand.final_args m c), (h c).2⟩) (Cert.InDxIdeal.Value.run_blocks m g),
    (θ_run Cert.InDxReferenceIdeal.defs _ _).mono (fun _ h c => ⟨(h c).1.trans ?_, (h c).2⟩) (Cert.InDxReferenceIdeal.Value.run m' g')⟩
  obtain ⟨h0, h1, h2⟩ := hm c
  rw [h1, h2]
  funext j
  pointwise [nt]

end Cert.InDx.Hand
-- ==== Proof.InDwA.lean ====
/-
  The gradient of the input projection's weight, `dzᵀ · h`, at the first 12288 of its columns: the kernel walks the 4096
  tokens in two blocks, keeps the first block's product in its accumulator and adds the second; the reference is one
  product over all tokens and all columns, of which it takes these.
-/
module

public import proofs.«01_k».proof.Defs
public import proofs.«01_k».proof.Proof.Gen.InDwA
public import proofs.«01_k».proof.Proof.Gen.InDwAIdeal.Value
public import proofs.«01_k».proof.Proof.Gen.InDwAReferenceIdeal.Run
public import proofs.«01_k».proof.Proof.Blocks

@[expose] public section

noncomputable section

namespace Cert.InDwAIdeal.Hand

open Cert.InDwAIdeal Cert.InDwAIdeal.Gen Idealize.ShloMosaic Idealize.ShloMosaic.TcCoe Idealize.SL.Sem Cert.Blocks

variable (m : (ℓ : Loc nD τ sig) → Buf (Elt Ideal) ℓ) (ρ : Dev nD → PrngReg)

theorem first_apply (x : Vec Ideal S2048x1024 .bf16) (y : Vec Ideal S2048x1024 .bf16) (j : S1024x1024.Idx) : k0_pay2 x y j = tn x y j := by
  pointwise [k0_pay2, k0_pay1, tn]

theorem last_apply (x : Vec Ideal S2048x1024 .bf16) (y : Vec Ideal S2048x1024 .bf16) (z : Vec Ideal S1024x1024 .f32) (j : S1024x1024.Idx) :
    k0_pay4 x y z j = z j + tn x y j := by
  pointwise [k0_pay4, k0_pay1, tn]

/-- What a block of the result holds once it is written back: the stretches' products. -/
theorem out (c : Dev nD) (t : Fin cfg0.N) (h : t.val % 2 = 1) (j : S1024x1024.Idx) :
    (outsAt0 m c t.val t.isLt).1 j = ∑ s : Fin 2,
      tn (iblk m c 0 ⟨2 * (t.val / 2) + s.val, Pipeline.run_point_lt_of_flush t h s⟩ : Vec Ideal S2048x1024 .bf16)
        (iblk m c 1 ⟨2 * (t.val / 2) + s.val, Pipeline.run_point_lt_of_flush t h s⟩ : Vec Ideal S2048x1024 .bf16) j :=
  run_sum 2 (fun p hp => (outsAt0 m c p hp).1) (fun p hp => (outsAt0 m c p hp).2)
    (fun t => tn (iblk m c 0 t : Vec Ideal S2048x1024 .bf16) (iblk m c 1 t : Vec Ideal S2048x1024 .bf16)) (by decide)
    (fun t h0 i => by
      rw [outsAt0_A m c t h0 (by omega)]
      frame_out
      exact first_apply _ _ i)
    (fun t h0 h1 i => absurd h1 (by omega))
    (fun t h0 i => by
      rw [outsAt0_B m c t (by omega) h0]
      frame_out
      rw [(Memref.isWhole_whole cc0_scratch0).read_unread]
      exact last_apply _ _ _ i)
    t h j

theorem index0 : ∀ t : Fin cfg0.N, win0_0.index t = ![t.val % 2, t.val / 4] := (by decide +kernel : ∀ t : Fin grid0.N, _)
theorem index1 : ∀ t : Fin cfg0.N, win0_1.index t = ![t.val % 2, t.val / 2 % 2] := (by decide +kernel : ∀ t : Fin grid0.N, _)
theorem index2 : ∀ t : Fin cfg0.N, win0_2.index t = ![t.val / 4, t.val / 2 % 2] := (by decide +kernel : ∀ t : Fin grid0.N, _)

/-- The columns this call takes. -/
def cols (x : Mat 4096 18432) : Mat 4096 12288 := fun i =>
  x (ix2 (i 0) ⟨(i 1).val, by have : (i 1).val < 12288 := (i 1).isLt; omega⟩)

theorem row_read (c : Dev nD) (t : Fin cfg0.N) (k : Fin 2048) (r : Fin 1024) (p : Fin 4096) (n : Fin 18432)
    (hp : p.val = t.val % 2 * 2048 + k.val) (hn : n.val = t.val / 4 * 1024 + r.val) :
    (iblk m c 0 t : Vec Ideal S2048x1024 .bf16) (ix2 k r) = (V m c main_v0 : FVec Ideal S4096x18432 .bf16) (ix2 p n) := by
  blk_ext [iblk, index0]

theorem col_read (c : Dev nD) (t : Fin cfg0.N) (k : Fin 2048) (r : Fin 1024) (p : Fin 4096) (n : Fin 2048)
    (hp : p.val = t.val % 2 * 2048 + k.val) (hn : n.val = t.val / 2 % 2 * 1024 + r.val) :
    (iblk m c 1 t : Vec Ideal S2048x1024 .bf16) (ix2 k r) = (V m c main_v1 : FVec Ideal S4096x2048 .bf16) (ix2 p n) := by
  blk_ext [iblk, index1]

theorem emb0 (t : Fin cfg0.N) (y : S1024x1024.Idx) : ((win0_2.blk t).view.emb y 0).val = t.val / 4 * 1024 + (y 0).val := by
  blk_simp [index2]
theorem emb1 (t : Fin cfg0.N) (y : S1024x1024.Idx) : ((win0_2.blk t).view.emb y 1).val = t.val / 2 % 2 * 1024 + (y 1).val := by
  blk_simp [index2]

/-- The result: the whole product of what the call is given. -/
theorem final (c : Dev nD) : (dats m 0 c).arrAt 2 cfg0.N = tn (cols (V m c main_v0 : FVec Ideal S4096x18432 .bf16)) (V m c main_v1 : FVec Ideal S4096x2048 .bf16) := by
  refine (dats m 0 c).arrAt_eq_of_covers 2 _ (by decide +kernel) fun t hf y => ?_
  have ht : t.val % 2 = 1 := (flush0_2 t).mp hf
  have e0 := emb0 t y
  have e1 := emb1 t y
  blk_simp
  rw [after0_2, out m c t ht y]
  generalize (win0_2.blk t).view.emb y = z at e0 e1 ⊢
  refine tn_blocks (by decide) _ _ _ _ _ _ (fun s k => ?_) (fun s k => ?_)
  · have := s.isLt
    refine row_read m c _ k (y 0) _ _ (Eq.trans (b := s.val * 2048 + k.val) rfl ?_) ?_
    · dsimp only; omega
    · refine Eq.trans (congrArg (fun a => a) e0) ?_
      dsimp only; omega
  · have := s.isLt
    refine col_read m c _ k (y 1) _ _ ?_ ?_
    · dsimp only; omega
    · refine Eq.trans e1 ?_
      dsimp only; omega

theorem dz_apply (c : Dev nD) (i : S4096x18432.Idx) : (V m c main_v0 : FVec Ideal S4096x18432 .bf16) i
    = (m ((c : Thread nD τ).loc main_arg2) : FVec Ideal S4096x18432 .f32) i := by
  entry_read
  pointwise

theorem h_apply (c : Dev nD) (i : S4096x2048.Idx) : (V m c main_v1 : FVec Ideal S4096x2048 .bf16) i
    = (m ((c : Thread nD τ).loc main_arg0) : FVec Ideal S4096x2048 .f32) i := by
  entry_read
  pointwise

/-- The result, of the arguments. -/
theorem final_args (c : Dev nD) : (dats m 0 c).arrAt 2 cfg0.N = tn (cols (m ((c : Thread nD τ).loc main_arg2) : FVec Ideal S4096x18432 .f32)) (m ((c : Thread nD τ).loc main_arg0) : FVec Ideal S4096x2048 .f32) := by
  rw [final]
  funext j
  exact Finset.sum_congr rfl fun k _ => congrArg₂ (fun a b : EReal => a * b) (dz_apply m c _) (h_apply m c _)

end Cert.InDwAIdeal.Hand

namespace Cert.InDwA.Hand

open Idealize.ShloMosaic Idealize.ShloMosaic.TcCoe Idealize.SL.Sem Cert.Blocks

/-- The two texts' kernel bodies are one. -/
theorem bodies_eq : Cert.InDwA.defs₀ (F := Bits) = Cert.InDwAIdeal.defs₀ (F := Bits) := by
  refine congrArg (Defs.onTc (nD := Cert.InDwAIdeal.nD) (τ := Cert.InDwAIdeal.τ) (sig := Cert.InDwAIdeal.sig) (Λ := Cert.InDwAIdeal.Λ₀))
    (funext fun l => funext fun x => ?_)
  match l, x with
  | ⟨0, _⟩, (t, s) => rfl

theorem defs_eq : Cert.InDwA.defs (F := Bits) = Cert.InDwAIdeal.defs (F := Bits) :=
  congrArg (Pipeline.defs (Cert.InDwAIdeal.pcfgs (F := Bits))) bodies_eq

theorem frame : Cert.quiescent_InDwA (hInDwA := Cert.InDwA.Gen.facts) := fun m ρ _ => by
  rw [defs_eq]
  exact Cert.InDwAIdeal.Gen.frame (F := Bits) m ρ

theorem frameIdeal : Cert.quiescent_InDwAIdeal (hInDwAIdeal := Cert.InDwAIdeal.Gen.facts) := fun m ρ _ =>
  Cert.InDwAIdeal.Gen.frame m ρ

theorem frameReference : Cert.quiescent_InDwAReferenceIdeal (hInDwAReferenceIdeal := Cert.InDwAReferenceIdeal.Gen.facts) := fun m ρ _ =>
  (θ_run Cert.InDwAReferenceIdeal.defs _ _).mono (fun _ h => ⟨fun c => (h c).2, sem_eq_zero_of_no_sems (by decide) _⟩)
    (Cert.InDwAReferenceIdeal.Value.run m ρ)

theorem algebraic : Cert.algebraic_InDwAIdeal_InDwAReferenceIdeal (hInDwAIdeal := Cert.InDwAIdeal.Gen.facts)
    (hInDwAReferenceIdeal := Cert.InDwAReferenceIdeal.Gen.facts) := by
  intro m g m' g' _ hm
  refine ⟨_, (θ_run Cert.InDwAIdeal.defs _ _).mono (fun _ h c => ⟨(h c).1.trans (Cert.InDwAIdeal.Hand.final_args m c), (h c).2⟩) (Cert.InDwAIdeal.Value.run_blocks m g),
    (θ_run Cert.InDwAReferenceIdeal.defs _ _).mono (fun _ h c => ⟨(h c).1.trans ?_, (h c).2⟩) (Cert.InDwAReferenceIdeal.Value.run m' g')⟩
  obtain ⟨h0, h1, h2⟩ := hm c
  rw [h0, h2]
  funext j
  pointwise [tn, Cert.InDwAIdeal.Hand.cols]

end Cert.InDwA.Hand
-- ==== Proof.InDwB.lean ====
/-
  The gradient of the input projection's weight, `dzᵀ · h`, at the last 6144 of its columns: the kernel walks the 4096
  tokens in two blocks, keeps the first block's product in its accumulator and adds the second; the reference is one
  product over all tokens and all columns, of which it takes these.
-/
module

public import proofs.«01_k».proof.Defs
public import proofs.«01_k».proof.Proof.Gen.InDwB
public import proofs.«01_k».proof.Proof.Gen.InDwBIdeal.Value
public import proofs.«01_k».proof.Proof.Gen.InDwBReferenceIdeal.Run
public import proofs.«01_k».proof.Proof.Blocks

@[expose] public section

noncomputable section

namespace Cert.InDwBIdeal.Hand

open Cert.InDwBIdeal Cert.InDwBIdeal.Gen Idealize.ShloMosaic Idealize.ShloMosaic.TcCoe Idealize.SL.Sem Cert.Blocks

variable (m : (ℓ : Loc nD τ sig) → Buf (Elt Ideal) ℓ) (ρ : Dev nD → PrngReg)

theorem first_apply (x : Vec Ideal S2048x1024 .bf16) (y : Vec Ideal S2048x1024 .bf16) (j : S1024x1024.Idx) : k0_pay2 x y j = tn x y j := by
  pointwise [k0_pay2, k0_pay1, tn]

theorem last_apply (x : Vec Ideal S2048x1024 .bf16) (y : Vec Ideal S2048x1024 .bf16) (z : Vec Ideal S1024x1024 .f32) (j : S1024x1024.Idx) :
    k0_pay4 x y z j = z j + tn x y j := by
  pointwise [k0_pay4, k0_pay1, tn]

/-- What a block of the result holds once it is written back: the stretches' products. -/
theorem out (c : Dev nD) (t : Fin cfg0.N) (h : t.val % 2 = 1) (j : S1024x1024.Idx) :
    (outsAt0 m c t.val t.isLt).1 j = ∑ s : Fin 2,
      tn (iblk m c 0 ⟨2 * (t.val / 2) + s.val, Pipeline.run_point_lt_of_flush t h s⟩ : Vec Ideal S2048x1024 .bf16)
        (iblk m c 1 ⟨2 * (t.val / 2) + s.val, Pipeline.run_point_lt_of_flush t h s⟩ : Vec Ideal S2048x1024 .bf16) j :=
  run_sum 2 (fun p hp => (outsAt0 m c p hp).1) (fun p hp => (outsAt0 m c p hp).2)
    (fun t => tn (iblk m c 0 t : Vec Ideal S2048x1024 .bf16) (iblk m c 1 t : Vec Ideal S2048x1024 .bf16)) (by decide)
    (fun t h0 i => by
      rw [outsAt0_A m c t h0 (by omega)]
      frame_out
      exact first_apply _ _ i)
    (fun t h0 h1 i => absurd h1 (by omega))
    (fun t h0 i => by
      rw [outsAt0_B m c t (by omega) h0]
      frame_out
      rw [(Memref.isWhole_whole cc0_scratch0).read_unread]
      exact last_apply _ _ _ i)
    t h j

theorem index0 : ∀ t : Fin cfg0.N, win0_0.index t = ![t.val % 2, 12 + t.val / 4] := (by decide +kernel : ∀ t : Fin grid0.N, _)
theorem index1 : ∀ t : Fin cfg0.N, win0_1.index t = ![t.val % 2, t.val / 2 % 2] := (by decide +kernel : ∀ t : Fin grid0.N, _)
theorem index2 : ∀ t : Fin cfg0.N, win0_2.index t = ![t.val / 4, t.val / 2 % 2] := (by decide +kernel : ∀ t : Fin grid0.N, _)

/-- The columns this call takes. -/
def cols (x : Mat 4096 18432) : Mat 4096 6144 := fun i =>
  x (ix2 (i 0) ⟨12288 + (i 1).val, by have : (i 1).val < 6144 := (i 1).isLt; omega⟩)

theorem row_read (c : Dev nD) (t : Fin cfg0.N) (k : Fin 2048) (r : Fin 1024) (p : Fin 4096) (n : Fin 18432)
    (hp : p.val = t.val % 2 * 2048 + k.val) (hn : n.val = (12 + t.val / 4) * 1024 + r.val) :
    (iblk m c 0 t : Vec Ideal S2048x1024 .bf16) (ix2 k r) = (V m c main_v0 : FVec Ideal S4096x18432 .bf16) (ix2 p n) := by
  blk_ext [iblk, index0]

theorem col_read (c : Dev nD) (t : Fin cfg0.N) (k : Fin 2048) (r : Fin 1024) (p : Fin 4096) (n : Fin 2048)
    (hp : p.val = t.val % 2 * 2048 + k.val) (hn : n.val = t.val / 2 % 2 * 1024 + r.val) :
    (iblk m c 1 t : Vec Ideal S2048x1024 .bf16) (ix2 k r) = (V m c main_v1 : FVec Ideal S4096x2048 .bf16) (ix2 p n) := by
  blk_ext [iblk, index1]

theorem emb0 (t : Fin cfg0.N) (y : S1024x1024.Idx) : ((win0_2.blk t).view.emb y 0).val = t.val / 4 * 1024 + (y 0).val := by
  blk_simp [index2]
theorem emb1 (t : Fin cfg0.N) (y : S1024x1024.Idx) : ((win0_2.blk t).view.emb y 1).val = t.val / 2 % 2 * 1024 + (y 1).val := by
  blk_simp [index2]

/-- The result: the whole product of what the call is given. -/
theorem final (c : Dev nD) : (dats m 0 c).arrAt 2 cfg0.N = tn (cols (V m c main_v0 : FVec Ideal S4096x18432 .bf16)) (V m c main_v1 : FVec Ideal S4096x2048 .bf16) := by
  refine (dats m 0 c).arrAt_eq_of_covers 2 _ (by decide +kernel) fun t hf y => ?_
  have ht : t.val % 2 = 1 := (flush0_2 t).mp hf
  have e0 := emb0 t y
  have e1 := emb1 t y
  blk_simp
  rw [after0_2, out m c t ht y]
  generalize (win0_2.blk t).view.emb y = z at e0 e1 ⊢
  refine tn_blocks (by decide) _ _ _ _ _ _ (fun s k => ?_) (fun s k => ?_)
  · have := s.isLt
    refine row_read m c _ k (y 0) _ _ (Eq.trans (b := s.val * 2048 + k.val) rfl ?_) ?_
    · dsimp only; omega
    · refine Eq.trans (congrArg (fun a => 12288 + a) e0) ?_
      dsimp only; omega
  · have := s.isLt
    refine col_read m c _ k (y 1) _ _ ?_ ?_
    · dsimp only; omega
    · refine Eq.trans e1 ?_
      dsimp only; omega

theorem dz_apply (c : Dev nD) (i : S4096x18432.Idx) : (V m c main_v0 : FVec Ideal S4096x18432 .bf16) i
    = (m ((c : Thread nD τ).loc main_arg2) : FVec Ideal S4096x18432 .f32) i := by
  entry_read
  pointwise

theorem h_apply (c : Dev nD) (i : S4096x2048.Idx) : (V m c main_v1 : FVec Ideal S4096x2048 .bf16) i
    = (m ((c : Thread nD τ).loc main_arg0) : FVec Ideal S4096x2048 .f32) i := by
  entry_read
  pointwise

/-- The result, of the arguments. -/
theorem final_args (c : Dev nD) : (dats m 0 c).arrAt 2 cfg0.N = tn (cols (m ((c : Thread nD τ).loc main_arg2) : FVec Ideal S4096x18432 .f32)) (m ((c : Thread nD τ).loc main_arg0) : FVec Ideal S4096x2048 .f32) := by
  rw [final]
  funext j
  exact Finset.sum_congr rfl fun k _ => congrArg₂ (fun a b : EReal => a * b) (dz_apply m c _) (h_apply m c _)

end Cert.InDwBIdeal.Hand

namespace Cert.InDwB.Hand

open Idealize.ShloMosaic Idealize.ShloMosaic.TcCoe Idealize.SL.Sem Cert.Blocks

/-- The two texts' kernel bodies are one. -/
theorem bodies_eq : Cert.InDwB.defs₀ (F := Bits) = Cert.InDwBIdeal.defs₀ (F := Bits) := by
  refine congrArg (Defs.onTc (nD := Cert.InDwBIdeal.nD) (τ := Cert.InDwBIdeal.τ) (sig := Cert.InDwBIdeal.sig) (Λ := Cert.InDwBIdeal.Λ₀))
    (funext fun l => funext fun x => ?_)
  match l, x with
  | ⟨0, _⟩, (t, s) => rfl

theorem defs_eq : Cert.InDwB.defs (F := Bits) = Cert.InDwBIdeal.defs (F := Bits) :=
  congrArg (Pipeline.defs (Cert.InDwBIdeal.pcfgs (F := Bits))) bodies_eq

theorem frame : Cert.quiescent_InDwB (hInDwB := Cert.InDwB.Gen.facts) := fun m ρ _ => by
  rw [defs_eq]
  exact Cert.InDwBIdeal.Gen.frame (F := Bits) m ρ

theorem frameIdeal : Cert.quiescent_InDwBIdeal (hInDwBIdeal := Cert.InDwBIdeal.Gen.facts) := fun m ρ _ =>
  Cert.InDwBIdeal.Gen.frame m ρ

theorem frameReference : Cert.quiescent_InDwBReferenceIdeal (hInDwBReferenceIdeal := Cert.InDwBReferenceIdeal.Gen.facts) := fun m ρ _ =>
  (θ_run Cert.InDwBReferenceIdeal.defs _ _).mono (fun _ h => ⟨fun c => (h c).2, sem_eq_zero_of_no_sems (by decide) _⟩)
    (Cert.InDwBReferenceIdeal.Value.run m ρ)

theorem algebraic : Cert.algebraic_InDwBIdeal_InDwBReferenceIdeal (hInDwBIdeal := Cert.InDwBIdeal.Gen.facts)
    (hInDwBReferenceIdeal := Cert.InDwBReferenceIdeal.Gen.facts) := by
  intro m g m' g' _ hm
  refine ⟨_, (θ_run Cert.InDwBIdeal.defs _ _).mono (fun _ h c => ⟨(h c).1.trans (Cert.InDwBIdeal.Hand.final_args m c), (h c).2⟩) (Cert.InDwBIdeal.Value.run_blocks m g),
    (θ_run Cert.InDwBReferenceIdeal.defs _ _).mono (fun _ h c => ⟨(h c).1.trans ?_, (h c).2⟩) (Cert.InDwBReferenceIdeal.Value.run m' g')⟩
  obtain ⟨h0, h1, h2⟩ := hm c
  rw [h0, h2]
  funext j
  pointwise [tn, Cert.InDwBIdeal.Hand.cols]

end Cert.InDwB.Hand
-- ==== Proof.OutDw.lean ====
/-
  The gradient of the output projection's weight, `mixedᵀ · dx1`: the kernel walks the 4096 tokens in two blocks, keeps
  the first block's product in its accumulator and adds the second; the reference is one product over all tokens.
-/
module

public import proofs.«01_k».proof.Defs
public import proofs.«01_k».proof.Proof.Gen.OutDw
public import proofs.«01_k».proof.Proof.Gen.OutDwIdeal.Value
public import proofs.«01_k».proof.Proof.Gen.OutDwReferenceIdeal.Run
public import proofs.«01_k».proof.Proof.Blocks

@[expose] public section

noncomputable section

namespace Cert.OutDwIdeal.Hand

open Cert.OutDwIdeal Cert.OutDwIdeal.Gen Idealize.ShloMosaic Idealize.ShloMosaic.TcCoe Idealize.SL.Sem Cert.Blocks

variable (m : (ℓ : Loc nD τ sig) → Buf (Elt Ideal) ℓ) (ρ : Dev nD → PrngReg)

theorem first_apply (x : Vec Ideal S2048x1024 .bf16) (y : Vec Ideal S2048x1024 .bf16) (j : S1024x1024.Idx) : k0_pay2 x y j = tn x y j := by
  pointwise [k0_pay2, k0_pay1, tn]

theorem last_apply (x : Vec Ideal S2048x1024 .bf16) (y : Vec Ideal S2048x1024 .bf16) (z : Vec Ideal S1024x1024 .f32) (j : S1024x1024.Idx) :
    k0_pay4 x y z j = z j + tn x y j := by
  pointwise [k0_pay4, k0_pay1, tn]

/-- What a block of the result holds once it is written back: the stretches' products. -/
theorem out (c : Dev nD) (t : Fin cfg0.N) (h : t.val % 2 = 1) (j : S1024x1024.Idx) :
    (outsAt0 m c t.val t.isLt).1 j = ∑ s : Fin 2,
      tn (iblk m c 0 ⟨2 * (t.val / 2) + s.val, Pipeline.run_point_lt_of_flush t h s⟩ : Vec Ideal S2048x1024 .bf16)
        (iblk m c 1 ⟨2 * (t.val / 2) + s.val, Pipeline.run_point_lt_of_flush t h s⟩ : Vec Ideal S2048x1024 .bf16) j :=
  run_sum 2 (fun p hp => (outsAt0 m c p hp).1) (fun p hp => (outsAt0 m c p hp).2)
    (fun t => tn (iblk m c 0 t : Vec Ideal S2048x1024 .bf16) (iblk m c 1 t : Vec Ideal S2048x1024 .bf16)) (by decide)
    (fun t h0 i => by
      rw [outsAt0_A m c t h0 (by omega)]
      frame_out
      exact first_apply _ _ i)
    (fun t h0 h1 i => absurd h1 (by omega))
    (fun t h0 i => by
      rw [outsAt0_B m c t (by omega) h0]
      frame_out
      rw [(Memref.isWhole_whole cc0_scratch0).read_unread]
      exact last_apply _ _ _ i)
    t h j

theorem index0 : ∀ t : Fin cfg0.N, win0_0.index t = ![t.val % 2, t.val / 4] := (by decide +kernel : ∀ t : Fin grid0.N, _)
theorem index1 : ∀ t : Fin cfg0.N, win0_1.index t = ![t.val % 2, t.val / 2 % 2] := (by decide +kernel : ∀ t : Fin grid0.N, _)
theorem index2 : ∀ t : Fin cfg0.N, win0_2.index t = ![t.val / 4, t.val / 2 % 2] := (by decide +kernel : ∀ t : Fin grid0.N, _)

/-- The result: the whole product of what the call is given. -/
theorem final (c : Dev nD) : (dats m 0 c).arrAt 2 cfg0.N = tn (V m c main_v0 : FVec Ideal S4096x2048 .bf16) (V m c main_v1 : FVec Ideal S4096x2048 .bf16) := by
  refine (dats m 0 c).arrAt_eq_of_covers 2 _ (by decide +kernel) fun t hf y => ?_
  have ht : t.val % 2 = 1 := (flush0_2 t).mp hf
  blk_simp
  rw [after0_2, out m c t ht y]
  exact tn_blocks (by decide) _ _ _ _ y _ (fun s k => by blk_ext [iblk, index0, index2]) (fun s k => by blk_ext [iblk, index1, index2])

theorem mixed_apply (c : Dev nD) (i : S4096x2048.Idx) : (V m c main_v0 : FVec Ideal S4096x2048 .bf16) i
    = (m ((c : Thread nD τ).loc main_arg0) : FVec Ideal S4096x2048 .f32) i := by
  entry_read
  pointwise

theorem dx1_apply (c : Dev nD) (i : S4096x2048.Idx) : (V m c main_v1 : FVec Ideal S4096x2048 .bf16) i
    = (m ((c : Thread nD τ).loc main_arg2) : FVec Ideal S4096x2048 .f32) i := by
  entry_read
  pointwise

/-- The result, of the arguments. -/
theorem final_args (c : Dev nD) : (dats m 0 c).arrAt 2 cfg0.N = tn (m ((c : Thread nD τ).loc main_arg0) : FVec Ideal S4096x2048 .f32) (m ((c : Thread nD τ).loc main_arg2) : FVec Ideal S4096x2048 .f32) := by
  rw [final]
  funext j
  exact Finset.sum_congr rfl fun k _ => congrArg₂ (fun a b : EReal => a * b) (mixed_apply m c _) (dx1_apply m c _)

end Cert.OutDwIdeal.Hand

namespace Cert.OutDw.Hand

open Idealize.ShloMosaic Idealize.ShloMosaic.TcCoe Idealize.SL.Sem Cert.Blocks

/-- The two texts' kernel bodies are one. -/
theorem bodies_eq : Cert.OutDw.defs₀ (F := Bits) = Cert.OutDwIdeal.defs₀ (F := Bits) := by
  refine congrArg (Defs.onTc (nD := Cert.OutDwIdeal.nD) (τ := Cert.OutDwIdeal.τ) (sig := Cert.OutDwIdeal.sig) (Λ := Cert.OutDwIdeal.Λ₀))
    (funext fun l => funext fun x => ?_)
  match l, x with
  | ⟨0, _⟩, (t, s) => rfl

theorem defs_eq : Cert.OutDw.defs (F := Bits) = Cert.OutDwIdeal.defs (F := Bits) :=
  congrArg (Pipeline.defs (Cert.OutDwIdeal.pcfgs (F := Bits))) bodies_eq

theorem frame : Cert.quiescent_OutDw (hOutDw := Cert.OutDw.Gen.facts) := fun m ρ _ => by
  rw [defs_eq]
  exact Cert.OutDwIdeal.Gen.frame (F := Bits) m ρ

theorem frameIdeal : Cert.quiescent_OutDwIdeal (hOutDwIdeal := Cert.OutDwIdeal.Gen.facts) := fun m ρ _ =>
  Cert.OutDwIdeal.Gen.frame m ρ

theorem frameReference : Cert.quiescent_OutDwReferenceIdeal (hOutDwReferenceIdeal := Cert.OutDwReferenceIdeal.Gen.facts) := fun m ρ _ =>
  (θ_run Cert.OutDwReferenceIdeal.defs _ _).mono (fun _ h => ⟨fun c => (h c).2, sem_eq_zero_of_no_sems (by decide) _⟩)
    (Cert.OutDwReferenceIdeal.Value.run m ρ)

theorem algebraic : Cert.algebraic_OutDwIdeal_OutDwReferenceIdeal (hOutDwIdeal := Cert.OutDwIdeal.Gen.facts)
    (hOutDwReferenceIdeal := Cert.OutDwReferenceIdeal.Gen.facts) := by
  intro m g m' g' _ hm
  refine ⟨_, (θ_run Cert.OutDwIdeal.defs _ _).mono (fun _ h c => ⟨(h c).1.trans (Cert.OutDwIdeal.Hand.final_args m c), (h c).2⟩) (Cert.OutDwIdeal.Value.run_blocks m g),
    (θ_run Cert.OutDwReferenceIdeal.defs _ _).mono (fun _ h c => ⟨(h c).1.trans ?_, (h c).2⟩) (Cert.OutDwReferenceIdeal.Value.run m' g')⟩
  obtain ⟨h0, h1, h2⟩ := hm c
  rw [h0, h2]
  funext j
  pointwise [tn]
  exact Finset.sum_congr rfl fun k _ => mul_comm (G := EReal) _ _

end Cert.OutDw.Hand
-- ==== Proof.OutDx.lean ====
/-
  The gradient through the output projection, `dx1 · w_outᵀ`: the kernel's blocks each hold the whole contracted axis.
-/
module

public import proofs.«01_k».proof.Defs
public import proofs.«01_k».proof.Proof.Gen.OutDx
public import proofs.«01_k».proof.Proof.Gen.OutDxIdeal.Value
public import proofs.«01_k».proof.Proof.Gen.OutDxReferenceIdeal.Run
public import proofs.«01_k».proof.Proof.Blocks

@[expose] public section

noncomputable section

namespace Cert.OutDxIdeal.Hand

open Cert.OutDxIdeal Cert.OutDxIdeal.Gen Idealize.ShloMosaic Idealize.ShloMosaic.TcCoe Idealize.SL.Sem Cert.Blocks

variable (m : (ℓ : Loc nD τ sig) → Buf (Elt Ideal) ℓ) (ρ : Dev nD → PrngReg)

theorem body_apply (x y : Vec Ideal S1024x2048 .bf16) (j : S1024x1024.Idx) : k0_pay1 x y j = nt x y j := by
  pointwise [k0_pay1, nt]

theorem index0 : ∀ t : Fin cfg0.N, win0_0.index t = ![t.val / 2, 0] := (by decide +kernel : ∀ t : Fin grid0.N, _)
theorem index1 : ∀ t : Fin cfg0.N, win0_1.index t = ![t.val % 2, 0] := (by decide +kernel : ∀ t : Fin grid0.N, _)
theorem index2 : ∀ t : Fin cfg0.N, win0_2.index t = ![t.val / 2, t.val % 2] := (by decide +kernel : ∀ t : Fin grid0.N, _)

/-- The result: the whole product of what the call is given. -/
theorem final (c : Dev nD) : (dats m 0 c).arrAt 2 cfg0.N = nt (V m c main_v0 : FVec Ideal S4096x2048 .bf16) (V m c main_v1 : FVec Ideal S2048x2048 .bf16) := by
  refine (dats m 0 c).arrAt_eq_of_covers 2 _ (by decide +kernel) fun t hf y => ?_
  blk_simp
  rw [after0_2]
  unfold out0_2
  frame_out
  rw [body_apply]
  refine nt_congr _ _ _ _ y _ (fun k => ?_) fun k => ?_
  · blk_ext [iblk, index0, index2]
  · blk_ext [iblk, index1, index2]

theorem dx1_apply (c : Dev nD) (i : S4096x2048.Idx) : (V m c main_v0 : FVec Ideal S4096x2048 .bf16) i
    = (m ((c : Thread nD τ).loc main_arg2) : FVec Ideal S4096x2048 .f32) i := by
  entry_read
  pointwise

theorem w_out_apply (c : Dev nD) (i : S2048x2048.Idx) : (V m c main_v1 : FVec Ideal S2048x2048 .bf16) i
    = (m ((c : Thread nD τ).loc main_arg1) : FVec Ideal S2048x2048 .f32) i := by
  entry_read
  pointwise

/-- The result, of the arguments. -/
theorem final_args (c : Dev nD) : (dats m 0 c).arrAt 2 cfg0.N = nt (m ((c : Thread nD τ).loc main_arg2) : FVec Ideal S4096x2048 .f32) (m ((c : Thread nD τ).loc main_arg1) : FVec Ideal S2048x2048 .f32) := by
  rw [final]
  funext j
  exact Finset.sum_congr rfl fun k _ => congrArg₂ (fun a b : EReal => a * b) (dx1_apply m c _) (w_out_apply m c _)

end Cert.OutDxIdeal.Hand

namespace Cert.OutDx.Hand

open Idealize.ShloMosaic Idealize.ShloMosaic.TcCoe Idealize.SL.Sem Cert.Blocks

/-- The two texts' kernel bodies are one. -/
theorem bodies_eq : Cert.OutDx.defs₀ (F := Bits) = Cert.OutDxIdeal.defs₀ (F := Bits) := by
  refine congrArg (Defs.onTc (nD := Cert.OutDxIdeal.nD) (τ := Cert.OutDxIdeal.τ) (sig := Cert.OutDxIdeal.sig) (Λ := Cert.OutDxIdeal.Λ₀))
    (funext fun l => funext fun x => ?_)
  match l, x with
  | ⟨0, _⟩, (t, s) => rfl

theorem defs_eq : Cert.OutDx.defs (F := Bits) = Cert.OutDxIdeal.defs (F := Bits) :=
  congrArg (Pipeline.defs (Cert.OutDxIdeal.pcfgs (F := Bits))) bodies_eq

theorem frame : Cert.quiescent_OutDx (hOutDx := Cert.OutDx.Gen.facts) := fun m ρ _ => by
  rw [defs_eq]
  exact Cert.OutDxIdeal.Gen.frame (F := Bits) m ρ

theorem frameIdeal : Cert.quiescent_OutDxIdeal (hOutDxIdeal := Cert.OutDxIdeal.Gen.facts) := fun m ρ _ =>
  Cert.OutDxIdeal.Gen.frame m ρ

theorem frameReference : Cert.quiescent_OutDxReferenceIdeal (hOutDxReferenceIdeal := Cert.OutDxReferenceIdeal.Gen.facts) := fun m ρ _ =>
  (θ_run Cert.OutDxReferenceIdeal.defs _ _).mono (fun _ h => ⟨fun c => (h c).2, sem_eq_zero_of_no_sems (by decide) _⟩)
    (Cert.OutDxReferenceIdeal.Value.run m ρ)

theorem algebraic : Cert.algebraic_OutDxIdeal_OutDxReferenceIdeal (hOutDxIdeal := Cert.OutDxIdeal.Gen.facts)
    (hOutDxReferenceIdeal := Cert.OutDxReferenceIdeal.Gen.facts) := by
  intro m g m' g' _ hm
  refine ⟨_, (θ_run Cert.OutDxIdeal.defs _ _).mono (fun _ h c => ⟨(h c).1.trans (Cert.OutDxIdeal.Hand.final_args m c), (h c).2⟩) (Cert.OutDxIdeal.Value.run_blocks m g),
    (θ_run Cert.OutDxReferenceIdeal.defs _ _).mono (fun _ h c => ⟨(h c).1.trans ?_, (h c).2⟩) (Cert.OutDxReferenceIdeal.Value.run m' g')⟩
  obtain ⟨h0, h1, h2⟩ := hm c
  rw [h1, h2]
  funext j
  pointwise [nt]

end Cert.OutDx.Hand
-- ==== Proof.Embed.lean ====
/-
  The gradients of the gated embedding `sigmoid(g) · q` by its gate `g` and by its projection `q`, as the host computes
  them before either weight's gradient is taken.
-/
module

public import proofs.«01_k».proof.Proof.Blocks

@[expose] public section

noncomputable section

namespace Cert.Blocks

open Idealize.ShloMosaic

/-- The logistic function, as the host computes it. -/
def squash (g : EReal) : EReal := Ideal.div 1 (1 + Ideal.exp (-g))

def gateGrad (h : Mat 4096 2048) (p : Mat 4096 256) (wGate : Mat 2048 2048) (wProj : Mat 256 2048) (dx : Mat 4096 2048) : Mat 4096 2048 := fun i =>
  dx i * nn p wProj i * (squash (nn h wGate i) * (1 - squash (nn h wGate i)))

def projGrad (h : Mat 4096 2048) (wGate : Mat 2048 2048) (dx : Mat 4096 2048) : Mat 4096 2048 := fun i =>
  squash (nn h wGate i) * dx i

end Cert.Blocks

end
-- ==== Proof.GateDw.lean ====
/-
  The gradient of the embedding gate's weight, `h3ᵀ · d_gate`: the kernel walks the 4096 tokens in two blocks, keeps the
  first block's product in its accumulator and adds the second; the reference is one product over all tokens.
-/
module

public import proofs.«01_k».proof.Defs
public import proofs.«01_k».proof.Proof.Gen.GateDw
public import proofs.«01_k».proof.Proof.Gen.GateDwIdeal.Value
public import proofs.«01_k».proof.Proof.Gen.GateDwReferenceIdeal.Run
public import proofs.«01_k».proof.Proof.Embed

@[expose] public section

noncomputable section

namespace Cert.GateDwIdeal.Hand

open Cert.GateDwIdeal Cert.GateDwIdeal.Gen Idealize.ShloMosaic Idealize.ShloMosaic.TcCoe Idealize.SL.Sem Cert.Blocks

variable (m : (ℓ : Loc nD τ sig) → Buf (Elt Ideal) ℓ) (ρ : Dev nD → PrngReg)

theorem first_apply (x : Vec Ideal S2048x1024 .bf16) (y : Vec Ideal S2048x1024 .bf16) (j : S1024x1024.Idx) : k0_pay2 x y j = tn x y j := by
  pointwise [k0_pay2, k0_pay1, tn]

theorem last_apply (x : Vec Ideal S2048x1024 .bf16) (y : Vec Ideal S2048x1024 .bf16) (z : Vec Ideal S1024x1024 .f32) (j : S1024x1024.Idx) :
    k0_pay4 x y z j = z j + tn x y j := by
  pointwise [k0_pay4, k0_pay1, tn]

/-- What a block of the result holds once it is written back: the stretches' products. -/
theorem out (c : Dev nD) (t : Fin cfg0.N) (h : t.val % 2 = 1) (j : S1024x1024.Idx) :
    (outsAt0 m c t.val t.isLt).1 j = ∑ s : Fin 2,
      tn (iblk m c 0 ⟨2 * (t.val / 2) + s.val, Pipeline.run_point_lt_of_flush t h s⟩ : Vec Ideal S2048x1024 .bf16)
        (iblk m c 1 ⟨2 * (t.val / 2) + s.val, Pipeline.run_point_lt_of_flush t h s⟩ : Vec Ideal S2048x1024 .bf16) j :=
  run_sum 2 (fun p hp => (outsAt0 m c p hp).1) (fun p hp => (outsAt0 m c p hp).2)
    (fun t => tn (iblk m c 0 t : Vec Ideal S2048x1024 .bf16) (iblk m c 1 t : Vec Ideal S2048x1024 .bf16)) (by decide)
    (fun t h0 i => by
      rw [outsAt0_A m c t h0 (by omega)]
      frame_out
      exact first_apply _ _ i)
    (fun t h0 h1 i => absurd h1 (by omega))
    (fun t h0 i => by
      rw [outsAt0_B m c t (by omega) h0]
      frame_out
      rw [(Memref.isWhole_whole cc0_scratch0).read_unread]
      exact last_apply _ _ _ i)
    t h j

theorem index0 : ∀ t : Fin cfg0.N, win0_0.index t = ![t.val % 2, t.val / 4] := (by decide +kernel : ∀ t : Fin grid0.N, _)
theorem index1 : ∀ t : Fin cfg0.N, win0_1.index t = ![t.val % 2, t.val / 2 % 2] := (by decide +kernel : ∀ t : Fin grid0.N, _)
theorem index2 : ∀ t : Fin cfg0.N, win0_2.index t = ![t.val / 4, t.val / 2 % 2] := (by decide +kernel : ∀ t : Fin grid0.N, _)

/-- The result: the whole product of what the call is given. -/
theorem final (c : Dev nD) : (dats m 0 c).arrAt 2 cfg0.N = tn (V m c main_v16 : FVec Ideal S4096x2048 .bf16) (V m c main_v15 : FVec Ideal S4096x2048 .bf16) := by
  refine (dats m 0 c).arrAt_eq_of_covers 2 _ (by decide +kernel) fun t hf y => ?_
  have ht : t.val % 2 = 1 := (flush0_2 t).mp hf
  blk_simp
  rw [after0_2, out m c t ht y]
  exact tn_blocks (by decide) _ _ _ _ y _ (fun s k => by blk_ext [iblk, index0, index2]) (fun s k => by blk_ext [iblk, index1, index2])

theorem h3_apply (c : Dev nD) (i : S4096x2048.Idx) : (V m c main_v16 : FVec Ideal S4096x2048 .bf16) i
    = (m ((c : Thread nD τ).loc main_arg0) : FVec Ideal S4096x2048 .f32) i := by
  entry_read
  pointwise

theorem gate_apply (c : Dev nD) (i : S4096x2048.Idx) : (V m c main_v15 : FVec Ideal S4096x2048 .bf16) i
    = gateGrad (m ((c : Thread nD τ).loc main_arg0) : FVec Ideal S4096x2048 .f32) (m ((c : Thread nD τ).loc main_arg1) : FVec Ideal S4096x256 .f32) (m ((c : Thread nD τ).loc main_arg2) : FVec Ideal S2048x2048 .f32) (m ((c : Thread nD τ).loc main_arg3) : FVec Ideal S256x2048 .f32) (m ((c : Thread nD τ).loc main_arg4) : FVec Ideal S4096x2048 .f32) i := by
  entry_read
  pointwise [gateGrad, squash, nn]

/-- The result, of the arguments. -/
theorem final_args (c : Dev nD) : (dats m 0 c).arrAt 2 cfg0.N = tn (m ((c : Thread nD τ).loc main_arg0) : FVec Ideal S4096x2048 .f32) (gateGrad (m ((c : Thread nD τ).loc main_arg0) : FVec Ideal S4096x2048 .f32) (m ((c : Thread nD τ).loc main_arg1) : FVec Ideal S4096x256 .f32) (m ((c : Thread nD τ).loc main_arg2) : FVec Ideal S2048x2048 .f32) (m ((c : Thread nD τ).loc main_arg3) : FVec Ideal S256x2048 .f32) (m ((c : Thread nD τ).loc main_arg4) : FVec Ideal S4096x2048 .f32)) := by
  rw [final]
  funext j
  exact Finset.sum_congr rfl fun k _ => congrArg₂ (fun a b : EReal => a * b) (h3_apply m c _) (gate_apply m c _)

end Cert.GateDwIdeal.Hand

namespace Cert.GateDw.Hand

open Idealize.ShloMosaic Idealize.ShloMosaic.TcCoe Idealize.SL.Sem Cert.Blocks

/-- The two texts' kernel bodies are one. -/
theorem bodies_eq : Cert.GateDw.defs₀ (F := Bits) = Cert.GateDwIdeal.defs₀ (F := Bits) := by
  refine congrArg (Defs.onTc (nD := Cert.GateDwIdeal.nD) (τ := Cert.GateDwIdeal.τ) (sig := Cert.GateDwIdeal.sig) (Λ := Cert.GateDwIdeal.Λ₀))
    (funext fun l => funext fun x => ?_)
  match l, x with
  | ⟨0, _⟩, (t, s) => rfl

theorem defs_eq : Cert.GateDw.defs (F := Bits) = Cert.GateDwIdeal.defs (F := Bits) :=
  congrArg (Pipeline.defs (Cert.GateDwIdeal.pcfgs (F := Bits))) bodies_eq

theorem frame : Cert.quiescent_GateDw (hGateDw := Cert.GateDw.Gen.facts) := fun m ρ _ => by
  rw [defs_eq]
  exact Cert.GateDwIdeal.Gen.frame (F := Bits) m ρ

theorem frameIdeal : Cert.quiescent_GateDwIdeal (hGateDwIdeal := Cert.GateDwIdeal.Gen.facts) := fun m ρ _ =>
  Cert.GateDwIdeal.Gen.frame m ρ

theorem frameReference : Cert.quiescent_GateDwReferenceIdeal (hGateDwReferenceIdeal := Cert.GateDwReferenceIdeal.Gen.facts) := fun m ρ _ =>
  (θ_run Cert.GateDwReferenceIdeal.defs _ _).mono (fun _ h => ⟨fun c => (h c).2, sem_eq_zero_of_no_sems (by decide) _⟩)
    (Cert.GateDwReferenceIdeal.Value.run m ρ)

theorem algebraic : Cert.algebraic_GateDwIdeal_GateDwReferenceIdeal (hGateDwIdeal := Cert.GateDwIdeal.Gen.facts)
    (hGateDwReferenceIdeal := Cert.GateDwReferenceIdeal.Gen.facts) := by
  intro m g m' g' _ hm
  refine ⟨_, (θ_run Cert.GateDwIdeal.defs _ _).mono (fun _ h c => ⟨(h c).1.trans (Cert.GateDwIdeal.Hand.final_args m c), (h c).2⟩) (Cert.GateDwIdeal.Value.run_blocks m g),
    (θ_run Cert.GateDwReferenceIdeal.defs _ _).mono (fun _ h c => ⟨(h c).1.trans ?_, (h c).2⟩) (Cert.GateDwReferenceIdeal.Value.run m' g')⟩
  obtain ⟨h0, h1, h2, h3, h4⟩ := hm c
  rw [h0, h1, h2, h3, h4]
  funext j
  pointwise [tn, gateGrad, squash, nn]
  exact Finset.sum_congr rfl fun k _ => mul_comm (G := EReal) _ _

end Cert.GateDw.Hand
-- ==== Proof.GateDx.lean ====
/-
  The gradient through the embedding gate, `d_gate · w_gateᵀ`: the kernel's blocks each hold the whole contracted axis.
-/
module

public import proofs.«01_k».proof.Defs
public import proofs.«01_k».proof.Proof.Gen.GateDx
public import proofs.«01_k».proof.Proof.Gen.GateDxIdeal.Value
public import proofs.«01_k».proof.Proof.Gen.GateDxReferenceIdeal.Run
public import proofs.«01_k».proof.Proof.Embed

@[expose] public section

noncomputable section

namespace Cert.GateDxIdeal.Hand

open Cert.GateDxIdeal Cert.GateDxIdeal.Gen Idealize.ShloMosaic Idealize.ShloMosaic.TcCoe Idealize.SL.Sem Cert.Blocks

variable (m : (ℓ : Loc nD τ sig) → Buf (Elt Ideal) ℓ) (ρ : Dev nD → PrngReg)

theorem body_apply (x y : Vec Ideal S1024x2048 .bf16) (j : S1024x1024.Idx) : k0_pay1 x y j = nt x y j := by
  pointwise [k0_pay1, nt]

theorem index0 : ∀ t : Fin cfg0.N, win0_0.index t = ![t.val / 2, 0] := (by decide +kernel : ∀ t : Fin grid0.N, _)
theorem index1 : ∀ t : Fin cfg0.N, win0_1.index t = ![t.val % 2, 0] := (by decide +kernel : ∀ t : Fin grid0.N, _)
theorem index2 : ∀ t : Fin cfg0.N, win0_2.index t = ![t.val / 2, t.val % 2] := (by decide +kernel : ∀ t : Fin grid0.N, _)

/-- The result: the whole product of what the call is given. -/
theorem final (c : Dev nD) : (dats m 0 c).arrAt 2 cfg0.N = nt (V m c main_v15 : FVec Ideal S4096x2048 .bf16) (V m c main_v16 : FVec Ideal S2048x2048 .bf16) := by
  refine (dats m 0 c).arrAt_eq_of_covers 2 _ (by decide +kernel) fun t hf y => ?_
  blk_simp
  rw [after0_2]
  unfold out0_2
  frame_out
  rw [body_apply]
  refine nt_congr _ _ _ _ y _ (fun k => ?_) fun k => ?_
  · blk_ext [iblk, index0, index2]
  · blk_ext [iblk, index1, index2]

theorem gate_apply (c : Dev nD) (i : S4096x2048.Idx) : (V m c main_v15 : FVec Ideal S4096x2048 .bf16) i
    = gateGrad (m ((c : Thread nD τ).loc main_arg0) : FVec Ideal S4096x2048 .f32) (m ((c : Thread nD τ).loc main_arg1) : FVec Ideal S4096x256 .f32) (m ((c : Thread nD τ).loc main_arg2) : FVec Ideal S2048x2048 .f32) (m ((c : Thread nD τ).loc main_arg3) : FVec Ideal S256x2048 .f32) (m ((c : Thread nD τ).loc main_arg4) : FVec Ideal S4096x2048 .f32) i := by
  entry_read
  pointwise [gateGrad, squash, nn]

theorem w_gate_apply (c : Dev nD) (i : S2048x2048.Idx) : (V m c main_v16 : FVec Ideal S2048x2048 .bf16) i
    = (m ((c : Thread nD τ).loc main_arg2) : FVec Ideal S2048x2048 .f32) i := by
  entry_read
  pointwise

/-- The result, of the arguments. -/
theorem final_args (c : Dev nD) : (dats m 0 c).arrAt 2 cfg0.N = nt (gateGrad (m ((c : Thread nD τ).loc main_arg0) : FVec Ideal S4096x2048 .f32) (m ((c : Thread nD τ).loc main_arg1) : FVec Ideal S4096x256 .f32) (m ((c : Thread nD τ).loc main_arg2) : FVec Ideal S2048x2048 .f32) (m ((c : Thread nD τ).loc main_arg3) : FVec Ideal S256x2048 .f32) (m ((c : Thread nD τ).loc main_arg4) : FVec Ideal S4096x2048 .f32)) (m ((c : Thread nD τ).loc main_arg2) : FVec Ideal S2048x2048 .f32) := by
  rw [final]
  funext j
  exact Finset.sum_congr rfl fun k _ => congrArg₂ (fun a b : EReal => a * b) (gate_apply m c _) (w_gate_apply m c _)

end Cert.GateDxIdeal.Hand

namespace Cert.GateDx.Hand

open Idealize.ShloMosaic Idealize.ShloMosaic.TcCoe Idealize.SL.Sem Cert.Blocks

/-- The two texts' kernel bodies are one. -/
theorem bodies_eq : Cert.GateDx.defs₀ (F := Bits) = Cert.GateDxIdeal.defs₀ (F := Bits) := by
  refine congrArg (Defs.onTc (nD := Cert.GateDxIdeal.nD) (τ := Cert.GateDxIdeal.τ) (sig := Cert.GateDxIdeal.sig) (Λ := Cert.GateDxIdeal.Λ₀))
    (funext fun l => funext fun x => ?_)
  match l, x with
  | ⟨0, _⟩, (t, s) => rfl

theorem defs_eq : Cert.GateDx.defs (F := Bits) = Cert.GateDxIdeal.defs (F := Bits) :=
  congrArg (Pipeline.defs (Cert.GateDxIdeal.pcfgs (F := Bits))) bodies_eq

theorem frame : Cert.quiescent_GateDx (hGateDx := Cert.GateDx.Gen.facts) := fun m ρ _ => by
  rw [defs_eq]
  exact Cert.GateDxIdeal.Gen.frame (F := Bits) m ρ

theorem frameIdeal : Cert.quiescent_GateDxIdeal (hGateDxIdeal := Cert.GateDxIdeal.Gen.facts) := fun m ρ _ =>
  Cert.GateDxIdeal.Gen.frame m ρ

theorem frameReference : Cert.quiescent_GateDxReferenceIdeal (hGateDxReferenceIdeal := Cert.GateDxReferenceIdeal.Gen.facts) := fun m ρ _ =>
  (θ_run Cert.GateDxReferenceIdeal.defs _ _).mono (fun _ h => ⟨fun c => (h c).2, sem_eq_zero_of_no_sems (by decide) _⟩)
    (Cert.GateDxReferenceIdeal.Value.run m ρ)

theorem algebraic : Cert.algebraic_GateDxIdeal_GateDxReferenceIdeal (hGateDxIdeal := Cert.GateDxIdeal.Gen.facts)
    (hGateDxReferenceIdeal := Cert.GateDxReferenceIdeal.Gen.facts) := by
  intro m g m' g' _ hm
  refine ⟨_, (θ_run Cert.GateDxIdeal.defs _ _).mono (fun _ h c => ⟨(h c).1.trans (Cert.GateDxIdeal.Hand.final_args m c), (h c).2⟩) (Cert.GateDxIdeal.Value.run_blocks m g),
    (θ_run Cert.GateDxReferenceIdeal.defs _ _).mono (fun _ h c => ⟨(h c).1.trans ?_, (h c).2⟩) (Cert.GateDxReferenceIdeal.Value.run m' g')⟩
  obtain ⟨h0, h1, h2, h3, h4⟩ := hm c
  rw [h0, h1, h2, h3, h4]
  funext j
  pointwise [nt, gateGrad, squash, nn]

end Cert.GateDx.Hand
-- ==== Proof.PleDw.lean ====
/-
  The gradient of the embedding projection's weight, `pᵀ · d_proj`, laid out in four slots of columns: the kernel walks
  the 4096 tokens in two blocks, keeps the first block's product in its accumulator and adds the second; the reference is
  one product over all tokens, its columns cut in four and stacked.
-/
module

public import proofs.«01_k».proof.Defs
public import proofs.«01_k».proof.Proof.Gen.PleDw
public import proofs.«01_k».proof.Proof.Gen.PleDwIdeal.Value
public import proofs.«01_k».proof.Proof.Gen.PleDwReferenceIdeal.Run
public import proofs.«01_k».proof.Proof.Embed

@[expose] public section

noncomputable section

namespace Cert.PleDwIdeal.Hand

open Cert.PleDwIdeal Cert.PleDwIdeal.Gen Idealize.ShloMosaic Idealize.ShloMosaic.TcCoe Idealize.SL.Sem Cert.Blocks

variable (m : (ℓ : Loc nD τ sig) → Buf (Elt Ideal) ℓ) (ρ : Dev nD → PrngReg)

/-- A place of a block by its row and column. -/
abbrev place (i : S256x512.Idx) : S1x256x512.Idx := ix3 0 (i 0) (i 1)

theorem first_apply (x : Vec Ideal S2048x256 .f32) (y : Vec Ideal S2048x512 .bf16) (j : S256x512.Idx) : k0_pay2 x y j = tn x y j := by
  pointwise [k0_pay2, k0_pay1, tn]

theorem last_apply (x : Vec Ideal S2048x256 .f32) (y : Vec Ideal S2048x512 .bf16) (z : Vec Ideal S256x512 .f32) (j : S256x512.Idx) :
    k0_pay4 x y z (place j) = z j + tn x y j := by
  pointwise [k0_pay4, k0_pay1, tn, place]

/-- What a block of the result holds once it is written back: the stretches' products. -/
theorem out (c : Dev nD) (t : Fin cfg0.N) (h : t.val % 2 = 1) (j : S256x512.Idx) :
    (outsAt0 m c t.val t.isLt).1 (place j) = ∑ s : Fin 2,
      tn (iblk m c 0 ⟨2 * (t.val / 2) + s.val, Pipeline.run_point_lt_of_flush t h s⟩ : Vec Ideal S2048x256 .f32)
        (iblk m c 1 ⟨2 * (t.val / 2) + s.val, Pipeline.run_point_lt_of_flush t h s⟩ : Vec Ideal S2048x512 .bf16) j :=
  run_sum 2 (fun p hp j => (outsAt0 m c p hp).1 (place j)) (fun p hp => (outsAt0 m c p hp).2)
    (fun t => tn (iblk m c 0 t : Vec Ideal S2048x256 .f32) (iblk m c 1 t : Vec Ideal S2048x512 .bf16)) (by decide)
    (fun t h0 i => by
      rw [outsAt0_A m c t h0 (by omega)]
      frame_out
      exact first_apply _ _ i)
    (fun t h0 h1 i => absurd h1 (by omega))
    (fun t h0 i => by
      rw [outsAt0_B m c t (by omega) h0]
      frame_out
      rw [(Memref.isWhole_whole cc0_scratch0).read_unread]
      exact last_apply _ _ _ i)
    t h j

theorem index0 : ∀ t : Fin cfg0.N, win0_0.index t = ![t.val % 2, 0] := (by decide +kernel : ∀ t : Fin grid0.N, _)
theorem index1 : ∀ t : Fin cfg0.N, win0_1.index t = ![t.val % 2, t.val / 2] := (by decide +kernel : ∀ t : Fin grid0.N, _)
theorem index2 : ∀ t : Fin cfg0.N, win0_2.index t = ![t.val / 2, 0, 0] := (by decide +kernel : ∀ t : Fin grid0.N, _)

/-- A place of the slots as one of the product laid out side by side. -/
def wide (i : S4x256x512.Idx) : (⟨2, ![256, 2048]⟩ : Shape).Idx :=
  ix2 (i 1) ⟨(i 0).val * 512 + (i 2).val, place_lt (K := 2048) (S := 4) (K' := 512) rfl (i 0) (i 2)⟩

theorem row_read (c : Dev nD) (t : Fin cfg0.N) (k : Fin 2048) (r : Fin 256) (p : Fin 4096) (n : Fin 256)
    (hp : p.val = t.val % 2 * 2048 + k.val) (hn : n.val = r.val) :
    (iblk m c 0 t : Vec Ideal S2048x256 .f32) (ix2 k r) = (V m c main_arg1 : FVec Ideal S4096x256 .f32) (ix2 p n) := by
  blk_ext [iblk, index0]

theorem col_read (c : Dev nD) (t : Fin cfg0.N) (k : Fin 2048) (r : Fin 512) (p : Fin 4096) (n : Fin 2048)
    (hp : p.val = t.val % 2 * 2048 + k.val) (hn : n.val = t.val / 2 * 512 + r.val) :
    (iblk m c 1 t : Vec Ideal S2048x512 .bf16) (ix2 k r) = (V m c main_v15 : FVec Ideal S4096x2048 .bf16) (ix2 p n) := by
  blk_ext [iblk, index1]

theorem emb0 (t : Fin cfg0.N) (y : S1x256x512.Idx) : ((win0_2.blk t).view.emb y 0).val = t.val / 2 := by
  blk_simp [index2]
theorem emb1 (t : Fin cfg0.N) (y : S1x256x512.Idx) : ((win0_2.blk t).view.emb y 1).val = (y 1).val := by
  blk_simp [index2]
theorem emb2 (t : Fin cfg0.N) (y : S1x256x512.Idx) : ((win0_2.blk t).view.emb y 2).val = (y 2).val := by
  blk_simp [index2]

/-- The result: the product over all tokens of what the call is given. -/
theorem final (c : Dev nD) : (dats m 0 c).arrAt 2 cfg0.N
    = fun i : S4x256x512.Idx => tn (V m c main_arg1 : FVec Ideal S4096x256 .f32) (V m c main_v15 : FVec Ideal S4096x2048 .bf16) (wide i) := by
  refine (dats m 0 c).arrAt_eq_of_covers 2 _ (by decide +kernel) fun t hf y => ?_
  have ht : t.val % 2 = 1 := (flush0_2 t).mp hf
  have hy : y = place (ix2 (n0 := 256) (n1 := 512) (y 1) (y 2)) :=
    (eq_ix3 (n0 := 1) (n1 := 256) (n2 := 512) y).trans (congrArg (fun a => ix3 a _ _) (Fin.fin_one_eq_zero _))
  have e0 := emb0 t y
  have e1 := emb1 t y
  have e2 := emb2 t y
  blk_simp
  rw [after0_2]
  refine (congrArg _ hy).trans ((out m c t ht _).trans ?_)
  generalize (win0_2.blk t).view.emb y = z at e0 e1 e2 ⊢
  refine tn_blocks (by decide) _ _ _ _ _ _ (fun s k => ?_) (fun s k => ?_)
  · have := s.isLt
    refine row_read m c _ k (y 1) _ _ ?_ ?_
    · dsimp only; omega
    · exact e1
  · have := s.isLt
    refine col_read m c _ k (y 2) _ _ ?_ ?_
    · dsimp only; omega
    · refine Eq.trans (congrArg₂ (fun a b => a * 512 + b) e0 e2) ?_
      dsimp only; omega

theorem p_apply (c : Dev nD) (i : S4096x256.Idx) : (V m c main_arg1 : FVec Ideal S4096x256 .f32) i
    = (m ((c : Thread nD τ).loc main_arg1) : FVec Ideal S4096x256 .f32) i := by
  entry_read
  pointwise

theorem proj_apply (c : Dev nD) (i : S4096x2048.Idx) : (V m c main_v15 : FVec Ideal S4096x2048 .bf16) i
    = projGrad (m ((c : Thread nD τ).loc main_arg0) : FVec Ideal S4096x2048 .f32) (m ((c : Thread nD τ).loc main_arg2) : FVec Ideal S2048x2048 .f32) (m ((c : Thread nD τ).loc main_arg4) : FVec Ideal S4096x2048 .f32) i := by
  entry_read
  pointwise [projGrad, squash, nn]

/-- The result, of the arguments. -/
theorem final_args (c : Dev nD) : (dats m 0 c).arrAt 2 cfg0.N = fun i : S4x256x512.Idx => tn (m ((c : Thread nD τ).loc main_arg1) : FVec Ideal S4096x256 .f32) (projGrad (m ((c : Thread nD τ).loc main_arg0) : FVec Ideal S4096x2048 .f32) (m ((c : Thread nD τ).loc main_arg2) : FVec Ideal S2048x2048 .f32) (m ((c : Thread nD τ).loc main_arg4) : FVec Ideal S4096x2048 .f32)) (wide i) := by
  rw [final]
  funext i
  exact Finset.sum_congr rfl fun k _ => congrArg₂ (fun a b : EReal => a * b) (p_apply m c _) (proj_apply m c _)

end Cert.PleDwIdeal.Hand

namespace Cert.PleDwReferenceIdeal.Hand

open Cert.PleDwReferenceIdeal Cert.PleDwReferenceIdeal.Facts Cert.PleDwReferenceIdeal.Gen Idealize.ShloMosaic Cert.Blocks

/-- Four parts of the columns, stacked: at a place, the product laid out side by side. -/
theorem stack_apply (g : FVec Ideal S256x2048 .f32) (i : S4x256x512.Idx) :
    (concatenate S4x256x512 0 [⟨S1x256x512, (broadcastInDim S1x256x512 ![1, 2] bcast_S256x512_S1x256x512_1_2 (extractStridedSlice S256x512 ![0, 0] g slices_S256x2048_S256x512_0_0) : FVec Ideal S1x256x512 .f32)⟩, ⟨S1x256x512, (broadcastInDim S1x256x512 ![1, 2] bcast_S256x512_S1x256x512_1_2 (extractStridedSlice S256x512 ![0, 512] g slices_S256x2048_S256x512_0_512) : FVec Ideal S1x256x512 .f32)⟩, ⟨S1x256x512, (broadcastInDim S1x256x512 ![1, 2] bcast_S256x512_S1x256x512_1_2 (extractStridedSlice S256x512 ![0, 1024] g slices_S256x2048_S256x512_0_1024) : FVec Ideal S1x256x512 .f32)⟩, ⟨S1x256x512, (broadcastInDim S1x256x512 ![1, 2] bcast_S256x512_S1x256x512_1_2 (extractStridedSlice S256x512 ![0, 1536] g slices_S256x2048_S256x512_0_1536) : FVec Ideal S1x256x512 .f32)⟩]
      concatenates_S1x256x512_S1x256x512_S1x256x512_S1x256x512_S4x256x512_d0 : FVec Ideal S4x256x512 .f32) i
    = g (Cert.PleDwIdeal.Hand.wide i) := by
  pointwise [Cert.PleDwIdeal.Hand.wide]
  have h4 : (i 0).val < 4 := (i 0).isLt
  split_ifs with h0 h1 h2 <;> exact congrArg g (congrArg (ix2 _) (Fin.ext (by dsimp only; omega)))

end Cert.PleDwReferenceIdeal.Hand

namespace Cert.PleDw.Hand

open Idealize.ShloMosaic Idealize.ShloMosaic.TcCoe Idealize.SL.Sem Cert.Blocks

/-- The two texts' kernel bodies are one. -/
theorem bodies_eq : Cert.PleDw.defs₀ (F := Bits) = Cert.PleDwIdeal.defs₀ (F := Bits) := by
  refine congrArg (Defs.onTc (nD := Cert.PleDwIdeal.nD) (τ := Cert.PleDwIdeal.τ) (sig := Cert.PleDwIdeal.sig) (Λ := Cert.PleDwIdeal.Λ₀))
    (funext fun l => funext fun x => ?_)
  match l, x with
  | ⟨0, _⟩, (t, s) => rfl

theorem defs_eq : Cert.PleDw.defs (F := Bits) = Cert.PleDwIdeal.defs (F := Bits) :=
  congrArg (Pipeline.defs (Cert.PleDwIdeal.pcfgs (F := Bits))) bodies_eq

theorem frame : Cert.quiescent_PleDw (hPleDw := Cert.PleDw.Gen.facts) := fun m ρ _ => by
  rw [defs_eq]
  exact Cert.PleDwIdeal.Gen.frame (F := Bits) m ρ

theorem frameIdeal : Cert.quiescent_PleDwIdeal (hPleDwIdeal := Cert.PleDwIdeal.Gen.facts) := fun m ρ _ =>
  Cert.PleDwIdeal.Gen.frame m ρ

theorem frameReference : Cert.quiescent_PleDwReferenceIdeal (hPleDwReferenceIdeal := Cert.PleDwReferenceIdeal.Gen.facts) := fun m ρ _ =>
  (θ_run Cert.PleDwReferenceIdeal.defs _ _).mono (fun _ h => ⟨fun c => (h c).2, sem_eq_zero_of_no_sems (by decide) _⟩)
    (Cert.PleDwReferenceIdeal.Value.run m ρ)

theorem algebraic : Cert.algebraic_PleDwIdeal_PleDwReferenceIdeal (hPleDwIdeal := Cert.PleDwIdeal.Gen.facts)
    (hPleDwReferenceIdeal := Cert.PleDwReferenceIdeal.Gen.facts) := by
  intro m g m' g' _ hm
  refine ⟨_, (θ_run Cert.PleDwIdeal.defs _ _).mono (fun _ h c => ⟨(h c).1.trans (Cert.PleDwIdeal.Hand.final_args m c), (h c).2⟩) (Cert.PleDwIdeal.Value.run_blocks m g),
    (θ_run Cert.PleDwReferenceIdeal.defs _ _).mono (fun _ h c => ⟨(h c).1.trans ?_, (h c).2⟩) (Cert.PleDwReferenceIdeal.Value.run m' g')⟩
  obtain ⟨h0, h1, h2, h3, h4⟩ := hm c
  rw [h0, h1, h2, h4]
  funext j
  refine (Cert.PleDwReferenceIdeal.Hand.stack_apply _ j).trans ?_
  pointwise [tn, projGrad, squash, nn]
  exact Finset.sum_congr rfl fun k _ => mul_comm (G := EReal) _ _

end Cert.PleDw.Hand
-- ==== Proof.Forward.lean ====
/-
  What the forward calls share: a product over a whole contracted axis read off its blocks, a product added to what comes
  in, the square of the positive part, and the norm of each row.
-/
module

public import proofs.«01_k».proof.Proof.Embed

@[expose] public section

noncomputable section

namespace Cert.Blocks

open Idealize.ShloMosaic

variable {M N K M' N' : ℕ}

theorem nn_congr (x' : Mat M' K) (y' : Mat K N') (x : Mat M K) (y : Mat K N)
    (i : (⟨2, ![M', N']⟩ : Shape).Idx) (j : (⟨2, ![M, N]⟩ : Shape).Idx)
    (hx : ∀ k, x' (ix2 (i 0) k) = x (ix2 (j 0) k)) (hy : ∀ k, y' (ix2 k (i 1)) = y (ix2 k (j 1))) : nn x' y' i = nn x y j :=
  Finset.sum_congr rfl fun k _ => by rw [hx k, hy k]

/-- `e + x · y`. -/
def added (e : Mat M N) (x : Mat M K) (y : Mat K N) : Mat M N := fun j => e j + nn x y j

theorem added_congr (e' : Mat M' N') (x' : Mat M' K) (y' : Mat K N') (e : Mat M N) (x : Mat M K) (y : Mat K N)
    (i : (⟨2, ![M', N']⟩ : Shape).Idx) (j : (⟨2, ![M, N]⟩ : Shape).Idx) (he : e' i = e j)
    (hx : ∀ k, x' (ix2 (i 0) k) = x (ix2 (j 0) k)) (hy : ∀ k, y' (ix2 k (i 1)) = y (ix2 k (j 1))) : added e' x' y' i = added e x y j := by
  unfold added
  rw [he, nn_congr x' y' x y i j hx hy]

/-- The square of what is positive, and 0 elsewhere. -/
def positiveSquare (u : EReal) : EReal := max u 0 * max u 0

/-- The hidden units of the MLP. -/
def hiddenUnits (h : Mat 4096 2048) (wUp : Mat 2048 8192) : Mat 4096 8192 := fun i => positiveSquare (nn h wUp i)

/-- Each entry over the root of its row's mean square, a small number added to the mean, times its column's gain. -/
def normed (x : Mat M 2048) (g : Mat 1 2048) : Mat M 2048 := fun i =>
  x i * Ideal.rsqrt (Ideal.div (∑ k : Fin 2048, x (ix2 (i 0) k) * x (ix2 (i 0) k)) (Ideal.ofBits FTy.f32 0x45000000#32)
    + Ideal.ofBits FTy.f32 0x358637BD#32) * g (ix2 0 (i 1))

/-- The norm of a row asks only for that row. -/
theorem normed_congr (x' : Mat M' 2048) (g' : Mat 1 2048) (x : Mat M 2048) (g : Mat 1 2048)
    (i : (⟨2, ![M', 2048]⟩ : Shape).Idx) (j : (⟨2, ![M, 2048]⟩ : Shape).Idx) (h : x' i = x j)
    (hx : ∀ k, x' (ix2 (i 0) k) = x (ix2 (j 0) k)) (hg : g' (ix2 0 (i 1)) = g (ix2 0 (j 1))) : normed x' g' i = normed x g j := by
  unfold normed
  simp only [h, hx, hg]

end Cert.Blocks

end
-- ==== Proof.InFwd.lean ====
/-
  The input projection, `h · w_in`: the kernel is given the weight the other way round, and its blocks each hold the whole
  contracted axis.
-/
module

public import proofs.«01_k».proof.Defs
public import proofs.«01_k».proof.Proof.Gen.InFwd
public import proofs.«01_k».proof.Proof.Gen.InFwdIdeal.Value
public import proofs.«01_k».proof.Proof.Gen.InFwdReferenceIdeal.Run
public import proofs.«01_k».proof.Proof.Forward

@[expose] public section

noncomputable section

namespace Cert.InFwdIdeal.Hand

open Cert.InFwdIdeal Cert.InFwdIdeal.Gen Idealize.ShloMosaic Idealize.ShloMosaic.TcCoe Idealize.SL.Sem Cert.Blocks

variable (m : (ℓ : Loc nD τ sig) → Buf (Elt Ideal) ℓ) (ρ : Dev nD → PrngReg)

theorem body_apply (x : Vec Ideal S1024x2048 .bf16) (y : Vec Ideal S1024x2048 .bf16) (j : S1024x1024.Idx) : k0_pay1 x y j = nt x y j := by
  pointwise [k0_pay1, nt]

theorem index0 : ∀ t : Fin cfg0.N, win0_0.index t = ![t.val / 18, 0] := (by decide +kernel : ∀ t : Fin grid0.N, _)
theorem index1 : ∀ t : Fin cfg0.N, win0_1.index t = ![t.val % 18, 0] := (by decide +kernel : ∀ t : Fin grid0.N, _)
theorem index2 : ∀ t : Fin cfg0.N, win0_2.index t = ![t.val / 18, t.val % 18] := (by decide +kernel : ∀ t : Fin grid0.N, _)

/-- The result: the whole product of what the call is given. -/
theorem final (c : Dev nD) : (dats m 0 c).arrAt 2 cfg0.N = nt (V m c main_v2 : FVec Ideal S4096x2048 .bf16) (V m c main_v1 : FVec Ideal S18432x2048 .bf16) := by
  refine (dats m 0 c).arrAt_eq_of_covers 2 _ (by decide +kernel) fun t hf y => ?_
  blk_simp
  rw [after0_2]
  unfold out0_2
  frame_out
  rw [body_apply]
  refine nt_congr _ _ _ _ y _ (fun k => ?_) fun k => ?_
  · blk_ext [iblk, index0, index2]
  · blk_ext [iblk, index1, index2]

theorem h_apply (c : Dev nD) (i : S4096x2048.Idx) : (V m c main_v2 : FVec Ideal S4096x2048 .bf16) i
    = (m ((c : Thread nD τ).loc main_arg0) : FVec Ideal S4096x2048 .f32) i := by
  entry_read
  pointwise

theorem w_apply (c : Dev nD) (i : S18432x2048.Idx) : (V m c main_v1 : FVec Ideal S18432x2048 .bf16) i
    = (m ((c : Thread nD τ).loc main_arg1) : FVec Ideal S2048x18432 .f32) (ix2 (i 1) (i 0)) := by
  entry_read
  pointwise

/-- The result, of the arguments. -/
theorem final_args (c : Dev nD) : (dats m 0 c).arrAt 2 cfg0.N = nn (m ((c : Thread nD τ).loc main_arg0) : FVec Ideal S4096x2048 .f32) (m ((c : Thread nD τ).loc main_arg1) : FVec Ideal S2048x18432 .f32) := by
  rw [final]
  funext j
  exact Finset.sum_congr rfl fun k _ => congrArg₂ (fun a b : EReal => a * b) (h_apply m c _) (w_apply m c _)

end Cert.InFwdIdeal.Hand

namespace Cert.InFwd.Hand

open Idealize.ShloMosaic Idealize.ShloMosaic.TcCoe Idealize.SL.Sem Cert.Blocks

/-- The two texts' kernel bodies are one. -/
theorem bodies_eq : Cert.InFwd.defs₀ (F := Bits) = Cert.InFwdIdeal.defs₀ (F := Bits) := by
  refine congrArg (Defs.onTc (nD := Cert.InFwdIdeal.nD) (τ := Cert.InFwdIdeal.τ) (sig := Cert.InFwdIdeal.sig) (Λ := Cert.InFwdIdeal.Λ₀))
    (funext fun l => funext fun x => ?_)
  match l, x with
  | ⟨0, _⟩, (t, s) => rfl

theorem defs_eq : Cert.InFwd.defs (F := Bits) = Cert.InFwdIdeal.defs (F := Bits) :=
  congrArg (Pipeline.defs (Cert.InFwdIdeal.pcfgs (F := Bits))) bodies_eq

theorem frame : Cert.quiescent_InFwd (hInFwd := Cert.InFwd.Gen.facts) := fun m ρ _ => by
  rw [defs_eq]
  exact Cert.InFwdIdeal.Gen.frame (F := Bits) m ρ

theorem frameIdeal : Cert.quiescent_InFwdIdeal (hInFwdIdeal := Cert.InFwdIdeal.Gen.facts) := fun m ρ _ =>
  Cert.InFwdIdeal.Gen.frame m ρ

theorem frameReference : Cert.quiescent_InFwdReferenceIdeal (hInFwdReferenceIdeal := Cert.InFwdReferenceIdeal.Gen.facts) := fun m ρ _ =>
  (θ_run Cert.InFwdReferenceIdeal.defs _ _).mono (fun _ h => ⟨fun c => (h c).2, sem_eq_zero_of_no_sems (by decide) _⟩)
    (Cert.InFwdReferenceIdeal.Value.run m ρ)

theorem algebraic : Cert.algebraic_InFwdIdeal_InFwdReferenceIdeal (hInFwdIdeal := Cert.InFwdIdeal.Gen.facts)
    (hInFwdReferenceIdeal := Cert.InFwdReferenceIdeal.Gen.facts) := by
  intro m g m' g' _ hm
  refine ⟨_, (θ_run Cert.InFwdIdeal.defs _ _).mono (fun _ h c => ⟨(h c).1.trans (Cert.InFwdIdeal.Hand.final_args m c), (h c).2⟩) (Cert.InFwdIdeal.Value.run_blocks m g),
    (θ_run Cert.InFwdReferenceIdeal.defs _ _).mono (fun _ h c => ⟨(h c).1.trans ?_, (h c).2⟩) (Cert.InFwdReferenceIdeal.Value.run m' g')⟩
  obtain ⟨h0, h1⟩ := hm c
  rw [h0, h1]
  funext j
  pointwise [nn]

end Cert.InFwd.Hand
-- ==== Proof.UpFwd.lean ====
/-
  The MLP's first product and its activation, `u = h2 · w_up` and `max(u, 0)²`: the kernel is given the weight cut in four
  slots of columns, and its blocks each hold the whole contracted axis.
-/
module

public import proofs.«01_k».proof.Defs
public import proofs.«01_k».proof.Proof.Gen.UpFwd
public import proofs.«01_k».proof.Proof.Gen.UpFwdIdeal.Value
public import proofs.«01_k».proof.Proof.Gen.UpFwdReferenceIdeal.Run
public import proofs.«01_k».proof.Proof.Forward

@[expose] public section

noncomputable section

namespace Cert.UpFwdIdeal.Hand

open Cert.UpFwdIdeal Cert.UpFwdIdeal.Gen Idealize.ShloMosaic Idealize.ShloMosaic.TcCoe Idealize.SL.Sem Cert.Blocks

variable (m : (ℓ : Loc nD τ sig) → Buf (Elt Ideal) ℓ) (ρ : Dev nD → PrngReg)

/-- A slot's block as a matrix. -/
abbrev slot (y : Vec Ideal S1x2048x1024 .bf16) : Mat 2048 1024 := fun i => y (ix3 0 (i 0) (i 1))

theorem body_apply (x : Vec Ideal S1024x2048 .bf16) (y : Vec Ideal S1x2048x1024 .bf16) (j : S1024x1024.Idx) : k0_pay1 x y j = nn x (slot y) j := by
  pointwise [k0_pay1, nn, slot]

theorem body_apply2 (x : Vec Ideal S1024x2048 .bf16) (y : Vec Ideal S1x2048x1024 .bf16) (j : S1024x1024.Idx) :
    k0_pay2 x y j = positiveSquare (nn x (slot y) j) := by
  pointwise [k0_pay2, k0_pay1, nn, slot, positiveSquare]

theorem index0 : ∀ t : Fin cfg0.N, win0_0.index t = ![t.val / 8, 0] := (by decide +kernel : ∀ t : Fin grid0.N, _)
theorem index1 : ∀ t : Fin cfg0.N, win0_1.index t = ![t.val % 8 / 2, 0, t.val % 2] := (by decide +kernel : ∀ t : Fin grid0.N, _)
theorem index2 : ∀ t : Fin cfg0.N, win0_2.index t = ![t.val / 8, t.val % 8] := (by decide +kernel : ∀ t : Fin grid0.N, _)
theorem index3 : ∀ t : Fin cfg0.N, win0_3.index t = ![t.val / 8, t.val % 8] := (by decide +kernel : ∀ t : Fin grid0.N, _)

/-- The slots side by side. -/
def wide (c : Dev nD) : Mat 2048 8192 := fun i =>
  (V m c main_v2 : FVec Ideal S4x2048x2048 .bf16) (ix3 ⟨(i 1).val / 2048, by have : (i 1).val < 8192 := (i 1).isLt; omega⟩ (i 0) ⟨(i 1).val % 2048, by omega⟩)

/-- The first result: the whole product of what the call is given. -/
theorem final (c : Dev nD) : (dats m 0 c).arrAt 2 cfg0.N = nn (V m c main_v3 : FVec Ideal S4096x2048 .bf16) (wide m c) := by
  refine (dats m 0 c).arrAt_eq_of_covers 2 _ (by decide +kernel) fun t hf y => ?_
  blk_simp
  rw [after0_2]
  unfold out0_2
  frame_out
  rw [body_apply]
  refine nn_congr _ _ _ _ y _ (fun k => ?_) fun k => ?_
  · blk_ext [iblk, index0, index2]
  · unfold slot wide
    blk_ext [iblk, index1, index2]

/-- The second: the square of its positive part. -/
theorem final2 (c : Dev nD) : (dats m 0 c).arrAt 3 cfg0.N
    = (fun j => positiveSquare (nn (V m c main_v3 : FVec Ideal S4096x2048 .bf16) (wide m c) j) : Mat 4096 8192) := by
  refine (dats m 0 c).arrAt_eq_of_covers 3 _ (by decide +kernel) fun t hf y => ?_
  blk_simp
  rw [after0_3]
  unfold out0_3
  frame_out
  rw [body_apply2]
  refine congrArg positiveSquare (nn_congr _ _ _ _ y _ (fun k => ?_) fun k => ?_)
  · blk_ext [iblk, index0, index3]
  · unfold slot wide
    blk_ext [iblk, index1, index3]

theorem h_apply (c : Dev nD) (i : S4096x2048.Idx) : (V m c main_v3 : FVec Ideal S4096x2048 .bf16) i
    = (m ((c : Thread nD τ).loc main_arg0) : FVec Ideal S4096x2048 .f32) i := by
  entry_read
  pointwise

/-- The weight's slots the call is given. -/
theorem w_apply (c : Dev nD) (s : Fin 4) (n : Fin 2048) (k : Fin 2048) : (V m c main_v2 : FVec Ideal S4x2048x2048 .bf16) (ix3 s n k)
    = (m ((c : Thread nD τ).loc main_arg1) : FVec Ideal S2048x8192 .f32) (ix2 n ⟨s.val * 2048 + k.val, place_lt (K := 8192) (S := 4) (K' := 2048) rfl s k⟩) := by
  entry_read
  pointwise

theorem wide_eq (c : Dev nD) (k : Fin 2048) (n : Fin 8192) : wide m c (ix2 k n) = (m ((c : Thread nD τ).loc main_arg1) : FVec Ideal S2048x8192 .f32) (ix2 k n) := by
  unfold wide
  refine (w_apply m c _ _ _).trans ?_
  exact congrArg _ (congrArg (ix2 _) (Fin.ext (Nat.div_add_mod' _ _)))

theorem product (c : Dev nD) (j : S4096x8192.Idx) : nn (V m c main_v3 : FVec Ideal S4096x2048 .bf16) (wide m c) j = nn (m ((c : Thread nD τ).loc main_arg0) : FVec Ideal S4096x2048 .f32) (m ((c : Thread nD τ).loc main_arg1) : FVec Ideal S2048x8192 .f32) j :=
  nn_congr _ _ _ _ j j (fun k => h_apply m c _) fun k => wide_eq m c _ _

/-- The results, of the arguments. -/
theorem final_args (c : Dev nD) : (dats m 0 c).arrAt 2 cfg0.N = nn (m ((c : Thread nD τ).loc main_arg0) : FVec Ideal S4096x2048 .f32) (m ((c : Thread nD τ).loc main_arg1) : FVec Ideal S2048x8192 .f32) :=
  (final m c).trans (funext fun j => product m c j)

theorem final_args2 (c : Dev nD) : (dats m 0 c).arrAt 3 cfg0.N
    = (fun j => positiveSquare (nn (m ((c : Thread nD τ).loc main_arg0) : FVec Ideal S4096x2048 .f32) (m ((c : Thread nD τ).loc main_arg1) : FVec Ideal S2048x8192 .f32) j) : Mat 4096 8192) :=
  (final2 m c).trans (funext fun j => congrArg positiveSquare (product m c j))

end Cert.UpFwdIdeal.Hand

namespace Cert.UpFwd.Hand

open Idealize.ShloMosaic Idealize.ShloMosaic.TcCoe Idealize.SL.Sem Cert.Blocks

/-- The two texts' kernel bodies are one. -/
theorem bodies_eq : Cert.UpFwd.defs₀ (F := Bits) = Cert.UpFwdIdeal.defs₀ (F := Bits) := by
  refine congrArg (Defs.onTc (nD := Cert.UpFwdIdeal.nD) (τ := Cert.UpFwdIdeal.τ) (sig := Cert.UpFwdIdeal.sig) (Λ := Cert.UpFwdIdeal.Λ₀))
    (funext fun l => funext fun x => ?_)
  match l, x with
  | ⟨0, _⟩, (t, s) => rfl

theorem defs_eq : Cert.UpFwd.defs (F := Bits) = Cert.UpFwdIdeal.defs (F := Bits) :=
  congrArg (Pipeline.defs (Cert.UpFwdIdeal.pcfgs (F := Bits))) bodies_eq

theorem frame : Cert.quiescent_UpFwd (hUpFwd := Cert.UpFwd.Gen.facts) := fun m ρ _ => by
  rw [defs_eq]
  exact Cert.UpFwdIdeal.Gen.frame (F := Bits) m ρ

theorem frameIdeal : Cert.quiescent_UpFwdIdeal (hUpFwdIdeal := Cert.UpFwdIdeal.Gen.facts) := fun m ρ _ =>
  Cert.UpFwdIdeal.Gen.frame m ρ

theorem frameReference : Cert.quiescent_UpFwdReferenceIdeal (hUpFwdReferenceIdeal := Cert.UpFwdReferenceIdeal.Gen.facts) := fun m ρ _ =>
  (θ_run Cert.UpFwdReferenceIdeal.defs _ _).mono (fun _ h => ⟨fun c => (h c).2.2, sem_eq_zero_of_no_sems (by decide) _⟩)
    (Cert.UpFwdReferenceIdeal.Value.run m ρ)

theorem algebraic : Cert.algebraic_UpFwdIdeal_UpFwdReferenceIdeal (hUpFwdIdeal := Cert.UpFwdIdeal.Gen.facts)
    (hUpFwdReferenceIdeal := Cert.UpFwdReferenceIdeal.Gen.facts) := by
  intro m g m' g' _ hm
  refine ⟨_, _, (θ_run Cert.UpFwdIdeal.defs _ _).mono (fun _ h c => ⟨(h c).1.trans (Cert.UpFwdIdeal.Hand.final_args m c), (h c).2.1.trans (Cert.UpFwdIdeal.Hand.final_args2 m c), (h c).2.2⟩) (Cert.UpFwdIdeal.Value.run_blocks m g),
    (θ_run Cert.UpFwdReferenceIdeal.defs _ _).mono (fun _ h c =>  ⟨(h c).1.trans ?_, (h c).2.1.trans ?_, (h c).2.2⟩) (Cert.UpFwdReferenceIdeal.Value.run m' g')⟩
  · obtain ⟨h0, h1⟩ := hm c
    rw [h0, h1]
    funext j
    pointwise [nn]
  · obtain ⟨h0, h1⟩ := hm c
    rw [h0, h1]
    funext j
    pointwise [nn, positiveSquare]

end Cert.UpFwd.Hand
-- ==== Proof.DownFwd.lean ====
/-
  The MLP's second product added to what comes in, `x2 = x1 + max(h2 · w_up, 0)² · w_down`, and the norm of its rows: the kernel
  is given the hidden units, walks them in four stretches and adds their products up in its accumulator; its blocks hold
  whole rows. The reference is one product.
-/
module

public import proofs.«01_k».proof.Defs
public import proofs.«01_k».proof.Proof.Gen.DownFwd
public import proofs.«01_k».proof.Proof.Gen.DownFwdIdeal.Value
public import proofs.«01_k».proof.Proof.Gen.DownFwdReferenceIdeal.Run
public import proofs.«01_k».proof.Proof.Forward

@[expose] public section

noncomputable section

namespace Cert.DownFwdIdeal.Hand

open Cert.DownFwdIdeal Cert.DownFwdIdeal.Gen Idealize.ShloMosaic Idealize.ShloMosaic.TcCoe Idealize.SL.Sem Cert.Blocks

variable (m : (ℓ : Loc nD τ sig) → Buf (Elt Ideal) ℓ) (ρ : Dev nD → PrngReg)

theorem first_apply (x : Vec Ideal S512x2048 .bf16) (y : Vec Ideal S2048x2048 .bf16) (j : S512x2048.Idx) : k0_pay2 x y j = nn x y j := by
  pointwise [k0_pay2, k0_pay1, nn]

theorem middle_apply (x : Vec Ideal S512x2048 .bf16) (y : Vec Ideal S2048x2048 .bf16) (z : Vec Ideal S512x2048 .f32) (j : S512x2048.Idx) :
    k0_pay3 x y z j = z j + nn x y j := by
  pointwise [k0_pay3, k0_pay1, nn]

theorem last_apply (x : Vec Ideal S512x2048 .bf16) (y : Vec Ideal S2048x2048 .bf16) (z e : Vec Ideal S512x2048 .f32) (j : S512x2048.Idx) :
    k0_pay4 x y z e j = e j + (z j + nn x y j) := by
  pointwise [k0_pay4, k0_pay1, nn]

theorem norm_apply (x : Vec Ideal S512x2048 .bf16) (y : Vec Ideal S2048x2048 .bf16) (z e : Vec Ideal S512x2048 .f32) (g : Vec Ideal S1x2048 .f32)
    (j : S512x2048.Idx) : k0_pay5 x y z e g j = normed (k0_pay4 x y z e : Vec Ideal S512x2048 .f32) g j := by
  unfold k0_pay5
  generalize k0_pay4 x y z e = r
  pointwise [normed]

/-- The last stretch leaves the accumulator as it was. -/
theorem kept (c : Dev nD) (t : Fin cfg0.N) (h : t.val % 4 = 3) : (outsAt0 m c t.val t.isLt).2.2 = (outsAt0 m c (t.val - 1) (Nat.lt_of_le_of_lt (Nat.sub_le _ _) t.isLt)).2.2 := by
  rw [outsAt0_C m c t (by omega) (by omega) h]
  rfl

/-- The accumulator and the last stretch's product: the four stretches' products. -/
theorem total (c : Dev nD) (t : Fin cfg0.N) (h : t.val % 4 = 3) (j : S512x2048.Idx) :
    ((outsAt0 m c (t.val - 1) (Nat.lt_of_le_of_lt (Nat.sub_le _ _) t.isLt)).2.2 : Vec Ideal S512x2048 .f32) j + nn (iblk m c 0 t : Vec Ideal S512x2048 .bf16) (iblk m c 1 t : Vec Ideal S2048x2048 .bf16) j = ∑ s : Fin 4, nn (iblk m c 0 ⟨4 * (t.val / 4) + s.val, Pipeline.run_point_lt_of_flush t h s⟩ : Vec Ideal S512x2048 .bf16)
        (iblk m c 1 ⟨4 * (t.val / 4) + s.val, Pipeline.run_point_lt_of_flush t h s⟩ : Vec Ideal S2048x2048 .bf16) j := by
  rw [← kept m c t h]
  exact run_sum 4 (fun p hp j => ((outsAt0 m c p hp).2.2 : Vec Ideal S512x2048 .f32) j + nn (iblk m c 0 ⟨p, hp⟩ : Vec Ideal S512x2048 .bf16) (iblk m c 1 ⟨p, hp⟩ : Vec Ideal S2048x2048 .bf16) j)
    (fun p hp => (outsAt0 m c p hp).2.2)
    (fun t => nn (iblk m c 0 t : Vec Ideal S512x2048 .bf16) (iblk m c 1 t : Vec Ideal S2048x2048 .bf16)) (by decide)
    (fun t h0 i => by
      rw [outsAt0_A m c t h0 (by omega) (by omega)]
      frame_out
      exact first_apply _ _ i)
    (fun t h0 h1 i => by
      rw [outsAt0_B m c t h0 (by omega) h1]
      frame_out
      rw [(Memref.isWhole_whole cc0_scratch0).read_unread]
      exact middle_apply _ _ _ i)
    (fun t h0 i => by rw [kept m c t h0])
    t h j

theorem index0 : ∀ t : Fin cfg0.N, win0_0.index t = ![t.val / 4, t.val % 4] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val / 4, 0] := (by decide +kernel : ∀ t : Fin grid0.N, _)
theorem index5 : ∀ t : Fin cfg0.N, win0_5.index t = ![t.val / 4, 0] := (by decide +kernel : ∀ t : Fin grid0.N, _)

theorem row0 (c : Dev nD) (t : Fin cfg0.N) (r : Fin 512) (k : Fin 2048) (p : Fin 4096) (n : Fin 8192) (hp : p.val = t.val / 4 * 512 + r.val)
    (hn : n.val = t.val % 4 * 2048 + k.val) : (iblk m c 0 t : Vec Ideal S512x2048 .bf16) (ix2 r k) = (V m c main_v3 : FVec Ideal S4096x8192 .bf16) (ix2 p n) := by
  blk_ext [iblk, index0]
theorem row1 (c : Dev nD) (t : Fin cfg0.N) (r k : Fin 2048) (n : Fin 8192) (hn : n.val = t.val % 4 * 2048 + r.val) :
    (iblk m c 1 t : Vec Ideal S2048x2048 .bf16) (ix2 r k) = (V m c main_v4 : FVec Ideal S8192x2048 .bf16) (ix2 n k) := by
  blk_ext [iblk, index1]
theorem row2 (c : Dev nD) (t : Fin cfg0.N) (r : Fin 512) (k : Fin 2048) (p : Fin 4096) (hp : p.val = t.val / 4 * 512 + r.val) :
    (iblk m c 2 t : Vec Ideal S512x2048 .f32) (ix2 r k) = (V m c main_arg3 : FVec Ideal S4096x2048 .f32) (ix2 p k) := by
  blk_ext [iblk, index2]
theorem row3 (c : Dev nD) (t : Fin cfg0.N) (k : Fin 2048) : (iblk m c 3 t : Vec Ideal S1x2048 .f32) (ix2 0 k) = (V m c main_arg4 : FVec Ideal S1x2048 .f32) (ix2 0 k) := by
  blk_ext [iblk, index3]

/-- A row of a block's sum is the row of the whole. -/
theorem added_row (c : Dev nD) (t : Fin cfg0.N) (h : t.val % 4 = 3) (r : Fin 512) (k : Fin 2048) (p : Fin 4096) (hp : p.val = t.val / 4 * 512 + r.val) :
    k0_pay4 (iblk m c 0 t : Vec Ideal S512x2048 .bf16) (iblk m c 1 t : Vec Ideal S2048x2048 .bf16) ((outsAt0 m c (t.val - 1) (Nat.lt_of_le_of_lt (Nat.sub_le _ _) t.isLt)).2.2 : Vec Ideal S512x2048 .f32) (iblk m c 2 t : Vec Ideal S512x2048 .f32) (ix2 r k) = added (V m c main_arg3 : FVec Ideal S4096x2048 .f32) (V m c main_v3 : FVec Ideal S4096x8192 .bf16) (V m c main_v4 : FVec Ideal S8192x2048 .bf16) (ix2 p k) := by
  refine (last_apply _ _ _ _ _).trans (congrArg₂ (fun a b : EReal => a + b) (row2 m c t r k p hp) ((total m c t h _).trans ?_))
  refine nn_blocks (by decide) _ _ _ _ (ix2 r k) (ix2 p k) (fun s n => ?_) (fun s n => ?_)
  · have := s.isLt
    refine row0 m c _ r n p _ ?_ ?_
    · dsimp only; omega
    · dsimp only; omega
  · have := s.isLt
    refine row1 m c _ n k _ ?_
    dsimp only; omega

theorem added_at (c : Dev nD) (t : Fin cfg0.N) (h : t.val % 4 = 3) (y : S512x2048.Idx) (z : S4096x2048.Idx)
    (h0 : (z 0).val = t.val / 4 * 512 + (y 0).val) (h1 : z 1 = y 1) :
    k0_pay4 (iblk m c 0 t : Vec Ideal S512x2048 .bf16) (iblk m c 1 t : Vec Ideal S2048x2048 .bf16) ((outsAt0 m c (t.val - 1) (Nat.lt_of_le_of_lt (Nat.sub_le _ _) t.isLt)).2.2 : Vec Ideal S512x2048 .f32) (iblk m c 2 t : Vec Ideal S512x2048 .f32) y = added (V m c main_arg3 : FVec Ideal S4096x2048 .f32) (V m c main_v3 : FVec Ideal S4096x8192 .bf16) (V m c main_v4 : FVec Ideal S8192x2048 .bf16) z :=
  (congrArg _ (eq_ix2 (n0 := 512) (n1 := 2048) y)).trans ((added_row m c t h (y 0) (y 1) (z 0) h0).trans
    (congrArg _ ((congrArg (ix2 (n0 := 4096) (n1 := 2048) (z 0)) h1.symm).trans (eq_ix2 (n0 := 4096) (n1 := 2048) z).symm)))

theorem emb4_0 (t : Fin cfg0.N) (y : S512x2048.Idx) : ((win0_4.blk t).view.emb y 0).val = t.val / 4 * 512 + (y 0).val := by
  blk_simp [index4]
theorem emb4_1 (t : Fin cfg0.N) (y : S512x2048.Idx) : ((win0_4.blk t).view.emb y 1).val = (y 1).val := by
  blk_simp [index4]
theorem emb5_0 (t : Fin cfg0.N) (y : S512x2048.Idx) : ((win0_5.blk t).view.emb y 0).val = t.val / 4 * 512 + (y 0).val := by
  blk_simp [index5]
theorem emb5_1 (t : Fin cfg0.N) (y : S512x2048.Idx) : ((win0_5.blk t).view.emb y 1).val = (y 1).val := by
  blk_simp [index5]

/-- The first result: the sum of what the call is given. -/
theorem final (c : Dev nD) : (dats m 0 c).arrAt 4 cfg0.N = added (V m c main_arg3 : FVec Ideal S4096x2048 .f32) (V m c main_v3 : FVec Ideal S4096x8192 .bf16) (V m c main_v4 : FVec Ideal S8192x2048 .bf16) := by
  refine (dats m 0 c).arrAt_eq_of_covers 4 _ (by decide +kernel) fun t hf y => ?_
  have ht : t.val % 4 = 3 := (flush0_4 t).mp hf
  have e0 := emb4_0 t y
  have e1 := emb4_1 t y
  blk_simp
  rw [after0_4, outsAt0_C m c t (by omega) (by omega) ht]
  frame_out
  rw [(Memref.isWhole_whole cc0_scratch0).read_unread]
  generalize (win0_4.blk t).view.emb y = z at e0 e1 ⊢
  exact added_at m c t ht y z e0 (Fin.ext e1)

/-- The second: the norm of its rows. -/
theorem final2 (c : Dev nD) : (dats m 0 c).arrAt 5 cfg0.N = normed (added (V m c main_arg3 : FVec Ideal S4096x2048 .f32) (V m c main_v3 : FVec Ideal S4096x8192 .bf16) (V m c main_v4 : FVec Ideal S8192x2048 .bf16)) (V m c main_arg4 : FVec Ideal S1x2048 .f32) := by
  refine (dats m 0 c).arrAt_eq_of_covers 5 _ (by decide +kernel) fun t hf y => ?_
  have ht : t.val % 4 = 3 := (flush0_5 t).mp hf
  have e0 := emb5_0 t y
  have e1 := emb5_1 t y
  blk_simp
  rw [after0_5, outsAt0_C m c t (by omega) (by omega) ht]
  frame_out
  rw [(Memref.isWhole_whole cc0_scratch0).read_unread]
  generalize (win0_5.blk t).view.emb y = z at e0 e1 ⊢
  refine (norm_apply _ _ _ _ _ _).trans (normed_congr _ _ _ _ y z (added_at m c t ht y z e0 (Fin.ext e1))
    (fun k => added_row m c t ht (y 0) k (z 0) e0) ((row3 m c t (y 1)).trans ?_))
  exact congrArg _ (congrArg (ix2 (n0 := 1) (n1 := 2048) 0) (Fin.ext e1.symm))

theorem act_apply (c : Dev nD) (i : S4096x8192.Idx) : (V m c main_v3 : FVec Ideal S4096x8192 .bf16) i
    = hiddenUnits (m ((c : Thread nD τ).loc main_arg0) : FVec Ideal S4096x2048 .f32) (m ((c : Thread nD τ).loc main_arg1) : FVec Ideal S2048x8192 .f32) i := by
  simp only [V, hostOps0, hostOps0_1, hostOps0_2, List.flatten_cons, List.flatten_nil, List.append_nil, List.cons_append,
    List.nil_append, StableHlo.TRef.binary, StableHlo.TRef.nullary, StableHlo.TRef.unary, StableHlo.TRef.toBuf, StableHlo.TRef.ofBuf, cast_eq]
  entry_read
  pointwise [hiddenUnits, positiveSquare, nn]

theorem w_apply (c : Dev nD) (i : S8192x2048.Idx) : (V m c main_v4 : FVec Ideal S8192x2048 .bf16) i
    = (m ((c : Thread nD τ).loc main_arg2) : FVec Ideal S8192x2048 .f32) i := by
  simp only [V, hostOps0, hostOps0_1, hostOps0_2, List.flatten_cons, List.flatten_nil, List.append_nil, List.cons_append,
    List.nil_append, StableHlo.TRef.binary, StableHlo.TRef.nullary, StableHlo.TRef.unary, StableHlo.TRef.toBuf, StableHlo.TRef.ofBuf, cast_eq]
  entry_read
  pointwise

theorem x1_apply (c : Dev nD) (i : S4096x2048.Idx) : (V m c main_arg3 : FVec Ideal S4096x2048 .f32) i
    = (m ((c : Thread nD τ).loc main_arg3) : FVec Ideal S4096x2048 .f32) i := by
  simp only [V, hostOps0, hostOps0_1, hostOps0_2, List.flatten_cons, List.flatten_nil, List.append_nil, List.cons_append,
    List.nil_append, StableHlo.TRef.binary, StableHlo.TRef.nullary, StableHlo.TRef.unary, StableHlo.TRef.toBuf, StableHlo.TRef.ofBuf, cast_eq]
  entry_read
  pointwise

theorem g_apply (c : Dev nD) (i : S1x2048.Idx) : (V m c main_arg4 : FVec Ideal S1x2048 .f32) i
    = (m ((c : Thread nD τ).loc main_arg4) : FVec Ideal S1x2048 .f32) i := by
  simp only [V, hostOps0, hostOps0_1, hostOps0_2, List.flatten_cons, List.flatten_nil, List.append_nil, List.cons_append,
    List.nil_append, StableHlo.TRef.binary, StableHlo.TRef.nullary, StableHlo.TRef.unary, StableHlo.TRef.toBuf, StableHlo.TRef.ofBuf, cast_eq]
  entry_read
  pointwise

theorem sum_eq (c : Dev nD) : added (V m c main_arg3 : FVec Ideal S4096x2048 .f32) (V m c main_v3 : FVec Ideal S4096x8192 .bf16) (V m c main_v4 : FVec Ideal S8192x2048 .bf16) = added (m ((c : Thread nD τ).loc main_arg3) : FVec Ideal S4096x2048 .f32) (hiddenUnits (m ((c : Thread nD τ).loc main_arg0) : FVec Ideal S4096x2048 .f32) (m ((c : Thread nD τ).loc main_arg1) : FVec Ideal S2048x8192 .f32)) (m ((c : Thread nD τ).loc main_arg2) : FVec Ideal S8192x2048 .f32) :=
  funext fun j => added_congr _ _ _ _ _ _ j j (x1_apply m c _) (fun k => act_apply m c _) fun k => w_apply m c _

/-- The results, of the arguments. -/
theorem final_args (c : Dev nD) : (dats m 0 c).arrAt 4 cfg0.N = added (m ((c : Thread nD τ).loc main_arg3) : FVec Ideal S4096x2048 .f32) (hiddenUnits (m ((c : Thread nD τ).loc main_arg0) : FVec Ideal S4096x2048 .f32) (m ((c : Thread nD τ).loc main_arg1) : FVec Ideal S2048x8192 .f32)) (m ((c : Thread nD τ).loc main_arg2) : FVec Ideal S8192x2048 .f32) :=
  (final m c).trans (sum_eq m c)

theorem final_args2 (c : Dev nD) : (dats m 0 c).arrAt 5 cfg0.N = normed (added (m ((c : Thread nD τ).loc main_arg3) : FVec Ideal S4096x2048 .f32) (hiddenUnits (m ((c : Thread nD τ).loc main_arg0) : FVec Ideal S4096x2048 .f32) (m ((c : Thread nD τ).loc main_arg1) : FVec Ideal S2048x8192 .f32)) (m ((c : Thread nD τ).loc main_arg2) : FVec Ideal S8192x2048 .f32)) (m ((c : Thread nD τ).loc main_arg4) : FVec Ideal S1x2048 .f32) :=
  (final2 m c).trans (by rw [sum_eq]; exact congrArg _ (funext fun i => g_apply m c i))

end Cert.DownFwdIdeal.Hand

namespace Cert.DownFwdReferenceIdeal.Hand

open Cert.DownFwdReferenceIdeal Cert.DownFwdReferenceIdeal.Gen Idealize.ShloMosaic Cert.Blocks

/-- The reference's sum. -/
theorem sum_eq (e h : FVec Ideal S4096x2048 .f32) (u : FVec Ideal S2048x8192 .f32) (d : FVec Ideal S8192x2048 .f32) :
    (addf e (Host.dotGeneral dot_S4096x8192_S8192x2048_S4096x2048_1_0_0_1_n_n none
      (mulf (maximumf (Host.dotGeneral dot_S4096x2048_S2048x8192_S4096x8192_1_0_0_1_n_n none h u) (broadcastInDim S4096x8192 ![] bcast_S_S4096x8192 (constant S_ .f32 0x00000000#32)))
        (maximumf (Host.dotGeneral dot_S4096x2048_S2048x8192_S4096x8192_1_0_0_1_n_n none h u) (broadcastInDim S4096x8192 ![] bcast_S_S4096x8192 (constant S_ .f32 0x00000000#32)))) d)
      : FVec Ideal S4096x2048 .f32) = added e (hiddenUnits h u) d := by
  funext j
  pointwise [nn, added, hiddenUnits, positiveSquare]

/-- The reference's norm of the rows, at a place. -/
theorem norm_apply (r : FVec Ideal S4096x2048 .f32) (g : FVec Ideal S1x2048 .f32) (j : S4096x2048.Idx) :
    truncf .bf16 (mulf (mulf r (broadcastInDim S4096x2048 ![0, 1] bcast_S4096x1_S4096x2048_0_1 (Host.rsqrt (addf (Host.divf (broadcastInDim S4096x1 ![0] bcast_S4096_S4096x1_0
      (Host.reduceAdd (mulf r r) (constant S_ .f32 0x00000000#32) reducesTo_S4096x2048_S4096_d1 h_S_)) (broadcastInDim S4096x1 ![] bcast_S_S4096x1 (constant S_ .f32 0x45000000#32)))
      (broadcastInDim S4096x1 ![] bcast_S_S4096x1 (constant S_ .f32 0x358637BD#32)))))) (broadcastInDim S4096x2048 ![0, 1] bcast_S1x2048_S4096x2048_0_1
      (broadcastInDim S1x2048 ![1] bcast_S2048_S1x2048_1 (shapeCast _ g shapeCasts_S1x2048_S2048)))) bitsLt_bf16_f32 j = normed r g j := by
  pointwise [normed]

end Cert.DownFwdReferenceIdeal.Hand

namespace Cert.DownFwd.Hand

open Idealize.ShloMosaic Idealize.ShloMosaic.TcCoe Idealize.SL.Sem Cert.Blocks

/-- The two texts' kernel bodies are one. -/
theorem bodies_eq : Cert.DownFwd.defs₀ (F := Bits) = Cert.DownFwdIdeal.defs₀ (F := Bits) := by
  refine congrArg (Defs.onTc (nD := Cert.DownFwdIdeal.nD) (τ := Cert.DownFwdIdeal.τ) (sig := Cert.DownFwdIdeal.sig) (Λ := Cert.DownFwdIdeal.Λ₀))
    (funext fun l => funext fun x => ?_)
  match l, x with
  | ⟨0, _⟩, (t, s) => rfl

theorem defs_eq : Cert.DownFwd.defs (F := Bits) = Cert.DownFwdIdeal.defs (F := Bits) :=
  congrArg (Pipeline.defs (Cert.DownFwdIdeal.pcfgs (F := Bits))) bodies_eq

theorem frame : Cert.quiescent_DownFwd (hDownFwd := Cert.DownFwd.Gen.facts) := fun m ρ _ => by
  rw [defs_eq]
  exact Cert.DownFwdIdeal.Gen.frame (F := Bits) m ρ

theorem frameIdeal : Cert.quiescent_DownFwdIdeal (hDownFwdIdeal := Cert.DownFwdIdeal.Gen.facts) := fun m ρ _ =>
  Cert.DownFwdIdeal.Gen.frame m ρ

theorem frameReference : Cert.quiescent_DownFwdReferenceIdeal (hDownFwdReferenceIdeal := Cert.DownFwdReferenceIdeal.Gen.facts) := fun m ρ _ =>
  (θ_run Cert.DownFwdReferenceIdeal.defs _ _).mono (fun _ h => ⟨fun c => (h c).2.2, sem_eq_zero_of_no_sems (by decide) _⟩)
    (Cert.DownFwdReferenceIdeal.Value.run m ρ)

theorem algebraic : Cert.algebraic_DownFwdIdeal_DownFwdReferenceIdeal (hDownFwdIdeal := Cert.DownFwdIdeal.Gen.facts)
    (hDownFwdReferenceIdeal := Cert.DownFwdReferenceIdeal.Gen.facts) := by
  intro m g m' g' _ hm
  refine ⟨_, _, (θ_run Cert.DownFwdIdeal.defs _ _).mono (fun _ h c => ⟨(h c).1.trans (Cert.DownFwdIdeal.Hand.final_args m c), (h c).2.1.trans (Cert.DownFwdIdeal.Hand.final_args2 m c), (h c).2.2⟩) (Cert.DownFwdIdeal.Value.run_blocks m g),
    (θ_run Cert.DownFwdReferenceIdeal.defs _ _).mono (fun _ h c =>  ⟨(h c).1.trans ?_, (h c).2.1.trans ?_, (h c).2.2⟩) (Cert.DownFwdReferenceIdeal.Value.run m' g')⟩
  · obtain ⟨h0, h1, h2, h3, h4⟩ := hm c
    rw [h0, h1, h2, h3]
    funext j
    exact congrFun (Cert.DownFwdReferenceIdeal.Hand.sum_eq _ _ _ _) j
  · obtain ⟨h0, h1, h2, h3, h4⟩ := hm c
    rw [h0, h1, h2, h3, h4, Cert.DownFwdReferenceIdeal.Hand.sum_eq]
    funext j
    exact Cert.DownFwdReferenceIdeal.Hand.norm_apply _ _ j

end Cert.DownFwd.Hand
-- ==== Proof.OutFwd.lean ====
/-
  The output projection added to what comes in, `x1 = x + mixed · w_out`, and the norm of its rows: the kernel's blocks each
  hold whole rows and the whole contracted axis.
-/
module

public import proofs.«01_k».proof.Defs
public import proofs.«01_k».proof.Proof.Gen.OutFwd
public import proofs.«01_k».proof.Proof.Gen.OutFwdIdeal.Value
public import proofs.«01_k».proof.Proof.Gen.OutFwdReferenceIdeal.Run
public import proofs.«01_k».proof.Proof.Forward

@[expose] public section

noncomputable section

namespace Cert.OutFwdIdeal.Hand

open Cert.OutFwdIdeal Cert.OutFwdIdeal.Gen Idealize.ShloMosaic Idealize.ShloMosaic.TcCoe Idealize.SL.Sem Cert.Blocks

variable (m : (ℓ : Loc nD τ sig) → Buf (Elt Ideal) ℓ) (ρ : Dev nD → PrngReg)

theorem body_apply (x : Vec Ideal S512x2048 .bf16) (y : Vec Ideal S2048x2048 .bf16) (e : Vec Ideal S512x2048 .f32) (j : S512x2048.Idx) :
    k0_pay1 x y e j = added e x y j := by
  pointwise [k0_pay1, nn, added]

theorem body_apply2 (x : Vec Ideal S512x2048 .bf16) (y : Vec Ideal S2048x2048 .bf16) (e : Vec Ideal S512x2048 .f32) (g : Vec Ideal S1x2048 .f32)
    (j : S512x2048.Idx) : k0_pay2 x y e g j = normed (k0_pay1 x y e : Vec Ideal S512x2048 .f32) g j := by
  unfold k0_pay2
  generalize k0_pay1 x y e = r
  pointwise [normed]

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)

theorem row0 (c : Dev nD) (t : Fin cfg0.N) (r : Fin 512) (k : Fin 2048) (p : Fin 4096) (hp : p.val = t.val * 512 + r.val) :
    (iblk m c 0 t : Vec Ideal S512x2048 .bf16) (ix2 r k) = (V m c main_v0 : FVec Ideal S4096x2048 .bf16) (ix2 p k) := by
  blk_ext [iblk, index0]
theorem row1 (c : Dev nD) (t : Fin cfg0.N) (r k : Fin 2048) :
    (iblk m c 1 t : Vec Ideal S2048x2048 .bf16) (ix2 r k) = (V m c main_v1 : FVec Ideal S2048x2048 .bf16) (ix2 r k) := by
  blk_ext [iblk, index1]
theorem row2 (c : Dev nD) (t : Fin cfg0.N) (r : Fin 512) (k : Fin 2048) (p : Fin 4096) (hp : p.val = t.val * 512 + r.val) :
    (iblk m c 2 t : Vec Ideal S512x2048 .f32) (ix2 r k) = (V m c main_arg2 : FVec Ideal S4096x2048 .f32) (ix2 p k) := by
  blk_ext [iblk, index2]
theorem row3 (c : Dev nD) (t : Fin cfg0.N) (k : Fin 2048) :
    (iblk m c 3 t : Vec Ideal S1x2048 .f32) (ix2 0 k) = (V m c main_arg3 : FVec Ideal S1x2048 .f32) (ix2 0 k) := by
  blk_ext [iblk, index3]

/-- A row of a block's sum is the row of the whole. -/
theorem added_row (c : Dev nD) (t : Fin cfg0.N) (r : Fin 512) (k : Fin 2048) (p : Fin 4096) (hp : p.val = t.val * 512 + r.val) :
    added (iblk m c 2 t : Vec Ideal S512x2048 .f32) (iblk m c 0 t : Vec Ideal S512x2048 .bf16) (iblk m c 1 t : Vec Ideal S2048x2048 .bf16) (ix2 r k)
      = added (V m c main_arg2 : FVec Ideal S4096x2048 .f32) (V m c main_v0 : FVec Ideal S4096x2048 .bf16) (V m c main_v1 : FVec Ideal S2048x2048 .bf16) (ix2 p k) :=
  congrArg₂ (fun a b : EReal => a + b) (row2 m c t r k p hp)
    (nn_congr _ _ _ _ (ix2 r k) (ix2 p k) (fun n => row0 m c t r n p hp) fun n => row1 m c t n k)

theorem added_at (c : Dev nD) (t : Fin cfg0.N) (y : S512x2048.Idx) (z : S4096x2048.Idx) (h0 : (z 0).val = t.val * 512 + (y 0).val)
    (h1 : z 1 = y 1) :
    added (iblk m c 2 t : Vec Ideal S512x2048 .f32) (iblk m c 0 t : Vec Ideal S512x2048 .bf16) (iblk m c 1 t : Vec Ideal S2048x2048 .bf16) y
      = added (V m c main_arg2 : FVec Ideal S4096x2048 .f32) (V m c main_v0 : FVec Ideal S4096x2048 .bf16) (V m c main_v1 : FVec Ideal S2048x2048 .bf16) z :=
  (congrArg _ (eq_ix2 (n0 := 512) (n1 := 2048) y)).trans ((added_row m c t (y 0) (y 1) (z 0) h0).trans
    (congrArg _ ((congrArg (ix2 (n0 := 4096) (n1 := 2048) (z 0)) h1.symm).trans (eq_ix2 (n0 := 4096) (n1 := 2048) z).symm)))

theorem emb4_0 (t : Fin cfg0.N) (y : S512x2048.Idx) : ((win0_4.blk t).view.emb y 0).val = t.val * 512 + (y 0).val := by
  blk_simp [index4]
theorem emb4_1 (t : Fin cfg0.N) (y : S512x2048.Idx) : ((win0_4.blk t).view.emb y 1).val = (y 1).val := by
  blk_simp [index4]
theorem emb5_0 (t : Fin cfg0.N) (y : S512x2048.Idx) : ((win0_5.blk t).view.emb y 0).val = t.val * 512 + (y 0).val := by
  blk_simp [index5]
theorem emb5_1 (t : Fin cfg0.N) (y : S512x2048.Idx) : ((win0_5.blk t).view.emb y 1).val = (y 1).val := by
  blk_simp [index5]

/-- The first result: the sum of what the call is given. -/
theorem final (c : Dev nD) : (dats m 0 c).arrAt 4 cfg0.N = added (V m c main_arg2 : FVec Ideal S4096x2048 .f32) (V m c main_v0 : FVec Ideal S4096x2048 .bf16) (V m c main_v1 : FVec Ideal S2048x2048 .bf16) := by
  refine (dats m 0 c).arrAt_eq_of_covers 4 _ (by decide +kernel) fun t hf y => ?_
  have e0 := emb4_0 t y
  have e1 := emb4_1 t y
  blk_simp
  rw [after0_4]
  unfold out0_4
  frame_out
  rw [body_apply]
  generalize (win0_4.blk t).view.emb y = z at e0 e1 ⊢
  exact added_at m c t y z e0 (Fin.ext e1)

/-- The second: the norm of its rows. -/
theorem final2 (c : Dev nD) : (dats m 0 c).arrAt 5 cfg0.N = normed (added (V m c main_arg2 : FVec Ideal S4096x2048 .f32) (V m c main_v0 : FVec Ideal S4096x2048 .bf16) (V m c main_v1 : FVec Ideal S2048x2048 .bf16)) (V m c main_arg3 : FVec Ideal S1x2048 .f32) := by
  refine (dats m 0 c).arrAt_eq_of_covers 5 _ (by decide +kernel) fun t hf y => ?_
  have e0 := emb5_0 t y
  have e1 := emb5_1 t y
  blk_simp
  rw [after0_5]
  unfold out0_5
  frame_out
  rw [body_apply2]
  generalize (win0_5.blk t).view.emb y = z at e0 e1 ⊢
  refine normed_congr _ _ _ _ y z ((body_apply _ _ _ _).trans (added_at m c t y z e0 (Fin.ext e1)))
    (fun k => (body_apply _ _ _ _).trans (added_row m c t (y 0) k (z 0) e0)) ((row3 m c t (y 1)).trans ?_)
  exact congrArg _ (congrArg (ix2 (n0 := 1) (n1 := 2048) 0) (Fin.ext e1.symm))

theorem mixed_apply (c : Dev nD) (i : S4096x2048.Idx) : (V m c main_v0 : FVec Ideal S4096x2048 .bf16) i
    = (m ((c : Thread nD τ).loc main_arg0) : FVec Ideal S4096x2048 .f32) i := by
  entry_read
  pointwise

theorem w_apply (c : Dev nD) (i : S2048x2048.Idx) : (V m c main_v1 : FVec Ideal S2048x2048 .bf16) i
    = (m ((c : Thread nD τ).loc main_arg1) : FVec Ideal S2048x2048 .f32) i := by
  entry_read
  pointwise

theorem x_apply (c : Dev nD) (i : S4096x2048.Idx) : (V m c main_arg2 : FVec Ideal S4096x2048 .f32) i
    = (m ((c : Thread nD τ).loc main_arg2) : FVec Ideal S4096x2048 .f32) i := by
  entry_read
  pointwise

theorem g_apply (c : Dev nD) (i : S1x2048.Idx) : (V m c main_arg3 : FVec Ideal S1x2048 .f32) i
    = (m ((c : Thread nD τ).loc main_arg3) : FVec Ideal S1x2048 .f32) i := by
  entry_read
  pointwise

theorem sum_eq (c : Dev nD) : added (V m c main_arg2 : FVec Ideal S4096x2048 .f32) (V m c main_v0 : FVec Ideal S4096x2048 .bf16) (V m c main_v1 : FVec Ideal S2048x2048 .bf16) = added (m ((c : Thread nD τ).loc main_arg2) : FVec Ideal S4096x2048 .f32) (m ((c : Thread nD τ).loc main_arg0) : FVec Ideal S4096x2048 .f32) (m ((c : Thread nD τ).loc main_arg1) : FVec Ideal S2048x2048 .f32) :=
  funext fun j => added_congr _ _ _ _ _ _ j j (x_apply m c _) (fun k => mixed_apply m c _) fun k => w_apply m c _

/-- The results, of the arguments. -/
theorem final_args (c : Dev nD) : (dats m 0 c).arrAt 4 cfg0.N = added (m ((c : Thread nD τ).loc main_arg2) : FVec Ideal S4096x2048 .f32) (m ((c : Thread nD τ).loc main_arg0) : FVec Ideal S4096x2048 .f32) (m ((c : Thread nD τ).loc main_arg1) : FVec Ideal S2048x2048 .f32) :=
  (final m c).trans (sum_eq m c)

theorem final_args2 (c : Dev nD) : (dats m 0 c).arrAt 5 cfg0.N = normed (added (m ((c : Thread nD τ).loc main_arg2) : FVec Ideal S4096x2048 .f32) (m ((c : Thread nD τ).loc main_arg0) : FVec Ideal S4096x2048 .f32) (m ((c : Thread nD τ).loc main_arg1) : FVec Ideal S2048x2048 .f32)) (m ((c : Thread nD τ).loc main_arg3) : FVec Ideal S1x2048 .f32) :=
  (final2 m c).trans (by rw [sum_eq]; exact congrArg _ (funext fun i => g_apply m c i))

end Cert.OutFwdIdeal.Hand

namespace Cert.OutFwdReferenceIdeal.Hand

open Cert.OutFwdReferenceIdeal Cert.OutFwdReferenceIdeal.Gen Idealize.ShloMosaic Cert.Blocks

/-- The reference's sum. -/
theorem sum_eq (e a : FVec Ideal S4096x2048 .f32) (b : FVec Ideal S2048x2048 .f32) :
    (addf e (Host.dotGeneral dot_S4096x2048_S2048x2048_S4096x2048_1_0_0_1_n_n none a b) : FVec Ideal S4096x2048 .f32) = added e a b := by
  funext j
  pointwise [nn, added]

/-- The reference's norm of the rows, at a place. -/
theorem norm_apply (r : FVec Ideal S4096x2048 .f32) (g : FVec Ideal S1x2048 .f32) (j : S4096x2048.Idx) :
    truncf .bf16 (mulf (mulf r (broadcastInDim S4096x2048 ![0, 1] bcast_S4096x1_S4096x2048_0_1 (Host.rsqrt (addf (Host.divf (broadcastInDim S4096x1 ![0] bcast_S4096_S4096x1_0
      (Host.reduceAdd (mulf r r) (constant S_ .f32 0x00000000#32) reducesTo_S4096x2048_S4096_d1 h_S_)) (broadcastInDim S4096x1 ![] bcast_S_S4096x1 (constant S_ .f32 0x45000000#32)))
      (broadcastInDim S4096x1 ![] bcast_S_S4096x1 (constant S_ .f32 0x358637BD#32)))))) (broadcastInDim S4096x2048 ![0, 1] bcast_S1x2048_S4096x2048_0_1
      (broadcastInDim S1x2048 ![1] bcast_S2048_S1x2048_1 (shapeCast _ g shapeCasts_S1x2048_S2048)))) bitsLt_bf16_f32 j = normed r g j := by
  pointwise [normed]

end Cert.OutFwdReferenceIdeal.Hand

namespace Cert.OutFwd.Hand

open Idealize.ShloMosaic Idealize.ShloMosaic.TcCoe Idealize.SL.Sem Cert.Blocks

/-- The two texts' kernel bodies are one. -/
theorem bodies_eq : Cert.OutFwd.defs₀ (F := Bits) = Cert.OutFwdIdeal.defs₀ (F := Bits) := by
  refine congrArg (Defs.onTc (nD := Cert.OutFwdIdeal.nD) (τ := Cert.OutFwdIdeal.τ) (sig := Cert.OutFwdIdeal.sig) (Λ := Cert.OutFwdIdeal.Λ₀))
    (funext fun l => funext fun x => ?_)
  match l, x with
  | ⟨0, _⟩, (t, s) => rfl

theorem defs_eq : Cert.OutFwd.defs (F := Bits) = Cert.OutFwdIdeal.defs (F := Bits) :=
  congrArg (Pipeline.defs (Cert.OutFwdIdeal.pcfgs (F := Bits))) bodies_eq

theorem frame : Cert.quiescent_OutFwd (hOutFwd := Cert.OutFwd.Gen.facts) := fun m ρ _ => by
  rw [defs_eq]
  exact Cert.OutFwdIdeal.Gen.frame (F := Bits) m ρ

theorem frameIdeal : Cert.quiescent_OutFwdIdeal (hOutFwdIdeal := Cert.OutFwdIdeal.Gen.facts) := fun m ρ _ =>
  Cert.OutFwdIdeal.Gen.frame m ρ

theorem frameReference : Cert.quiescent_OutFwdReferenceIdeal (hOutFwdReferenceIdeal := Cert.OutFwdReferenceIdeal.Gen.facts) := fun m ρ _ =>
  (θ_run Cert.OutFwdReferenceIdeal.defs _ _).mono (fun _ h => ⟨fun c => (h c).2.2, sem_eq_zero_of_no_sems (by decide) _⟩)
    (Cert.OutFwdReferenceIdeal.Value.run m ρ)

theorem algebraic : Cert.algebraic_OutFwdIdeal_OutFwdReferenceIdeal (hOutFwdIdeal := Cert.OutFwdIdeal.Gen.facts)
    (hOutFwdReferenceIdeal := Cert.OutFwdReferenceIdeal.Gen.facts) := by
  intro m g m' g' _ hm
  refine ⟨_, _, (θ_run Cert.OutFwdIdeal.defs _ _).mono (fun _ h c => ⟨(h c).1.trans (Cert.OutFwdIdeal.Hand.final_args m c), (h c).2.1.trans (Cert.OutFwdIdeal.Hand.final_args2 m c), (h c).2.2⟩) (Cert.OutFwdIdeal.Value.run_blocks m g),
    (θ_run Cert.OutFwdReferenceIdeal.defs _ _).mono (fun _ h c =>  ⟨(h c).1.trans ?_, (h c).2.1.trans ?_, (h c).2.2⟩) (Cert.OutFwdReferenceIdeal.Value.run m' g')⟩
  · obtain ⟨h0, h1, h2, h3⟩ := hm c
    rw [h0, h1, h2]
    funext j
    exact congrFun (Cert.OutFwdReferenceIdeal.Hand.sum_eq _ _ _) j
  · obtain ⟨h0, h1, h2, h3⟩ := hm c
    rw [h0, h1, h2, h3, Cert.OutFwdReferenceIdeal.Hand.sum_eq]
    funext j
    exact Cert.OutFwdReferenceIdeal.Hand.norm_apply _ _ j

end Cert.OutFwd.Hand
-- ==== Proof.GateFwd.lean ====
/-
  The embedding gate, `g = h3 · w_gate` and `x2 + sigmoid(g) · (p · w_proj)`: the kernel's blocks each hold the whole
  contracted axis; the embedding's own projection is computed before it.
-/
module

public import proofs.«01_k».proof.Defs
public import proofs.«01_k».proof.Proof.Gen.GateFwd
public import proofs.«01_k».proof.Proof.Gen.GateFwdIdeal.Value
public import proofs.«01_k».proof.Proof.Gen.GateFwdReferenceIdeal.Run
public import proofs.«01_k».proof.Proof.Forward

@[expose] public section

noncomputable section

namespace Cert.GateFwdIdeal.Hand

open Cert.GateFwdIdeal Cert.GateFwdIdeal.Gen Idealize.ShloMosaic Idealize.ShloMosaic.TcCoe Idealize.SL.Sem Cert.Blocks

variable (m : (ℓ : Loc nD τ sig) → Buf (Elt Ideal) ℓ) (ρ : Dev nD → PrngReg)

/-- What is added to `e` at a place: the gate `g`, squashed, times the projection `q`. -/
def gated (e g q : EReal) : EReal := e + squash g * q

theorem body_apply (x : Vec Ideal S512x2048 .bf16) (y : Vec Ideal S2048x1024 .bf16) (j : S512x1024.Idx) : k0_pay1 x y j = nn x y j := by
  pointwise [k0_pay1, nn]

theorem body_apply2 (x : Vec Ideal S512x2048 .bf16) (y : Vec Ideal S2048x1024 .bf16) (u v : Vec Ideal S512x1024 .f32) (j : S512x1024.Idx) :
    k0_pay2 x y u v j = gated (u j) (nn x y j) (v j) := by
  pointwise [k0_pay2, k0_pay1, nn, gated, squash]
  rfl

theorem index0 : ∀ t : Fin cfg0.N, win0_0.index t = ![t.val / 2, 0] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![t.val / 2, t.val % 2] := (by decide +kernel : ∀ t : Fin grid0.N, _)
theorem index3 : ∀ t : Fin cfg0.N, win0_3.index t = ![t.val / 2, t.val % 2] := (by decide +kernel : ∀ t : Fin grid0.N, _)
theorem index4 : ∀ t : Fin cfg0.N, win0_4.index t = ![t.val / 2, t.val % 2] := (by decide +kernel : ∀ t : Fin grid0.N, _)
theorem index5 : ∀ t : Fin cfg0.N, win0_5.index t = ![t.val / 2, t.val % 2] := (by decide +kernel : ∀ t : Fin grid0.N, _)

/-- The first result: the whole product of what the call is given. -/
theorem final (c : Dev nD) : (dats m 0 c).arrAt 4 cfg0.N = nn (V m c main_v0 : FVec Ideal S4096x2048 .bf16) (V m c main_v1 : FVec Ideal S2048x2048 .bf16) := by
  refine (dats m 0 c).arrAt_eq_of_covers 4 _ (by decide +kernel) fun t hf y => ?_
  blk_simp
  rw [after0_4]
  unfold out0_4
  frame_out
  rw [body_apply]
  refine nn_congr _ _ _ _ y _ (fun k => ?_) fun k => ?_
  · blk_ext [iblk, index0, index4]
  · blk_ext [iblk, index1, index4]

/-- The second: what comes in and the gated projection. -/
theorem final2 (c : Dev nD) : (dats m 0 c).arrAt 5 cfg0.N
    = (fun j => gated ((V m c main_arg4 : FVec Ideal S4096x2048 .f32) j) (nn (V m c main_v0 : FVec Ideal S4096x2048 .bf16) (V m c main_v1 : FVec Ideal S2048x2048 .bf16) j) ((V m c main_v2 : FVec Ideal S4096x2048 .f32) j) : Mat 4096 2048) := by
  refine (dats m 0 c).arrAt_eq_of_covers 5 _ (by decide +kernel) fun t hf y => ?_
  blk_simp
  rw [after0_5]
  unfold out0_5
  frame_out
  rw [body_apply2]
  have hg := fun a a' b b' c c' (h : a = a') (h' : b = b') (h'' : c = c') => (by rw [h, h', h''] : gated a b c = gated a' b' c')
  refine hg _ _ _ _ _ _ ?_ (nn_congr _ _ _ _ y _ (fun k => ?_) fun k => ?_) ?_
  · blk_ext [iblk, index2, index5]
  · blk_ext [iblk, index0, index5]
  · blk_ext [iblk, index1, index5]
  · blk_ext [iblk, index3, index5]

theorem h_apply (c : Dev nD) (i : S4096x2048.Idx) : (V m c main_v0 : FVec Ideal S4096x2048 .bf16) i
    = (m ((c : Thread nD τ).loc main_arg0) : FVec Ideal S4096x2048 .f32) i := by
  entry_read
  pointwise

theorem w_apply (c : Dev nD) (i : S2048x2048.Idx) : (V m c main_v1 : FVec Ideal S2048x2048 .bf16) i
    = (m ((c : Thread nD τ).loc main_arg2) : FVec Ideal S2048x2048 .f32) i := by
  entry_read
  pointwise

theorem x2_apply (c : Dev nD) (i : S4096x2048.Idx) : (V m c main_arg4 : FVec Ideal S4096x2048 .f32) i
    = (m ((c : Thread nD τ).loc main_arg4) : FVec Ideal S4096x2048 .f32) i := by
  entry_read
  pointwise

theorem q_apply (c : Dev nD) (i : S4096x2048.Idx) : (V m c main_v2 : FVec Ideal S4096x2048 .f32) i
    = nn (m ((c : Thread nD τ).loc main_arg1) : FVec Ideal S4096x256 .f32) (m ((c : Thread nD τ).loc main_arg3) : FVec Ideal S256x2048 .f32) i := by
  entry_read
  pointwise [nn]

theorem product (c : Dev nD) (j : S4096x2048.Idx) : nn (V m c main_v0 : FVec Ideal S4096x2048 .bf16) (V m c main_v1 : FVec Ideal S2048x2048 .bf16) j = nn (m ((c : Thread nD τ).loc main_arg0) : FVec Ideal S4096x2048 .f32) (m ((c : Thread nD τ).loc main_arg2) : FVec Ideal S2048x2048 .f32) j :=
  nn_congr _ _ _ _ j j (fun k => h_apply m c _) fun k => w_apply m c _

/-- The results, of the arguments. -/
theorem final_args (c : Dev nD) : (dats m 0 c).arrAt 4 cfg0.N = nn (m ((c : Thread nD τ).loc main_arg0) : FVec Ideal S4096x2048 .f32) (m ((c : Thread nD τ).loc main_arg2) : FVec Ideal S2048x2048 .f32) :=
  (final m c).trans (funext fun j => product m c j)

theorem final_args2 (c : Dev nD) : (dats m 0 c).arrAt 5 cfg0.N
    = (fun j => gated ((m ((c : Thread nD τ).loc main_arg4) : FVec Ideal S4096x2048 .f32) j) (nn (m ((c : Thread nD τ).loc main_arg0) : FVec Ideal S4096x2048 .f32) (m ((c : Thread nD τ).loc main_arg2) : FVec Ideal S2048x2048 .f32) j) (nn (m ((c : Thread nD τ).loc main_arg1) : FVec Ideal S4096x256 .f32) (m ((c : Thread nD τ).loc main_arg3) : FVec Ideal S256x2048 .f32) j) : Mat 4096 2048) :=
  (final2 m c).trans (funext fun j => by rw [x2_apply, product, q_apply])

end Cert.GateFwdIdeal.Hand

namespace Cert.GateFwd.Hand

open Idealize.ShloMosaic Idealize.ShloMosaic.TcCoe Idealize.SL.Sem Cert.Blocks

/-- The two texts' kernel bodies are one. -/
theorem bodies_eq : Cert.GateFwd.defs₀ (F := Bits) = Cert.GateFwdIdeal.defs₀ (F := Bits) := by
  refine congrArg (Defs.onTc (nD := Cert.GateFwdIdeal.nD) (τ := Cert.GateFwdIdeal.τ) (sig := Cert.GateFwdIdeal.sig) (Λ := Cert.GateFwdIdeal.Λ₀))
    (funext fun l => funext fun x => ?_)
  match l, x with
  | ⟨0, _⟩, (t, s) => rfl

theorem defs_eq : Cert.GateFwd.defs (F := Bits) = Cert.GateFwdIdeal.defs (F := Bits) :=
  congrArg (Pipeline.defs (Cert.GateFwdIdeal.pcfgs (F := Bits))) bodies_eq

theorem frame : Cert.quiescent_GateFwd (hGateFwd := Cert.GateFwd.Gen.facts) := fun m ρ _ => by
  rw [defs_eq]
  exact Cert.GateFwdIdeal.Gen.frame (F := Bits) m ρ

theorem frameIdeal : Cert.quiescent_GateFwdIdeal (hGateFwdIdeal := Cert.GateFwdIdeal.Gen.facts) := fun m ρ _ =>
  Cert.GateFwdIdeal.Gen.frame m ρ

theorem frameReference : Cert.quiescent_GateFwdReferenceIdeal (hGateFwdReferenceIdeal := Cert.GateFwdReferenceIdeal.Gen.facts) := fun m ρ _ =>
  (θ_run Cert.GateFwdReferenceIdeal.defs _ _).mono (fun _ h => ⟨fun c => (h c).2.2, sem_eq_zero_of_no_sems (by decide) _⟩)
    (Cert.GateFwdReferenceIdeal.Value.run m ρ)

theorem algebraic : Cert.algebraic_GateFwdIdeal_GateFwdReferenceIdeal (hGateFwdIdeal := Cert.GateFwdIdeal.Gen.facts)
    (hGateFwdReferenceIdeal := Cert.GateFwdReferenceIdeal.Gen.facts) := by
  intro m g m' g' _ hm
  refine ⟨_, _, (θ_run Cert.GateFwdIdeal.defs _ _).mono (fun _ h c => ⟨(h c).1.trans (Cert.GateFwdIdeal.Hand.final_args m c), (h c).2.1.trans (Cert.GateFwdIdeal.Hand.final_args2 m c), (h c).2.2⟩) (Cert.GateFwdIdeal.Value.run_blocks m g),
    (θ_run Cert.GateFwdReferenceIdeal.defs _ _).mono (fun _ h c =>  ⟨(h c).1.trans ?_, (h c).2.1.trans ?_, (h c).2.2⟩) (Cert.GateFwdReferenceIdeal.Value.run m' g')⟩
  · obtain ⟨h0, h1, h2, h3, h4⟩ := hm c
    rw [h0, h2]
    funext j
    pointwise [nn]
  · obtain ⟨h0, h1, h2, h3, h4⟩ := hm c
    rw [h0, h1, h2, h3, h4]
    funext j
    pointwise [nn, Cert.GateFwdIdeal.Hand.gated, squash]

end Cert.GateFwd.Hand
-- ==== Proof.PleFwd.lean ====
/-
  The embedding projection, `p · w_proj`: the kernel is given the weight cut in four slots of columns, and its blocks each
  hold the whole contracted axis.
-/
module

public import proofs.«01_k».proof.Defs
public import proofs.«01_k».proof.Proof.Gen.PleFwd
public import proofs.«01_k».proof.Proof.Gen.PleFwdIdeal.Value
public import proofs.«01_k».proof.Proof.Gen.PleFwdReferenceIdeal.Run
public import proofs.«01_k».proof.Proof.Forward

@[expose] public section

noncomputable section

namespace Cert.PleFwdIdeal.Hand

open Cert.PleFwdIdeal Cert.PleFwdIdeal.Gen Idealize.ShloMosaic Idealize.ShloMosaic.TcCoe Idealize.SL.Sem Cert.Blocks

variable (m : (ℓ : Loc nD τ sig) → Buf (Elt Ideal) ℓ) (ρ : Dev nD → PrngReg)

/-- A slot's block as a matrix. -/
abbrev slot (y : Vec Ideal S1x256x512 .bf16) : Mat 256 512 := fun i => y (ix3 0 (i 0) (i 1))

theorem body_apply (x : Vec Ideal S1024x256 .f32) (y : Vec Ideal S1x256x512 .bf16) (j : S1024x512.Idx) : k0_pay1 x y j = nn x (slot y) j := by
  pointwise [k0_pay1, nn, slot]

theorem index0 : ∀ t : Fin cfg0.N, win0_0.index t = ![t.val / 4, 0] := (by decide +kernel : ∀ t : Fin grid0.N, _)
theorem index1 : ∀ t : Fin cfg0.N, win0_1.index t = ![t.val % 4, 0, 0] := (by decide +kernel : ∀ t : Fin grid0.N, _)
theorem index2 : ∀ t : Fin cfg0.N, win0_2.index t = ![t.val / 4, t.val % 4] := (by decide +kernel : ∀ t : Fin grid0.N, _)

/-- The slots side by side. -/
def wide (c : Dev nD) : Mat 256 2048 := fun i =>
  (V m c main_v2 : FVec Ideal S4x256x512 .bf16) (ix3 ⟨(i 1).val / 512, by have : (i 1).val < 2048 := (i 1).isLt; omega⟩ (i 0) ⟨(i 1).val % 512, by omega⟩)

/-- The result: the whole product of what the call is given. -/
theorem final (c : Dev nD) : (dats m 0 c).arrAt 2 cfg0.N = nn (V m c main_arg0 : FVec Ideal S4096x256 .f32) (wide m c) := by
  refine (dats m 0 c).arrAt_eq_of_covers 2 _ (by decide +kernel) fun t hf y => ?_
  blk_simp
  rw [after0_2]
  unfold out0_2
  frame_out
  rw [body_apply]
  refine nn_congr _ _ _ _ y _ (fun k => ?_) fun k => ?_
  · blk_ext [iblk, index0, index2]
  · unfold slot wide
    blk_ext [iblk, index1, index2]

theorem p_apply (c : Dev nD) (i : S4096x256.Idx) : (V m c main_arg0 : FVec Ideal S4096x256 .f32) i
    = (m ((c : Thread nD τ).loc main_arg0) : FVec Ideal S4096x256 .f32) i := by
  entry_read
  pointwise

/-- The weight's slots the call is given. -/
theorem w_apply (c : Dev nD) (s : Fin 4) (n : Fin 256) (k : Fin 512) : (V m c main_v2 : FVec Ideal S4x256x512 .bf16) (ix3 s n k)
    = (m ((c : Thread nD τ).loc main_arg1) : FVec Ideal S256x2048 .f32) (ix2 n ⟨s.val * 512 + k.val, place_lt (K := 2048) (S := 4) (K' := 512) rfl s k⟩) := by
  entry_read
  pointwise

theorem wide_eq (c : Dev nD) (k : Fin 256) (n : Fin 2048) : wide m c (ix2 k n) = (m ((c : Thread nD τ).loc main_arg1) : FVec Ideal S256x2048 .f32) (ix2 k n) := by
  unfold wide
  refine (w_apply m c _ _ _).trans ?_
  exact congrArg _ (congrArg (ix2 _) (Fin.ext (Nat.div_add_mod' _ _)))

/-- The result, of the arguments. -/
theorem final_args (c : Dev nD) : (dats m 0 c).arrAt 2 cfg0.N = nn (m ((c : Thread nD τ).loc main_arg0) : FVec Ideal S4096x256 .f32) (m ((c : Thread nD τ).loc main_arg1) : FVec Ideal S256x2048 .f32) := by
  rw [final]
  funext j
  exact nn_congr _ _ _ _ j j (fun k => p_apply m c _) fun k => wide_eq m c _ _

end Cert.PleFwdIdeal.Hand

namespace Cert.PleFwd.Hand

open Idealize.ShloMosaic Idealize.ShloMosaic.TcCoe Idealize.SL.Sem Cert.Blocks

/-- The two texts' kernel bodies are one. -/
theorem bodies_eq : Cert.PleFwd.defs₀ (F := Bits) = Cert.PleFwdIdeal.defs₀ (F := Bits) := by
  refine congrArg (Defs.onTc (nD := Cert.PleFwdIdeal.nD) (τ := Cert.PleFwdIdeal.τ) (sig := Cert.PleFwdIdeal.sig) (Λ := Cert.PleFwdIdeal.Λ₀))
    (funext fun l => funext fun x => ?_)
  match l, x with
  | ⟨0, _⟩, (t, s) => rfl

theorem defs_eq : Cert.PleFwd.defs (F := Bits) = Cert.PleFwdIdeal.defs (F := Bits) :=
  congrArg (Pipeline.defs (Cert.PleFwdIdeal.pcfgs (F := Bits))) bodies_eq

theorem frame : Cert.quiescent_PleFwd (hPleFwd := Cert.PleFwd.Gen.facts) := fun m ρ _ => by
  rw [defs_eq]
  exact Cert.PleFwdIdeal.Gen.frame (F := Bits) m ρ

theorem frameIdeal : Cert.quiescent_PleFwdIdeal (hPleFwdIdeal := Cert.PleFwdIdeal.Gen.facts) := fun m ρ _ =>
  Cert.PleFwdIdeal.Gen.frame m ρ

theorem frameReference : Cert.quiescent_PleFwdReferenceIdeal (hPleFwdReferenceIdeal := Cert.PleFwdReferenceIdeal.Gen.facts) := fun m ρ _ =>
  (θ_run Cert.PleFwdReferenceIdeal.defs _ _).mono (fun _ h => ⟨fun c => (h c).2, sem_eq_zero_of_no_sems (by decide) _⟩)
    (Cert.PleFwdReferenceIdeal.Value.run m ρ)

theorem algebraic : Cert.algebraic_PleFwdIdeal_PleFwdReferenceIdeal (hPleFwdIdeal := Cert.PleFwdIdeal.Gen.facts)
    (hPleFwdReferenceIdeal := Cert.PleFwdReferenceIdeal.Gen.facts) := by
  intro m g m' g' _ hm
  refine ⟨_, (θ_run Cert.PleFwdIdeal.defs _ _).mono (fun _ h c => ⟨(h c).1.trans (Cert.PleFwdIdeal.Hand.final_args m c), (h c).2⟩) (Cert.PleFwdIdeal.Value.run_blocks m g),
    (θ_run Cert.PleFwdReferenceIdeal.defs _ _).mono (fun _ h c => ⟨(h c).1.trans ?_, (h c).2⟩) (Cert.PleFwdReferenceIdeal.Value.run m' g')⟩
  obtain ⟨h0, h1⟩ := hm c
  rw [h0, h1]
  funext j
  pointwise [nn]

end Cert.PleFwd.Hand
-- ==== Proof.Narrow.lean ====
/-
  The input projection's narrow columns, `h · w_narrow`: the kernel is given the weight the other way round, and its blocks
  each hold the whole contracted axis.
-/
module

public import proofs.«01_k».proof.Defs
public import proofs.«01_k».proof.Proof.Gen.Narrow
public import proofs.«01_k».proof.Proof.Gen.NarrowIdeal.Value
public import proofs.«01_k».proof.Proof.Gen.NarrowReferenceIdeal.Run
public import proofs.«01_k».proof.Proof.Forward

@[expose] public section

noncomputable section

namespace Cert.NarrowIdeal.Hand

open Cert.NarrowIdeal Cert.NarrowIdeal.Gen Idealize.ShloMosaic Idealize.ShloMosaic.TcCoe Idealize.SL.Sem Cert.Blocks

variable (m : (ℓ : Loc nD τ sig) → Buf (Elt Ideal) ℓ) (ρ : Dev nD → PrngReg)

theorem body_apply (x : Vec Ideal S1024x2048 .bf16) (y : Vec Ideal S128x2048 .bf16) (j : S1024x128.Idx) : k0_pay1 x y j = nt x y j := by
  pointwise [k0_pay1, nt]

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

/-- The result: the whole product of what the call is given. -/
theorem final (c : Dev nD) : (dats m 0 c).arrAt 2 cfg0.N = nt (V m c main_v0 : FVec Ideal S4096x2048 .bf16) (V m c main_v2 : FVec Ideal S128x2048 .bf16) := by
  refine (dats m 0 c).arrAt_eq_of_covers 2 _ (by decide +kernel) fun t hf y => ?_
  blk_simp
  rw [after0_2]
  unfold out0_2
  frame_out
  rw [body_apply]
  refine nt_congr _ _ _ _ y _ (fun k => ?_) fun k => ?_
  · blk_ext [iblk, index0, index2]
  · blk_ext [iblk, index1, index2]

theorem h_apply (c : Dev nD) (i : S4096x2048.Idx) : (V m c main_v0 : FVec Ideal S4096x2048 .bf16) i
    = (m ((c : Thread nD τ).loc main_arg0) : FVec Ideal S4096x2048 .f32) i := by
  entry_read
  pointwise

theorem w_apply (c : Dev nD) (i : S128x2048.Idx) : (V m c main_v2 : FVec Ideal S128x2048 .bf16) i
    = (m ((c : Thread nD τ).loc main_arg1) : FVec Ideal S2048x128 .f32) (ix2 (i 1) (i 0)) := by
  entry_read
  pointwise

/-- The result, of the arguments. -/
theorem final_args (c : Dev nD) : (dats m 0 c).arrAt 2 cfg0.N = nn (m ((c : Thread nD τ).loc main_arg0) : FVec Ideal S4096x2048 .f32) (m ((c : Thread nD τ).loc main_arg1) : FVec Ideal S2048x128 .f32) := by
  rw [final]
  funext j
  exact Finset.sum_congr rfl fun k _ => congrArg₂ (fun a b : EReal => a * b) (h_apply m c _) (w_apply m c _)

end Cert.NarrowIdeal.Hand

namespace Cert.Narrow.Hand

open Idealize.ShloMosaic Idealize.ShloMosaic.TcCoe Idealize.SL.Sem Cert.Blocks

/-- The two texts' kernel bodies are one. -/
theorem bodies_eq : Cert.Narrow.defs₀ (F := Bits) = Cert.NarrowIdeal.defs₀ (F := Bits) := by
  refine congrArg (Defs.onTc (nD := Cert.NarrowIdeal.nD) (τ := Cert.NarrowIdeal.τ) (sig := Cert.NarrowIdeal.sig) (Λ := Cert.NarrowIdeal.Λ₀))
    (funext fun l => funext fun x => ?_)
  match l, x with
  | ⟨0, _⟩, (t, s) => rfl

theorem defs_eq : Cert.Narrow.defs (F := Bits) = Cert.NarrowIdeal.defs (F := Bits) :=
  congrArg (Pipeline.defs (Cert.NarrowIdeal.pcfgs (F := Bits))) bodies_eq

theorem frame : Cert.quiescent_Narrow (hNarrow := Cert.Narrow.Gen.facts) := fun m ρ _ => by
  rw [defs_eq]
  exact Cert.NarrowIdeal.Gen.frame (F := Bits) m ρ

theorem frameIdeal : Cert.quiescent_NarrowIdeal (hNarrowIdeal := Cert.NarrowIdeal.Gen.facts) := fun m ρ _ =>
  Cert.NarrowIdeal.Gen.frame m ρ

theorem frameReference : Cert.quiescent_NarrowReferenceIdeal (hNarrowReferenceIdeal := Cert.NarrowReferenceIdeal.Gen.facts) := fun m ρ _ =>
  (θ_run Cert.NarrowReferenceIdeal.defs _ _).mono (fun _ h => ⟨fun c => (h c).2, sem_eq_zero_of_no_sems (by decide) _⟩)
    (Cert.NarrowReferenceIdeal.Value.run m ρ)

theorem algebraic : Cert.algebraic_NarrowIdeal_NarrowReferenceIdeal (hNarrowIdeal := Cert.NarrowIdeal.Gen.facts)
    (hNarrowReferenceIdeal := Cert.NarrowReferenceIdeal.Gen.facts) := by
  intro m g m' g' _ hm
  refine ⟨_, (θ_run Cert.NarrowIdeal.defs _ _).mono (fun _ h c => ⟨(h c).1.trans (Cert.NarrowIdeal.Hand.final_args m c), (h c).2⟩) (Cert.NarrowIdeal.Value.run_blocks m g),
    (θ_run Cert.NarrowReferenceIdeal.defs _ _).mono (fun _ h c => ⟨(h c).1.trans ?_, (h c).2⟩) (Cert.NarrowReferenceIdeal.Value.run m' g')⟩
  obtain ⟨h0, h1⟩ := hm c
  rw [h0, h1]
  funext j
  pointwise [nn]

end Cert.Narrow.Hand
-- ==== Proof.NarrowDw.lean ====
/-
  The gradient of the narrow columns' weight, `dzᵀ · h`: the kernel walks the 4096 tokens in two blocks, keeps the first
  block's product in its accumulator and adds the second; the reference is one product over all tokens.
-/
module

public import proofs.«01_k».proof.Defs
public import proofs.«01_k».proof.Proof.Gen.NarrowDw
public import proofs.«01_k».proof.Proof.Gen.NarrowDwIdeal.Value
public import proofs.«01_k».proof.Proof.Gen.NarrowDwReferenceIdeal.Run
public import proofs.«01_k».proof.Proof.Forward

@[expose] public section

noncomputable section

namespace Cert.NarrowDwIdeal.Hand

open Cert.NarrowDwIdeal Cert.NarrowDwIdeal.Gen Idealize.ShloMosaic Idealize.ShloMosaic.TcCoe Idealize.SL.Sem Cert.Blocks

variable (m : (ℓ : Loc nD τ sig) → Buf (Elt Ideal) ℓ) (ρ : Dev nD → PrngReg)

theorem first_apply (x : Vec Ideal S2048x128 .f32) (y : Vec Ideal S2048x1024 .bf16) (j : S128x1024.Idx) : k0_pay2 x y j = tn x y j := by
  pointwise [k0_pay2, k0_pay1, tn]

theorem last_apply (x : Vec Ideal S2048x128 .f32) (y : Vec Ideal S2048x1024 .bf16) (z : Vec Ideal S128x1024 .f32) (j : S128x1024.Idx) :
    k0_pay4 x y z j = z j + tn x y j := by
  pointwise [k0_pay4, k0_pay1, tn]

/-- What a block of the result holds once it is written back: the stretches' products. -/
theorem out (c : Dev nD) (t : Fin cfg0.N) (h : t.val % 2 = 1) (j : S128x1024.Idx) :
    (outsAt0 m c t.val t.isLt).1 j = ∑ s : Fin 2,
      tn (iblk m c 0 ⟨2 * (t.val / 2) + s.val, Pipeline.run_point_lt_of_flush t h s⟩ : Vec Ideal S2048x128 .f32)
        (iblk m c 1 ⟨2 * (t.val / 2) + s.val, Pipeline.run_point_lt_of_flush t h s⟩ : Vec Ideal S2048x1024 .bf16) j :=
  run_sum 2 (fun p hp => (outsAt0 m c p hp).1) (fun p hp => (outsAt0 m c p hp).2)
    (fun t => tn (iblk m c 0 t : Vec Ideal S2048x128 .f32) (iblk m c 1 t : Vec Ideal S2048x1024 .bf16)) (by decide)
    (fun t h0 i => by
      rw [outsAt0_A m c t h0 (by omega)]
      frame_out
      exact first_apply _ _ i)
    (fun t h0 h1 i => absurd h1 (by omega))
    (fun t h0 i => by
      rw [outsAt0_B m c t (by omega) h0]
      frame_out
      rw [(Memref.isWhole_whole cc0_scratch0).read_unread]
      exact last_apply _ _ _ i)
    t h j

theorem index0 : ∀ t : Fin cfg0.N, win0_0.index t = ![t.val % 2, 0] := (by decide +kernel : ∀ t : Fin grid0.N, _)
theorem index1 : ∀ t : Fin cfg0.N, win0_1.index t = ![t.val % 2, t.val / 2] := (by decide +kernel : ∀ t : Fin grid0.N, _)
theorem index2 : ∀ t : Fin cfg0.N, win0_2.index t = ![0, t.val / 2] := (by decide +kernel : ∀ t : Fin grid0.N, _)

/-- The result: the whole product of what the call is given. -/
theorem final (c : Dev nD) : (dats m 0 c).arrAt 2 cfg0.N = tn (V m c main_arg2 : FVec Ideal S4096x128 .f32) (V m c main_v0 : FVec Ideal S4096x2048 .bf16) := by
  refine (dats m 0 c).arrAt_eq_of_covers 2 _ (by decide +kernel) fun t hf y => ?_
  have ht : t.val % 2 = 1 := (flush0_2 t).mp hf
  blk_simp
  rw [after0_2, out m c t ht y]
  exact tn_blocks (by decide) _ _ _ _ y _ (fun s k => by blk_ext [iblk, index0, index2]) (fun s k => by blk_ext [iblk, index1, index2])

theorem dz_apply (c : Dev nD) (i : S4096x128.Idx) : (V m c main_arg2 : FVec Ideal S4096x128 .f32) i
    = (m ((c : Thread nD τ).loc main_arg2) : FVec Ideal S4096x128 .f32) i := by
  entry_read
  pointwise

theorem h_apply (c : Dev nD) (i : S4096x2048.Idx) : (V m c main_v0 : FVec Ideal S4096x2048 .bf16) i
    = (m ((c : Thread nD τ).loc main_arg0) : FVec Ideal S4096x2048 .f32) i := by
  entry_read
  pointwise

/-- The result, of the arguments. -/
theorem final_args (c : Dev nD) : (dats m 0 c).arrAt 2 cfg0.N = tn (m ((c : Thread nD τ).loc main_arg2) : FVec Ideal S4096x128 .f32) (m ((c : Thread nD τ).loc main_arg0) : FVec Ideal S4096x2048 .f32) := by
  rw [final]
  funext j
  exact Finset.sum_congr rfl fun k _ => congrArg₂ (fun a b : EReal => a * b) (dz_apply m c _) (h_apply m c _)

end Cert.NarrowDwIdeal.Hand

namespace Cert.NarrowDw.Hand

open Idealize.ShloMosaic Idealize.ShloMosaic.TcCoe Idealize.SL.Sem Cert.Blocks

/-- The two texts' kernel bodies are one. -/
theorem bodies_eq : Cert.NarrowDw.defs₀ (F := Bits) = Cert.NarrowDwIdeal.defs₀ (F := Bits) := by
  refine congrArg (Defs.onTc (nD := Cert.NarrowDwIdeal.nD) (τ := Cert.NarrowDwIdeal.τ) (sig := Cert.NarrowDwIdeal.sig) (Λ := Cert.NarrowDwIdeal.Λ₀))
    (funext fun l => funext fun x => ?_)
  match l, x with
  | ⟨0, _⟩, (t, s) => rfl

theorem defs_eq : Cert.NarrowDw.defs (F := Bits) = Cert.NarrowDwIdeal.defs (F := Bits) :=
  congrArg (Pipeline.defs (Cert.NarrowDwIdeal.pcfgs (F := Bits))) bodies_eq

theorem frame : Cert.quiescent_NarrowDw (hNarrowDw := Cert.NarrowDw.Gen.facts) := fun m ρ _ => by
  rw [defs_eq]
  exact Cert.NarrowDwIdeal.Gen.frame (F := Bits) m ρ

theorem frameIdeal : Cert.quiescent_NarrowDwIdeal (hNarrowDwIdeal := Cert.NarrowDwIdeal.Gen.facts) := fun m ρ _ =>
  Cert.NarrowDwIdeal.Gen.frame m ρ

theorem frameReference : Cert.quiescent_NarrowDwReferenceIdeal (hNarrowDwReferenceIdeal := Cert.NarrowDwReferenceIdeal.Gen.facts) := fun m ρ _ =>
  (θ_run Cert.NarrowDwReferenceIdeal.defs _ _).mono (fun _ h => ⟨fun c => (h c).2, sem_eq_zero_of_no_sems (by decide) _⟩)
    (Cert.NarrowDwReferenceIdeal.Value.run m ρ)

theorem algebraic : Cert.algebraic_NarrowDwIdeal_NarrowDwReferenceIdeal (hNarrowDwIdeal := Cert.NarrowDwIdeal.Gen.facts)
    (hNarrowDwReferenceIdeal := Cert.NarrowDwReferenceIdeal.Gen.facts) := by
  intro m g m' g' _ hm
  refine ⟨_, (θ_run Cert.NarrowDwIdeal.defs _ _).mono (fun _ h c => ⟨(h c).1.trans (Cert.NarrowDwIdeal.Hand.final_args m c), (h c).2⟩) (Cert.NarrowDwIdeal.Value.run_blocks m g),
    (θ_run Cert.NarrowDwReferenceIdeal.defs _ _).mono (fun _ h c => ⟨(h c).1.trans ?_, (h c).2⟩) (Cert.NarrowDwReferenceIdeal.Value.run m' g')⟩
  obtain ⟨h0, h1, h2⟩ := hm c
  rw [h0, h2]
  funext j
  pointwise [tn]

end Cert.NarrowDw.Hand
-- ==== Proof.NarrowDx.lean ====
/-
  The gradient through the whole input projection, `dz_a · w_inᵀ + dz_small · w_narrowᵀ`: the kernel adds the narrow
  columns' product to the wide ones'; the reference adds the two in the other order.
-/
module

public import proofs.«01_k».proof.Defs
public import proofs.«01_k».proof.Proof.Gen.NarrowDx
public import proofs.«01_k».proof.Proof.Gen.NarrowDxIdeal.Value
public import proofs.«01_k».proof.Proof.Gen.NarrowDxReferenceIdeal.Run
public import proofs.«01_k».proof.Proof.Forward

@[expose] public section

noncomputable section

namespace Cert.NarrowDxIdeal.Hand

open Cert.NarrowDxIdeal Cert.NarrowDxIdeal.Gen Idealize.ShloMosaic Idealize.ShloMosaic.TcCoe Idealize.SL.Sem Cert.Blocks

variable (m : (ℓ : Loc nD τ sig) → Buf (Elt Ideal) ℓ) (ρ : Dev nD → PrngReg)

theorem body_apply (x : Vec Ideal S1024x128 .f32) (y : Vec Ideal S128x1024 .bf16) (e : Vec Ideal S1024x1024 .f32) (j : S1024x1024.Idx) :
    k0_pay1 x y e j = added e x y j := by
  pointwise [k0_pay1, nn, added]

theorem index0 : ∀ t : Fin cfg0.N, win0_0.index t = ![t.val / 2, 0] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![t.val / 2, t.val % 2] := (by decide +kernel : ∀ t : Fin grid0.N, _)
theorem index3 : ∀ t : Fin cfg0.N, win0_3.index t = ![t.val / 2, t.val % 2] := (by decide +kernel : ∀ t : Fin grid0.N, _)

/-- The result, of what the call is given. -/
theorem final (c : Dev nD) : (dats m 0 c).arrAt 3 cfg0.N
    = added (V m c main_v1 : FVec Ideal S4096x2048 .f32) (V m c main_arg4 : FVec Ideal S4096x128 .f32) (V m c main_v3 : FVec Ideal S128x2048 .bf16) := by
  refine (dats m 0 c).arrAt_eq_of_covers 3 _ (by decide +kernel) fun t hf y => ?_
  have e2 : (iblk m c 2 t : Vec Ideal S1024x1024 .f32) y = (V m c main_v1 : FVec Ideal S4096x2048 .f32) ((win0_3.blk t).view.emb y) := by
    refine congrArg (V m c main_v1 : FVec Ideal S4096x2048 .f32) ?_
    blk_ext [index2, index3]
  blk_simp
  rw [after0_3]
  unfold out0_3
  frame_out
  rw [body_apply]
  refine added_congr _ _ _ _ _ _ y _ ?_ (fun k => ?_) fun k => ?_
  · exact e2
  · blk_ext [iblk, index0, index3]
  · blk_ext [iblk, index1, index3]

theorem wide_apply (c : Dev nD) (i : S4096x2048.Idx) : (V m c main_v1 : FVec Ideal S4096x2048 .f32) i
    = nt (m ((c : Thread nD τ).loc main_arg3) : FVec Ideal S4096x18432 .f32) (m ((c : Thread nD τ).loc main_arg1) : FVec Ideal S2048x18432 .f32) i := by
  entry_read
  pointwise [nt]

theorem dz_apply (c : Dev nD) (i : S4096x128.Idx) : (V m c main_arg4 : FVec Ideal S4096x128 .f32) i
    = (m ((c : Thread nD τ).loc main_arg4) : FVec Ideal S4096x128 .f32) i := by
  entry_read
  pointwise

theorem w_apply (c : Dev nD) (i : S128x2048.Idx) : (V m c main_v3 : FVec Ideal S128x2048 .bf16) i
    = (m ((c : Thread nD τ).loc main_arg2) : FVec Ideal S2048x128 .f32) (ix2 (i 1) (i 0)) := by
  entry_read
  pointwise

/-- The result, of the arguments. -/
theorem final_args (c : Dev nD) : (dats m 0 c).arrAt 3 cfg0.N = (fun j => nt (m ((c : Thread nD τ).loc main_arg3) : FVec Ideal S4096x18432 .f32) (m ((c : Thread nD τ).loc main_arg1) : FVec Ideal S2048x18432 .f32) j
    + nt (m ((c : Thread nD τ).loc main_arg4) : FVec Ideal S4096x128 .f32) (m ((c : Thread nD τ).loc main_arg2) : FVec Ideal S2048x128 .f32) j : Mat 4096 2048) := by
  rw [final]
  funext j
  exact congrArg₂ (fun a b : EReal => a + b) (wide_apply m c j)
    (Finset.sum_congr rfl fun k _ => congrArg₂ (fun a b : EReal => a * b) (dz_apply m c _) (w_apply m c _))

end Cert.NarrowDxIdeal.Hand

namespace Cert.NarrowDx.Hand

open Idealize.ShloMosaic Idealize.ShloMosaic.TcCoe Idealize.SL.Sem Cert.Blocks

/-- The two texts' kernel bodies are one. -/
theorem bodies_eq : Cert.NarrowDx.defs₀ (F := Bits) = Cert.NarrowDxIdeal.defs₀ (F := Bits) := by
  refine congrArg (Defs.onTc (nD := Cert.NarrowDxIdeal.nD) (τ := Cert.NarrowDxIdeal.τ) (sig := Cert.NarrowDxIdeal.sig) (Λ := Cert.NarrowDxIdeal.Λ₀))
    (funext fun l => funext fun x => ?_)
  match l, x with
  | ⟨0, _⟩, (t, s) => rfl

theorem defs_eq : Cert.NarrowDx.defs (F := Bits) = Cert.NarrowDxIdeal.defs (F := Bits) :=
  congrArg (Pipeline.defs (Cert.NarrowDxIdeal.pcfgs (F := Bits))) bodies_eq

theorem frame : Cert.quiescent_NarrowDx (hNarrowDx := Cert.NarrowDx.Gen.facts) := fun m ρ _ => by
  rw [defs_eq]
  exact Cert.NarrowDxIdeal.Gen.frame (F := Bits) m ρ

theorem frameIdeal : Cert.quiescent_NarrowDxIdeal (hNarrowDxIdeal := Cert.NarrowDxIdeal.Gen.facts) := fun m ρ _ =>
  Cert.NarrowDxIdeal.Gen.frame m ρ

theorem frameReference : Cert.quiescent_NarrowDxReferenceIdeal (hNarrowDxReferenceIdeal := Cert.NarrowDxReferenceIdeal.Gen.facts) := fun m ρ _ =>
  (θ_run Cert.NarrowDxReferenceIdeal.defs _ _).mono (fun _ h => ⟨fun c => (h c).2, sem_eq_zero_of_no_sems (by decide) _⟩)
    (Cert.NarrowDxReferenceIdeal.Value.run m ρ)

theorem algebraic : Cert.algebraic_NarrowDxIdeal_NarrowDxReferenceIdeal (hNarrowDxIdeal := Cert.NarrowDxIdeal.Gen.facts)
    (hNarrowDxReferenceIdeal := Cert.NarrowDxReferenceIdeal.Gen.facts) := by
  intro m g m' g' _ hm
  refine ⟨_, (θ_run Cert.NarrowDxIdeal.defs _ _).mono (fun _ h c => ⟨(h c).1.trans (Cert.NarrowDxIdeal.Hand.final_args m c), (h c).2⟩) (Cert.NarrowDxIdeal.Value.run_blocks m g),
    (θ_run Cert.NarrowDxReferenceIdeal.defs _ _).mono (fun _ h c => ⟨(h c).1.trans ?_, (h c).2⟩) (Cert.NarrowDxReferenceIdeal.Value.run m' g')⟩
  obtain ⟨h0, h1, h2, h3, h4⟩ := hm c
  rw [h1, h2, h3, h4]
  funext j
  pointwise [nt]
  exact add_comm (G := EReal) _ _

end Cert.NarrowDx.Hand
-- ==== Proof.Stacks.lean ====
/-
  The kernels' row stacks. Both pipelines treat the two batch entries and the four heads of a chunk as one leading
  axis of eight: entry `bh = 2 * h + b` of a stack is the 64 rows of batch `b` restricted to the columns of head `h`.
  `stkQ` (heads of 256 columns) and `stkV` (heads of 512) make a stack from a block, `stkB` repeats a block without a
  head axis over the heads, `stkH` repeats a per-head matrix over the batch, `unQ` and `unV` lay a stack's entries
  back side by side.
-/
module

public import Idealize.ShloMosaic.Lib.Pipeline.ValueKit.Tiles
public import Idealize.ShloMosaic.Lib.Pointwise
public import Idealize.ShloMosaic.Lib.Tactic.Stretches
public import Idealize.ShloMosaic.Lib.Ring

@[expose] public section

namespace Cert.Stacks

open Idealize.ShloMosaic Idealize.ShloMosaic.Pointwise

variable {α : Type}

def stkQ (X : (⟨3, ![2, 64, 1024]⟩ : Shape).Idx → α) : (⟨3, ![8, 64, 256]⟩ : Shape).Idx → α := fun x =>
  X (ix3 (⟨(x 0).val % 2, Nat.mod_lt _ (by norm_num)⟩ : Fin 2) (x 1)
    (⟨(x 0).val / 2 * 256 + (x 2).val, by have h0 : (x 0).val < 8 := (x 0).isLt; have h2 : (x 2).val < 256 := (x 2).isLt; omega⟩ : Fin 1024))

def stkV (X : (⟨3, ![2, 64, 2048]⟩ : Shape).Idx → α) : (⟨3, ![8, 64, 512]⟩ : Shape).Idx → α := fun x =>
  X (ix3 (⟨(x 0).val % 2, Nat.mod_lt _ (by norm_num)⟩ : Fin 2) (x 1)
    (⟨(x 0).val / 2 * 512 + (x 2).val, by have h0 : (x 0).val < 8 := (x 0).isLt; have h2 : (x 2).val < 512 := (x 2).isLt; omega⟩ : Fin 2048))

def stkB (X : (⟨3, ![2, 64, 128]⟩ : Shape).Idx → α) : (⟨3, ![8, 64, 128]⟩ : Shape).Idx → α := fun x =>
  X (ix3 (⟨(x 0).val % 2, Nat.mod_lt _ (by norm_num)⟩ : Fin 2) (x 1) (x 2))

def stkH (X : (⟨3, ![4, 128, 256]⟩ : Shape).Idx → α) : (⟨3, ![8, 128, 256]⟩ : Shape).Idx → α := fun x =>
  X (ix3 (⟨(x 0).val / 2, by have h0 : (x 0).val < 8 := (x 0).isLt; omega⟩ : Fin 4) (x 1) (x 2))

/-- One head's row of the gate's offsets. -/
def rowB (X : (⟨3, ![4, 1, 256]⟩ : Shape).Idx → α) (h : Fin 4) : (⟨2, ![1, 256]⟩ : Shape).Idx → α := fun x => X (ix3 h (x 0) (x 1))
def rowB3 (X : (⟨3, ![4, 1, 256]⟩ : Shape).Idx → α) (h : Fin 4) : (⟨3, ![1, 1, 256]⟩ : Shape).Idx → α := fun x => X (ix3 h (x 1) (x 2))

def unQ (U : (⟨3, ![8, 64, 256]⟩ : Shape).Idx → α) : (⟨3, ![2, 64, 1024]⟩ : Shape).Idx → α := fun y =>
  U (ix3 (⟨(y 2).val / 256 * 2 + (y 0).val, by have h0 : (y 0).val < 2 := (y 0).isLt; have h2 : (y 2).val < 1024 := (y 2).isLt; omega⟩ : Fin 8) (y 1)
    (⟨(y 2).val % 256, Nat.mod_lt _ (by norm_num)⟩ : Fin 256))

def unV (U : (⟨3, ![8, 64, 512]⟩ : Shape).Idx → α) : (⟨3, ![2, 64, 2048]⟩ : Shape).Idx → α := fun y =>
  U (ix3 (⟨(y 2).val / 512 * 2 + (y 0).val, by have h0 : (y 0).val < 2 := (y 0).isLt; have h2 : (y 2).val < 2048 := (y 2).isLt; omega⟩ : Fin 8) (y 1)
    (⟨(y 2).val % 512, Nat.mod_lt _ (by norm_num)⟩ : Fin 512))

/-- Two indices of rank three with equal coordinates. -/
theorem idx3_ext {a b c : ℕ} {x y : (⟨3, ![a, b, c]⟩ : Shape).Idx} (h0 : (x 0).val = (y 0).val) (h1 : (x 1).val = (y 1).val) (h2 : (x 2).val = (y 2).val) :
    x = y := by
  funext k; match k with
  | 0 => exact Fin.ext h0
  | 1 => exact Fin.ext h1
  | 2 => exact Fin.ext h2

theorem idx2_ext {a b : ℕ} {x y : (⟨2, ![a, b]⟩ : Shape).Idx} (h0 : (x 0).val = (y 0).val) (h1 : (x 1).val = (y 1).val) : x = y := by
  funext k; match k with
  | 0 => exact Fin.ext h0
  | 1 => exact Fin.ext h1

/-- A load of a whole memref's representative reads the contents at the shifted index. -/
theorem ld_ix3 {a b c p q r : ℕ} (X : (⟨3, ![a, b, c]⟩ : Shape).Idx → α) (off : Fin 3 → ℕ) (inb) (j : (⟨3, ![p, q, r]⟩ : Shape).Idx)
    (y : (⟨3, ![a, b, c]⟩ : Shape).Idx) (h0 : off 0 + (j 0).val = (y 0).val) (h1 : off 1 + (j 1).val = (y 1).val) (h2 : off 2 + (j 2).val = (y 2).val) :
    X ((Rect.unit (s := (⟨3, ![a, b, c]⟩ : Shape)) off ![p, q, r] inb).idx j) = X y :=
  congrArg X (idx3_ext ((Rect.idx_unit_val ..).trans h0) ((Rect.idx_unit_val ..).trans h1) ((Rect.idx_unit_val ..).trans h2))

end Cert.Stacks
-- ==== Proof.Rows.lean ====
/-
  Rows of a block of four, each changed in place more than once. The backward pipeline adds every chunk's two batch
  entries to the four heads' sums: a row is read, added to and stored, twice per head. `step` is one such change, and
  `steps_apply` says what eight of them in the heads' order leave.
-/
module

public import proofs.«01_k».proof.Proof.Stacks
public import Idealize.ShloMosaic.Lib.VecWindow

@[expose] public section

namespace Cert.Stacks

open Idealize.ShloMosaic Idealize.ShloMosaic.Pointwise

variable {α : Type} {p : ℕ}

theorem row_inb (h : Fin 4) (a : Fin 3) : (![h.val, 0, 0] : Fin 3 → ℕ) a + (![1, p, 256] : Fin 3 → ℕ) a ≤ (![4, p, 256] : Fin 3 → ℕ) a := by
  match a with
  | 0 => show h.val + 1 ≤ 4; omega
  | 1 => show 0 + p ≤ p; omega
  | 2 => show 0 + 256 ≤ 256; omega

/-- Row `h`, as a block of one row. -/
abbrev win (x : (⟨3, ![4, p, 256]⟩ : Shape).Idx → α) (h : Fin 4) : (⟨3, ![1, p, 256]⟩ : Shape).Idx → α :=
  VecWindow.window (s := ⟨3, ![4, p, 256]⟩) x ![h.val, 0, 0] ![1, p, 256] (row_inb h)

/-- Row `h` read, changed by `f` and put back. -/
abbrev step (x : (⟨3, ![4, p, 256]⟩ : Shape).Idx → α) (h : Fin 4)
    (f : ((⟨3, ![1, p, 256]⟩ : Shape).Idx → α) → (⟨3, ![1, p, 256]⟩ : Shape).Idx → α) : (⟨3, ![4, p, 256]⟩ : Shape).Idx → α :=
  VecWindow.put (s := ⟨3, ![4, p, 256]⟩) x ![h.val, 0, 0] ![1, p, 256] (f (win x h))

theorem win_step_same (x : (⟨3, ![4, p, 256]⟩ : Shape).Idx → α) (h : Fin 4) (f) : win (step x h f) h = f (win x h) :=
  VecWindow.window_put_same _ _ _ _ _

theorem win_step_ne (x : (⟨3, ![4, p, 256]⟩ : Shape).Idx → α) {h k : Fin 4} (hk : k ≠ h) (f) : win (step x h f) k = win x k :=
  VecWindow.window_put_of_disjoint (s := ⟨3, ![4, p, 256]⟩) _ _ _ _ _ _ _ 0 (by
    show k.val + 1 ≤ h.val ∨ h.val + 1 ≤ k.val
    have : k.val ≠ h.val := fun e => hk (Fin.ext e)
    omega)

theorem win_apply (x : (⟨3, ![4, p, 256]⟩ : Shape).Idx → α) (y : (⟨3, ![4, p, 256]⟩ : Shape).Idx) : win x (y 0) (ix3 0 (y 1) (y 2)) = x y := by
  refine congrArg x (idx3_ext ?_ ?_ ?_)
  · exact (Rect.idx_unit_val ..).trans (Nat.add_zero _)
  · exact (Rect.idx_unit_val ..).trans (Nat.zero_add _)
  · exact (Rect.idx_unit_val ..).trans (Nat.zero_add _)

/-- Two blocks of four rows are equal where their rows are. -/
theorem ext_win {x y : (⟨3, ![4, p, 256]⟩ : Shape).Idx → α} (h : ∀ k : Fin 4, win x k = win y k) : x = y := by
  funext z
  rw [← win_apply x z, ← win_apply y z]
  exact congrFun (h (z 0)) _

/-- Eight changes in the heads' order: every row has been changed by its own two. -/
theorem steps_win (x : (⟨3, ![4, p, 256]⟩ : Shape).Idx → α) (f g : Fin 4 → ((⟨3, ![1, p, 256]⟩ : Shape).Idx → α) → (⟨3, ![1, p, 256]⟩ : Shape).Idx → α)
    (k : Fin 4) :
    win (step (step (step (step (step (step (step (step x 0 (f 0)) 0 (g 0)) 1 (f 1)) 1 (g 1)) 2 (f 2)) 2 (g 2)) 3 (f 3)) 3 (g 3)) k = g k (f k (win x k)) := by
  match k with
  | 0 => rw [win_step_ne _ (by decide), win_step_ne _ (by decide), win_step_ne _ (by decide), win_step_ne _ (by decide), win_step_ne _ (by decide),
      win_step_ne _ (by decide), win_step_same, win_step_same]
  | 1 => rw [win_step_ne _ (by decide), win_step_ne _ (by decide), win_step_ne _ (by decide), win_step_ne _ (by decide), win_step_same, win_step_same,
      win_step_ne _ (by decide), win_step_ne _ (by decide)]
  | 2 => rw [win_step_ne _ (by decide), win_step_ne _ (by decide), win_step_same, win_step_same, win_step_ne _ (by decide), win_step_ne _ (by decide),
      win_step_ne _ (by decide), win_step_ne _ (by decide)]
  | 3 => rw [win_step_same, win_step_same, win_step_ne _ (by decide), win_step_ne _ (by decide), win_step_ne _ (by decide), win_step_ne _ (by decide),
      win_step_ne _ (by decide), win_step_ne _ (by decide)]

/-- The entries of a stack that belong to batch `b`, one row per head. -/
def ofBatch (b : Fin 2) (U : (⟨3, ![8, p, 256]⟩ : Shape).Idx → α) : (⟨3, ![4, p, 256]⟩ : Shape).Idx → α := fun y =>
  U (ix3 (⟨2 * (y 0).val + b.val, by have h0 : (y 0).val < 4 := (y 0).isLt; omega⟩ : Fin 8) (y 1) (y 2))

/-- The entries of a stack that belong to head `h`, one per batch. -/
def ofHead {q r : ℕ} (h : Fin 4) (U : (⟨3, ![8, q, r]⟩ : Shape).Idx → α) : (⟨3, ![2, q, r]⟩ : Shape).Idx → α := fun y =>
  U (ix3 (⟨2 * h.val + (y 0).val, by have h0 : (y 0).val < 2 := (y 0).isLt; omega⟩ : Fin 8) (y 1) (y 2))

end Cert.Stacks
-- ==== Proof.FwdBodyIdeal.lean ====
module

public import proofs.«01_k».proof.Proof.Stacks
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Ring
public import Idealize.ShloMosaic.Lib.Pipeline.TableIdle
public import Idealize.ShloMosaic.Lib.Tactic
public import Idealize.ShloMosaic.Lib.WordCmp
public import Idealize.ShloMosaic.Lib.VecWindow

@[expose] public section

set_option maxRecDepth 16384

noncomputable section

namespace Cert.KernelIdeal.Hand

open Cert.KernelIdeal Cert.KernelIdeal.Gen Cert.Stacks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (UR sig nD τ) ℕ

/-! ## What one chunk of the forward pass computes -/

/-- The chunk's cumulative log decay, as a stack. -/
abbrev fCum (X3 : S2x64x128.Idx → Elt F .f32) (X4 : S4x128x256.Idx → Elt F .f32) (X5 : S4x1x256.Idx → Elt F .f32) : FVec F S8x64x256 .f32 :=
  k0_pay37 (stkB X3) (stkH X4) (rowB X5 0) (rowB X5 0) (rowB X5 1) (rowB X5 1) (rowB X5 2) (rowB X5 2) (rowB3 X5 3) (rowB3 X5 3)

/-- The state after the chunk, from the state before it. -/
abbrev fState (S : S1x8x512x256.Idx → Elt F .f32) (X1 : S2x64x1024.Idx → Elt F .f32) (X2 : S2x64x2048.Idx → Elt F .f32)
    (X3 : S2x64x128.Idx → Elt F .f32) (X4 : S4x128x256.Idx → Elt F .f32) (X5 : S4x1x256.Idx → Elt F .f32) : S1x8x512x256.Idx → Elt F .f32 :=
  k0_pay1 (k0_pay41 (k0_pay3 S) (stkQ X1) (stkV X2) (fCum X3 X4 X5)
    (k0_pay38 (stkB X3) (stkH X4) (rowB X5 0) (rowB X5 0) (rowB X5 1) (rowB X5 1) (rowB X5 2) (rowB X5 2) (rowB3 X5 3) (rowB3 X5 3)))

/-- The chunk's output rows, from the state before it. -/
abbrev fOut (S : S1x8x512x256.Idx → Elt F .f32) (X0 X1 : S2x64x1024.Idx → Elt F .f32) (X2 : S2x64x2048.Idx → Elt F .f32)
    (X3 : S2x64x128.Idx → Elt F .f32) (X4 : S4x128x256.Idx → Elt F .f32) (X5 : S4x1x256.Idx → Elt F .f32) : S2x64x2048.Idx → Elt F .f32 :=
  unV (k0_pay40 (k0_pay3 S) (stkQ X1) (stkV X2) (fCum X3 X4 X5)
    (k0_pay39 (stkQ X0) (stkB X3) (stkH X4) (rowB X5 0) (rowB X5 0) (rowB X5 1) (rowB X5 1) (rowB X5 2) (rowB X5 2) (rowB3 X5 3) (rowB3 X5 3)))

set_option maxHeartbeats 4000000 in
/-- The forward body at a later chunk. -/
theorem fwdRun1 (c : Dev nD) (i : grid0.Coords) (hi : ¬ k0_cond1 i = 1#1)
    (M0 : Memref sig .tc .vmem S2x64x1024 .f32) (h0 : M0.IsWhole)
    (M1 : Memref sig .tc .vmem S2x64x1024 .f32) (h1 : M1.IsWhole)
    (M2 : Memref sig .tc .vmem S2x64x2048 .f32) (h2 : M2.IsWhole)
    (M3 : Memref sig .tc .vmem S2x64x128 .f32) (h3 : M3.IsWhole)
    (M4 : Memref sig .tc .vmem S4x128x256 .f32) (h4 : M4.IsWhole)
    (M5 : Memref sig .tc .vmem S4x1x256 .f32) (h5 : M5.IsWhole)
    (M6 : Memref sig .tc .vmem S2x64x2048 .f32) (h6 : M6.IsWhole)
    (M7 : Memref sig .tc .vmem S4x2x1x512x256 .f32) (h7 : M7.IsWhole)
    (MS : Memref sig .tc .vmem S1x8x512x256 .f32) (hS : MS.IsWhole)
    (X0 : S2x64x1024.Idx → Elt F .f32)    (X1 : S2x64x1024.Idx → Elt F .f32)    (X2 : S2x64x2048.Idx → Elt F .f32)    (X3 : S2x64x128.Idx → Elt F .f32)    (X4 : S4x128x256.Idx → Elt F .f32)    (X5 : S4x1x256.Idx → Elt F .f32)
    (XS : S1x8x512x256.Idx → Elt F .f32) (q0 q1 q2 q3 q4 q5 : PosShare TreeShare) (K : PUnit → sProp 𝕄) :
    iprop(owns (c : Thread nD τ) M0 q0 X0 ∗ owns (c : Thread nD τ) M1 q1 X1 ∗ owns (c : Thread nD τ) M2 q2 X2 ∗ owns (c : Thread nD τ) M3 q3 X3 ∗ owns (c : Thread nD τ) M4 q4 X4 ∗ owns (c : Thread nD τ) M5 q5 X5
        ∗ owns (c : Thread nD τ) MS fullShare XS ∗ (∃ d, owns (c : Thread nD τ) M6 fullShare d) ∗ (∃ d, owns (c : Thread nD τ) M7 fullShare d)
        ∗ (iprop(owns (c : Thread nD τ) M0 q0 X0 ∗ owns (c : Thread nD τ) M1 q1 X1 ∗ owns (c : Thread nD τ) M2 q2 X2 ∗ owns (c : Thread nD τ) M3 q3 X3 ∗ owns (c : Thread nD τ) M4 q4 X4 ∗ owns (c : Thread nD τ) M5 q5 X5
            ∗ owns (c : Thread nD τ) MS fullShare (fState XS X1 X2 X3 X4 X5)
            ∗ owns (c : Thread nD τ) M6 fullShare (fOut XS X0 X1 X2 X3 X4 X5)
            ∗ owns (c : Thread nD τ) M7 fullShare (k0_pay4 XS)) -∗ K ⟨⟩))
      ⊢ wp frame (wpE (defs₀ (F := F)) Variants.none c none) Set.univ (cc0_gla_fwd (F := F) i M0 h0 M1 h1 M2 h2 M3 h3 M4 h4 M5 h5 M6 h6 M7 h7 MS hS) K := by
  simp only [cc0_gla_fwd_eq_skeleton]; unfold cc0_gla_fwd_skel
  rw [owns_eq_rep c.tc M0 q0 X0, owns_eq_rep c.tc M1 q1 X1, owns_eq_rep c.tc M2 q2 X2, owns_eq_rep c.tc M3 q3 X3, owns_eq_rep c.tc M4 q4 X4,
    owns_eq_rep c.tc M5 q5 X5, owns_eq_rep c.tc MS fullShare XS]
  unfold owns
  iintro ⟨H0, H1, H2, H3, H4, H5, HS, ⟨%d6, %f6, -, H6⟩, ⟨%d7, %f7, -, H7⟩, Hk⟩
  sl_exec!
  have e34 : fwdRun1.sl.v34 c M0 X0 = stkQ X0 := by
    sl_open_run; funext x; concat_tiles j h
    all_goals sl_open_run; all_goals sl_open_pay
    all_goals simp only [shapeCast_comp, shapeCast_self, View.readAt_rep]
    all_goals exact ld_ix3 X0 _ _ j _ (by simp [ix3]; omega) (by simp [ix3]; omega) (by simp [ix3]; omega)
  have e59 : fwdRun1.sl.v59 c M1 X1 = stkQ X1 := by
    sl_open_run; funext x; concat_tiles j h
    all_goals sl_open_run; all_goals sl_open_pay
    all_goals simp only [shapeCast_comp, shapeCast_self, View.readAt_rep]
    all_goals exact ld_ix3 X1 _ _ j _ (by simp [ix3]; omega) (by simp [ix3]; omega) (by simp [ix3]; omega)
  have e84 : fwdRun1.sl.v84 c M2 X2 = stkV X2 := by
    sl_open_run; funext x; concat_tiles j h
    all_goals sl_open_run; all_goals sl_open_pay
    all_goals simp only [shapeCast_comp, shapeCast_self, View.readAt_rep]
    all_goals exact ld_ix3 X2 _ _ j _ (by simp [ix3]; omega) (by simp [ix3]; omega) (by simp [ix3]; omega)
  have e109 : fwdRun1.sl.v109 c M3 X3 = stkB X3 := by
    sl_open_run; funext x; concat_tiles j h
    all_goals sl_open_run; all_goals sl_open_pay
    all_goals simp only [shapeCast_comp, shapeCast_self, View.readAt_rep]
    all_goals exact ld_ix3 X3 _ _ j _ (by simp [ix3]; omega) (by simp [ix3]; omega) (by simp [ix3]; omega)
  have e134 : fwdRun1.sl.v134 c M4 X4 = stkH X4 := by
    sl_open_run; funext x; concat_tiles j h
    all_goals sl_open_run; all_goals sl_open_pay
    all_goals simp only [shapeCast_comp, shapeCast_self, View.readAt_rep]
    all_goals exact ld_ix3 X4 _ _ j _ (by simp [ix3]; omega) (by simp [ix3]; omega) (by simp [ix3]; omega)
  have e136 : fwdRun1.sl.v136 c M5 X5 = rowB X5 0 := by
    sl_open_run; simp only [View.readAt_rep]; funext x
    exact (shapeCast_dropUnit_apply ![1, 256] _ _ x).trans (ld_ix3 X5 _ _ _ _ rfl (Nat.zero_add _) (Nat.zero_add _))
  have e140 : fwdRun1.sl.v140 c M5 X5 = rowB X5 1 := by
    sl_open_run; simp only [View.readAt_rep]; funext x
    exact (shapeCast_dropUnit_apply ![1, 256] _ _ x).trans (ld_ix3 X5 _ _ _ _ rfl (Nat.zero_add _) (Nat.zero_add _))
  have e144 : fwdRun1.sl.v144 c M5 X5 = rowB X5 2 := by
    sl_open_run; simp only [View.readAt_rep]; funext x
    exact (shapeCast_dropUnit_apply ![1, 256] _ _ x).trans (ld_ix3 X5 _ _ _ _ rfl (Nat.zero_add _) (Nat.zero_add _))
  have e147 : View.readAt (Elt F) M5.view (Rect.unit (s := S4x1x256) ![3, 0, 0] S1x1x256.size inb_S4x1x256_S1x1x256_3_0_0).toLoadRect (M5.view.rep X5) = rowB3 X5 3 := by
    rw [View.readAt_rep]; funext x
    exact ld_ix3 X5 _ _ x _ (by have : (x 0).val < 1 := (x 0).isLt; show 3 + (x 0).val = 3; omega) (Nat.zero_add _) (Nat.zero_add _)
  have e4 : View.readAt (Elt F) MS.view (Rect.unit (k0_off2 i) S1x8x512x256.size (k0_off2_inb i)).toLoadRect (MS.view.rep XS) = XS := View.readAt_rep_full _ _ _
  have er : fwdRun1.sl.r c i MS XS = k0_pay3 XS := by unfold fwdRun1.sl.r; rw [e4]
  have e9 : fwdRun1.sl.r_9 c M3 M4 M5 X3 X4 X5 = fCum X3 X4 X5 := by unfold fwdRun1.sl.r_9; rw [e109, e134, e136, e140, e144, e147]
  have e13 : fwdRun1.sl.r_13 c i M1 M2 M3 M4 M5 MS X1 X2 X3 X4 X5 XS = k0_pay41 (k0_pay3 XS) (stkQ X1) (stkV X2) (fCum X3 X4 X5)
      (k0_pay38 (stkB X3) (stkH X4) (rowB X5 0) (rowB X5 0) (rowB X5 1) (rowB X5 1) (rowB X5 2) (rowB X5 2) (rowB3 X5 3) (rowB3 X5 3)) := by
    unfold fwdRun1.sl.r_13 fwdRun1.sl.r_10; rw [er, e9, e59, e84, e109, e134, e136, e140, e144, e147]
  have e11 : fwdRun1.sl.r_11 c M0 M3 M4 M5 X0 X3 X4 X5 = k0_pay39 (stkQ X0) (stkB X3) (stkH X4) (rowB X5 0) (rowB X5 0) (rowB X5 1) (rowB X5 1) (rowB X5 2) (rowB X5 2) (rowB3 X5 3) (rowB3 X5 3) := by
    unfold fwdRun1.sl.r_11; rw [e34, e109, e134, e136, e140, e144, e147]
  obtain ⟨U, hU⟩ : ∃ U, U = k0_pay40 (k0_pay3 XS) (stkQ X1) (stkV X2) (fCum X3 X4 X5)
      (k0_pay39 (stkQ X0) (stkB X3) (stkH X4) (rowB X5 0) (rowB X5 0) (rowB X5 1) (rowB X5 1) (rowB X5 2) (rowB X5 2) (rowB3 X5 3) (rowB3 X5 3)) := ⟨_, rfl⟩
  have e12 : fwdRun1.sl.r_12 c i M0 M1 M2 M3 M4 M5 MS X0 X1 X2 X3 X4 X5 XS = U := by
    unfold fwdRun1.sl.r_12; rw [er, e9, e11, e59, e84, hU]
  have e14 : fwdRun1.sl.r_14 c i M0 M1 M2 M3 M4 M5 MS X0 X1 X2 X3 X4 X5 XS = shapeCast S64x512 (extractStridedSlice S1x64x512 ![2, 0, 0] U slices_S8x64x512_o2_0_0_S1x64x512) shapeCasts_S1x64x512_S64x512 := by
    unfold fwdRun1.sl.r_14 k0_pay44; rw [er, e9, e11, e59, e84, hU]
  have hf : fOut XS X0 X1 X2 X3 X4 X5 = unV U := by rw [hU]
  sl_step
  iapply Hk
  isplitl [H0]; · iexact H0
  isplitl [H1]; · iexact H1
  isplitl [H2]; · iexact H2
  isplitl [H3]; · iexact H3
  isplitl [H4]; · iexact H4
  isplitl [H5]; · iexact H5
  isplitl [HS]
  · iexists _; isplitr; swap; · iexact HS
    ipureintro
    rw [e13]; exact View.read_writes_full _ _ _ _ _
  isplitl [H6]
  · iexists _; isplitr; swap; · iexact H6
    ipureintro
    have hc : ∀ y, ∃ p ∈ fwdRun1.sl.H6_8 c i M0 M1 M2 M3 M4 M5 MS X0 X1 X2 X3 X4 X5 XS, y ∈ p.1.set := fun y =>
      View.cover_of_tiled (fwdRun1.sl.H6_8 c i M0 M1 M2 M3 M4 M5 MS X0 X1 X2 X3 X4 X5 XS) S1x64x512.size (by rfl) y
    rw [View.read_writes_eq_canon _ _ _ hc]
    unfold fwdRun1.sl.H6_8; rw [hf]
    funext y; canon_tiles x h
    all_goals simp only [k0_pay42, k0_pay43, k0_pay45, k0_pay46, k0_pay47, k0_pay48, k0_pay49, k0_pay50,
      e12, e14, er, e9, e11, e59, e84, ← hU, shapeCast_comp, shapeCast_self]
    all_goals exact extractStridedSlice_apply _ _ _ _ _ (fun a => by match a with | 0 => simp [ix3]; omega | 1 => simp [ix3]; omega | 2 => simp [ix3]; omega)
  iexists _; isplitr; swap; · iexact H7
  ipureintro
  unfold fwdRun1.sl.H7_1
  rw [e4]; exact View.read_writes_full _ _ _ _ _

set_option maxHeartbeats 4000000 in
/-- The forward body at the first chunk, where the state starts from zero. -/
theorem fwdRun0 (c : Dev nD) (i : grid0.Coords) (hi : k0_cond1 i = 1#1)
    (M0 : Memref sig .tc .vmem S2x64x1024 .f32) (h0 : M0.IsWhole)
    (M1 : Memref sig .tc .vmem S2x64x1024 .f32) (h1 : M1.IsWhole)
    (M2 : Memref sig .tc .vmem S2x64x2048 .f32) (h2 : M2.IsWhole)
    (M3 : Memref sig .tc .vmem S2x64x128 .f32) (h3 : M3.IsWhole)
    (M4 : Memref sig .tc .vmem S4x128x256 .f32) (h4 : M4.IsWhole)
    (M5 : Memref sig .tc .vmem S4x1x256 .f32) (h5 : M5.IsWhole)
    (M6 : Memref sig .tc .vmem S2x64x2048 .f32) (h6 : M6.IsWhole)
    (M7 : Memref sig .tc .vmem S4x2x1x512x256 .f32) (h7 : M7.IsWhole)
    (MS : Memref sig .tc .vmem S1x8x512x256 .f32) (hS : MS.IsWhole)
    (X0 : S2x64x1024.Idx → Elt F .f32)    (X1 : S2x64x1024.Idx → Elt F .f32)    (X2 : S2x64x2048.Idx → Elt F .f32)    (X3 : S2x64x128.Idx → Elt F .f32)    (X4 : S4x128x256.Idx → Elt F .f32)    (X5 : S4x1x256.Idx → Elt F .f32)
    (XS : S1x8x512x256.Idx → Elt F .f32) (q0 q1 q2 q3 q4 q5 : PosShare TreeShare) (K : PUnit → sProp 𝕄) :
    iprop(owns (c : Thread nD τ) M0 q0 X0 ∗ owns (c : Thread nD τ) M1 q1 X1 ∗ owns (c : Thread nD τ) M2 q2 X2 ∗ owns (c : Thread nD τ) M3 q3 X3 ∗ owns (c : Thread nD τ) M4 q4 X4 ∗ owns (c : Thread nD τ) M5 q5 X5
        ∗ owns (c : Thread nD τ) MS fullShare XS ∗ (∃ d, owns (c : Thread nD τ) M6 fullShare d) ∗ (∃ d, owns (c : Thread nD τ) M7 fullShare d)
        ∗ (iprop(owns (c : Thread nD τ) M0 q0 X0 ∗ owns (c : Thread nD τ) M1 q1 X1 ∗ owns (c : Thread nD τ) M2 q2 X2 ∗ owns (c : Thread nD τ) M3 q3 X3 ∗ owns (c : Thread nD τ) M4 q4 X4 ∗ owns (c : Thread nD τ) M5 q5 X5
            ∗ owns (c : Thread nD τ) MS fullShare (fState (k0_pay2 (F := F)) X1 X2 X3 X4 X5)
            ∗ owns (c : Thread nD τ) M6 fullShare (fOut (k0_pay2 (F := F)) X0 X1 X2 X3 X4 X5)
            ∗ owns (c : Thread nD τ) M7 fullShare (k0_pay4 (k0_pay2 (F := F)))) -∗ K ⟨⟩))
      ⊢ wp frame (wpE (defs₀ (F := F)) Variants.none c none) Set.univ (cc0_gla_fwd (F := F) i M0 h0 M1 h1 M2 h2 M3 h3 M4 h4 M5 h5 M6 h6 M7 h7 MS hS) K := by
  simp only [cc0_gla_fwd_eq_skeleton]; unfold cc0_gla_fwd_skel
  rw [owns_eq_rep c.tc M0 q0 X0, owns_eq_rep c.tc M1 q1 X1, owns_eq_rep c.tc M2 q2 X2, owns_eq_rep c.tc M3 q3 X3, owns_eq_rep c.tc M4 q4 X4,
    owns_eq_rep c.tc M5 q5 X5, owns_eq_rep c.tc MS fullShare XS]
  unfold owns
  iintro ⟨H0, H1, H2, H3, H4, H5, HS, ⟨%d6, %f6, -, H6⟩, ⟨%d7, %f7, -, H7⟩, Hk⟩
  sl_exec!
  have e34 : fwdRun0.sl.v34 c M0 X0 = stkQ X0 := by
    sl_open_run; funext x; concat_tiles j h
    all_goals sl_open_run; all_goals sl_open_pay
    all_goals simp only [shapeCast_comp, shapeCast_self, View.readAt_rep]
    all_goals exact ld_ix3 X0 _ _ j _ (by simp [ix3]; omega) (by simp [ix3]; omega) (by simp [ix3]; omega)
  have e59 : fwdRun0.sl.v59 c M1 X1 = stkQ X1 := by
    sl_open_run; funext x; concat_tiles j h
    all_goals sl_open_run; all_goals sl_open_pay
    all_goals simp only [shapeCast_comp, shapeCast_self, View.readAt_rep]
    all_goals exact ld_ix3 X1 _ _ j _ (by simp [ix3]; omega) (by simp [ix3]; omega) (by simp [ix3]; omega)
  have e84 : fwdRun0.sl.v84 c M2 X2 = stkV X2 := by
    sl_open_run; funext x; concat_tiles j h
    all_goals sl_open_run; all_goals sl_open_pay
    all_goals simp only [shapeCast_comp, shapeCast_self, View.readAt_rep]
    all_goals exact ld_ix3 X2 _ _ j _ (by simp [ix3]; omega) (by simp [ix3]; omega) (by simp [ix3]; omega)
  have e109 : fwdRun0.sl.v109 c M3 X3 = stkB X3 := by
    sl_open_run; funext x; concat_tiles j h
    all_goals sl_open_run; all_goals sl_open_pay
    all_goals simp only [shapeCast_comp, shapeCast_self, View.readAt_rep]
    all_goals exact ld_ix3 X3 _ _ j _ (by simp [ix3]; omega) (by simp [ix3]; omega) (by simp [ix3]; omega)
  have e134 : fwdRun0.sl.v134 c M4 X4 = stkH X4 := by
    sl_open_run; funext x; concat_tiles j h
    all_goals sl_open_run; all_goals sl_open_pay
    all_goals simp only [shapeCast_comp, shapeCast_self, View.readAt_rep]
    all_goals exact ld_ix3 X4 _ _ j _ (by simp [ix3]; omega) (by simp [ix3]; omega) (by simp [ix3]; omega)
  have e136 : fwdRun0.sl.v136 c M5 X5 = rowB X5 0 := by
    sl_open_run; simp only [View.readAt_rep]; funext x
    exact (shapeCast_dropUnit_apply ![1, 256] _ _ x).trans (ld_ix3 X5 _ _ _ _ rfl (Nat.zero_add _) (Nat.zero_add _))
  have e140 : fwdRun0.sl.v140 c M5 X5 = rowB X5 1 := by
    sl_open_run; simp only [View.readAt_rep]; funext x
    exact (shapeCast_dropUnit_apply ![1, 256] _ _ x).trans (ld_ix3 X5 _ _ _ _ rfl (Nat.zero_add _) (Nat.zero_add _))
  have e144 : fwdRun0.sl.v144 c M5 X5 = rowB X5 2 := by
    sl_open_run; simp only [View.readAt_rep]; funext x
    exact (shapeCast_dropUnit_apply ![1, 256] _ _ x).trans (ld_ix3 X5 _ _ _ _ rfl (Nat.zero_add _) (Nat.zero_add _))
  have e147 : View.readAt (Elt F) M5.view (Rect.unit (s := S4x1x256) ![3, 0, 0] S1x1x256.size inb_S4x1x256_S1x1x256_3_0_0).toLoadRect (M5.view.rep X5) = rowB3 X5 3 := by
    rw [View.readAt_rep]; funext x
    exact ld_ix3 X5 _ _ x _ (by have : (x 0).val < 1 := (x 0).isLt; show 3 + (x 0).val = 3; omega) (Nat.zero_add _) (Nat.zero_add _)
  have e4 : fwdRun0.sl.v4 c i hi MS = k0_pay2 (F := F) := View.readCov_full _ _ _ _ _
  have er : fwdRun0.sl.r c i hi MS = k0_pay3 (k0_pay2 (F := F)) := by unfold fwdRun0.sl.r; rw [e4]
  have e9 : fwdRun0.sl.r_9 c M3 M4 M5 X3 X4 X5 = fCum X3 X4 X5 := by unfold fwdRun0.sl.r_9; rw [e109, e134, e136, e140, e144, e147]
  have e13 : fwdRun0.sl.r_13 c i hi M1 M2 M3 M4 M5 MS X1 X2 X3 X4 X5 = k0_pay41 (k0_pay3 (k0_pay2 (F := F))) (stkQ X1) (stkV X2) (fCum X3 X4 X5)
      (k0_pay38 (stkB X3) (stkH X4) (rowB X5 0) (rowB X5 0) (rowB X5 1) (rowB X5 1) (rowB X5 2) (rowB X5 2) (rowB3 X5 3) (rowB3 X5 3)) := by
    unfold fwdRun0.sl.r_13 fwdRun0.sl.r_10; rw [er, e9, e59, e84, e109, e134, e136, e140, e144, e147]
  have e11 : fwdRun0.sl.r_11 c M0 M3 M4 M5 X0 X3 X4 X5 = k0_pay39 (stkQ X0) (stkB X3) (stkH X4) (rowB X5 0) (rowB X5 0) (rowB X5 1) (rowB X5 1) (rowB X5 2) (rowB X5 2) (rowB3 X5 3) (rowB3 X5 3) := by
    unfold fwdRun0.sl.r_11; rw [e34, e109, e134, e136, e140, e144, e147]
  obtain ⟨U, hU⟩ : ∃ U, U = k0_pay40 (k0_pay3 (k0_pay2 (F := F))) (stkQ X1) (stkV X2) (fCum X3 X4 X5)
      (k0_pay39 (stkQ X0) (stkB X3) (stkH X4) (rowB X5 0) (rowB X5 0) (rowB X5 1) (rowB X5 1) (rowB X5 2) (rowB X5 2) (rowB3 X5 3) (rowB3 X5 3)) := ⟨_, rfl⟩
  have e12 : fwdRun0.sl.r_12 c i hi M0 M1 M2 M3 M4 M5 MS X0 X1 X2 X3 X4 X5 = U := by
    unfold fwdRun0.sl.r_12; rw [er, e9, e11, e59, e84, hU]
  have e14 : fwdRun0.sl.r_14 c i hi M0 M1 M2 M3 M4 M5 MS X0 X1 X2 X3 X4 X5 = shapeCast S64x512 (extractStridedSlice S1x64x512 ![2, 0, 0] U slices_S8x64x512_o2_0_0_S1x64x512) shapeCasts_S1x64x512_S64x512 := by
    unfold fwdRun0.sl.r_14 k0_pay44; rw [er, e9, e11, e59, e84, hU]
  have hf : fOut (k0_pay2 (F := F)) X0 X1 X2 X3 X4 X5 = unV U := by rw [hU]
  sl_step
  iapply Hk
  isplitl [H0]; · iexact H0
  isplitl [H1]; · iexact H1
  isplitl [H2]; · iexact H2
  isplitl [H3]; · iexact H3
  isplitl [H4]; · iexact H4
  isplitl [H5]; · iexact H5
  isplitl [HS]
  · iexists _; isplitr; swap; · iexact HS
    ipureintro
    rw [e13]; exact View.read_writes_full _ _ _ _ _
  isplitl [H6]
  · iexists _; isplitr; swap; · iexact H6
    ipureintro
    have hc : ∀ y, ∃ p ∈ fwdRun0.sl.H6_8 c i hi M0 M1 M2 M3 M4 M5 MS X0 X1 X2 X3 X4 X5 , y ∈ p.1.set := fun y =>
      View.cover_of_tiled (fwdRun0.sl.H6_8 c i hi M0 M1 M2 M3 M4 M5 MS X0 X1 X2 X3 X4 X5 ) S1x64x512.size (by rfl) y
    rw [View.read_writes_eq_canon _ _ _ hc]
    unfold fwdRun0.sl.H6_8; rw [hf]
    funext y; canon_tiles x h
    all_goals simp only [k0_pay42, k0_pay43, k0_pay45, k0_pay46, k0_pay47, k0_pay48, k0_pay49, k0_pay50,
      e12, e14, er, e9, e11, e59, e84, ← hU, shapeCast_comp, shapeCast_self]
    all_goals exact extractStridedSlice_apply _ _ _ _ _ (fun a => by match a with | 0 => simp [ix3]; omega | 1 => simp [ix3]; omega | 2 => simp [ix3]; omega)
  iexists _; isplitr; swap; · iexact H7
  ipureintro
  unfold fwdRun0.sl.H7_1
  rw [e4]; exact View.read_writes_full _ _ _ _ _

end Cert.KernelIdeal.Hand

end

end
-- ==== Proof.FwdRunIdeal.lean ====
module

public import proofs.«01_k».proof.Proof.FwdBodyIdeal
public import Idealize.ShloMosaic.Lib.Pipeline.Frame
public import Idealize.ShloMosaic.Lib.Pipeline.FrameBody

@[expose] public section

set_option maxRecDepth 16384

noncomputable section

namespace Cert.KernelIdeal.Hand

open Cert.KernelIdeal Cert.KernelIdeal.Gen Cert.Stacks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (UR sig nD τ) ℕ

/-! # The forward call at every point of its grid -/

/-- The buffers no window of the call stages: its scratch at anything, and the rest. -/
theorem scopedRest0_own (c : Dev nD) :
    (Pipeline.scopedRest (Ix := Unit) (Name := ℕ) (U := UR sig nD τ) (Lvl := ℕ) (Val := Elt F) spec0 c : sProp 𝕄)
      = iprop((∃ f, owns (c : Thread nD τ) (Memref.whole cc0_scratch0) fullShare f)
        ∗ Pipeline.scopedRestBut (Ix := Unit) (Name := ℕ) (U := UR sig nD τ) (Lvl := ℕ) (Val := Elt F) spec0 c [cc0_scratch0]) := by
  simp only [owns_whole]
  exact Pipeline.scopedRest_split_of_list spec0 c [cc0_scratch0] (by decide) (by decide)

/-- Window `w`'s block of its array at point `t`, the arrays being at `V`. -/
def blk0 (V : Valuation τ sig (Elt F)) (w : Fin cfg0.W) (t : Fin cfg0.N) : ((cfg0.win w).xblock (cfg0.grid.coords t)).Idx → Elt F (cfg0.win w).elt :=
  ((cfg0.win w).blk t).view.read (Elt F) (V (Pipeline.arrRef spec0 w))

/-- The state before point `n` of the forward pass. -/
def st0 (V : Valuation τ sig (Elt F)) : ℕ → S1x8x512x256.Idx → Elt F .f32
  | 0 => k0_pay2
  | n + 1 => if h : n < cfg0.N then fState (st0 V n) (blk0 V 1 ⟨n, h⟩) (blk0 V 2 ⟨n, h⟩) (blk0 V 3 ⟨n, h⟩) (blk0 V 4 ⟨n, h⟩) (blk0 V 5 ⟨n, h⟩) else st0 V n
theorem st0_succ (V : Valuation τ sig (Elt F)) (t : Fin cfg0.N) :
    st0 V (t.val + 1) = fState (st0 V t.val) (blk0 V 1 t) (blk0 V 2 t) (blk0 V 3 t) (blk0 V 4 t) (blk0 V 5 t) := by
  show (if h : t.val < cfg0.N then _ else _) = _
  rw [dif_pos t.isLt]

/-- What the call holds beside its windows before point `n`: its scratch, at anything before the first point and then at
    the state, and every other buffer no window stages. -/
def Phi0 (V : Valuation τ sig (Elt F)) (c : Dev nD) : (n : ℕ) → n ≤ cfg0.N → sProp 𝕄
  | 0, _ => Pipeline.scopedRest (Ix := Unit) (Name := ℕ) (U := UR sig nD τ) (Lvl := ℕ) (Val := Elt F) spec0 c
  | n + 1, _ => iprop(owns (c : Thread nD τ) (Memref.whole cc0_scratch0) fullShare (st0 V (n + 1))
      ∗ Pipeline.scopedRestBut (Ix := Unit) (Name := ℕ) (U := UR sig nD τ) (Lvl := ℕ) (Val := Elt F) spec0 c [cc0_scratch0])

/-- The call's proof data, its arrays at `V c`: every input window is left as fetched, every output window at what the body
    computes, nothing is owed. -/
def dat0 (V : Dev nD → Valuation τ sig (Elt F)) (c : Dev nD) : Dat τ (Elt F) Unit ℕ (UR sig nD τ) ℕ cfg0 c where
  A w := V c (Pipeline.arrRef spec0 w)
  after w t := match w with
    | 0 => blk0 (V c) 0 t
    | 1 => blk0 (V c) 1 t
    | 2 => blk0 (V c) 2 t
    | 3 => blk0 (V c) 3 t
    | 4 => blk0 (V c) 4 t
    | 5 => blk0 (V c) 5 t
    | 6 => fOut (st0 (V c) t.val) (blk0 (V c) 0 t) (blk0 (V c) 1 t) (blk0 (V c) 2 t) (blk0 (V c) 3 t) (blk0 (V c) 4 t) (blk0 (V c) 5 t)
    | 7 => k0_pay4 (st0 (V c) t.val)
    | ⟨_ + 8, h⟩ => absurd h (Nat.not_lt.2 (Nat.le_add_left _ _))
  Φ t := Phi0 (V c) c t.val (Nat.le_of_lt_succ t.isLt)
  q w := Pipeline.shareOf spec0 w
  owed _ := 0

theorem Phi0_start (V : Dev nD → Valuation τ sig (Elt F)) (c : Dev nD) (t : Fin cfg0.N) :
    (dat0 V c).Φ t.castSucc = Phi0 (V c) c t.val (Nat.le_of_lt t.isLt) := by
  dsimp only [dat0]; exact Pipeline.Dat.Φ_castSucc (Phi0 (V c) c) t

theorem before0_0 (V : Dev nD → Valuation τ sig (Elt F)) (c : Dev nD) (t : Fin cfg0.N) (d) : (dat0 V c).before 0 t d = blk0 (V c) 0 t :=
  ((dat0 V c).before_in_eq_fetched 0 rfl (fun _ => rfl) (fun _ _ _ => rfl) (fun _ => rfl) t d).trans rfl
theorem before0_1 (V : Dev nD → Valuation τ sig (Elt F)) (c : Dev nD) (t : Fin cfg0.N) (d) : (dat0 V c).before 1 t d = blk0 (V c) 1 t :=
  ((dat0 V c).before_in_eq_fetched 1 rfl (fun _ => rfl) (fun _ _ _ => rfl) (fun _ => rfl) t d).trans rfl
theorem before0_2 (V : Dev nD → Valuation τ sig (Elt F)) (c : Dev nD) (t : Fin cfg0.N) (d) : (dat0 V c).before 2 t d = blk0 (V c) 2 t :=
  ((dat0 V c).before_in_eq_fetched 2 rfl (fun _ => rfl) (fun _ _ _ => rfl) (fun _ => rfl) t d).trans rfl
theorem before0_3 (V : Dev nD → Valuation τ sig (Elt F)) (c : Dev nD) (t : Fin cfg0.N) (d) : (dat0 V c).before 3 t d = blk0 (V c) 3 t :=
  ((dat0 V c).before_in_eq_fetched 3 rfl (fun _ => rfl) (fun _ _ _ => rfl) (fun _ => rfl) t d).trans rfl
theorem before0_4 (V : Dev nD → Valuation τ sig (Elt F)) (c : Dev nD) (t : Fin cfg0.N) (d) : (dat0 V c).before 4 t d = blk0 (V c) 4 t :=
  ((dat0 V c).before_in_eq_fetched 4 rfl (fun _ => rfl) (fun _ _ _ => rfl) (fun _ => rfl) t d).trans rfl
theorem before0_5 (V : Dev nD → Valuation τ sig (Elt F)) (c : Dev nD) (t : Fin cfg0.N) (d) : (dat0 V c).before 5 t d = blk0 (V c) 5 t :=
  ((dat0 V c).before_in_eq_fetched 5 rfl (fun _ => rfl) (fun _ _ _ => rfl) (fun _ => rfl) t d).trans rfl

/-- What the body is called with at point `t`, and what it returns. -/
def pre0 (V : Dev nD → Valuation τ sig (Elt F)) (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))
def post0 (V : Dev nD → Valuation τ sig (Elt F)) (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

theorem cond0_first : ∀ t : Fin cfg0.N, t.val = 0 → k0_cond1 (grid0.coords t) = 1#1 := by decide +kernel
theorem cond0_later : ∀ t : Fin cfg0.N, t.val ≠ 0 → ¬ k0_cond1 (grid0.coords t) = 1#1 := by decide +kernel

set_option maxHeartbeats 1600000 in
/-- The body at the first point. -/
theorem sound0_0 (V : Dev nD → Valuation τ sig (Elt F)) (c : Dev nD) (t : Fin cfg0.N) (ht : t.val = 0) :
    pre0 V c t ⊢ wp frame (wpE (defs₀ (F := F)) Variants.none c none) Set.univ (bodyAt0 t) (fun _ => post0 V c t) := by
  unfold pre0 post0 bodyAt0
  rw [Phi0_start, show (dat0 V c).Φ t.succ = iprop(owns (c : Thread nD τ) (Memref.whole cc0_scratch0) fullShare (st0 (V c) (t.val + 1))
      ∗ Pipeline.scopedRestBut (Ix := Unit) (Name := ℕ) (U := UR sig nD τ) (Lvl := ℕ) (Val := Elt F) spec0 c [cc0_scratch0]) from rfl]
  simp only [before0_0, before0_1, before0_2, before0_3, before0_4, before0_5]
  have e0 : st0 (V c) t.val = k0_pay2 := by rw [ht]; rfl
  have eΦ : Phi0 (V c) c t.val (Nat.le_of_lt t.isLt) = Pipeline.scopedRest (Ix := Unit) (Name := ℕ) (U := UR sig nD τ) (Lvl := ℕ) (Val := Elt F) spec0 c := by
    obtain ⟨n, hn⟩ := t; simp only at ht; subst ht; rfl
  rw [eΦ, scopedRest0_own]
  unfold Dat.owesAt Pipeline.owesWithin
  rw [show (dat0 V c).owed t.castSucc = 0 from rfl, show (dat0 V c).owed t.succ = 0 from rfl, st0_succ]
  rw [show (dat0 V c).after 0 t = blk0 (V c) 0 t from rfl]
  rw [show (dat0 V c).after 1 t = blk0 (V c) 1 t from rfl]
  rw [show (dat0 V c).after 2 t = blk0 (V c) 2 t from rfl]
  rw [show (dat0 V c).after 3 t = blk0 (V c) 3 t from rfl]
  rw [show (dat0 V c).after 4 t = blk0 (V c) 4 t from rfl]
  rw [show (dat0 V c).after 5 t = blk0 (V c) 5 t from rfl]
  rw [show (dat0 V c).after 6 t = fOut (st0 (V c) t.val) (blk0 (V c) 0 t) (blk0 (V c) 1 t) (blk0 (V c) 2 t) (blk0 (V c) 3 t) (blk0 (V c) 4 t) (blk0 (V c) 5 t) from rfl]
  rw [show (dat0 V c).after 7 t = k0_pay4 (st0 (V c) t.val) from rfl]
  rw [e0]
  iintro ⟨⟨⟨%fS, HS⟩, HR⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
  iapply (fwdRun0 c (grid0.coords t) (cond0_first t ht) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (blk0 (V c) 0 t) (blk0 (V c) 1 t) (blk0 (V c) 2 t) (blk0 (V c) 3 t) (blk0 (V c) 4 t) (blk0 (V c) 5 t) _ fullShare fullShare fullShare fullShare fullShare fullShare _)
  isplitl [H0]; · iexact H0
  isplitl [H1]; · iexact H1
  isplitl [H2]; · iexact H2
  isplitl [H3]; · iexact H3
  isplitl [H4]; · iexact H4
  isplitl [H5]; · iexact H5
  isplitl [HS]; · iexact HS
  isplitl [H6]; · iexists _; iexact H6
  isplitl [H7]; · iexists _; iexact H7
  iintro ⟨H0, H1, H2, H3, H4, H5, HS, H6, H7⟩
  isplitl [HS HR]
  · isplitl [HS]; · iexact HS
    iexact HR
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 1600000 in
/-- The body at a later point. -/
theorem sound0_1 (V : Dev nD → Valuation τ sig (Elt F)) (c : Dev nD) (t : Fin cfg0.N) (ht : t.val ≠ 0) :
    pre0 V c t ⊢ wp frame (wpE (defs₀ (F := F)) Variants.none c none) Set.univ (bodyAt0 t) (fun _ => post0 V c t) := by
  unfold pre0 post0 bodyAt0
  rw [Phi0_start, show (dat0 V c).Φ t.succ = iprop(owns (c : Thread nD τ) (Memref.whole cc0_scratch0) fullShare (st0 (V c) (t.val + 1))
      ∗ Pipeline.scopedRestBut (Ix := Unit) (Name := ℕ) (U := UR sig nD τ) (Lvl := ℕ) (Val := Elt F) spec0 c [cc0_scratch0]) from rfl]
  simp only [before0_0, before0_1, before0_2, before0_3, before0_4, before0_5]
  have eΦ : Phi0 (V c) c t.val (Nat.le_of_lt t.isLt) = iprop(owns (c : Thread nD τ) (Memref.whole cc0_scratch0) fullShare (st0 (V c) t.val)
      ∗ Pipeline.scopedRestBut (Ix := Unit) (Name := ℕ) (U := UR sig nD τ) (Lvl := ℕ) (Val := Elt F) spec0 c [cc0_scratch0]) := by
    obtain ⟨n, hn⟩ := t
    obtain ⟨n, rfl⟩ := Nat.exists_eq_succ_of_ne_zero ht
    rfl
  rw [eΦ]
  unfold Dat.owesAt Pipeline.owesWithin
  rw [show (dat0 V c).owed t.castSucc = 0 from rfl, show (dat0 V c).owed t.succ = 0 from rfl, st0_succ]
  rw [show (dat0 V c).after 0 t = blk0 (V c) 0 t from rfl]
  rw [show (dat0 V c).after 1 t = blk0 (V c) 1 t from rfl]
  rw [show (dat0 V c).after 2 t = blk0 (V c) 2 t from rfl]
  rw [show (dat0 V c).after 3 t = blk0 (V c) 3 t from rfl]
  rw [show (dat0 V c).after 4 t = blk0 (V c) 4 t from rfl]
  rw [show (dat0 V c).after 5 t = blk0 (V c) 5 t from rfl]
  rw [show (dat0 V c).after 6 t = fOut (st0 (V c) t.val) (blk0 (V c) 0 t) (blk0 (V c) 1 t) (blk0 (V c) 2 t) (blk0 (V c) 3 t) (blk0 (V c) 4 t) (blk0 (V c) 5 t) from rfl]
  rw [show (dat0 V c).after 7 t = k0_pay4 (st0 (V c) t.val) from rfl]
  iintro ⟨⟨HS, HR⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
  iapply (fwdRun1 c (grid0.coords t) (cond0_later t ht) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (blk0 (V c) 0 t) (blk0 (V c) 1 t) (blk0 (V c) 2 t) (blk0 (V c) 3 t) (blk0 (V c) 4 t) (blk0 (V c) 5 t) (st0 (V c) t.val) fullShare fullShare fullShare fullShare fullShare fullShare _)
  isplitl [H0]; · iexact H0
  isplitl [H1]; · iexact H1
  isplitl [H2]; · iexact H2
  isplitl [H3]; · iexact H3
  isplitl [H4]; · iexact H4
  isplitl [H5]; · iexact H5
  isplitl [HS]; · iexact HS
  isplitl [H6]; · iexists _; iexact H6
  isplitl [H7]; · iexists _; iexact H7
  iintro ⟨H0, H1, H2, H3, H4, H5, HS, H6, H7⟩
  isplitl [HS HR]
  · isplitl [HS]; · iexact HS
    iexact HR
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem row0 (t : Fin cfg0.N) : defs₀ (F := F) .tc cfg0.body (cfg0.bodyArgs t (cfg0.slots t)) = bodyAt0 t := by
  unfold defs₀; rw [Defs.onTc_tc]

/-- The windows' buffers one by one. -/
theorem each0 (c : Dev nD) (t : Fin cfg0.N) (A B : sProp 𝕄) (X : (w : Fin cfg0.W) → (cfg0.win w).block.Idx → Elt F (cfg0.win w).elt) :
    iprop(A ∗ B ∗ bigSep Finset.univ fun w : Fin cfg0.W => owns (c : Thread nD τ) ((cfg0.win w).stage (cfg0.slots t w)) fullShare (X w))
      = iprop(A ∗ B
    ∗ owns (c : Thread nD τ) (st0_0 t) fullShare (X 0)
    ∗ owns (c : Thread nD τ) (st0_1 t) fullShare (X 1)
    ∗ owns (c : Thread nD τ) (st0_2 t) fullShare (X 2)
    ∗ owns (c : Thread nD τ) (st0_3 t) fullShare (X 3)
    ∗ owns (c : Thread nD τ) (st0_4 t) fullShare (X 4)
    ∗ owns (c : Thread nD τ) (st0_5 t) fullShare (X 5)
    ∗ owns (c : Thread nD τ) (st0_6 t) fullShare (X 6)
    ∗ owns (c : Thread nD τ) (st0_7 t) fullShare (X 7))
 := by
  rw [bigSep_W0]

theorem before0_all (V : Dev nD → Valuation τ sig (Elt F)) (c : Dev nD) (t : Fin cfg0.N) :
    iprop((dat0 V c).Φ t.castSucc ∗ (dat0 V c).owesAt () t.castSucc
        ∗ bigSep Finset.univ fun w : Fin cfg0.W => iprop(∃ d, owns c ((cfg0.win w).stage (cfg0.slots t w)) fullShare ((dat0 V c).before w t d)))
      = pre0 V c t := by
  unfold pre0
  rw [bigSep_W0]

theorem after0_all (V : Dev nD → Valuation τ sig (Elt F)) (c : Dev nD) (t : Fin cfg0.N) :
    iprop((dat0 V c).Φ t.succ ∗ (dat0 V c).owesAt () t.succ
        ∗ bigSep Finset.univ fun w : Fin cfg0.W => owns c ((cfg0.win w).stage (cfg0.slots t w)) fullShare ((dat0 V c).after w t))
      = post0 V c t := each0 c t _ _ (fun w => (dat0 V c).after w t)

theorem pointwise0 (V : Dev nD → Valuation τ sig (Elt F)) (c : Dev nD) (t : Fin cfg0.N) :
    iprop((dat0 V c).Φ t.castSucc ∗ (dat0 V c).owesAt () t.castSucc
        ∗ bigSep Finset.univ fun w : Fin cfg0.W => iprop(∃ d, owns c ((cfg0.win w).stage (cfg0.slots t w)) fullShare ((dat0 V c).before w t d)))
      ⊢ wp frame (wpE (defs₀ (F := F)) Variants.none c none) Set.univ (bodyAt0 t) (fun _ => iprop((dat0 V c).Φ t.succ ∗ (dat0 V c).owesAt () t.succ
        ∗ bigSep Finset.univ fun w : Fin cfg0.W => owns c ((cfg0.win w).stage (cfg0.slots t w)) fullShare ((dat0 V c).after w t))) := by
  rw [before0_all, after0_all]
  by_cases ht : t.val = 0
  · exact sound0_0 V c t ht
  · exact sound0_1 V c t ht

/-- The body obligation at every point. -/
theorem body0 (V : Dev nD → Valuation τ sig (Elt F)) (c : Dev nD) :
    BodyObligation (dat0 V c) (defs₀ (F := F)) Variants.none () Set.univ := fun t => by
  have h := pointwise0 V c t
  rw [row0]
  dsimp only
  exact h

set_option maxHeartbeats 1600000 in
/-- After the last point the scratch is let go. -/
theorem last0 (V : Dev nD → Valuation τ sig (Elt F)) (c : Dev nD) :
    (dat0 V c).Φ (Fin.last cfg0.N) ⊢ (Pipeline.scopedRest (Ix := Unit) (Name := ℕ) (U := UR sig nD τ) (Lvl := ℕ) (Val := Elt F) spec0 c : sProp 𝕄) := by
  rw [show (dat0 V c).Φ (Fin.last cfg0.N) = iprop(owns (c : Thread nD τ) (Memref.whole cc0_scratch0) fullShare (st0 (V c) 32)
      ∗ Pipeline.scopedRestBut (Ix := Unit) (Name := ℕ) (U := UR sig nD τ) (Lvl := ℕ) (Val := Elt F) spec0 c [cc0_scratch0]) from rfl, scopedRest0_own]
  iintro ⟨HS, HR⟩
  isplitl [HS]; · iexists _; iexact HS
  iexact HR

end Cert.KernelIdeal.Hand

end
-- ==== Proof.BwdBodyIdeal.lean ====
module

public import proofs.«01_k».proof.Proof.Rows
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Ring
public import Idealize.ShloMosaic.Lib.Pipeline.TableIdle
public import Idealize.ShloMosaic.Lib.Tactic
public import Idealize.ShloMosaic.Lib.WordCmp
public import Idealize.ShloMosaic.Lib.VecWindow

@[expose] public section

set_option maxRecDepth 16384

noncomputable section

namespace Cert.KernelIdeal.Hand

open Cert.KernelIdeal Cert.KernelIdeal.Gen Cert.Stacks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (UR sig nD τ) ℕ

/-! ## What one chunk of the backward pass computes -/

/-- The stored states, as a stack. -/
def b8 (X6 : S4x2x1x512x256.Idx → Elt F .f32) : FVec F S8x512x256 .f32 :=
  k1_pay34 X6
/-- The gate's own values, four of them. -/
def b9 (X3 : S2x64x128.Idx → Elt F .f32) (X4 : S4x128x256.Idx → Elt F .f32) (X5 : S4x1x256.Idx → Elt F .f32) : FVec F S8x64x256 .f32 :=
  k1_pay36 (stkB X3) (stkH X4) (rowB X5 0) (rowB X5 0) (rowB X5 1) (rowB X5 1) (rowB X5 2) (rowB X5 2) (rowB X5 3) (rowB3 X5 3)
def b10 (X3 : S2x64x128.Idx → Elt F .f32) (X4 : S4x128x256.Idx → Elt F .f32) (X5 : S4x1x256.Idx → Elt F .f32) : IVec S8x64x256 1 :=
  k1_pay37 (stkB X3) (stkH X4) (rowB X5 0) (rowB X5 0) (rowB X5 1) (rowB X5 1) (rowB X5 2) (rowB X5 2) (rowB X5 3) (rowB3 X5 3)
def b11 (X3 : S2x64x128.Idx → Elt F .f32) (X4 : S4x128x256.Idx → Elt F .f32) (X5 : S4x1x256.Idx → Elt F .f32) : FVec F S8x64x256 .f32 :=
  k1_pay38 (stkB X3) (stkH X4) (rowB X5 0) (rowB X5 0) (rowB X5 1) (rowB X5 1) (rowB X5 2) (rowB X5 2) (rowB X5 3) (rowB3 X5 3)
def b12 (X3 : S2x64x128.Idx → Elt F .f32) (X4 : S4x128x256.Idx → Elt F .f32) (X5 : S4x1x256.Idx → Elt F .f32) : FVec F S8x64x256 .f32 :=
  k1_pay39 (stkB X3) (stkH X4) (rowB X5 0) (rowB X5 0) (rowB X5 1) (rowB X5 1) (rowB X5 2) (rowB X5 2) (rowB X5 3) (rowB3 X5 3)
/-- The chunk's cumulative log decay, as a stack. -/
def b13 (X3 : S2x64x128.Idx → Elt F .f32) (X4 : S4x128x256.Idx → Elt F .f32) (X5 : S4x1x256.Idx → Elt F .f32) : FVec F S8x64x256 .f32 :=
  k1_pay40 (stkB X3) (stkH X4) (rowB X5 0) (rowB X5 0) (rowB X5 1) (rowB X5 1) (rowB X5 2) (rowB X5 2) (rowB X5 3) (rowB3 X5 3)
/-- What the gradients are made of, value by value: each is a payload of the earlier ones. -/
def b14 (X0 : S2x64x1024.Idx → Elt F .f32) : FVec F S8x64x256 .f32 :=
  k1_pay45 (stkQ X0)
def b15 (X3 : S2x64x128.Idx → Elt F .f32) (X4 : S4x128x256.Idx → Elt F .f32) (X5 : S4x1x256.Idx → Elt F .f32) : FVec F S8x64x256 .f32 :=
  k1_pay46 (b13 X3 X4 X5) k1_pay41
def b16 (X0 : S2x64x1024.Idx → Elt F .f32) (X3 : S2x64x128.Idx → Elt F .f32) (X4 : S4x128x256.Idx → Elt F .f32) (X5 : S4x1x256.Idx → Elt F .f32) : FVec F S8x64x256 .f32 :=
  k1_pay47 (stkQ X0) (b13 X3 X4 X5) k1_pay41
def b17 (X3 : S2x64x128.Idx → Elt F .f32) (X4 : S4x128x256.Idx → Elt F .f32) (X5 : S4x1x256.Idx → Elt F .f32) : FVec F S8x64x256 .f32 :=
  k1_pay48 (b13 X3 X4 X5) k1_pay41
def b18 (X1 : S2x64x1024.Idx → Elt F .f32) (X3 : S2x64x128.Idx → Elt F .f32) (X4 : S4x128x256.Idx → Elt F .f32) (X5 : S4x1x256.Idx → Elt F .f32) : FVec F S8x64x256 .f32 :=
  k1_pay49 (stkQ X1) (b13 X3 X4 X5) k1_pay41
def b19 (X0 : S2x64x1024.Idx → Elt F .f32) (X1 : S2x64x1024.Idx → Elt F .f32) (X3 : S2x64x128.Idx → Elt F .f32) (X4 : S4x128x256.Idx → Elt F .f32) (X5 : S4x1x256.Idx → Elt F .f32) : FVec F S8x64x64 .f32 :=
  k1_pay51 (stkQ X0) (stkQ X1) (b13 X3 X4 X5) k1_pay41
def b20 (X3 : S2x64x128.Idx → Elt F .f32) (X4 : S4x128x256.Idx → Elt F .f32) (X5 : S4x1x256.Idx → Elt F .f32) : FVec F S8x64x256 .f32 :=
  k1_pay52 (b13 X3 X4 X5) k1_pay41
def b21 (X1 : S2x64x1024.Idx → Elt F .f32) (X3 : S2x64x128.Idx → Elt F .f32) (X4 : S4x128x256.Idx → Elt F .f32) (X5 : S4x1x256.Idx → Elt F .f32) : FVec F S8x64x256 .f32 :=
  k1_pay53 (stkQ X1) (b13 X3 X4 X5) k1_pay41
def b22 (X3 : S2x64x128.Idx → Elt F .f32) (X4 : S4x128x256.Idx → Elt F .f32) (X5 : S4x1x256.Idx → Elt F .f32) : FVec F S8x1x256 .f32 :=
  k1_pay54 (b13 X3 X4 X5) k1_pay41
def b27 (S : S1x8x512x256.Idx → Elt F .f32) (X1 : S2x64x1024.Idx → Elt F .f32) (X3 : S2x64x128.Idx → Elt F .f32) (X4 : S4x128x256.Idx → Elt F .f32) (X5 : S4x1x256.Idx → Elt F .f32) : FVec F S8x64x512 .f32 :=
  k1_pay62 (b21 X1 X3 X4 X5) S
def b28 (S : S1x8x512x256.Idx → Elt F .f32) (X3 : S2x64x128.Idx → Elt F .f32) (X4 : S4x128x256.Idx → Elt F .f32) (X5 : S4x1x256.Idx → Elt F .f32) : FVec F S8x512x256 .f32 :=
  k1_pay64 (b22 X3 X4 X5) S
def b29 (S : S1x8x512x256.Idx → Elt F .f32) (X3 : S2x64x128.Idx → Elt F .f32) (X4 : S4x128x256.Idx → Elt F .f32) (X5 : S4x1x256.Idx → Elt F .f32) (X6 : S4x2x1x512x256.Idx → Elt F .f32) : FVec F S8x1x256 .f32 :=
  k1_pay65 (b8 X6) (b22 X3 X4 X5) S
def b30 (S : S1x8x512x256.Idx → Elt F .f32) (X2 : S2x64x2048.Idx → Elt F .f32) (X3 : S2x64x128.Idx → Elt F .f32) (X4 : S4x128x256.Idx → Elt F .f32) (X5 : S4x1x256.Idx → Elt F .f32) : FVec F S8x64x256 .f32 :=
  k1_pay66 (stkV X2) (b20 X3 X4 X5) S
def b31 (S : S1x8x512x256.Idx → Elt F .f32) (X1 : S2x64x1024.Idx → Elt F .f32) (X2 : S2x64x2048.Idx → Elt F .f32) (X3 : S2x64x128.Idx → Elt F .f32) (X4 : S4x128x256.Idx → Elt F .f32) (X5 : S4x1x256.Idx → Elt F .f32) : FVec F S8x64x256 .f32 :=
  k1_pay67 (stkQ X1) (stkV X2) (b20 X3 X4 X5) S
def b32 (S : S1x8x512x256.Idx → Elt F .f32) (X1 : S2x64x1024.Idx → Elt F .f32) (X2 : S2x64x2048.Idx → Elt F .f32) (X3 : S2x64x128.Idx → Elt F .f32) (X4 : S4x128x256.Idx → Elt F .f32) (X5 : S4x1x256.Idx → Elt F .f32) : FVec F S8x256 .f32 :=
  k1_pay68 (stkQ X1) (stkV X2) (b20 X3 X4 X5) S
/-- The gradient of the state, carried to the chunk before. -/
def b33 (S : S1x8x512x256.Idx → Elt F .f32) (X0 : S2x64x1024.Idx → Elt F .f32) (X3 : S2x64x128.Idx → Elt F .f32) (X4 : S4x128x256.Idx → Elt F .f32) (X5 : S4x1x256.Idx → Elt F .f32) (X7 : S2x64x2048.Idx → Elt F .f32) : FVec F S8x512x256 .f32 :=
  k1_pay69 (b16 X0 X3 X4 X5) (stkV X7) (b28 S X3 X4 X5)
/-- The gradient of the values, as a stack. -/
def b34 (S : S1x8x512x256.Idx → Elt F .f32) (X0 : S2x64x1024.Idx → Elt F .f32) (X1 : S2x64x1024.Idx → Elt F .f32) (X3 : S2x64x128.Idx → Elt F .f32) (X4 : S4x128x256.Idx → Elt F .f32) (X5 : S4x1x256.Idx → Elt F .f32) (X7 : S2x64x2048.Idx → Elt F .f32) : FVec F S8x64x512 .f32 :=
  k1_pay70 (b19 X0 X1 X3 X4 X5) (stkV X7) (b27 S X1 X3 X4 X5)
/-- The gradient of the keys, as a stack. -/
def b35 (S : S1x8x512x256.Idx → Elt F .f32) (X0 : S2x64x1024.Idx → Elt F .f32) (X2 : S2x64x2048.Idx → Elt F .f32) (X3 : S2x64x128.Idx → Elt F .f32) (X4 : S4x128x256.Idx → Elt F .f32) (X5 : S4x1x256.Idx → Elt F .f32) (X7 : S2x64x2048.Idx → Elt F .f32) : FVec F S8x64x256 .f32 :=
  k1_pay74 (stkV X2) (b16 X0 X3 X4 X5) (b17 X3 X4 X5) k1_pay50 (stkV X7) (b30 S X2 X3 X4 X5)
def b36 (S : S1x8x512x256.Idx → Elt F .f32) (X0 : S2x64x1024.Idx → Elt F .f32) (X1 : S2x64x1024.Idx → Elt F .f32) (X2 : S2x64x2048.Idx → Elt F .f32) (X3 : S2x64x128.Idx → Elt F .f32) (X4 : S4x128x256.Idx → Elt F .f32) (X5 : S4x1x256.Idx → Elt F .f32) (X6 : S4x2x1x512x256.Idx → Elt F .f32) (X7 : S2x64x2048.Idx → Elt F .f32) : FVec F S8x64x256 .f32 :=
  k1_pay75 (stkQ X1) (stkV X2) (b8 X6) (b14 X0) (b15 X3 X4 X5) (b16 X0 X3 X4 X5) (b17 X3 X4 X5) (b18 X1 X3 X4 X5) k1_pay50 (stkV X7) (b31 S X1 X2 X3 X4 X5)
/-- The gradient of the queries, as a stack. -/
def b37 (X1 : S2x64x1024.Idx → Elt F .f32) (X2 : S2x64x2048.Idx → Elt F .f32) (X3 : S2x64x128.Idx → Elt F .f32) (X4 : S4x128x256.Idx → Elt F .f32) (X5 : S4x1x256.Idx → Elt F .f32) (X6 : S4x2x1x512x256.Idx → Elt F .f32) (X7 : S2x64x2048.Idx → Elt F .f32) : FVec F S8x64x256 .f32 :=
  k1_pay76 (stkV X2) (b8 X6) (b15 X3 X4 X5) (b18 X1 X3 X4 X5) k1_pay50 (stkV X7)
def b38 (S : S1x8x512x256.Idx → Elt F .f32) (X1 : S2x64x1024.Idx → Elt F .f32) (X2 : S2x64x2048.Idx → Elt F .f32) (X3 : S2x64x128.Idx → Elt F .f32) (X4 : S4x128x256.Idx → Elt F .f32) (X5 : S4x1x256.Idx → Elt F .f32) (X6 : S4x2x1x512x256.Idx → Elt F .f32) : FVec F S8x64x256 .f32 :=
  k1_pay77 (b29 S X3 X4 X5 X6) (b32 S X1 X2 X3 X4 X5)
/-- The chunk's part of the gradient of the gate's offset, as a stack. -/
def b39 (S : S1x8x512x256.Idx → Elt F .f32) (X0 : S2x64x1024.Idx → Elt F .f32) (X1 : S2x64x1024.Idx → Elt F .f32) (X2 : S2x64x2048.Idx → Elt F .f32) (X3 : S2x64x128.Idx → Elt F .f32) (X4 : S4x128x256.Idx → Elt F .f32) (X5 : S4x1x256.Idx → Elt F .f32) (X6 : S4x2x1x512x256.Idx → Elt F .f32) (X7 : S2x64x2048.Idx → Elt F .f32) : FVec F S8x1x256 .f32 :=
  k1_pay80 (b9 X3 X4 X5) (b10 X3 X4 X5) (b11 X3 X4 X5) (b12 X3 X4 X5) (b36 S X0 X1 X2 X3 X4 X5 X6 X7) (b38 S X1 X2 X3 X4 X5 X6) k1_pay78
/-- The gradient of the gate's input, as a stack. -/
def b40 (S : S1x8x512x256.Idx → Elt F .f32) (X0 : S2x64x1024.Idx → Elt F .f32) (X1 : S2x64x1024.Idx → Elt F .f32) (X2 : S2x64x2048.Idx → Elt F .f32) (X3 : S2x64x128.Idx → Elt F .f32) (X4 : S4x128x256.Idx → Elt F .f32) (X5 : S4x1x256.Idx → Elt F .f32) (X6 : S4x2x1x512x256.Idx → Elt F .f32) (X7 : S2x64x2048.Idx → Elt F .f32) : FVec F S8x64x128 .f32 :=
  k1_pay81 (stkH X4) (b9 X3 X4 X5) (b10 X3 X4 X5) (b11 X3 X4 X5) (b12 X3 X4 X5) (b36 S X0 X1 X2 X3 X4 X5 X6 X7) (b38 S X1 X2 X3 X4 X5 X6) k1_pay78
/-- The chunk's part of the gradient of the gate's matrix, as a stack. -/
def b41 (S : S1x8x512x256.Idx → Elt F .f32) (X0 : S2x64x1024.Idx → Elt F .f32) (X1 : S2x64x1024.Idx → Elt F .f32) (X2 : S2x64x2048.Idx → Elt F .f32) (X3 : S2x64x128.Idx → Elt F .f32) (X4 : S4x128x256.Idx → Elt F .f32) (X5 : S4x1x256.Idx → Elt F .f32) (X6 : S4x2x1x512x256.Idx → Elt F .f32) (X7 : S2x64x2048.Idx → Elt F .f32) : FVec F S8x128x256 .f32 :=
  k1_pay82 (stkB X3) (b9 X3 X4 X5) (b10 X3 X4 X5) (b11 X3 X4 X5) (b12 X3 X4 X5) (b36 S X0 X1 X2 X3 X4 X5 X6 X7) (b38 S X1 X2 X3 X4 X5 X6) k1_pay78

/-- The state's gradient after the chunk. -/
def bState (S : S1x8x512x256.Idx → Elt F .f32) (X0 : S2x64x1024.Idx → Elt F .f32) (X3 : S2x64x128.Idx → Elt F .f32) (X4 : S4x128x256.Idx → Elt F .f32) (X5 : S4x1x256.Idx → Elt F .f32) (X7 : S2x64x2048.Idx → Elt F .f32) : S1x8x512x256.Idx → Elt F .f32 := k1_pay1 (b33 S X0 X3 X4 X5 X7)

/-- The chunk's rows of the three gradients, rounded. -/
def bDq (X1 : S2x64x1024.Idx → Elt F .f32) (X2 : S2x64x2048.Idx → Elt F .f32) (X3 : S2x64x128.Idx → Elt F .f32) (X4 : S4x128x256.Idx → Elt F .f32) (X5 : S4x1x256.Idx → Elt F .f32) (X6 : S4x2x1x512x256.Idx → Elt F .f32) (X7 : S2x64x2048.Idx → Elt F .f32) : S2x64x1024.Idx → Elt F .bf16 := unQ (truncf .bf16 (b37 X1 X2 X3 X4 X5 X6 X7) bitsLt_bf16_f32)
def bDk (S : S1x8x512x256.Idx → Elt F .f32) (X0 : S2x64x1024.Idx → Elt F .f32) (X2 : S2x64x2048.Idx → Elt F .f32) (X3 : S2x64x128.Idx → Elt F .f32) (X4 : S4x128x256.Idx → Elt F .f32) (X5 : S4x1x256.Idx → Elt F .f32) (X7 : S2x64x2048.Idx → Elt F .f32) : S2x64x1024.Idx → Elt F .bf16 := unQ (truncf .bf16 (b35 S X0 X2 X3 X4 X5 X7) bitsLt_bf16_f32)
def bDv (S : S1x8x512x256.Idx → Elt F .f32) (X0 : S2x64x1024.Idx → Elt F .f32) (X1 : S2x64x1024.Idx → Elt F .f32) (X3 : S2x64x128.Idx → Elt F .f32) (X4 : S4x128x256.Idx → Elt F .f32) (X5 : S4x1x256.Idx → Elt F .f32) (X7 : S2x64x2048.Idx → Elt F .f32) : S2x64x2048.Idx → Elt F .bf16 := unV (truncf .bf16 (b34 S X0 X1 X3 X4 X5 X7) bitsLt_bf16_f32)

/-- A stack summed over the heads, from zero. -/
def sumHeads (U : FVec F S8x64x128 .f32) : FVec F S2x64x128 .f32 :=
  addf (addf (addf (addf (broadcast S2x64x128 (Scalar.ofBits .f32 0x00000000#32 : F .f32)) (ofHead 0 U)) (ofHead 1 U)) (ofHead 2 U)) (ofHead 3 U)

/-- A sum of four heads' rows with one more chunk's two batch entries added. -/
def accW (X : FVec F S4x128x256 .f32) (U : FVec F S8x128x256 .f32) : FVec F S4x128x256 .f32 := addf (addf X (ofBatch 0 U)) (ofBatch 1 U)
def accB (X : FVec F S4x1x256 .f32) (U : FVec F S8x1x256 .f32) : FVec F S4x1x256 .f32 := addf (addf X (ofBatch 0 U)) (ofBatch 1 U)

/-! ## Rows, casts and slices -/

theorem slice_ofBatch {α : Type} {p : ℕ} (k : Fin 4) (b : Fin 2) (U : (⟨3, ![8, p, 256]⟩ : Shape).Idx → α) (off : Fin 3 → ℕ) (hs)
    (h0 : off 0 = 2 * k.val + b.val) (h1 : off 1 = 0) (h2 : off 2 = 0) :
    extractStridedSlice (s := ⟨3, ![8, p, 256]⟩) (⟨3, ![1, p, 256]⟩ : Shape) off U hs = win (ofBatch b U) k := by
  funext y
  have hy : (y 0).val < 1 := (y 0).isLt
  refine extractStridedSlice_apply _ _ _ _ _ fun a => ?_
  match a with
  | 0 =>
    show 2 * (k.val + 1 * (y 0).val) + b.val = off 0 + (y 0).val
    omega
  | 1 => show 0 + 1 * (y 1).val = off 1 + (y 1).val; omega
  | 2 => show 0 + 1 * (y 2).val = off 2 + (y 2).val; omega

theorem cast_addf {s t : Shape} (a b : FVec F s .f32) (h : s.ShapeCasts t) : shapeCast t (addf a b) h = addf (shapeCast t a h) (shapeCast t b h) := rfl
theorem cast_trunc {s t : Shape} (a : FVec F s .f32) (h : s.ShapeCasts t) (hb) : shapeCast t (truncf .bf16 a hb) h = truncf .bf16 (shapeCast t a h) hb := rfl
theorem cast_broadcast {s t : Shape} (x : F .f32) (h : s.ShapeCasts t) : shapeCast t (broadcast s x) h = broadcast t x := rfl
theorem trunc_slice {s t : Shape} (a : FVec F s .f32) (off) (h : s.Slices off t) (hb) :
    (truncf .bf16 (extractStridedSlice t off a h) hb : FVec F t .bf16) = extractStridedSlice t off (truncf .bf16 a hb : FVec F s .bf16) h := rfl
theorem addf_at {s t : Shape} {a b : FVec F s .f32} {a' b' : FVec F t .f32} {j : s.Idx} {y : t.Idx} (ha : a j = a' y) (hb : b j = b' y) :
    addf a b j = addf a' b' y := congrArg₂ (FloatOps.addf (F := F)) ha hb

/-- A covered load of the rectangle stored last reads the payload. -/
theorem readCov_row {s : Shape} {e : EltTy} (M : Memref sig .tc .vmem s e) (off size : Fin s.rank → ℕ) (inb inb')
    (w : (Rect.unit off size inb).shape.Idx → Elt F e) (L) :
    M.view.readCov (⟨Rect.unit off size inb, w⟩ :: L) (Rect.unit off size inb').toLoadRect = w := by
  unfold View.readCov
  rw [View.readAt_unit M.view _ inb' rfl inb', View.read_writes_cons_put M.view _ inb w L rfl, VecWindow.window_put_same]

/-- The two changes of each head's row. -/
def rowWa (U : FVec F S8x128x256 .f32) : Fin 4 → (FVec F S1x128x256 .f32 → FVec F S1x128x256 .f32) :=
  ![fun w => k1_pay87 U w, fun w => k1_pay99 U w, fun w => k1_pay110 U w, fun w => k1_pay122 U w]
def rowWb (U : FVec F S8x128x256 .f32) : Fin 4 → (FVec F S1x128x256 .f32 → FVec F S1x128x256 .f32) :=
  ![fun w => k1_pay93 U w, fun w => k1_pay105 U w, fun w => k1_pay117 (k1_pay115 w) (k1_pay116 U), fun w => k1_pay128 U w]

theorem rowsW (X : FVec F S4x128x256 .f32) (U : FVec F S8x128x256 .f32) (k : Fin 4) : rowWb U k (rowWa U k (win X k)) = win (accW X U) k := by
  match k with
  | 0 =>
    show (fun w => k1_pay93 U w) ((fun w => k1_pay87 U w) (win X 0)) = _
    simp only [k1_pay87, k1_pay93, cast_addf, shapeCast_comp, shapeCast_self]
    rw [slice_ofBatch 0 0 _ _ _ rfl rfl rfl, slice_ofBatch 0 1 _ _ _ rfl rfl rfl]
    rfl
  | 1 =>
    show (fun w => k1_pay105 U w) ((fun w => k1_pay99 U w) (win X 1)) = _
    simp only [k1_pay105, k1_pay99, cast_addf, shapeCast_comp, shapeCast_self]
    rw [slice_ofBatch 1 0 _ _ _ rfl rfl rfl, slice_ofBatch 1 1 _ _ _ rfl rfl rfl]
    rfl
  | 2 =>
    show (fun w => k1_pay117 (k1_pay115 w) (k1_pay116 U)) ((fun w => k1_pay110 U w) (win X 2)) = _
    simp only [k1_pay110, k1_pay115, k1_pay116, k1_pay117, cast_addf, shapeCast_comp, shapeCast_self]
    rw [slice_ofBatch 2 0 _ _ _ rfl rfl rfl, slice_ofBatch 2 1 _ _ _ rfl rfl rfl]
    rfl
  | 3 =>
    show (fun w => k1_pay128 U w) ((fun w => k1_pay122 U w) (win X 3)) = _
    simp only [k1_pay122, k1_pay128, cast_addf, shapeCast_comp, shapeCast_self]
    rw [slice_ofBatch 3 0 _ _ _ rfl rfl rfl, slice_ofBatch 3 1 _ _ _ rfl rfl rfl]
    rfl

/-- The two changes of each head's row. -/
def rowBa (U : FVec F S8x1x256 .f32) : Fin 4 → (FVec F S1x1x256 .f32 → FVec F S1x1x256 .f32) :=
  ![fun w => k1_pay88 U w, fun w => k1_pay101 (k1_pay100 U w), fun w => k1_pay111 U w, fun w => k1_pay123 U w]
def rowBb (U : FVec F S8x1x256 .f32) : Fin 4 → (FVec F S1x1x256 .f32 → FVec F S1x1x256 .f32) :=
  ![fun w => k1_pay94 U w, fun w => k1_pay106 U w, fun w => k1_pay118 U w, fun w => k1_pay129 U w]

theorem rowsB (X : FVec F S4x1x256 .f32) (U : FVec F S8x1x256 .f32) (k : Fin 4) : rowBb U k (rowBa U k (win X k)) = win (accB X U) k := by
  match k with
  | 0 =>
    show (fun w => k1_pay94 U w) ((fun w => k1_pay88 U w) (win X 0)) = _
    simp only [k1_pay88, k1_pay94, cast_addf, shapeCast_comp, shapeCast_self]
    rw [slice_ofBatch 0 0 _ _ _ rfl rfl rfl, slice_ofBatch 0 1 _ _ _ rfl rfl rfl]
    rfl
  | 1 =>
    show (fun w => k1_pay106 U w) ((fun w => k1_pay101 (k1_pay100 U w)) (win X 1)) = _
    simp only [k1_pay100, k1_pay101, k1_pay106, cast_addf, shapeCast_comp, shapeCast_self]
    rw [slice_ofBatch 1 0 _ _ _ rfl rfl rfl, slice_ofBatch 1 1 _ _ _ rfl rfl rfl]
    rfl
  | 2 =>
    show (fun w => k1_pay118 U w) ((fun w => k1_pay111 U w) (win X 2)) = _
    simp only [k1_pay111, k1_pay118, cast_addf, shapeCast_comp, shapeCast_self]
    rw [slice_ofBatch 2 0 _ _ _ rfl rfl rfl, slice_ofBatch 2 1 _ _ _ rfl rfl rfl]
    rfl
  | 3 =>
    show (fun w => k1_pay129 U w) ((fun w => k1_pay123 U w) (win X 3)) = _
    simp only [k1_pay123, k1_pay129, cast_addf, shapeCast_comp, shapeCast_self]
    rw [slice_ofBatch 3 0 _ _ _ rfl rfl rfl, slice_ofBatch 3 1 _ _ _ rfl rfl rfl]
    rfl

set_option maxHeartbeats 8000000 in
/-- The backward body at a later point. -/
theorem bwdRun1 (c : Dev nD) (i : grid1.Coords) (hi : ¬ k1_cond1 i = 1#1) (hi2 : ¬ Scalar.cmpi .ne (Scalar.extui (Scalar.andi (Scalar.cmpi .eq (BitVec.ofNat 32 (i 0).val) 0#32) (Scalar.cmpi .eq (BitVec.ofNat 32 (i 1).val) 0#32)) : BitVec 32) 0#32 = 1#1)
    (hi3 : k1_cond3 i = 1#1) (hi4 : ¬ k1_cond4 i = 1#1) (hi5 : k1_cond5 i = 1#1) (hi6 : ¬ k1_cond6 i = 1#1)
    (M0 : Memref sig .tc .vmem S2x64x1024 .f32) (h0 : M0.IsWhole)
    (M1 : Memref sig .tc .vmem S2x64x1024 .f32) (h1 : M1.IsWhole)
    (M2 : Memref sig .tc .vmem S2x64x2048 .f32) (h2 : M2.IsWhole)
    (M3 : Memref sig .tc .vmem S2x64x128 .f32) (h3 : M3.IsWhole)
    (M4 : Memref sig .tc .vmem S4x128x256 .f32) (h4 : M4.IsWhole)
    (M5 : Memref sig .tc .vmem S4x1x256 .f32) (h5 : M5.IsWhole)
    (M6 : Memref sig .tc .vmem S4x2x1x512x256 .f32) (h6 : M6.IsWhole)
    (M7 : Memref sig .tc .vmem S2x64x2048 .f32) (h7 : M7.IsWhole)
    (M8 : Memref sig .tc .vmem S2x64x1024 .bf16) (h8 : M8.IsWhole)
    (M9 : Memref sig .tc .vmem S2x64x1024 .bf16) (h9 : M9.IsWhole)
    (M10 : Memref sig .tc .vmem S2x64x2048 .bf16) (h10 : M10.IsWhole)
    (M11 : Memref sig .tc .vmem S2x64x128 .f32) (h11 : M11.IsWhole)
    (M12 : Memref sig .tc .vmem S4x128x256 .f32) (h12 : M12.IsWhole)
    (M13 : Memref sig .tc .vmem S4x1x256 .f32) (h13 : M13.IsWhole)
    (MS : Memref sig .tc .vmem S1x8x512x256 .f32) (hS : MS.IsWhole)
    (X0 : S2x64x1024.Idx → Elt F .f32)    (X1 : S2x64x1024.Idx → Elt F .f32)    (X2 : S2x64x2048.Idx → Elt F .f32)    (X3 : S2x64x128.Idx → Elt F .f32)    (X4 : S4x128x256.Idx → Elt F .f32)    (X5 : S4x1x256.Idx → Elt F .f32)    (X6 : S4x2x1x512x256.Idx → Elt F .f32)    (X7 : S2x64x2048.Idx → Elt F .f32)
    (X12 : S4x128x256.Idx → Elt F .f32) (X13 : S4x1x256.Idx → Elt F .f32)
    (XS : S1x8x512x256.Idx → Elt F .f32) (q0 q1 q2 q3 q4 q5 q6 q7 : PosShare TreeShare) (K : PUnit → sProp 𝕄) :
    iprop(owns (c : Thread nD τ) M0 q0 X0 ∗ owns (c : Thread nD τ) M1 q1 X1 ∗ owns (c : Thread nD τ) M2 q2 X2 ∗ owns (c : Thread nD τ) M3 q3 X3 ∗ owns (c : Thread nD τ) M4 q4 X4 ∗ owns (c : Thread nD τ) M5 q5 X5 ∗ owns (c : Thread nD τ) M6 q6 X6 ∗ owns (c : Thread nD τ) M7 q7 X7
        ∗ owns (c : Thread nD τ) MS fullShare XS
        ∗ (∃ d, owns (c : Thread nD τ) M8 fullShare d) ∗ (∃ d, owns (c : Thread nD τ) M9 fullShare d) ∗ (∃ d, owns (c : Thread nD τ) M10 fullShare d) ∗ (∃ d, owns (c : Thread nD τ) M11 fullShare d)
        ∗ owns (c : Thread nD τ) M12 fullShare X12 ∗ owns (c : Thread nD τ) M13 fullShare X13
        ∗ (iprop(owns (c : Thread nD τ) M0 q0 X0 ∗ owns (c : Thread nD τ) M1 q1 X1 ∗ owns (c : Thread nD τ) M2 q2 X2 ∗ owns (c : Thread nD τ) M3 q3 X3 ∗ owns (c : Thread nD τ) M4 q4 X4 ∗ owns (c : Thread nD τ) M5 q5 X5 ∗ owns (c : Thread nD τ) M6 q6 X6 ∗ owns (c : Thread nD τ) M7 q7 X7
            ∗ owns (c : Thread nD τ) MS fullShare (bState XS X0 X3 X4 X5 X7)
            ∗ owns (c : Thread nD τ) M8 fullShare (bDq X1 X2 X3 X4 X5 X6 X7) ∗ owns (c : Thread nD τ) M9 fullShare (bDk XS X0 X2 X3 X4 X5 X7) ∗ owns (c : Thread nD τ) M10 fullShare (bDv XS X0 X1 X3 X4 X5 X7)
            ∗ owns (c : Thread nD τ) M11 fullShare (sumHeads (b40 XS X0 X1 X2 X3 X4 X5 X6 X7)) ∗ owns (c : Thread nD τ) M12 fullShare (accW X12 (b41 XS X0 X1 X2 X3 X4 X5 X6 X7))
            ∗ owns (c : Thread nD τ) M13 fullShare (accB X13 (b39 XS X0 X1 X2 X3 X4 X5 X6 X7))) -∗ K ⟨⟩))
      ⊢ wp frame (wpE (defs₀ (F := F)) Variants.none c none) Set.univ (cc1_gla_bwd (F := F) i M0 h0 M1 h1 M2 h2 M3 h3 M4 h4 M5 h5 M6 h6 M7 h7 M8 h8 M9 h9 M10 h10 M11 h11 M12 h12 M13 h13 MS hS) K := by
  simp only [cc1_gla_bwd_eq_skeleton]; unfold cc1_gla_bwd_skel
  rw [owns_eq_rep c.tc M0 q0 X0, owns_eq_rep c.tc M1 q1 X1, owns_eq_rep c.tc M2 q2 X2, owns_eq_rep c.tc M3 q3 X3, owns_eq_rep c.tc M4 q4 X4, owns_eq_rep c.tc M5 q5 X5, owns_eq_rep c.tc M6 q6 X6, owns_eq_rep c.tc M7 q7 X7,
    owns_eq_rep c.tc MS fullShare XS, owns_eq_rep c.tc M12 fullShare X12, owns_eq_rep c.tc M13 fullShare X13]
  unfold owns
  iintro ⟨H0, H1, H2, H3, H4, H5, H6, H7, HS, ⟨%d8, %f8, -, H8⟩, ⟨%d9, %f9, -, H9⟩, ⟨%d10, %f10, -, H10⟩, ⟨%d11, %f11, -, H11⟩, H12, H13, Hk⟩
  sl_exec!
  have eQ : bwdRun1.sl.v32 c M0 X0 = stkQ X0 := by
    sl_open_run; funext x; concat_tiles j h
    all_goals sl_open_run; all_goals sl_open_pay
    all_goals simp only [shapeCast_comp, shapeCast_self, View.readAt_rep]
    all_goals exact ld_ix3 X0 _ _ j _ (by simp [ix3]; omega) (by simp [ix3]; omega) (by simp [ix3]; omega)
  have eK : bwdRun1.sl.v57 c M1 X1 = stkQ X1 := by
    sl_open_run; funext x; concat_tiles j h
    all_goals sl_open_run; all_goals sl_open_pay
    all_goals simp only [shapeCast_comp, shapeCast_self, View.readAt_rep]
    all_goals exact ld_ix3 X1 _ _ j _ (by simp [ix3]; omega) (by simp [ix3]; omega) (by simp [ix3]; omega)
  have eV : bwdRun1.sl.v82 c M2 X2 = stkV X2 := by
    sl_open_run; funext x; concat_tiles j h
    all_goals sl_open_run; all_goals sl_open_pay
    all_goals simp only [shapeCast_comp, shapeCast_self, View.readAt_rep]
    all_goals exact ld_ix3 X2 _ _ j _ (by simp [ix3]; omega) (by simp [ix3]; omega) (by simp [ix3]; omega)
  have eB : bwdRun1.sl.v107 c M3 X3 = stkB X3 := by
    sl_open_run; funext x; concat_tiles j h
    all_goals sl_open_run; all_goals sl_open_pay
    all_goals simp only [shapeCast_comp, shapeCast_self, View.readAt_rep]
    all_goals exact ld_ix3 X3 _ _ j _ (by simp [ix3]; omega) (by simp [ix3]; omega) (by simp [ix3]; omega)
  have eH : bwdRun1.sl.v132 c M4 X4 = stkH X4 := by
    sl_open_run; funext x; concat_tiles j h
    all_goals sl_open_run; all_goals sl_open_pay
    all_goals simp only [shapeCast_comp, shapeCast_self, View.readAt_rep]
    all_goals exact ld_ix3 X4 _ _ j _ (by simp [ix3]; omega) (by simp [ix3]; omega) (by simp [ix3]; omega)
  have eD : bwdRun1.sl.r_26 c M7 X7 = stkV X7 := by
    sl_open_run; sl_open_pay; funext x; concat_tiles j h
    all_goals sl_open_run; all_goals sl_open_pay
    all_goals simp only [shapeCast_comp, shapeCast_self, View.readAt_rep]
    all_goals exact ld_ix3 X7 _ _ j _ (by simp [ix3]; omega) (by simp [ix3]; omega) (by simp [ix3]; omega)
  have eR0 : bwdRun1.sl.v134 c M5 X5 = rowB X5 0 := by
    sl_open_run; simp only [View.readAt_rep]; funext x
    exact (shapeCast_dropUnit_apply ![1, 256] _ _ x).trans (ld_ix3 X5 _ _ _ _ rfl (Nat.zero_add _) (Nat.zero_add _))
  have eR1 : bwdRun1.sl.v138 c M5 X5 = rowB X5 1 := by
    sl_open_run; simp only [View.readAt_rep]; funext x
    exact (shapeCast_dropUnit_apply ![1, 256] _ _ x).trans (ld_ix3 X5 _ _ _ _ rfl (Nat.zero_add _) (Nat.zero_add _))
  have eR2 : bwdRun1.sl.v142 c M5 X5 = rowB X5 2 := by
    sl_open_run; simp only [View.readAt_rep]; funext x
    exact (shapeCast_dropUnit_apply ![1, 256] _ _ x).trans (ld_ix3 X5 _ _ _ _ rfl (Nat.zero_add _) (Nat.zero_add _))
  have eR3c : bwdRun1.sl.v146 c M5 X5 = rowB X5 3 := by
    sl_open_run; simp only [View.readAt_rep]; funext x
    exact (shapeCast_dropUnit_apply ![1, 256] _ _ x).trans (ld_ix3 X5 _ _ _ _ rfl (Nat.zero_add _) (Nat.zero_add _))
  have eR3 : View.readAt (Elt F) M5.view (Rect.unit (s := S4x1x256) ![3, 0, 0] S1x1x256.size inb_S4x1x256_S1x1x256_3_0_0).toLoadRect (M5.view.rep X5) = rowB3 X5 3 := by
    rw [View.readAt_rep]; funext x
    exact ld_ix3 X5 _ _ x _ (by have : (x 0).val < 1 := (x 0).isLt; show 3 + (x 0).val = 3; omega) (Nat.zero_add _) (Nat.zero_add _)
  have eX6 : View.readAt (Elt F) M6.view (Rect.unit (s := S4x2x1x512x256) ![0, 0, 0, 0, 0] S4x2x1x512x256.size inb_S4x2x1x512x256_S4x2x1x512x256_0_0_0_0_0).toLoadRect (M6.view.rep X6) = X6 :=
    View.readAt_rep_full _ _ _
  have eS : View.readAt (Elt F) MS.view (Rect.unit (k1_off2 i) S1x8x512x256.size (k1_off2_inb i)).toLoadRect (MS.view.rep XS) = XS := View.readAt_rep_full _ _ _
  have e8 : bwdRun1.sl.r_8 c M6 X6 = (b8 X6) := by unfold bwdRun1.sl.r_8 b8 bwdRun1.sl.v158; rw [eX6]
  have e9 : bwdRun1.sl.r_9 c M3 M4 M5 X3 X4 X5 = (b9 X3 X4 X5) := by unfold bwdRun1.sl.r_9 b9; rw [eB, eH, eR0, eR1, eR2, eR3c, eR3]
  have e10 : bwdRun1.sl.r_10 c M3 M4 M5 X3 X4 X5 = (b10 X3 X4 X5) := by unfold bwdRun1.sl.r_10 b10; rw [eB, eH, eR0, eR1, eR2, eR3c, eR3]
  have e11 : bwdRun1.sl.r_11 c M3 M4 M5 X3 X4 X5 = (b11 X3 X4 X5) := by unfold bwdRun1.sl.r_11 b11; rw [eB, eH, eR0, eR1, eR2, eR3c, eR3]
  have e12 : bwdRun1.sl.r_12 c M3 M4 M5 X3 X4 X5 = (b12 X3 X4 X5) := by unfold bwdRun1.sl.r_12 b12; rw [eB, eH, eR0, eR1, eR2, eR3c, eR3]
  have e13 : bwdRun1.sl.r_13 c M3 M4 M5 X3 X4 X5 = (b13 X3 X4 X5) := by unfold bwdRun1.sl.r_13 b13; rw [eB, eH, eR0, eR1, eR2, eR3c, eR3]
  have e14 : bwdRun1.sl.r_14 c M0 X0 = (b14 X0) := by unfold bwdRun1.sl.r_14 b14; rw [eQ]
  have e15 : bwdRun1.sl.r_15 c M3 M4 M5 X3 X4 X5 = (b15 X3 X4 X5) := by unfold bwdRun1.sl.r_15 b15; rw [e13]
  have e16 : bwdRun1.sl.r_16 c M0 M3 M4 M5 X0 X3 X4 X5 = (b16 X0 X3 X4 X5) := by unfold bwdRun1.sl.r_16 b16; rw [eQ, e13]
  have e17 : bwdRun1.sl.r_17 c M3 M4 M5 X3 X4 X5 = (b17 X3 X4 X5) := by unfold bwdRun1.sl.r_17 b17; rw [e13]
  have e18 : bwdRun1.sl.r_18 c M1 M3 M4 M5 X1 X3 X4 X5 = (b18 X1 X3 X4 X5) := by unfold bwdRun1.sl.r_18 b18; rw [eK, e13]
  have e19 : bwdRun1.sl.r_19 c M0 M1 M3 M4 M5 X0 X1 X3 X4 X5 = (b19 X0 X1 X3 X4 X5) := by unfold bwdRun1.sl.r_19 b19; rw [eQ, eK, e13]
  have e20 : bwdRun1.sl.r_20 c M3 M4 M5 X3 X4 X5 = (b20 X3 X4 X5) := by unfold bwdRun1.sl.r_20 b20; rw [e13]
  have e21 : bwdRun1.sl.r_21 c M1 M3 M4 M5 X1 X3 X4 X5 = (b21 X1 X3 X4 X5) := by unfold bwdRun1.sl.r_21 b21; rw [eK, e13]
  have e22 : bwdRun1.sl.r_22 c M3 M4 M5 X3 X4 X5 = (b22 X3 X4 X5) := by unfold bwdRun1.sl.r_22 b22; rw [e13]
  have e27 : bwdRun1.sl.r_27 c i M1 M3 M4 M5 MS X1 X3 X4 X5 XS = (b27 XS X1 X3 X4 X5) := by unfold bwdRun1.sl.r_27 b27; rw [e21, eS]
  have e28 : bwdRun1.sl.r_28 c i M3 M4 M5 MS X3 X4 X5 XS = (b28 XS X3 X4 X5) := by unfold bwdRun1.sl.r_28 b28; rw [e22, eS]
  have e29 : bwdRun1.sl.r_29 c i M3 M4 M5 M6 MS X3 X4 X5 X6 XS = (b29 XS X3 X4 X5 X6) := by unfold bwdRun1.sl.r_29 b29; rw [e8, e22, eS]
  have e30 : bwdRun1.sl.r_30 c i M2 M3 M4 M5 MS X2 X3 X4 X5 XS = (b30 XS X2 X3 X4 X5) := by unfold bwdRun1.sl.r_30 b30; rw [eV, e20, eS]
  have e31 : bwdRun1.sl.r_31 c i M1 M2 M3 M4 M5 MS X1 X2 X3 X4 X5 XS = (b31 XS X1 X2 X3 X4 X5) := by unfold bwdRun1.sl.r_31 b31; rw [eK, eV, e20, eS]
  have e32 : bwdRun1.sl.r_32 c i M1 M2 M3 M4 M5 MS X1 X2 X3 X4 X5 XS = (b32 XS X1 X2 X3 X4 X5) := by unfold bwdRun1.sl.r_32 b32; rw [eK, eV, e20, eS]
  have e33 : bwdRun1.sl.r_33 c i M0 M3 M4 M5 M7 MS X0 X3 X4 X5 X7 XS = (b33 XS X0 X3 X4 X5 X7) := by unfold bwdRun1.sl.r_33 b33; rw [e16, eD, e28]
  have e34 : bwdRun1.sl.r_34 c i M0 M1 M3 M4 M5 M7 MS X0 X1 X3 X4 X5 X7 XS = (b34 XS X0 X1 X3 X4 X5 X7) := by unfold bwdRun1.sl.r_34 b34; rw [e19, eD, e27]
  have e35 : bwdRun1.sl.r_35 c i M0 M2 M3 M4 M5 M7 MS X0 X2 X3 X4 X5 X7 XS = (b35 XS X0 X2 X3 X4 X5 X7) := by unfold bwdRun1.sl.r_35 b35; rw [eV, e16, e17, eD, e30]
  have e36 : bwdRun1.sl.r_36 c i M0 M1 M2 M3 M4 M5 M6 M7 MS X0 X1 X2 X3 X4 X5 X6 X7 XS = (b36 XS X0 X1 X2 X3 X4 X5 X6 X7) := by unfold bwdRun1.sl.r_36 b36; rw [eK, eV, e8, e14, e15, e16, e17, e18, eD, e31]
  have e37 : bwdRun1.sl.r_37 c M1 M2 M3 M4 M5 M6 M7 X1 X2 X3 X4 X5 X6 X7 = (b37 X1 X2 X3 X4 X5 X6 X7) := by unfold bwdRun1.sl.r_37 b37; rw [eV, e8, e15, e18, eD]
  have e38 : bwdRun1.sl.r_38 c i M1 M2 M3 M4 M5 M6 MS X1 X2 X3 X4 X5 X6 XS = (b38 XS X1 X2 X3 X4 X5 X6) := by unfold bwdRun1.sl.r_38 b38; rw [e29, e32]
  have e39 : bwdRun1.sl.r_39 c i M0 M1 M2 M3 M4 M5 M6 M7 MS X0 X1 X2 X3 X4 X5 X6 X7 XS = (b39 XS X0 X1 X2 X3 X4 X5 X6 X7) := by unfold bwdRun1.sl.r_39 b39; rw [e9, e10, e11, e12, e36, e38]
  have e40 : bwdRun1.sl.r_40 c i M0 M1 M2 M3 M4 M5 M6 M7 MS X0 X1 X2 X3 X4 X5 X6 X7 XS = (b40 XS X0 X1 X2 X3 X4 X5 X6 X7) := by unfold bwdRun1.sl.r_40 b40; rw [eH, e9, e10, e11, e12, e36, e38]
  have e41 : bwdRun1.sl.r_41 c i M0 M1 M2 M3 M4 M5 M6 M7 MS X0 X1 X2 X3 X4 X5 X6 X7 XS = (b41 XS X0 X1 X2 X3 X4 X5 X6 X7) := by unfold bwdRun1.sl.r_41 b41; rw [eB, e9, e10, e11, e12, e36, e38]
  obtain ⟨U34, hU34⟩ : ∃ U, U = (b34 XS X0 X1 X3 X4 X5 X7) := ⟨_, rfl⟩
  rw [← hU34] at e34
  obtain ⟨U35, hU35⟩ : ∃ U, U = (b35 XS X0 X2 X3 X4 X5 X7) := ⟨_, rfl⟩
  rw [← hU35] at e35
  obtain ⟨U37, hU37⟩ : ∃ U, U = (b37 X1 X2 X3 X4 X5 X6 X7) := ⟨_, rfl⟩
  rw [← hU37] at e37
  obtain ⟨U39, hU39⟩ : ∃ U, U = (b39 XS X0 X1 X2 X3 X4 X5 X6 X7) := ⟨_, rfl⟩
  rw [← hU39] at e39
  obtain ⟨U40, hU40⟩ : ∃ U, U = (b40 XS X0 X1 X2 X3 X4 X5 X6 X7) := ⟨_, rfl⟩
  rw [← hU40] at e40
  obtain ⟨U41, hU41⟩ : ∃ U, U = (b41 XS X0 X1 X2 X3 X4 X5 X6 X7) := ⟨_, rfl⟩
  rw [← hU41] at e41
  have hj : (i 1).val = 0 := by have : (i 1).val < 1 := (i 1).isLt; omega
  have p0 : k1_off3 i 0#32 = ![(0 : Fin 4).val, 0, 0] := (Gen.k1_off3_eq i 0).trans (by rw [hj]; rfl)
  have p1 : k1_off3 i 1#32 = ![(1 : Fin 4).val, 0, 0] := (Gen.k1_off3_eq i 1).trans (by rw [hj]; rfl)
  have p2 : k1_off3 i 2#32 = ![(2 : Fin 4).val, 0, 0] := (Gen.k1_off3_eq i 2).trans (by rw [hj]; rfl)
  have p3 : k1_off3 i 3#32 = ![(3 : Fin 4).val, 0, 0] := (Gen.k1_off3_eq i 3).trans (by rw [hj]; rfl)
  have r0 : k1_off4 i 0#32 = ![(0 : Fin 4).val, 0, 0] := (Gen.k1_off4_eq i 0).trans (by rw [hj]; rfl)
  have r1 : k1_off4 i 1#32 = ![(1 : Fin 4).val, 0, 0] := (Gen.k1_off4_eq i 1).trans (by rw [hj]; rfl)
  have r2 : k1_off4 i 2#32 = ![(2 : Fin 4).val, 0, 0] := (Gen.k1_off4_eq i 2).trans (by rw [hj]; rfl)
  have r3 : k1_off4 i 3#32 = ![(3 : Fin 4).val, 0, 0] := (Gen.k1_off4_eq i 3).trans (by rw [hj]; rfl)
  have v371 : View.readAt (Elt F) M12.view (Rect.unit (s := S4x128x256) (k1_off3 i 0#32) S1x128x256.size (k1_off3_inb i 0)).toLoadRect (M12.view.rep X12) = win X12 0 := View.readAt_rep_unit M12.view _ _ p0 (row_inb 0)
  have v413 : bwdRun1.sl.v413 c i M0 M1 M2 M3 M4 M5 M6 M7 M12 MS X0 X1 X2 X3 X4 X5 X6 X7 X12 XS = rowWa U41 0 (win X12 0) := by
    unfold bwdRun1.sl.v413 bwdRun1.sl.H12_1
    refine (readCov_row _ _ _ _ _ _ _).trans ?_
    ((try unfold bwdRun1.sl.r_42); (try unfold bwdRun1.sl.r_43); (try unfold bwdRun1.sl.r_44); (try unfold bwdRun1.sl.r_45); (try unfold bwdRun1.sl.r_46); (try unfold bwdRun1.sl.r_47); (try unfold bwdRun1.sl.r_48); (try unfold bwdRun1.sl.r_49)); rw [e41, v371]; rfl
  have v455 : bwdRun1.sl.v455 c i M12 X12 = win X12 1 := View.readAt_rep_unit M12.view _ _ p1 (row_inb 1)
  have v497 : bwdRun1.sl.v497 c i M0 M1 M2 M3 M4 M5 M6 M7 M12 MS X0 X1 X2 X3 X4 X5 X6 X7 X12 XS = rowWa U41 1 (win X12 1) := by
    unfold bwdRun1.sl.v497 bwdRun1.sl.H12_3
    refine (readCov_row _ _ _ _ _ _ _).trans ?_
    ((try unfold bwdRun1.sl.r_42); (try unfold bwdRun1.sl.r_43); (try unfold bwdRun1.sl.r_44); (try unfold bwdRun1.sl.r_45); (try unfold bwdRun1.sl.r_46); (try unfold bwdRun1.sl.r_47); (try unfold bwdRun1.sl.r_48); (try unfold bwdRun1.sl.r_49)); rw [e41, v455]; rfl
  have v539 : bwdRun1.sl.v539 c i M12 X12 = win X12 2 := View.readAt_rep_unit M12.view _ _ p2 (row_inb 2)
  have v581 : bwdRun1.sl.v581 c i M0 M1 M2 M3 M4 M5 M6 M7 M12 MS X0 X1 X2 X3 X4 X5 X6 X7 X12 XS = rowWa U41 2 (win X12 2) := by
    unfold bwdRun1.sl.v581 bwdRun1.sl.H12_5
    refine (readCov_row _ _ _ _ _ _ _).trans ?_
    ((try unfold bwdRun1.sl.r_42); (try unfold bwdRun1.sl.r_43); (try unfold bwdRun1.sl.r_44); (try unfold bwdRun1.sl.r_45); (try unfold bwdRun1.sl.r_46); (try unfold bwdRun1.sl.r_47); (try unfold bwdRun1.sl.r_48); (try unfold bwdRun1.sl.r_49)); rw [e41, v539]; rfl
  have v623 : bwdRun1.sl.v623 c i M12 X12 = win X12 3 := View.readAt_rep_unit M12.view _ _ p3 (row_inb 3)
  have v665 : bwdRun1.sl.v665 c i M0 M1 M2 M3 M4 M5 M6 M7 M12 MS X0 X1 X2 X3 X4 X5 X6 X7 X12 XS = rowWa U41 3 (win X12 3) := by
    unfold bwdRun1.sl.v665 bwdRun1.sl.H12_7
    refine (readCov_row _ _ _ _ _ _ _).trans ?_
    ((try unfold bwdRun1.sl.r_42); (try unfold bwdRun1.sl.r_43); (try unfold bwdRun1.sl.r_44); (try unfold bwdRun1.sl.r_45); (try unfold bwdRun1.sl.r_46); (try unfold bwdRun1.sl.r_47); (try unfold bwdRun1.sl.r_48); (try unfold bwdRun1.sl.r_49)); rw [e41, v623]; rfl
  have v383 : View.readAt (Elt F) M13.view (Rect.unit (s := S4x1x256) (k1_off4 i 0#32) S1x1x256.size (k1_off4_inb i 0)).toLoadRect (M13.view.rep X13) = win X13 0 := View.readAt_rep_unit M13.view _ _ r0 (row_inb 0)
  have v425 : bwdRun1.sl.v425 c i M0 M1 M2 M3 M4 M5 M6 M7 M13 MS X0 X1 X2 X3 X4 X5 X6 X7 X13 XS = rowBa U39 0 (win X13 0) := by
    unfold bwdRun1.sl.v425 bwdRun1.sl.H13_1
    refine (readCov_row _ _ _ _ _ _ _).trans ?_
    ((try unfold bwdRun1.sl.r_42); (try unfold bwdRun1.sl.r_43); (try unfold bwdRun1.sl.r_44); (try unfold bwdRun1.sl.r_45); (try unfold bwdRun1.sl.r_46); (try unfold bwdRun1.sl.r_47); (try unfold bwdRun1.sl.r_48); (try unfold bwdRun1.sl.r_49)); rw [e39, v383]; rfl
  have v467 : bwdRun1.sl.v467 c i M13 X13 = win X13 1 := View.readAt_rep_unit M13.view _ _ r1 (row_inb 1)
  have v509 : bwdRun1.sl.v509 c i M0 M1 M2 M3 M4 M5 M6 M7 M13 MS X0 X1 X2 X3 X4 X5 X6 X7 X13 XS = rowBa U39 1 (win X13 1) := by
    unfold bwdRun1.sl.v509 bwdRun1.sl.H13_3
    refine (readCov_row _ _ _ _ _ _ _).trans ?_
    ((try unfold bwdRun1.sl.r_42); (try unfold bwdRun1.sl.r_43); (try unfold bwdRun1.sl.r_44); (try unfold bwdRun1.sl.r_45); (try unfold bwdRun1.sl.r_46); (try unfold bwdRun1.sl.r_47); (try unfold bwdRun1.sl.r_48); (try unfold bwdRun1.sl.r_49)); rw [e39, v467]; rfl
  have v551 : bwdRun1.sl.v551 c i M13 X13 = win X13 2 := View.readAt_rep_unit M13.view _ _ r2 (row_inb 2)
  have v593 : bwdRun1.sl.v593 c i M0 M1 M2 M3 M4 M5 M6 M7 M13 MS X0 X1 X2 X3 X4 X5 X6 X7 X13 XS = rowBa U39 2 (win X13 2) := by
    unfold bwdRun1.sl.v593 bwdRun1.sl.H13_5
    refine (readCov_row _ _ _ _ _ _ _).trans ?_
    ((try unfold bwdRun1.sl.r_42); (try unfold bwdRun1.sl.r_43); (try unfold bwdRun1.sl.r_44); (try unfold bwdRun1.sl.r_45); (try unfold bwdRun1.sl.r_46); (try unfold bwdRun1.sl.r_47); (try unfold bwdRun1.sl.r_48); (try unfold bwdRun1.sl.r_49)); rw [e39, v551]; rfl
  have v635 : bwdRun1.sl.v635 c i M13 X13 = win X13 3 := View.readAt_rep_unit M13.view _ _ r3 (row_inb 3)
  have v677 : bwdRun1.sl.v677 c i M0 M1 M2 M3 M4 M5 M6 M7 M13 MS X0 X1 X2 X3 X4 X5 X6 X7 X13 XS = rowBa U39 3 (win X13 3) := by
    unfold bwdRun1.sl.v677 bwdRun1.sl.H13_7
    refine (readCov_row _ _ _ _ _ _ _).trans ?_
    ((try unfold bwdRun1.sl.r_42); (try unfold bwdRun1.sl.r_43); (try unfold bwdRun1.sl.r_44); (try unfold bwdRun1.sl.r_45); (try unfold bwdRun1.sl.r_46); (try unfold bwdRun1.sl.r_47); (try unfold bwdRun1.sl.r_48); (try unfold bwdRun1.sl.r_49)); rw [e39, v635]; rfl
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]
  · iexists _; isplitr; swap; · iexact HS
    ipureintro
    rw [e33]; exact View.read_writes_full _ _ _ _ _
  isplitl [H8]
  · iexists _; isplitr; swap; · iexact H8
    ipureintro
    have hc : ∀ y, ∃ p ∈ bwdRun1.sl.H8_8 c M1 M2 M3 M4 M5 M6 M7 X1 X2 X3 X4 X5 X6 X7, y ∈ p.1.set := fun y => View.cover_of_tiled (bwdRun1.sl.H8_8 c M1 M2 M3 M4 M5 M6 M7 X1 X2 X3 X4 X5 X6 X7) S1x64x256.size (by rfl) y
    rw [View.read_writes_eq_canon _ _ _ hc]
    unfold bwdRun1.sl.H8_8 bDq; rw [← hU37]
    funext y; canon_tiles x h
    all_goals ((try unfold bwdRun1.sl.r_42); (try unfold bwdRun1.sl.r_43); (try unfold bwdRun1.sl.r_44); (try unfold bwdRun1.sl.r_45); (try unfold bwdRun1.sl.r_46); (try unfold bwdRun1.sl.r_47); (try unfold bwdRun1.sl.r_48); (try unfold bwdRun1.sl.r_49))
    all_goals simp only [k1_pay83, k1_pay89, k1_pay95, k1_pay96, k1_pay102, k1_pay107, k1_pay112, k1_pay119, k1_pay124, e37, shapeCast_comp, shapeCast_self, cast_trunc, trunc_slice]
    all_goals exact extractStridedSlice_apply _ _ _ _ _ (fun a => by match a with | 0 => simp [ix3]; omega | 1 => simp [ix3]; omega | 2 => simp [ix3]; omega)
  isplitl [H9]
  · iexists _; isplitr; swap; · iexact H9
    ipureintro
    have hc : ∀ y, ∃ p ∈ bwdRun1.sl.H9_8 c i M0 M2 M3 M4 M5 M7 MS X0 X2 X3 X4 X5 X7 XS, y ∈ p.1.set := fun y => View.cover_of_tiled (bwdRun1.sl.H9_8 c i M0 M2 M3 M4 M5 M7 MS X0 X2 X3 X4 X5 X7 XS) S1x64x256.size (by rfl) y
    rw [View.read_writes_eq_canon _ _ _ hc]
    unfold bwdRun1.sl.H9_8 bDk; rw [← hU35]
    funext y; canon_tiles x h
    all_goals ((try unfold bwdRun1.sl.r_42); (try unfold bwdRun1.sl.r_43); (try unfold bwdRun1.sl.r_44); (try unfold bwdRun1.sl.r_45); (try unfold bwdRun1.sl.r_46); (try unfold bwdRun1.sl.r_47); (try unfold bwdRun1.sl.r_48); (try unfold bwdRun1.sl.r_49))
    all_goals simp only [k1_pay84, k1_pay90, k1_pay91, k1_pay97, k1_pay103, k1_pay108, k1_pay113, k1_pay120, k1_pay125, e35, shapeCast_comp, shapeCast_self, cast_trunc, trunc_slice]
    all_goals exact extractStridedSlice_apply _ _ _ _ _ (fun a => by match a with | 0 => simp [ix3]; omega | 1 => simp [ix3]; omega | 2 => simp [ix3]; omega)
  isplitl [H10]
  · iexists _; isplitr; swap; · iexact H10
    ipureintro
    have hc : ∀ y, ∃ p ∈ bwdRun1.sl.H10_8 c i M0 M1 M3 M4 M5 M7 MS X0 X1 X3 X4 X5 X7 XS, y ∈ p.1.set := fun y => View.cover_of_tiled (bwdRun1.sl.H10_8 c i M0 M1 M3 M4 M5 M7 MS X0 X1 X3 X4 X5 X7 XS) S1x64x512.size (by rfl) y
    rw [View.read_writes_eq_canon _ _ _ hc]
    unfold bwdRun1.sl.H10_8 bDv; rw [← hU34]
    funext y; canon_tiles x h
    all_goals ((try unfold bwdRun1.sl.r_42); (try unfold bwdRun1.sl.r_43); (try unfold bwdRun1.sl.r_44); (try unfold bwdRun1.sl.r_45); (try unfold bwdRun1.sl.r_46); (try unfold bwdRun1.sl.r_47); (try unfold bwdRun1.sl.r_48); (try unfold bwdRun1.sl.r_49))
    all_goals simp only [k1_pay85, k1_pay86, k1_pay92, k1_pay98, k1_pay104, k1_pay109, k1_pay114, k1_pay121, k1_pay126, k1_pay127, e34, shapeCast_comp, shapeCast_self, cast_trunc, trunc_slice]
    all_goals exact extractStridedSlice_apply _ _ _ _ _ (fun a => by match a with | 0 => simp [ix3]; omega | 1 => simp [ix3]; omega | 2 => simp [ix3]; omega)
  isplitl [H11]
  · iexists _; isplitr; swap; · iexact H11
    ipureintro
    have hc : ∀ y, ∃ p ∈ bwdRun1.sl.H11_2 c i M0 M1 M2 M3 M4 M5 M6 M7 MS X0 X1 X2 X3 X4 X5 X6 X7 XS, y ∈ p.1.set := fun y => View.cover_of_tiled (bwdRun1.sl.H11_2 c i M0 M1 M2 M3 M4 M5 M6 M7 MS X0 X1 X2 X3 X4 X5 X6 X7 XS) S1x64x128.size (by rfl) y
    rw [View.read_writes_eq_canon _ _ _ hc]
    unfold bwdRun1.sl.H11_2 sumHeads; rw [← hU40]
    funext y; canon_tiles x h
    all_goals ((try unfold bwdRun1.sl.r_42); (try unfold bwdRun1.sl.r_43); (try unfold bwdRun1.sl.r_44); (try unfold bwdRun1.sl.r_45); (try unfold bwdRun1.sl.r_46); (try unfold bwdRun1.sl.r_47); (try unfold bwdRun1.sl.r_48); (try unfold bwdRun1.sl.r_49))
    all_goals simp only [k1_pay130, k1_pay131, k1_pay133, k1_pay134, e40, shapeCast_comp, shapeCast_self, cast_addf, cast_broadcast]
    all_goals refine addf_at (addf_at (addf_at (addf_at rfl ?_) ?_) ?_) ?_
    all_goals exact extractStridedSlice_apply _ _ _ _ _ (fun a => by match a with | 0 => simp [ix3]; omega | 1 => simp [ix3]; omega | 2 => simp [ix3]; omega)
  isplitl [H12]
  · iexists _; isplitr; swap; · iexact H12
    ipureintro
    rw [← hU41]
    unfold bwdRun1.sl.H12_7 bwdRun1.sl.H12_5 bwdRun1.sl.H12_3 bwdRun1.sl.H12_1
    ((try unfold bwdRun1.sl.r_42); (try unfold bwdRun1.sl.r_43); (try unfold bwdRun1.sl.r_44); (try unfold bwdRun1.sl.r_45); (try unfold bwdRun1.sl.r_46); (try unfold bwdRun1.sl.r_47); (try unfold bwdRun1.sl.r_48); (try unfold bwdRun1.sl.r_49))
    rw [View.read_writes_cons_put M12.view _ _ _ _ p3, View.read_writes_cons_put M12.view _ _ _ _ p3, View.read_writes_cons_put M12.view _ _ _ _ p2, View.read_writes_cons_put M12.view _ _ _ _ p2, View.read_writes_cons_put M12.view _ _ _ _ p1, View.read_writes_cons_put M12.view _ _ _ _ p1, View.read_writes_cons_put M12.view _ _ _ _ p0, View.read_writes_cons_put M12.view _ _ _ _ p0, View.writes_nil, View.read_rep, e41, v371, v455, v539, v623, v413, v497, v581, v665]
    exact (ext_win fun k => (steps_win X12 (fun k _ => rowWa U41 k (win X12 k)) (fun k _ => rowWb U41 k (rowWa U41 k (win X12 k))) k).trans (rowsW X12 U41 k))
  iexists _; isplitr; swap; · iexact H13
  ipureintro
  rw [← hU39]
  unfold bwdRun1.sl.H13_7 bwdRun1.sl.H13_5 bwdRun1.sl.H13_3 bwdRun1.sl.H13_1
  ((try unfold bwdRun1.sl.r_42); (try unfold bwdRun1.sl.r_43); (try unfold bwdRun1.sl.r_44); (try unfold bwdRun1.sl.r_45); (try unfold bwdRun1.sl.r_46); (try unfold bwdRun1.sl.r_47); (try unfold bwdRun1.sl.r_48); (try unfold bwdRun1.sl.r_49))
  rw [View.read_writes_cons_put M13.view _ _ _ _ r3, View.read_writes_cons_put M13.view _ _ _ _ r3, View.read_writes_cons_put M13.view _ _ _ _ r2, View.read_writes_cons_put M13.view _ _ _ _ r2, View.read_writes_cons_put M13.view _ _ _ _ r1, View.read_writes_cons_put M13.view _ _ _ _ r1, View.read_writes_cons_put M13.view _ _ _ _ r0, View.read_writes_cons_put M13.view _ _ _ _ r0, View.writes_nil, View.read_rep, e39, v383, v467, v551, v635, v425, v509, v593, v677]
  exact (ext_win fun k => (steps_win X13 (fun k _ => rowBa U39 k (win X13 k)) (fun k _ => rowBb U39 k (rowBa U39 k (win X13 k))) k).trans (rowsB X13 U39 k))

set_option maxHeartbeats 8000000 in
/-- The backward body at the first point, where the state and the summed gradients start from zero. -/
theorem bwdRun0 (c : Dev nD) (i : grid1.Coords) (hi : k1_cond1 i = 1#1) (hi2 : Scalar.cmpi .ne (Scalar.extui (Scalar.andi (Scalar.cmpi .eq (BitVec.ofNat 32 (i 0).val) 0#32) (Scalar.cmpi .eq (BitVec.ofNat 32 (i 1).val) 0#32)) : BitVec 32) 0#32 = 1#1)
    (hi3 : k1_cond3 i = 1#1) (hi4 : ¬ k1_cond4 i = 1#1) (hi5 : k1_cond5 i = 1#1) (hi6 : ¬ k1_cond6 i = 1#1)
    (M0 : Memref sig .tc .vmem S2x64x1024 .f32) (h0 : M0.IsWhole)
    (M1 : Memref sig .tc .vmem S2x64x1024 .f32) (h1 : M1.IsWhole)
    (M2 : Memref sig .tc .vmem S2x64x2048 .f32) (h2 : M2.IsWhole)
    (M3 : Memref sig .tc .vmem S2x64x128 .f32) (h3 : M3.IsWhole)
    (M4 : Memref sig .tc .vmem S4x128x256 .f32) (h4 : M4.IsWhole)
    (M5 : Memref sig .tc .vmem S4x1x256 .f32) (h5 : M5.IsWhole)
    (M6 : Memref sig .tc .vmem S4x2x1x512x256 .f32) (h6 : M6.IsWhole)
    (M7 : Memref sig .tc .vmem S2x64x2048 .f32) (h7 : M7.IsWhole)
    (M8 : Memref sig .tc .vmem S2x64x1024 .bf16) (h8 : M8.IsWhole)
    (M9 : Memref sig .tc .vmem S2x64x1024 .bf16) (h9 : M9.IsWhole)
    (M10 : Memref sig .tc .vmem S2x64x2048 .bf16) (h10 : M10.IsWhole)
    (M11 : Memref sig .tc .vmem S2x64x128 .f32) (h11 : M11.IsWhole)
    (M12 : Memref sig .tc .vmem S4x128x256 .f32) (h12 : M12.IsWhole)
    (M13 : Memref sig .tc .vmem S4x1x256 .f32) (h13 : M13.IsWhole)
    (MS : Memref sig .tc .vmem S1x8x512x256 .f32) (hS : MS.IsWhole)
    (X0 : S2x64x1024.Idx → Elt F .f32)    (X1 : S2x64x1024.Idx → Elt F .f32)    (X2 : S2x64x2048.Idx → Elt F .f32)    (X3 : S2x64x128.Idx → Elt F .f32)    (X4 : S4x128x256.Idx → Elt F .f32)    (X5 : S4x1x256.Idx → Elt F .f32)    (X6 : S4x2x1x512x256.Idx → Elt F .f32)    (X7 : S2x64x2048.Idx → Elt F .f32)
    (X12 : S4x128x256.Idx → Elt F .f32) (X13 : S4x1x256.Idx → Elt F .f32)
    (XS : S1x8x512x256.Idx → Elt F .f32) (q0 q1 q2 q3 q4 q5 q6 q7 : PosShare TreeShare) (K : PUnit → sProp 𝕄) :
    iprop(owns (c : Thread nD τ) M0 q0 X0 ∗ owns (c : Thread nD τ) M1 q1 X1 ∗ owns (c : Thread nD τ) M2 q2 X2 ∗ owns (c : Thread nD τ) M3 q3 X3 ∗ owns (c : Thread nD τ) M4 q4 X4 ∗ owns (c : Thread nD τ) M5 q5 X5 ∗ owns (c : Thread nD τ) M6 q6 X6 ∗ owns (c : Thread nD τ) M7 q7 X7
        ∗ owns (c : Thread nD τ) MS fullShare XS
        ∗ (∃ d, owns (c : Thread nD τ) M8 fullShare d) ∗ (∃ d, owns (c : Thread nD τ) M9 fullShare d) ∗ (∃ d, owns (c : Thread nD τ) M10 fullShare d) ∗ (∃ d, owns (c : Thread nD τ) M11 fullShare d)
        ∗ owns (c : Thread nD τ) M12 fullShare X12 ∗ owns (c : Thread nD τ) M13 fullShare X13
        ∗ (iprop(owns (c : Thread nD τ) M0 q0 X0 ∗ owns (c : Thread nD τ) M1 q1 X1 ∗ owns (c : Thread nD τ) M2 q2 X2 ∗ owns (c : Thread nD τ) M3 q3 X3 ∗ owns (c : Thread nD τ) M4 q4 X4 ∗ owns (c : Thread nD τ) M5 q5 X5 ∗ owns (c : Thread nD τ) M6 q6 X6 ∗ owns (c : Thread nD τ) M7 q7 X7
            ∗ owns (c : Thread nD τ) MS fullShare (bState (k1_pay2 (F := F)) X0 X3 X4 X5 X7)
            ∗ owns (c : Thread nD τ) M8 fullShare (bDq X1 X2 X3 X4 X5 X6 X7) ∗ owns (c : Thread nD τ) M9 fullShare (bDk (k1_pay2 (F := F)) X0 X2 X3 X4 X5 X7) ∗ owns (c : Thread nD τ) M10 fullShare (bDv (k1_pay2 (F := F)) X0 X1 X3 X4 X5 X7)
            ∗ owns (c : Thread nD τ) M11 fullShare (sumHeads (b40 (k1_pay2 (F := F)) X0 X1 X2 X3 X4 X5 X6 X7)) ∗ owns (c : Thread nD τ) M12 fullShare (accW (k1_pay3 (F := F)) (b41 (k1_pay2 (F := F)) X0 X1 X2 X3 X4 X5 X6 X7))
            ∗ owns (c : Thread nD τ) M13 fullShare (accB (k1_pay4 (F := F)) (b39 (k1_pay2 (F := F)) X0 X1 X2 X3 X4 X5 X6 X7))) -∗ K ⟨⟩))
      ⊢ wp frame (wpE (defs₀ (F := F)) Variants.none c none) Set.univ (cc1_gla_bwd (F := F) i M0 h0 M1 h1 M2 h2 M3 h3 M4 h4 M5 h5 M6 h6 M7 h7 M8 h8 M9 h9 M10 h10 M11 h11 M12 h12 M13 h13 MS hS) K := by
  simp only [cc1_gla_bwd_eq_skeleton]; unfold cc1_gla_bwd_skel
  rw [owns_eq_rep c.tc M0 q0 X0, owns_eq_rep c.tc M1 q1 X1, owns_eq_rep c.tc M2 q2 X2, owns_eq_rep c.tc M3 q3 X3, owns_eq_rep c.tc M4 q4 X4, owns_eq_rep c.tc M5 q5 X5, owns_eq_rep c.tc M6 q6 X6, owns_eq_rep c.tc M7 q7 X7,
    owns_eq_rep c.tc MS fullShare XS, owns_eq_rep c.tc M12 fullShare X12, owns_eq_rep c.tc M13 fullShare X13]
  unfold owns
  iintro ⟨H0, H1, H2, H3, H4, H5, H6, H7, HS, ⟨%d8, %f8, -, H8⟩, ⟨%d9, %f9, -, H9⟩, ⟨%d10, %f10, -, H10⟩, ⟨%d11, %f11, -, H11⟩, H12, H13, Hk⟩
  sl_exec!
  have eQ : bwdRun0.sl.v32 c M0 X0 = stkQ X0 := by
    sl_open_run; funext x; concat_tiles j h
    all_goals sl_open_run; all_goals sl_open_pay
    all_goals simp only [shapeCast_comp, shapeCast_self, View.readAt_rep]
    all_goals exact ld_ix3 X0 _ _ j _ (by simp [ix3]; omega) (by simp [ix3]; omega) (by simp [ix3]; omega)
  have eK : bwdRun0.sl.v57 c M1 X1 = stkQ X1 := by
    sl_open_run; funext x; concat_tiles j h
    all_goals sl_open_run; all_goals sl_open_pay
    all_goals simp only [shapeCast_comp, shapeCast_self, View.readAt_rep]
    all_goals exact ld_ix3 X1 _ _ j _ (by simp [ix3]; omega) (by simp [ix3]; omega) (by simp [ix3]; omega)
  have eV : bwdRun0.sl.v82 c M2 X2 = stkV X2 := by
    sl_open_run; funext x; concat_tiles j h
    all_goals sl_open_run; all_goals sl_open_pay
    all_goals simp only [shapeCast_comp, shapeCast_self, View.readAt_rep]
    all_goals exact ld_ix3 X2 _ _ j _ (by simp [ix3]; omega) (by simp [ix3]; omega) (by simp [ix3]; omega)
  have eB : bwdRun0.sl.v107 c M3 X3 = stkB X3 := by
    sl_open_run; funext x; concat_tiles j h
    all_goals sl_open_run; all_goals sl_open_pay
    all_goals simp only [shapeCast_comp, shapeCast_self, View.readAt_rep]
    all_goals exact ld_ix3 X3 _ _ j _ (by simp [ix3]; omega) (by simp [ix3]; omega) (by simp [ix3]; omega)
  have eH : bwdRun0.sl.v132 c M4 X4 = stkH X4 := by
    sl_open_run; funext x; concat_tiles j h
    all_goals sl_open_run; all_goals sl_open_pay
    all_goals simp only [shapeCast_comp, shapeCast_self, View.readAt_rep]
    all_goals exact ld_ix3 X4 _ _ j _ (by simp [ix3]; omega) (by simp [ix3]; omega) (by simp [ix3]; omega)
  have eD : bwdRun0.sl.r_26 c M7 X7 = stkV X7 := by
    sl_open_run; sl_open_pay; funext x; concat_tiles j h
    all_goals sl_open_run; all_goals sl_open_pay
    all_goals simp only [shapeCast_comp, shapeCast_self, View.readAt_rep]
    all_goals exact ld_ix3 X7 _ _ j _ (by simp [ix3]; omega) (by simp [ix3]; omega) (by simp [ix3]; omega)
  have eR0 : bwdRun0.sl.v134 c M5 X5 = rowB X5 0 := by
    sl_open_run; simp only [View.readAt_rep]; funext x
    exact (shapeCast_dropUnit_apply ![1, 256] _ _ x).trans (ld_ix3 X5 _ _ _ _ rfl (Nat.zero_add _) (Nat.zero_add _))
  have eR1 : bwdRun0.sl.v138 c M5 X5 = rowB X5 1 := by
    sl_open_run; simp only [View.readAt_rep]; funext x
    exact (shapeCast_dropUnit_apply ![1, 256] _ _ x).trans (ld_ix3 X5 _ _ _ _ rfl (Nat.zero_add _) (Nat.zero_add _))
  have eR2 : bwdRun0.sl.v142 c M5 X5 = rowB X5 2 := by
    sl_open_run; simp only [View.readAt_rep]; funext x
    exact (shapeCast_dropUnit_apply ![1, 256] _ _ x).trans (ld_ix3 X5 _ _ _ _ rfl (Nat.zero_add _) (Nat.zero_add _))
  have eR3c : bwdRun0.sl.v146 c M5 X5 = rowB X5 3 := by
    sl_open_run; simp only [View.readAt_rep]; funext x
    exact (shapeCast_dropUnit_apply ![1, 256] _ _ x).trans (ld_ix3 X5 _ _ _ _ rfl (Nat.zero_add _) (Nat.zero_add _))
  have eR3 : View.readAt (Elt F) M5.view (Rect.unit (s := S4x1x256) ![3, 0, 0] S1x1x256.size inb_S4x1x256_S1x1x256_3_0_0).toLoadRect (M5.view.rep X5) = rowB3 X5 3 := by
    rw [View.readAt_rep]; funext x
    exact ld_ix3 X5 _ _ x _ (by have : (x 0).val < 1 := (x 0).isLt; show 3 + (x 0).val = 3; omega) (Nat.zero_add _) (Nat.zero_add _)
  have eX6 : View.readAt (Elt F) M6.view (Rect.unit (s := S4x2x1x512x256) ![0, 0, 0, 0, 0] S4x2x1x512x256.size inb_S4x2x1x512x256_S4x2x1x512x256_0_0_0_0_0).toLoadRect (M6.view.rep X6) = X6 :=
    View.readAt_rep_full _ _ _
  have eS : bwdRun0.sl.v252 c i hi MS = k1_pay2 (F := F) := View.readCov_full _ _ _ _ _
  have e8 : bwdRun0.sl.r_8 c M6 X6 = (b8 X6) := by unfold bwdRun0.sl.r_8 b8 bwdRun0.sl.v158; rw [eX6]
  have e9 : bwdRun0.sl.r_9 c M3 M4 M5 X3 X4 X5 = (b9 X3 X4 X5) := by unfold bwdRun0.sl.r_9 b9; rw [eB, eH, eR0, eR1, eR2, eR3c, eR3]
  have e10 : bwdRun0.sl.r_10 c M3 M4 M5 X3 X4 X5 = (b10 X3 X4 X5) := by unfold bwdRun0.sl.r_10 b10; rw [eB, eH, eR0, eR1, eR2, eR3c, eR3]
  have e11 : bwdRun0.sl.r_11 c M3 M4 M5 X3 X4 X5 = (b11 X3 X4 X5) := by unfold bwdRun0.sl.r_11 b11; rw [eB, eH, eR0, eR1, eR2, eR3c, eR3]
  have e12 : bwdRun0.sl.r_12 c M3 M4 M5 X3 X4 X5 = (b12 X3 X4 X5) := by unfold bwdRun0.sl.r_12 b12; rw [eB, eH, eR0, eR1, eR2, eR3c, eR3]
  have e13 : bwdRun0.sl.r_13 c M3 M4 M5 X3 X4 X5 = (b13 X3 X4 X5) := by unfold bwdRun0.sl.r_13 b13; rw [eB, eH, eR0, eR1, eR2, eR3c, eR3]
  have e14 : bwdRun0.sl.r_14 c M0 X0 = (b14 X0) := by unfold bwdRun0.sl.r_14 b14; rw [eQ]
  have e15 : bwdRun0.sl.r_15 c M3 M4 M5 X3 X4 X5 = (b15 X3 X4 X5) := by unfold bwdRun0.sl.r_15 b15; rw [e13]
  have e16 : bwdRun0.sl.r_16 c M0 M3 M4 M5 X0 X3 X4 X5 = (b16 X0 X3 X4 X5) := by unfold bwdRun0.sl.r_16 b16; rw [eQ, e13]
  have e17 : bwdRun0.sl.r_17 c M3 M4 M5 X3 X4 X5 = (b17 X3 X4 X5) := by unfold bwdRun0.sl.r_17 b17; rw [e13]
  have e18 : bwdRun0.sl.r_18 c M1 M3 M4 M5 X1 X3 X4 X5 = (b18 X1 X3 X4 X5) := by unfold bwdRun0.sl.r_18 b18; rw [eK, e13]
  have e19 : bwdRun0.sl.r_19 c M0 M1 M3 M4 M5 X0 X1 X3 X4 X5 = (b19 X0 X1 X3 X4 X5) := by unfold bwdRun0.sl.r_19 b19; rw [eQ, eK, e13]
  have e20 : bwdRun0.sl.r_20 c M3 M4 M5 X3 X4 X5 = (b20 X3 X4 X5) := by unfold bwdRun0.sl.r_20 b20; rw [e13]
  have e21 : bwdRun0.sl.r_21 c M1 M3 M4 M5 X1 X3 X4 X5 = (b21 X1 X3 X4 X5) := by unfold bwdRun0.sl.r_21 b21; rw [eK, e13]
  have e22 : bwdRun0.sl.r_22 c M3 M4 M5 X3 X4 X5 = (b22 X3 X4 X5) := by unfold bwdRun0.sl.r_22 b22; rw [e13]
  have e27 : bwdRun0.sl.r_27 c i hi M1 M3 M4 M5 MS X1 X3 X4 X5 = (b27 (k1_pay2 (F := F)) X1 X3 X4 X5) := by unfold bwdRun0.sl.r_27 b27; rw [e21, eS]
  have e28 : bwdRun0.sl.r_28 c i hi M3 M4 M5 MS X3 X4 X5 = (b28 (k1_pay2 (F := F)) X3 X4 X5) := by unfold bwdRun0.sl.r_28 b28; rw [e22, eS]
  have e29 : bwdRun0.sl.r_29 c i hi M3 M4 M5 M6 MS X3 X4 X5 X6 = (b29 (k1_pay2 (F := F)) X3 X4 X5 X6) := by unfold bwdRun0.sl.r_29 b29; rw [e8, e22, eS]
  have e30 : bwdRun0.sl.r_30 c i hi M2 M3 M4 M5 MS X2 X3 X4 X5 = (b30 (k1_pay2 (F := F)) X2 X3 X4 X5) := by unfold bwdRun0.sl.r_30 b30; rw [eV, e20, eS]
  have e31 : bwdRun0.sl.r_31 c i hi M1 M2 M3 M4 M5 MS X1 X2 X3 X4 X5 = (b31 (k1_pay2 (F := F)) X1 X2 X3 X4 X5) := by unfold bwdRun0.sl.r_31 b31; rw [eK, eV, e20, eS]
  have e32 : bwdRun0.sl.r_32 c i hi M1 M2 M3 M4 M5 MS X1 X2 X3 X4 X5 = (b32 (k1_pay2 (F := F)) X1 X2 X3 X4 X5) := by unfold bwdRun0.sl.r_32 b32; rw [eK, eV, e20, eS]
  have e33 : bwdRun0.sl.r_33 c i hi M0 M3 M4 M5 M7 MS X0 X3 X4 X5 X7 = (b33 (k1_pay2 (F := F)) X0 X3 X4 X5 X7) := by unfold bwdRun0.sl.r_33 b33; rw [e16, eD, e28]
  have e34 : bwdRun0.sl.r_34 c i hi M0 M1 M3 M4 M5 M7 MS X0 X1 X3 X4 X5 X7 = (b34 (k1_pay2 (F := F)) X0 X1 X3 X4 X5 X7) := by unfold bwdRun0.sl.r_34 b34; rw [e19, eD, e27]
  have e35 : bwdRun0.sl.r_35 c i hi M0 M2 M3 M4 M5 M7 MS X0 X2 X3 X4 X5 X7 = (b35 (k1_pay2 (F := F)) X0 X2 X3 X4 X5 X7) := by unfold bwdRun0.sl.r_35 b35; rw [eV, e16, e17, eD, e30]
  have e36 : bwdRun0.sl.r_36 c i hi M0 M1 M2 M3 M4 M5 M6 M7 MS X0 X1 X2 X3 X4 X5 X6 X7 = (b36 (k1_pay2 (F := F)) X0 X1 X2 X3 X4 X5 X6 X7) := by unfold bwdRun0.sl.r_36 b36; rw [eK, eV, e8, e14, e15, e16, e17, e18, eD, e31]
  have e37 : bwdRun0.sl.r_37 c M1 M2 M3 M4 M5 M6 M7 X1 X2 X3 X4 X5 X6 X7 = (b37 X1 X2 X3 X4 X5 X6 X7) := by unfold bwdRun0.sl.r_37 b37; rw [eV, e8, e15, e18, eD]
  have e38 : bwdRun0.sl.r_38 c i hi M1 M2 M3 M4 M5 M6 MS X1 X2 X3 X4 X5 X6 = (b38 (k1_pay2 (F := F)) X1 X2 X3 X4 X5 X6) := by unfold bwdRun0.sl.r_38 b38; rw [e29, e32]
  have e39 : bwdRun0.sl.r_39 c i hi M0 M1 M2 M3 M4 M5 M6 M7 MS X0 X1 X2 X3 X4 X5 X6 X7 = (b39 (k1_pay2 (F := F)) X0 X1 X2 X3 X4 X5 X6 X7) := by unfold bwdRun0.sl.r_39 b39; rw [e9, e10, e11, e12, e36, e38]
  have e40 : bwdRun0.sl.r_40 c i hi M0 M1 M2 M3 M4 M5 M6 M7 MS X0 X1 X2 X3 X4 X5 X6 X7 = (b40 (k1_pay2 (F := F)) X0 X1 X2 X3 X4 X5 X6 X7) := by unfold bwdRun0.sl.r_40 b40; rw [eH, e9, e10, e11, e12, e36, e38]
  have e41 : bwdRun0.sl.r_41 c i hi M0 M1 M2 M3 M4 M5 M6 M7 MS X0 X1 X2 X3 X4 X5 X6 X7 = (b41 (k1_pay2 (F := F)) X0 X1 X2 X3 X4 X5 X6 X7) := by unfold bwdRun0.sl.r_41 b41; rw [eB, e9, e10, e11, e12, e36, e38]
  obtain ⟨U34, hU34⟩ : ∃ U, U = (b34 (k1_pay2 (F := F)) X0 X1 X3 X4 X5 X7) := ⟨_, rfl⟩
  rw [← hU34] at e34
  obtain ⟨U35, hU35⟩ : ∃ U, U = (b35 (k1_pay2 (F := F)) X0 X2 X3 X4 X5 X7) := ⟨_, rfl⟩
  rw [← hU35] at e35
  obtain ⟨U37, hU37⟩ : ∃ U, U = (b37 X1 X2 X3 X4 X5 X6 X7) := ⟨_, rfl⟩
  rw [← hU37] at e37
  obtain ⟨U39, hU39⟩ : ∃ U, U = (b39 (k1_pay2 (F := F)) X0 X1 X2 X3 X4 X5 X6 X7) := ⟨_, rfl⟩
  rw [← hU39] at e39
  obtain ⟨U40, hU40⟩ : ∃ U, U = (b40 (k1_pay2 (F := F)) X0 X1 X2 X3 X4 X5 X6 X7) := ⟨_, rfl⟩
  rw [← hU40] at e40
  obtain ⟨U41, hU41⟩ : ∃ U, U = (b41 (k1_pay2 (F := F)) X0 X1 X2 X3 X4 X5 X6 X7) := ⟨_, rfl⟩
  rw [← hU41] at e41
  have hj : (i 1).val = 0 := by have : (i 1).val < 1 := (i 1).isLt; omega
  have p0 : k1_off3 i 0#32 = ![(0 : Fin 4).val, 0, 0] := (Gen.k1_off3_eq i 0).trans (by rw [hj]; rfl)
  have p1 : k1_off3 i 1#32 = ![(1 : Fin 4).val, 0, 0] := (Gen.k1_off3_eq i 1).trans (by rw [hj]; rfl)
  have p2 : k1_off3 i 2#32 = ![(2 : Fin 4).val, 0, 0] := (Gen.k1_off3_eq i 2).trans (by rw [hj]; rfl)
  have p3 : k1_off3 i 3#32 = ![(3 : Fin 4).val, 0, 0] := (Gen.k1_off3_eq i 3).trans (by rw [hj]; rfl)
  have r0 : k1_off4 i 0#32 = ![(0 : Fin 4).val, 0, 0] := (Gen.k1_off4_eq i 0).trans (by rw [hj]; rfl)
  have r1 : k1_off4 i 1#32 = ![(1 : Fin 4).val, 0, 0] := (Gen.k1_off4_eq i 1).trans (by rw [hj]; rfl)
  have r2 : k1_off4 i 2#32 = ![(2 : Fin 4).val, 0, 0] := (Gen.k1_off4_eq i 2).trans (by rw [hj]; rfl)
  have r3 : k1_off4 i 3#32 = ![(3 : Fin 4).val, 0, 0] := (Gen.k1_off4_eq i 3).trans (by rw [hj]; rfl)
  have FW1 : M12.view.read (Elt F) (M12.view.writes (Elt F) M12.view.junk bwdRun0.sl.H12_1) = (k1_pay3 (F := F)) := by unfold bwdRun0.sl.H12_1; exact View.read_writes_full _ _ _ _ _
  have v371 : bwdRun0.sl.v371 c i M12 = win (k1_pay3 (F := F)) 0 :=
    (View.readAt_unit M12.view _ _ p0 (row_inb 0)).trans (congrArg (fun x => win x 0) FW1)
  have FW2 : M12.view.read (Elt F) (M12.view.writes (Elt F) M12.view.junk (bwdRun0.sl.H12_2 c i hi M0 M1 M2 M3 M4 M5 M6 M7 M12 MS X0 X1 X2 X3 X4 X5 X6 X7)) = (step (k1_pay3 (F := F)) 0 (rowWa U41 0)) := by
    unfold bwdRun0.sl.H12_2
    exact (View.read_writes_cons_put M12.view _ _ _ _ p0).trans (congrArg₂ (fun x w => VecWindow.put (s := S4x128x256) x ![(0 : Fin 4).val, 0, 0] S1x128x256.size w) FW1 (by ((try unfold bwdRun0.sl.r_42); (try unfold bwdRun0.sl.r_43); (try unfold bwdRun0.sl.r_44); (try unfold bwdRun0.sl.r_45); (try unfold bwdRun0.sl.r_46); (try unfold bwdRun0.sl.r_47); (try unfold bwdRun0.sl.r_48); (try unfold bwdRun0.sl.r_49); (try unfold bwdRun0.sl.r_50)); rw [e41, v371]; rfl))
  have v413 : bwdRun0.sl.v413 c i hi M0 M1 M2 M3 M4 M5 M6 M7 M12 MS X0 X1 X2 X3 X4 X5 X6 X7 = win (step (k1_pay3 (F := F)) 0 (rowWa U41 0)) 0 :=
    (View.readAt_unit M12.view _ _ p0 (row_inb 0)).trans (congrArg (fun x => win x 0) FW2)
  have FW3 : M12.view.read (Elt F) (M12.view.writes (Elt F) M12.view.junk (bwdRun0.sl.H12_3 c i hi M0 M1 M2 M3 M4 M5 M6 M7 M12 MS X0 X1 X2 X3 X4 X5 X6 X7)) = (step (step (k1_pay3 (F := F)) 0 (rowWa U41 0)) 0 (rowWb U41 0)) := by
    unfold bwdRun0.sl.H12_3
    exact (View.read_writes_cons_put M12.view _ _ _ _ p0).trans (congrArg₂ (fun x w => VecWindow.put (s := S4x128x256) x ![(0 : Fin 4).val, 0, 0] S1x128x256.size w) FW2 (by ((try unfold bwdRun0.sl.r_42); (try unfold bwdRun0.sl.r_43); (try unfold bwdRun0.sl.r_44); (try unfold bwdRun0.sl.r_45); (try unfold bwdRun0.sl.r_46); (try unfold bwdRun0.sl.r_47); (try unfold bwdRun0.sl.r_48); (try unfold bwdRun0.sl.r_49); (try unfold bwdRun0.sl.r_50)); rw [e41, v413]; rfl))
  have v455 : bwdRun0.sl.v455 c i hi M0 M1 M2 M3 M4 M5 M6 M7 M12 MS X0 X1 X2 X3 X4 X5 X6 X7 = win (step (step (k1_pay3 (F := F)) 0 (rowWa U41 0)) 0 (rowWb U41 0)) 1 :=
    (View.readAt_unit M12.view _ _ p1 (row_inb 1)).trans (congrArg (fun x => win x 1) FW3)
  have FW4 : M12.view.read (Elt F) (M12.view.writes (Elt F) M12.view.junk (bwdRun0.sl.H12_4 c i hi M0 M1 M2 M3 M4 M5 M6 M7 M12 MS X0 X1 X2 X3 X4 X5 X6 X7)) = (step (step (step (k1_pay3 (F := F)) 0 (rowWa U41 0)) 0 (rowWb U41 0)) 1 (rowWa U41 1)) := by
    unfold bwdRun0.sl.H12_4
    exact (View.read_writes_cons_put M12.view _ _ _ _ p1).trans (congrArg₂ (fun x w => VecWindow.put (s := S4x128x256) x ![(1 : Fin 4).val, 0, 0] S1x128x256.size w) FW3 (by ((try unfold bwdRun0.sl.r_42); (try unfold bwdRun0.sl.r_43); (try unfold bwdRun0.sl.r_44); (try unfold bwdRun0.sl.r_45); (try unfold bwdRun0.sl.r_46); (try unfold bwdRun0.sl.r_47); (try unfold bwdRun0.sl.r_48); (try unfold bwdRun0.sl.r_49); (try unfold bwdRun0.sl.r_50)); rw [e41, v455]; rfl))
  have v497 : bwdRun0.sl.v497 c i hi M0 M1 M2 M3 M4 M5 M6 M7 M12 MS X0 X1 X2 X3 X4 X5 X6 X7 = win (step (step (step (k1_pay3 (F := F)) 0 (rowWa U41 0)) 0 (rowWb U41 0)) 1 (rowWa U41 1)) 1 :=
    (View.readAt_unit M12.view _ _ p1 (row_inb 1)).trans (congrArg (fun x => win x 1) FW4)
  have FW5 : M12.view.read (Elt F) (M12.view.writes (Elt F) M12.view.junk (bwdRun0.sl.H12_5 c i hi M0 M1 M2 M3 M4 M5 M6 M7 M12 MS X0 X1 X2 X3 X4 X5 X6 X7)) = (step (step (step (step (k1_pay3 (F := F)) 0 (rowWa U41 0)) 0 (rowWb U41 0)) 1 (rowWa U41 1)) 1 (rowWb U41 1)) := by
    unfold bwdRun0.sl.H12_5
    exact (View.read_writes_cons_put M12.view _ _ _ _ p1).trans (congrArg₂ (fun x w => VecWindow.put (s := S4x128x256) x ![(1 : Fin 4).val, 0, 0] S1x128x256.size w) FW4 (by ((try unfold bwdRun0.sl.r_42); (try unfold bwdRun0.sl.r_43); (try unfold bwdRun0.sl.r_44); (try unfold bwdRun0.sl.r_45); (try unfold bwdRun0.sl.r_46); (try unfold bwdRun0.sl.r_47); (try unfold bwdRun0.sl.r_48); (try unfold bwdRun0.sl.r_49); (try unfold bwdRun0.sl.r_50)); rw [e41, v497]; rfl))
  have v539 : bwdRun0.sl.v539 c i hi M0 M1 M2 M3 M4 M5 M6 M7 M12 MS X0 X1 X2 X3 X4 X5 X6 X7 = win (step (step (step (step (k1_pay3 (F := F)) 0 (rowWa U41 0)) 0 (rowWb U41 0)) 1 (rowWa U41 1)) 1 (rowWb U41 1)) 2 :=
    (View.readAt_unit M12.view _ _ p2 (row_inb 2)).trans (congrArg (fun x => win x 2) FW5)
  have FW6 : M12.view.read (Elt F) (M12.view.writes (Elt F) M12.view.junk (bwdRun0.sl.H12_6 c i hi M0 M1 M2 M3 M4 M5 M6 M7 M12 MS X0 X1 X2 X3 X4 X5 X6 X7)) = (step (step (step (step (step (k1_pay3 (F := F)) 0 (rowWa U41 0)) 0 (rowWb U41 0)) 1 (rowWa U41 1)) 1 (rowWb U41 1)) 2 (rowWa U41 2)) := by
    unfold bwdRun0.sl.H12_6
    exact (View.read_writes_cons_put M12.view _ _ _ _ p2).trans (congrArg₂ (fun x w => VecWindow.put (s := S4x128x256) x ![(2 : Fin 4).val, 0, 0] S1x128x256.size w) FW5 (by ((try unfold bwdRun0.sl.r_42); (try unfold bwdRun0.sl.r_43); (try unfold bwdRun0.sl.r_44); (try unfold bwdRun0.sl.r_45); (try unfold bwdRun0.sl.r_46); (try unfold bwdRun0.sl.r_47); (try unfold bwdRun0.sl.r_48); (try unfold bwdRun0.sl.r_49); (try unfold bwdRun0.sl.r_50)); rw [e41, v539]; rfl))
  have v581 : bwdRun0.sl.v581 c i hi M0 M1 M2 M3 M4 M5 M6 M7 M12 MS X0 X1 X2 X3 X4 X5 X6 X7 = win (step (step (step (step (step (k1_pay3 (F := F)) 0 (rowWa U41 0)) 0 (rowWb U41 0)) 1 (rowWa U41 1)) 1 (rowWb U41 1)) 2 (rowWa U41 2)) 2 :=
    (View.readAt_unit M12.view _ _ p2 (row_inb 2)).trans (congrArg (fun x => win x 2) FW6)
  have FW7 : M12.view.read (Elt F) (M12.view.writes (Elt F) M12.view.junk (bwdRun0.sl.H12_7 c i hi M0 M1 M2 M3 M4 M5 M6 M7 M12 MS X0 X1 X2 X3 X4 X5 X6 X7)) = (step (step (step (step (step (step (k1_pay3 (F := F)) 0 (rowWa U41 0)) 0 (rowWb U41 0)) 1 (rowWa U41 1)) 1 (rowWb U41 1)) 2 (rowWa U41 2)) 2 (rowWb U41 2)) := by
    unfold bwdRun0.sl.H12_7
    exact (View.read_writes_cons_put M12.view _ _ _ _ p2).trans (congrArg₂ (fun x w => VecWindow.put (s := S4x128x256) x ![(2 : Fin 4).val, 0, 0] S1x128x256.size w) FW6 (by ((try unfold bwdRun0.sl.r_42); (try unfold bwdRun0.sl.r_43); (try unfold bwdRun0.sl.r_44); (try unfold bwdRun0.sl.r_45); (try unfold bwdRun0.sl.r_46); (try unfold bwdRun0.sl.r_47); (try unfold bwdRun0.sl.r_48); (try unfold bwdRun0.sl.r_49); (try unfold bwdRun0.sl.r_50)); rw [e41, v581]; rfl))
  have v623 : bwdRun0.sl.v623 c i hi M0 M1 M2 M3 M4 M5 M6 M7 M12 MS X0 X1 X2 X3 X4 X5 X6 X7 = win (step (step (step (step (step (step (k1_pay3 (F := F)) 0 (rowWa U41 0)) 0 (rowWb U41 0)) 1 (rowWa U41 1)) 1 (rowWb U41 1)) 2 (rowWa U41 2)) 2 (rowWb U41 2)) 3 :=
    (View.readAt_unit M12.view _ _ p3 (row_inb 3)).trans (congrArg (fun x => win x 3) FW7)
  have FW8 : M12.view.read (Elt F) (M12.view.writes (Elt F) M12.view.junk (bwdRun0.sl.H12_8 c i hi M0 M1 M2 M3 M4 M5 M6 M7 M12 MS X0 X1 X2 X3 X4 X5 X6 X7)) = (step (step (step (step (step (step (step (k1_pay3 (F := F)) 0 (rowWa U41 0)) 0 (rowWb U41 0)) 1 (rowWa U41 1)) 1 (rowWb U41 1)) 2 (rowWa U41 2)) 2 (rowWb U41 2)) 3 (rowWa U41 3)) := by
    unfold bwdRun0.sl.H12_8
    exact (View.read_writes_cons_put M12.view _ _ _ _ p3).trans (congrArg₂ (fun x w => VecWindow.put (s := S4x128x256) x ![(3 : Fin 4).val, 0, 0] S1x128x256.size w) FW7 (by ((try unfold bwdRun0.sl.r_42); (try unfold bwdRun0.sl.r_43); (try unfold bwdRun0.sl.r_44); (try unfold bwdRun0.sl.r_45); (try unfold bwdRun0.sl.r_46); (try unfold bwdRun0.sl.r_47); (try unfold bwdRun0.sl.r_48); (try unfold bwdRun0.sl.r_49); (try unfold bwdRun0.sl.r_50)); rw [e41, v623]; rfl))
  have v665 : bwdRun0.sl.v665 c i hi M0 M1 M2 M3 M4 M5 M6 M7 M12 MS X0 X1 X2 X3 X4 X5 X6 X7 = win (step (step (step (step (step (step (step (k1_pay3 (F := F)) 0 (rowWa U41 0)) 0 (rowWb U41 0)) 1 (rowWa U41 1)) 1 (rowWb U41 1)) 2 (rowWa U41 2)) 2 (rowWb U41 2)) 3 (rowWa U41 3)) 3 :=
    (View.readAt_unit M12.view _ _ p3 (row_inb 3)).trans (congrArg (fun x => win x 3) FW8)
  have FB1 : M13.view.read (Elt F) (M13.view.writes (Elt F) M13.view.junk bwdRun0.sl.H13_1) = (k1_pay4 (F := F)) := by unfold bwdRun0.sl.H13_1; exact View.read_writes_full _ _ _ _ _
  have v383 : bwdRun0.sl.v383 c i M13 = win (k1_pay4 (F := F)) 0 :=
    (View.readAt_unit M13.view _ _ r0 (row_inb 0)).trans (congrArg (fun x => win x 0) FB1)
  have FB2 : M13.view.read (Elt F) (M13.view.writes (Elt F) M13.view.junk (bwdRun0.sl.H13_2 c i hi M0 M1 M2 M3 M4 M5 M6 M7 M13 MS X0 X1 X2 X3 X4 X5 X6 X7)) = (step (k1_pay4 (F := F)) 0 (rowBa U39 0)) := by
    unfold bwdRun0.sl.H13_2
    exact (View.read_writes_cons_put M13.view _ _ _ _ r0).trans (congrArg₂ (fun x w => VecWindow.put (s := S4x1x256) x ![(0 : Fin 4).val, 0, 0] S1x1x256.size w) FB1 (by ((try unfold bwdRun0.sl.r_42); (try unfold bwdRun0.sl.r_43); (try unfold bwdRun0.sl.r_44); (try unfold bwdRun0.sl.r_45); (try unfold bwdRun0.sl.r_46); (try unfold bwdRun0.sl.r_47); (try unfold bwdRun0.sl.r_48); (try unfold bwdRun0.sl.r_49); (try unfold bwdRun0.sl.r_50)); rw [e39, v383]; rfl))
  have v425 : bwdRun0.sl.v425 c i hi M0 M1 M2 M3 M4 M5 M6 M7 M13 MS X0 X1 X2 X3 X4 X5 X6 X7 = win (step (k1_pay4 (F := F)) 0 (rowBa U39 0)) 0 :=
    (View.readAt_unit M13.view _ _ r0 (row_inb 0)).trans (congrArg (fun x => win x 0) FB2)
  have FB3 : M13.view.read (Elt F) (M13.view.writes (Elt F) M13.view.junk (bwdRun0.sl.H13_3 c i hi M0 M1 M2 M3 M4 M5 M6 M7 M13 MS X0 X1 X2 X3 X4 X5 X6 X7)) = (step (step (k1_pay4 (F := F)) 0 (rowBa U39 0)) 0 (rowBb U39 0)) := by
    unfold bwdRun0.sl.H13_3
    exact (View.read_writes_cons_put M13.view _ _ _ _ r0).trans (congrArg₂ (fun x w => VecWindow.put (s := S4x1x256) x ![(0 : Fin 4).val, 0, 0] S1x1x256.size w) FB2 (by ((try unfold bwdRun0.sl.r_42); (try unfold bwdRun0.sl.r_43); (try unfold bwdRun0.sl.r_44); (try unfold bwdRun0.sl.r_45); (try unfold bwdRun0.sl.r_46); (try unfold bwdRun0.sl.r_47); (try unfold bwdRun0.sl.r_48); (try unfold bwdRun0.sl.r_49); (try unfold bwdRun0.sl.r_50)); rw [e39, v425]; rfl))
  have v467 : bwdRun0.sl.v467 c i hi M0 M1 M2 M3 M4 M5 M6 M7 M13 MS X0 X1 X2 X3 X4 X5 X6 X7 = win (step (step (k1_pay4 (F := F)) 0 (rowBa U39 0)) 0 (rowBb U39 0)) 1 :=
    (View.readAt_unit M13.view _ _ r1 (row_inb 1)).trans (congrArg (fun x => win x 1) FB3)
  have FB4 : M13.view.read (Elt F) (M13.view.writes (Elt F) M13.view.junk (bwdRun0.sl.H13_4 c i hi M0 M1 M2 M3 M4 M5 M6 M7 M13 MS X0 X1 X2 X3 X4 X5 X6 X7)) = (step (step (step (k1_pay4 (F := F)) 0 (rowBa U39 0)) 0 (rowBb U39 0)) 1 (rowBa U39 1)) := by
    unfold bwdRun0.sl.H13_4
    exact (View.read_writes_cons_put M13.view _ _ _ _ r1).trans (congrArg₂ (fun x w => VecWindow.put (s := S4x1x256) x ![(1 : Fin 4).val, 0, 0] S1x1x256.size w) FB3 (by ((try unfold bwdRun0.sl.r_42); (try unfold bwdRun0.sl.r_43); (try unfold bwdRun0.sl.r_44); (try unfold bwdRun0.sl.r_45); (try unfold bwdRun0.sl.r_46); (try unfold bwdRun0.sl.r_47); (try unfold bwdRun0.sl.r_48); (try unfold bwdRun0.sl.r_49); (try unfold bwdRun0.sl.r_50)); rw [e39, v467]; rfl))
  have v509 : bwdRun0.sl.v509 c i hi M0 M1 M2 M3 M4 M5 M6 M7 M13 MS X0 X1 X2 X3 X4 X5 X6 X7 = win (step (step (step (k1_pay4 (F := F)) 0 (rowBa U39 0)) 0 (rowBb U39 0)) 1 (rowBa U39 1)) 1 :=
    (View.readAt_unit M13.view _ _ r1 (row_inb 1)).trans (congrArg (fun x => win x 1) FB4)
  have FB5 : M13.view.read (Elt F) (M13.view.writes (Elt F) M13.view.junk (bwdRun0.sl.H13_5 c i hi M0 M1 M2 M3 M4 M5 M6 M7 M13 MS X0 X1 X2 X3 X4 X5 X6 X7)) = (step (step (step (step (k1_pay4 (F := F)) 0 (rowBa U39 0)) 0 (rowBb U39 0)) 1 (rowBa U39 1)) 1 (rowBb U39 1)) := by
    unfold bwdRun0.sl.H13_5
    exact (View.read_writes_cons_put M13.view _ _ _ _ r1).trans (congrArg₂ (fun x w => VecWindow.put (s := S4x1x256) x ![(1 : Fin 4).val, 0, 0] S1x1x256.size w) FB4 (by ((try unfold bwdRun0.sl.r_42); (try unfold bwdRun0.sl.r_43); (try unfold bwdRun0.sl.r_44); (try unfold bwdRun0.sl.r_45); (try unfold bwdRun0.sl.r_46); (try unfold bwdRun0.sl.r_47); (try unfold bwdRun0.sl.r_48); (try unfold bwdRun0.sl.r_49); (try unfold bwdRun0.sl.r_50)); rw [e39, v509]; rfl))
  have v551 : bwdRun0.sl.v551 c i hi M0 M1 M2 M3 M4 M5 M6 M7 M13 MS X0 X1 X2 X3 X4 X5 X6 X7 = win (step (step (step (step (k1_pay4 (F := F)) 0 (rowBa U39 0)) 0 (rowBb U39 0)) 1 (rowBa U39 1)) 1 (rowBb U39 1)) 2 :=
    (View.readAt_unit M13.view _ _ r2 (row_inb 2)).trans (congrArg (fun x => win x 2) FB5)
  have FB6 : M13.view.read (Elt F) (M13.view.writes (Elt F) M13.view.junk (bwdRun0.sl.H13_6 c i hi M0 M1 M2 M3 M4 M5 M6 M7 M13 MS X0 X1 X2 X3 X4 X5 X6 X7)) = (step (step (step (step (step (k1_pay4 (F := F)) 0 (rowBa U39 0)) 0 (rowBb U39 0)) 1 (rowBa U39 1)) 1 (rowBb U39 1)) 2 (rowBa U39 2)) := by
    unfold bwdRun0.sl.H13_6
    exact (View.read_writes_cons_put M13.view _ _ _ _ r2).trans (congrArg₂ (fun x w => VecWindow.put (s := S4x1x256) x ![(2 : Fin 4).val, 0, 0] S1x1x256.size w) FB5 (by ((try unfold bwdRun0.sl.r_42); (try unfold bwdRun0.sl.r_43); (try unfold bwdRun0.sl.r_44); (try unfold bwdRun0.sl.r_45); (try unfold bwdRun0.sl.r_46); (try unfold bwdRun0.sl.r_47); (try unfold bwdRun0.sl.r_48); (try unfold bwdRun0.sl.r_49); (try unfold bwdRun0.sl.r_50)); rw [e39, v551]; rfl))
  have v593 : bwdRun0.sl.v593 c i hi M0 M1 M2 M3 M4 M5 M6 M7 M13 MS X0 X1 X2 X3 X4 X5 X6 X7 = win (step (step (step (step (step (k1_pay4 (F := F)) 0 (rowBa U39 0)) 0 (rowBb U39 0)) 1 (rowBa U39 1)) 1 (rowBb U39 1)) 2 (rowBa U39 2)) 2 :=
    (View.readAt_unit M13.view _ _ r2 (row_inb 2)).trans (congrArg (fun x => win x 2) FB6)
  have FB7 : M13.view.read (Elt F) (M13.view.writes (Elt F) M13.view.junk (bwdRun0.sl.H13_7 c i hi M0 M1 M2 M3 M4 M5 M6 M7 M13 MS X0 X1 X2 X3 X4 X5 X6 X7)) = (step (step (step (step (step (step (k1_pay4 (F := F)) 0 (rowBa U39 0)) 0 (rowBb U39 0)) 1 (rowBa U39 1)) 1 (rowBb U39 1)) 2 (rowBa U39 2)) 2 (rowBb U39 2)) := by
    unfold bwdRun0.sl.H13_7
    exact (View.read_writes_cons_put M13.view _ _ _ _ r2).trans (congrArg₂ (fun x w => VecWindow.put (s := S4x1x256) x ![(2 : Fin 4).val, 0, 0] S1x1x256.size w) FB6 (by ((try unfold bwdRun0.sl.r_42); (try unfold bwdRun0.sl.r_43); (try unfold bwdRun0.sl.r_44); (try unfold bwdRun0.sl.r_45); (try unfold bwdRun0.sl.r_46); (try unfold bwdRun0.sl.r_47); (try unfold bwdRun0.sl.r_48); (try unfold bwdRun0.sl.r_49); (try unfold bwdRun0.sl.r_50)); rw [e39, v593]; rfl))
  have v635 : bwdRun0.sl.v635 c i hi M0 M1 M2 M3 M4 M5 M6 M7 M13 MS X0 X1 X2 X3 X4 X5 X6 X7 = win (step (step (step (step (step (step (k1_pay4 (F := F)) 0 (rowBa U39 0)) 0 (rowBb U39 0)) 1 (rowBa U39 1)) 1 (rowBb U39 1)) 2 (rowBa U39 2)) 2 (rowBb U39 2)) 3 :=
    (View.readAt_unit M13.view _ _ r3 (row_inb 3)).trans (congrArg (fun x => win x 3) FB7)
  have FB8 : M13.view.read (Elt F) (M13.view.writes (Elt F) M13.view.junk (bwdRun0.sl.H13_8 c i hi M0 M1 M2 M3 M4 M5 M6 M7 M13 MS X0 X1 X2 X3 X4 X5 X6 X7)) = (step (step (step (step (step (step (step (k1_pay4 (F := F)) 0 (rowBa U39 0)) 0 (rowBb U39 0)) 1 (rowBa U39 1)) 1 (rowBb U39 1)) 2 (rowBa U39 2)) 2 (rowBb U39 2)) 3 (rowBa U39 3)) := by
    unfold bwdRun0.sl.H13_8
    exact (View.read_writes_cons_put M13.view _ _ _ _ r3).trans (congrArg₂ (fun x w => VecWindow.put (s := S4x1x256) x ![(3 : Fin 4).val, 0, 0] S1x1x256.size w) FB7 (by ((try unfold bwdRun0.sl.r_42); (try unfold bwdRun0.sl.r_43); (try unfold bwdRun0.sl.r_44); (try unfold bwdRun0.sl.r_45); (try unfold bwdRun0.sl.r_46); (try unfold bwdRun0.sl.r_47); (try unfold bwdRun0.sl.r_48); (try unfold bwdRun0.sl.r_49); (try unfold bwdRun0.sl.r_50)); rw [e39, v635]; rfl))
  have v677 : bwdRun0.sl.v677 c i hi M0 M1 M2 M3 M4 M5 M6 M7 M13 MS X0 X1 X2 X3 X4 X5 X6 X7 = win (step (step (step (step (step (step (step (k1_pay4 (F := F)) 0 (rowBa U39 0)) 0 (rowBb U39 0)) 1 (rowBa U39 1)) 1 (rowBb U39 1)) 2 (rowBa U39 2)) 2 (rowBb U39 2)) 3 (rowBa U39 3)) 3 :=
    (View.readAt_unit M13.view _ _ r3 (row_inb 3)).trans (congrArg (fun x => win x 3) FB8)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]
  · iexists _; isplitr; swap; · iexact HS
    ipureintro
    rw [e33]; exact View.read_writes_full _ _ _ _ _
  isplitl [H8]
  · iexists _; isplitr; swap; · iexact H8
    ipureintro
    have hc : ∀ y, ∃ p ∈ bwdRun0.sl.H8_8 c M1 M2 M3 M4 M5 M6 M7 X1 X2 X3 X4 X5 X6 X7, y ∈ p.1.set := fun y => View.cover_of_tiled (bwdRun0.sl.H8_8 c M1 M2 M3 M4 M5 M6 M7 X1 X2 X3 X4 X5 X6 X7) S1x64x256.size (by rfl) y
    rw [View.read_writes_eq_canon _ _ _ hc]
    unfold bwdRun0.sl.H8_8 bDq; rw [← hU37]
    funext y; canon_tiles x h
    all_goals ((try unfold bwdRun0.sl.r_42); (try unfold bwdRun0.sl.r_43); (try unfold bwdRun0.sl.r_44); (try unfold bwdRun0.sl.r_45); (try unfold bwdRun0.sl.r_46); (try unfold bwdRun0.sl.r_47); (try unfold bwdRun0.sl.r_48); (try unfold bwdRun0.sl.r_49); (try unfold bwdRun0.sl.r_50))
    all_goals simp only [k1_pay83, k1_pay89, k1_pay95, k1_pay96, k1_pay102, k1_pay107, k1_pay112, k1_pay119, k1_pay124, e37, shapeCast_comp, shapeCast_self, cast_trunc, trunc_slice]
    all_goals exact extractStridedSlice_apply _ _ _ _ _ (fun a => by match a with | 0 => simp [ix3]; omega | 1 => simp [ix3]; omega | 2 => simp [ix3]; omega)
  isplitl [H9]
  · iexists _; isplitr; swap; · iexact H9
    ipureintro
    have hc : ∀ y, ∃ p ∈ bwdRun0.sl.H9_8 c i hi M0 M2 M3 M4 M5 M7 MS X0 X2 X3 X4 X5 X7, y ∈ p.1.set := fun y => View.cover_of_tiled (bwdRun0.sl.H9_8 c i hi M0 M2 M3 M4 M5 M7 MS X0 X2 X3 X4 X5 X7) S1x64x256.size (by rfl) y
    rw [View.read_writes_eq_canon _ _ _ hc]
    unfold bwdRun0.sl.H9_8 bDk; rw [← hU35]
    funext y; canon_tiles x h
    all_goals ((try unfold bwdRun0.sl.r_42); (try unfold bwdRun0.sl.r_43); (try unfold bwdRun0.sl.r_44); (try unfold bwdRun0.sl.r_45); (try unfold bwdRun0.sl.r_46); (try unfold bwdRun0.sl.r_47); (try unfold bwdRun0.sl.r_48); (try unfold bwdRun0.sl.r_49); (try unfold bwdRun0.sl.r_50))
    all_goals simp only [k1_pay84, k1_pay90, k1_pay91, k1_pay97, k1_pay103, k1_pay108, k1_pay113, k1_pay120, k1_pay125, e35, shapeCast_comp, shapeCast_self, cast_trunc, trunc_slice]
    all_goals exact extractStridedSlice_apply _ _ _ _ _ (fun a => by match a with | 0 => simp [ix3]; omega | 1 => simp [ix3]; omega | 2 => simp [ix3]; omega)
  isplitl [H10]
  · iexists _; isplitr; swap; · iexact H10
    ipureintro
    have hc : ∀ y, ∃ p ∈ bwdRun0.sl.H10_8 c i hi M0 M1 M3 M4 M5 M7 MS X0 X1 X3 X4 X5 X7, y ∈ p.1.set := fun y => View.cover_of_tiled (bwdRun0.sl.H10_8 c i hi M0 M1 M3 M4 M5 M7 MS X0 X1 X3 X4 X5 X7) S1x64x512.size (by rfl) y
    rw [View.read_writes_eq_canon _ _ _ hc]
    unfold bwdRun0.sl.H10_8 bDv; rw [← hU34]
    funext y; canon_tiles x h
    all_goals ((try unfold bwdRun0.sl.r_42); (try unfold bwdRun0.sl.r_43); (try unfold bwdRun0.sl.r_44); (try unfold bwdRun0.sl.r_45); (try unfold bwdRun0.sl.r_46); (try unfold bwdRun0.sl.r_47); (try unfold bwdRun0.sl.r_48); (try unfold bwdRun0.sl.r_49); (try unfold bwdRun0.sl.r_50))
    all_goals simp only [k1_pay85, k1_pay86, k1_pay92, k1_pay98, k1_pay104, k1_pay109, k1_pay114, k1_pay121, k1_pay126, k1_pay127, e34, shapeCast_comp, shapeCast_self, cast_trunc, trunc_slice]
    all_goals exact extractStridedSlice_apply _ _ _ _ _ (fun a => by match a with | 0 => simp [ix3]; omega | 1 => simp [ix3]; omega | 2 => simp [ix3]; omega)
  isplitl [H11]
  · iexists _; isplitr; swap; · iexact H11
    ipureintro
    have hc : ∀ y, ∃ p ∈ bwdRun0.sl.H11_2 c i hi M0 M1 M2 M3 M4 M5 M6 M7 MS X0 X1 X2 X3 X4 X5 X6 X7, y ∈ p.1.set := fun y => View.cover_of_tiled (bwdRun0.sl.H11_2 c i hi M0 M1 M2 M3 M4 M5 M6 M7 MS X0 X1 X2 X3 X4 X5 X6 X7) S1x64x128.size (by rfl) y
    rw [View.read_writes_eq_canon _ _ _ hc]
    unfold bwdRun0.sl.H11_2 sumHeads; rw [← hU40]
    funext y; canon_tiles x h
    all_goals ((try unfold bwdRun0.sl.r_42); (try unfold bwdRun0.sl.r_43); (try unfold bwdRun0.sl.r_44); (try unfold bwdRun0.sl.r_45); (try unfold bwdRun0.sl.r_46); (try unfold bwdRun0.sl.r_47); (try unfold bwdRun0.sl.r_48); (try unfold bwdRun0.sl.r_49); (try unfold bwdRun0.sl.r_50))
    all_goals simp only [k1_pay130, k1_pay131, k1_pay133, k1_pay134, e40, shapeCast_comp, shapeCast_self, cast_addf, cast_broadcast]
    all_goals refine addf_at (addf_at (addf_at (addf_at rfl ?_) ?_) ?_) ?_
    all_goals exact extractStridedSlice_apply _ _ _ _ _ (fun a => by match a with | 0 => simp [ix3]; omega | 1 => simp [ix3]; omega | 2 => simp [ix3]; omega)
  isplitl [H12]
  · iexists _; isplitr; swap; · iexact H12
    ipureintro
    rw [← hU41]
    exact (View.read_writes_cons_put M12.view _ _ _ _ p3).trans ((congrArg₂ (fun x w => VecWindow.put (s := S4x128x256) x ![(3 : Fin 4).val, 0, 0] S1x128x256.size w) FW8
      (show _ = rowWb U41 3 _ by rw [e41, v665]; rfl)).trans (ext_win fun k => (steps_win (k1_pay3 (F := F)) (rowWa U41) (rowWb U41) k).trans (rowsW (k1_pay3 (F := F)) U41 k)))
  iexists _; isplitr; swap; · iexact H13
  ipureintro
  rw [← hU39]
  exact (View.read_writes_cons_put M13.view _ _ _ _ r3).trans ((congrArg₂ (fun x w => VecWindow.put (s := S4x1x256) x ![(3 : Fin 4).val, 0, 0] S1x1x256.size w) FB8
    (show _ = rowBb U39 3 _ by rw [e39, v677]; rfl)).trans (ext_win fun k => (steps_win (k1_pay4 (F := F)) (rowBa U39) (rowBb U39) k).trans (rowsB (k1_pay4 (F := F)) U39 k)))

end Cert.KernelIdeal.Hand

end

end
-- ==== Proof.BwdRunIdeal.lean ====
module

public import proofs.«01_k».proof.Proof.BwdBodyIdeal
public import Idealize.ShloMosaic.Lib.Pipeline.Frame
public import Idealize.ShloMosaic.Lib.Pipeline.FrameBody

@[expose] public section

set_option maxRecDepth 16384

noncomputable section

namespace Cert.KernelIdeal.Hand

open Cert.KernelIdeal Cert.KernelIdeal.Gen Cert.Stacks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (UR sig nD τ) ℕ

/-! # The backward call at every point of its grid -/

/-- The buffers no window of the call stages: its scratch at anything, and the rest. -/
theorem scopedRest1_own (c : Dev nD) :
    (Pipeline.scopedRest (Ix := Unit) (Name := ℕ) (U := UR sig nD τ) (Lvl := ℕ) (Val := Elt F) spec1 c : sProp 𝕄)
      = iprop((∃ f, owns (c : Thread nD τ) (Memref.whole cc1_scratch0) fullShare f)
        ∗ Pipeline.scopedRestBut (Ix := Unit) (Name := ℕ) (U := UR sig nD τ) (Lvl := ℕ) (Val := Elt F) spec1 c [cc1_scratch0]) := by
  simp only [owns_whole]
  exact Pipeline.scopedRest_split_of_list spec1 c [cc1_scratch0] (by decide) (by decide)

/-- Window `w`'s block of its array at point `t`, the arrays being at `V`. -/
def blk1 (V : Valuation τ sig (Elt F)) (w : Fin cfg1.W) (t : Fin cfg1.N) : ((cfg1.win w).xblock (cfg1.grid.coords t)).Idx → Elt F (cfg1.win w).elt :=
  ((cfg1.win w).blk t).view.read (Elt F) (V (Pipeline.arrRef spec1 w))

/-- The state's gradient before point `n` of the backward pass (its chunks are taken last to first). -/
def st1 (V : Valuation τ sig (Elt F)) : ℕ → S1x8x512x256.Idx → Elt F .f32
  | 0 => k1_pay2
  | n + 1 => if h : n < cfg1.N then bState (st1 V n) (blk1 V 0 ⟨n, h⟩) (blk1 V 3 ⟨n, h⟩) (blk1 V 4 ⟨n, h⟩) (blk1 V 5 ⟨n, h⟩) (blk1 V 7 ⟨n, h⟩) else st1 V n
theorem st1_succ (V : Valuation τ sig (Elt F)) (t : Fin cfg1.N) :
    st1 V (t.val + 1) = bState (st1 V t.val) (blk1 V 0 t) (blk1 V 3 t) (blk1 V 4 t) (blk1 V 5 t) (blk1 V 7 t) := by
  show (if h : t.val < cfg1.N then _ else _) = _
  rw [dif_pos t.isLt]

/-- The gate matrix's gradient before point `n`. -/
def ac1_12 (V : Valuation τ sig (Elt F)) : ℕ → S4x128x256.Idx → Elt F .f32
  | 0 => k1_pay3
  | n + 1 => if h : n < cfg1.N then accW (ac1_12 V n) (b41 (st1 V n) (blk1 V 0 ⟨n, h⟩) (blk1 V 1 ⟨n, h⟩) (blk1 V 2 ⟨n, h⟩) (blk1 V 3 ⟨n, h⟩) (blk1 V 4 ⟨n, h⟩) (blk1 V 5 ⟨n, h⟩) (blk1 V 6 ⟨n, h⟩) (blk1 V 7 ⟨n, h⟩)) else ac1_12 V n
theorem ac1_12_succ (V : Valuation τ sig (Elt F)) (t : Fin cfg1.N) :
    ac1_12 V (t.val + 1) = accW (ac1_12 V t.val) (b41 (st1 V t.val) (blk1 V 0 t) (blk1 V 1 t) (blk1 V 2 t) (blk1 V 3 t) (blk1 V 4 t) (blk1 V 5 t) (blk1 V 6 t) (blk1 V 7 t)) := by
  show (if h : t.val < cfg1.N then _ else _) = _
  rw [dif_pos t.isLt]

/-- The gate offset's gradient before point `n`. -/
def ac1_13 (V : Valuation τ sig (Elt F)) : ℕ → S4x1x256.Idx → Elt F .f32
  | 0 => k1_pay4
  | n + 1 => if h : n < cfg1.N then accB (ac1_13 V n) (b39 (st1 V n) (blk1 V 0 ⟨n, h⟩) (blk1 V 1 ⟨n, h⟩) (blk1 V 2 ⟨n, h⟩) (blk1 V 3 ⟨n, h⟩) (blk1 V 4 ⟨n, h⟩) (blk1 V 5 ⟨n, h⟩) (blk1 V 6 ⟨n, h⟩) (blk1 V 7 ⟨n, h⟩)) else ac1_13 V n
theorem ac1_13_succ (V : Valuation τ sig (Elt F)) (t : Fin cfg1.N) :
    ac1_13 V (t.val + 1) = accB (ac1_13 V t.val) (b39 (st1 V t.val) (blk1 V 0 t) (blk1 V 1 t) (blk1 V 2 t) (blk1 V 3 t) (blk1 V 4 t) (blk1 V 5 t) (blk1 V 6 t) (blk1 V 7 t)) := by
  show (if h : t.val < cfg1.N then _ else _) = _
  rw [dif_pos t.isLt]

/-- What the call holds beside its windows before point `n`: its scratch, at anything before the first point and then at
    the state, and every other buffer no window stages. -/
def Phi1 (V : Valuation τ sig (Elt F)) (c : Dev nD) : (n : ℕ) → n ≤ cfg1.N → sProp 𝕄
  | 0, _ => Pipeline.scopedRest (Ix := Unit) (Name := ℕ) (U := UR sig nD τ) (Lvl := ℕ) (Val := Elt F) spec1 c
  | n + 1, _ => iprop(owns (c : Thread nD τ) (Memref.whole cc1_scratch0) fullShare (st1 V (n + 1))
      ∗ Pipeline.scopedRestBut (Ix := Unit) (Name := ℕ) (U := UR sig nD τ) (Lvl := ℕ) (Val := Elt F) spec1 c [cc1_scratch0])

/-- The call's proof data, its arrays at `V c`: every input window is left as fetched, every output window at what the body
    computes, nothing is owed. -/
def dat1 (V : Dev nD → Valuation τ sig (Elt F)) (c : Dev nD) : Dat τ (Elt F) Unit ℕ (UR sig nD τ) ℕ cfg1 c where
  A w := V c (Pipeline.arrRef spec1 w)
  after w t := match w with
    | 0 => blk1 (V c) 0 t
    | 1 => blk1 (V c) 1 t
    | 2 => blk1 (V c) 2 t
    | 3 => blk1 (V c) 3 t
    | 4 => blk1 (V c) 4 t
    | 5 => blk1 (V c) 5 t
    | 6 => blk1 (V c) 6 t
    | 7 => blk1 (V c) 7 t
    | 8 => bDq (blk1 (V c) 1 t) (blk1 (V c) 2 t) (blk1 (V c) 3 t) (blk1 (V c) 4 t) (blk1 (V c) 5 t) (blk1 (V c) 6 t) (blk1 (V c) 7 t)
    | 9 => bDk (st1 (V c) t.val) (blk1 (V c) 0 t) (blk1 (V c) 2 t) (blk1 (V c) 3 t) (blk1 (V c) 4 t) (blk1 (V c) 5 t) (blk1 (V c) 7 t)
    | 10 => bDv (st1 (V c) t.val) (blk1 (V c) 0 t) (blk1 (V c) 1 t) (blk1 (V c) 3 t) (blk1 (V c) 4 t) (blk1 (V c) 5 t) (blk1 (V c) 7 t)
    | 11 => sumHeads (b40 (st1 (V c) t.val) (blk1 (V c) 0 t) (blk1 (V c) 1 t) (blk1 (V c) 2 t) (blk1 (V c) 3 t) (blk1 (V c) 4 t) (blk1 (V c) 5 t) (blk1 (V c) 6 t) (blk1 (V c) 7 t))
    | 12 => ac1_12 (V c) (t.val + 1)
    | 13 => ac1_13 (V c) (t.val + 1)
    | ⟨_ + 14, h⟩ => absurd h (Nat.not_lt.2 (Nat.le_add_left _ _))
  Φ t := Phi1 (V c) c t.val (Nat.le_of_lt_succ t.isLt)
  q w := Pipeline.shareOf spec1 w
  owed _ := 0

theorem Phi1_start (V : Dev nD → Valuation τ sig (Elt F)) (c : Dev nD) (t : Fin cfg1.N) :
    (dat1 V c).Φ t.castSucc = Phi1 (V c) c t.val (Nat.le_of_lt t.isLt) := by
  dsimp only [dat1]; exact Pipeline.Dat.Φ_castSucc (Phi1 (V c) c) t

theorem before1_0 (V : Dev nD → Valuation τ sig (Elt F)) (c : Dev nD) (t : Fin cfg1.N) (d) : (dat1 V c).before 0 t d = blk1 (V c) 0 t :=
  ((dat1 V c).before_in_eq_fetched 0 rfl (fun _ => rfl) (fun _ _ _ => rfl) (fun _ => rfl) t d).trans rfl
theorem before1_1 (V : Dev nD → Valuation τ sig (Elt F)) (c : Dev nD) (t : Fin cfg1.N) (d) : (dat1 V c).before 1 t d = blk1 (V c) 1 t :=
  ((dat1 V c).before_in_eq_fetched 1 rfl (fun _ => rfl) (fun _ _ _ => rfl) (fun _ => rfl) t d).trans rfl
theorem before1_2 (V : Dev nD → Valuation τ sig (Elt F)) (c : Dev nD) (t : Fin cfg1.N) (d) : (dat1 V c).before 2 t d = blk1 (V c) 2 t :=
  ((dat1 V c).before_in_eq_fetched 2 rfl (fun _ => rfl) (fun _ _ _ => rfl) (fun _ => rfl) t d).trans rfl
theorem before1_3 (V : Dev nD → Valuation τ sig (Elt F)) (c : Dev nD) (t : Fin cfg1.N) (d) : (dat1 V c).before 3 t d = blk1 (V c) 3 t :=
  ((dat1 V c).before_in_eq_fetched 3 rfl (fun _ => rfl) (fun _ _ _ => rfl) (fun _ => rfl) t d).trans rfl
theorem before1_4 (V : Dev nD → Valuation τ sig (Elt F)) (c : Dev nD) (t : Fin cfg1.N) (d) : (dat1 V c).before 4 t d = blk1 (V c) 4 t :=
  ((dat1 V c).before_in_eq_fetched 4 rfl (fun _ => rfl) (fun _ _ _ => rfl) (fun _ => rfl) t d).trans rfl
theorem before1_5 (V : Dev nD → Valuation τ sig (Elt F)) (c : Dev nD) (t : Fin cfg1.N) (d) : (dat1 V c).before 5 t d = blk1 (V c) 5 t :=
  ((dat1 V c).before_in_eq_fetched 5 rfl (fun _ => rfl) (fun _ _ _ => rfl) (fun _ => rfl) t d).trans rfl
theorem before1_6 (V : Dev nD → Valuation τ sig (Elt F)) (c : Dev nD) (t : Fin cfg1.N) (d) : (dat1 V c).before 6 t d = blk1 (V c) 6 t :=
  ((dat1 V c).before_in_eq_fetched 6 rfl (fun _ => rfl) (fun _ _ _ => rfl) (fun _ => rfl) t d).trans rfl
theorem before1_7 (V : Dev nD → Valuation τ sig (Elt F)) (c : Dev nD) (t : Fin cfg1.N) (d) : (dat1 V c).before 7 t d = blk1 (V c) 7 t :=
  ((dat1 V c).before_in_eq_fetched 7 rfl (fun _ => rfl) (fun _ _ _ => rfl) (fun _ => rfl) t d).trans rfl
theorem before1_12 (V : Dev nD → Valuation τ sig (Elt F)) (c : Dev nD) (t : Fin cfg1.N) (ht : t.val ≠ 0) (d) :
    (dat1 V c).before 12 t d = ac1_12 (V c) t.val := by
  rw [(dat1 V c).before_out_kept 12 rfl t ht (by
    have h := flush1_12 ⟨t.val - 1, Nat.lt_of_le_of_lt (Nat.sub_le _ _) t.isLt⟩
    have hN : t.val < 32 := t.isLt
    cases hb : (cfg1.win 12).flush ⟨t.val - 1, Nat.lt_of_le_of_lt (Nat.sub_le _ _) t.isLt⟩ with
    | false => rfl
    | true => have := h.mp hb; simp only at this; omega) (fun _ => rfl) (fun _ _ => rfl) d]
  show ac1_12 (V c) (t.val - 1 + 1) = _
  rw [Nat.sub_add_cancel (Nat.pos_of_ne_zero ht)]
theorem before1_13 (V : Dev nD → Valuation τ sig (Elt F)) (c : Dev nD) (t : Fin cfg1.N) (ht : t.val ≠ 0) (d) :
    (dat1 V c).before 13 t d = ac1_13 (V c) t.val := by
  rw [(dat1 V c).before_out_kept 13 rfl t ht (by
    have h := flush1_13 ⟨t.val - 1, Nat.lt_of_le_of_lt (Nat.sub_le _ _) t.isLt⟩
    have hN : t.val < 32 := t.isLt
    cases hb : (cfg1.win 13).flush ⟨t.val - 1, Nat.lt_of_le_of_lt (Nat.sub_le _ _) t.isLt⟩ with
    | false => rfl
    | true => have := h.mp hb; simp only at this; omega) (fun _ => rfl) (fun _ _ => rfl) d]
  show ac1_13 (V c) (t.val - 1 + 1) = _
  rw [Nat.sub_add_cancel (Nat.pos_of_ne_zero ht)]

/-- What the body is called with at point `t`, and what it returns. -/
def pre1 (V : Dev nD → Valuation τ sig (Elt F)) (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))
def post1 (V : Dev nD → Valuation τ sig (Elt F)) (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

theorem cond1_first : ∀ t : Fin cfg1.N, t.val = 0 → k1_cond1 (grid1.coords t) = 1#1 := by decide +kernel
theorem cond1_later : ∀ t : Fin cfg1.N, t.val ≠ 0 → ¬ k1_cond1 (grid1.coords t) = 1#1 := by decide +kernel
theorem cond2_first : ∀ t : Fin cfg1.N, t.val = 0 → Scalar.cmpi .ne (Scalar.extui (Scalar.andi (Scalar.cmpi .eq (BitVec.ofNat 32 (grid1.coords t 0).val) 0#32) (Scalar.cmpi .eq (BitVec.ofNat 32 (grid1.coords t 1).val) 0#32)) : BitVec 32) 0#32 = 1#1 := by decide +kernel
theorem cond2_later : ∀ t : Fin cfg1.N, t.val ≠ 0 → ¬ Scalar.cmpi .ne (Scalar.extui (Scalar.andi (Scalar.cmpi .eq (BitVec.ofNat 32 (grid1.coords t 0).val) 0#32) (Scalar.cmpi .eq (BitVec.ofNat 32 (grid1.coords t 1).val) 0#32)) : BitVec 32) 0#32 = 1#1 := by decide +kernel
theorem cond3_all : ∀ t : Fin cfg1.N, k1_cond3 (grid1.coords t) = 1#1 := by decide +kernel
theorem cond4_all : ∀ t : Fin cfg1.N, ¬ k1_cond4 (grid1.coords t) = 1#1 := by decide +kernel
theorem cond5_all : ∀ t : Fin cfg1.N, k1_cond5 (grid1.coords t) = 1#1 := by decide +kernel
theorem cond6_all : ∀ t : Fin cfg1.N, ¬ k1_cond6 (grid1.coords t) = 1#1 := by decide +kernel

set_option maxHeartbeats 1600000 in
/-- The body at the first point. -/
theorem sound1_0 (V : Dev nD → Valuation τ sig (Elt F)) (c : Dev nD) (t : Fin cfg1.N) (ht : t.val = 0) :
    pre1 V c t ⊢ wp frame (wpE (defs₀ (F := F)) Variants.none c none) Set.univ (bodyAt1 t) (fun _ => post1 V c t) := by
  unfold pre1 post1 bodyAt1
  rw [Phi1_start, show (dat1 V c).Φ t.succ = iprop(owns (c : Thread nD τ) (Memref.whole cc1_scratch0) fullShare (st1 (V c) (t.val + 1))
      ∗ Pipeline.scopedRestBut (Ix := Unit) (Name := ℕ) (U := UR sig nD τ) (Lvl := ℕ) (Val := Elt F) spec1 c [cc1_scratch0]) from rfl]
  simp only [before1_0, before1_1, before1_2, before1_3, before1_4, before1_5, before1_6, before1_7]
  have e0 : st1 (V c) t.val = k1_pay2 := by rw [ht]; rfl
  have eΦ : Phi1 (V c) c t.val (Nat.le_of_lt t.isLt) = Pipeline.scopedRest (Ix := Unit) (Name := ℕ) (U := UR sig nD τ) (Lvl := ℕ) (Val := Elt F) spec1 c := by
    obtain ⟨n, hn⟩ := t; simp only at ht; subst ht; rfl
  rw [eΦ, scopedRest1_own]
  unfold Dat.owesAt Pipeline.owesWithin
  rw [show (dat1 V c).owed t.castSucc = 0 from rfl, show (dat1 V c).owed t.succ = 0 from rfl, st1_succ]
  rw [show (dat1 V c).after 0 t = blk1 (V c) 0 t from rfl]
  rw [show (dat1 V c).after 1 t = blk1 (V c) 1 t from rfl]
  rw [show (dat1 V c).after 2 t = blk1 (V c) 2 t from rfl]
  rw [show (dat1 V c).after 3 t = blk1 (V c) 3 t from rfl]
  rw [show (dat1 V c).after 4 t = blk1 (V c) 4 t from rfl]
  rw [show (dat1 V c).after 5 t = blk1 (V c) 5 t from rfl]
  rw [show (dat1 V c).after 6 t = blk1 (V c) 6 t from rfl]
  rw [show (dat1 V c).after 7 t = blk1 (V c) 7 t from rfl]
  rw [show (dat1 V c).after 8 t = bDq (blk1 (V c) 1 t) (blk1 (V c) 2 t) (blk1 (V c) 3 t) (blk1 (V c) 4 t) (blk1 (V c) 5 t) (blk1 (V c) 6 t) (blk1 (V c) 7 t) from rfl]
  rw [show (dat1 V c).after 9 t = bDk (st1 (V c) t.val) (blk1 (V c) 0 t) (blk1 (V c) 2 t) (blk1 (V c) 3 t) (blk1 (V c) 4 t) (blk1 (V c) 5 t) (blk1 (V c) 7 t) from rfl]
  rw [show (dat1 V c).after 10 t = bDv (st1 (V c) t.val) (blk1 (V c) 0 t) (blk1 (V c) 1 t) (blk1 (V c) 3 t) (blk1 (V c) 4 t) (blk1 (V c) 5 t) (blk1 (V c) 7 t) from rfl]
  rw [show (dat1 V c).after 11 t = sumHeads (b40 (st1 (V c) t.val) (blk1 (V c) 0 t) (blk1 (V c) 1 t) (blk1 (V c) 2 t) (blk1 (V c) 3 t) (blk1 (V c) 4 t) (blk1 (V c) 5 t) (blk1 (V c) 6 t) (blk1 (V c) 7 t)) from rfl]
  rw [show (dat1 V c).after 12 t = ac1_12 (V c) (t.val + 1) from rfl]
  rw [show (dat1 V c).after 13 t = ac1_13 (V c) (t.val + 1) from rfl]
  rw [ac1_12_succ]
  rw [ac1_13_succ]
  rw [e0, show ac1_12 (V c) t.val = k1_pay3 from by rw [ht]; rfl, show ac1_13 (V c) t.val = k1_pay4 from by rw [ht]; rfl]
  iintro ⟨⟨⟨%fS, HS⟩, HR⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (bwdRun0 c (grid1.coords t) (cond1_first t ht) (cond2_first t ht) (cond3_all t) (cond4_all t) (cond5_all t) (cond6_all t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (Memref.whole cc1_scratch0) (Memref.isWhole_whole _) (blk1 (V c) 0 t) (blk1 (V c) 1 t) (blk1 (V c) 2 t) (blk1 (V c) 3 t) (blk1 (V c) 4 t) (blk1 (V c) 5 t) (blk1 (V c) 6 t) (blk1 (V c) 7 t) _ _ _ fullShare fullShare fullShare fullShare fullShare fullShare fullShare fullShare _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  isplitl [H8]; · iexists _; iexact H8
  isplitl [H9]; · iexists _; iexact H9
  isplitl [H10]; · iexists _; iexact H10
  isplitl [H11]; · iexists _; iexact H11
  isplitl [H12]; · iexact H12
  isplitl [H13]; · iexact H13
  iintro ⟨H0, H1, H2, H3, H4, H5, H6, H7, HS, H8, H9, H10, H11, H12, H13⟩
  isplitl [HS HR]
  · isplitl [HS]; · iexact HS
    iexact HR
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

set_option maxHeartbeats 1600000 in
/-- The body at a later point. -/
theorem sound1_1 (V : Dev nD → Valuation τ sig (Elt F)) (c : Dev nD) (t : Fin cfg1.N) (ht : t.val ≠ 0) :
    pre1 V c t ⊢ wp frame (wpE (defs₀ (F := F)) Variants.none c none) Set.univ (bodyAt1 t) (fun _ => post1 V c t) := by
  unfold pre1 post1 bodyAt1
  rw [Phi1_start, show (dat1 V c).Φ t.succ = iprop(owns (c : Thread nD τ) (Memref.whole cc1_scratch0) fullShare (st1 (V c) (t.val + 1))
      ∗ Pipeline.scopedRestBut (Ix := Unit) (Name := ℕ) (U := UR sig nD τ) (Lvl := ℕ) (Val := Elt F) spec1 c [cc1_scratch0]) from rfl]
  simp only [before1_0, before1_1, before1_2, before1_3, before1_4, before1_5, before1_6, before1_7]
  have eΦ : Phi1 (V c) c t.val (Nat.le_of_lt t.isLt) = iprop(owns (c : Thread nD τ) (Memref.whole cc1_scratch0) fullShare (st1 (V c) t.val)
      ∗ Pipeline.scopedRestBut (Ix := Unit) (Name := ℕ) (U := UR sig nD τ) (Lvl := ℕ) (Val := Elt F) spec1 c [cc1_scratch0]) := by
    obtain ⟨n, hn⟩ := t
    obtain ⟨n, rfl⟩ := Nat.exists_eq_succ_of_ne_zero ht
    rfl
  rw [eΦ]
  simp only [before1_12 V c t ht, before1_13 V c t ht]
  unfold Dat.owesAt Pipeline.owesWithin
  rw [show (dat1 V c).owed t.castSucc = 0 from rfl, show (dat1 V c).owed t.succ = 0 from rfl, st1_succ]
  rw [show (dat1 V c).after 0 t = blk1 (V c) 0 t from rfl]
  rw [show (dat1 V c).after 1 t = blk1 (V c) 1 t from rfl]
  rw [show (dat1 V c).after 2 t = blk1 (V c) 2 t from rfl]
  rw [show (dat1 V c).after 3 t = blk1 (V c) 3 t from rfl]
  rw [show (dat1 V c).after 4 t = blk1 (V c) 4 t from rfl]
  rw [show (dat1 V c).after 5 t = blk1 (V c) 5 t from rfl]
  rw [show (dat1 V c).after 6 t = blk1 (V c) 6 t from rfl]
  rw [show (dat1 V c).after 7 t = blk1 (V c) 7 t from rfl]
  rw [show (dat1 V c).after 8 t = bDq (blk1 (V c) 1 t) (blk1 (V c) 2 t) (blk1 (V c) 3 t) (blk1 (V c) 4 t) (blk1 (V c) 5 t) (blk1 (V c) 6 t) (blk1 (V c) 7 t) from rfl]
  rw [show (dat1 V c).after 9 t = bDk (st1 (V c) t.val) (blk1 (V c) 0 t) (blk1 (V c) 2 t) (blk1 (V c) 3 t) (blk1 (V c) 4 t) (blk1 (V c) 5 t) (blk1 (V c) 7 t) from rfl]
  rw [show (dat1 V c).after 10 t = bDv (st1 (V c) t.val) (blk1 (V c) 0 t) (blk1 (V c) 1 t) (blk1 (V c) 3 t) (blk1 (V c) 4 t) (blk1 (V c) 5 t) (blk1 (V c) 7 t) from rfl]
  rw [show (dat1 V c).after 11 t = sumHeads (b40 (st1 (V c) t.val) (blk1 (V c) 0 t) (blk1 (V c) 1 t) (blk1 (V c) 2 t) (blk1 (V c) 3 t) (blk1 (V c) 4 t) (blk1 (V c) 5 t) (blk1 (V c) 6 t) (blk1 (V c) 7 t)) from rfl]
  rw [show (dat1 V c).after 12 t = ac1_12 (V c) (t.val + 1) from rfl]
  rw [show (dat1 V c).after 13 t = ac1_13 (V c) (t.val + 1) from rfl]
  rw [ac1_12_succ]
  rw [ac1_13_succ]
  iintro ⟨⟨HS, HR⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (bwdRun1 c (grid1.coords t) (cond1_later t ht) (cond2_later t ht) (cond3_all t) (cond4_all t) (cond5_all t) (cond6_all t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (Memref.whole cc1_scratch0) (Memref.isWhole_whole _) (blk1 (V c) 0 t) (blk1 (V c) 1 t) (blk1 (V c) 2 t) (blk1 (V c) 3 t) (blk1 (V c) 4 t) (blk1 (V c) 5 t) (blk1 (V c) 6 t) (blk1 (V c) 7 t) (ac1_12 (V c) t.val) (ac1_13 (V c) t.val) (st1 (V c) t.val) fullShare fullShare fullShare fullShare fullShare fullShare fullShare fullShare _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  isplitl [H8]; · iexists _; iexact H8
  isplitl [H9]; · iexists _; iexact H9
  isplitl [H10]; · iexists _; iexact H10
  isplitl [H11]; · iexists _; iexact H11
  isplitl [H12]; · iexact H12
  isplitl [H13]; · iexact H13
  iintro ⟨H0, H1, H2, H3, H4, H5, H6, H7, HS, H8, H9, H10, H11, H12, H13⟩
  isplitl [HS HR]
  · isplitl [HS]; · iexact HS
    iexact HR
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem row1 (t : Fin cfg1.N) : defs₀ (F := F) .tc cfg1.body (cfg1.bodyArgs t (cfg1.slots t)) = bodyAt1 t := by
  unfold defs₀; rw [Defs.onTc_tc]

/-- No window is left alone at any point of the grid. -/
theorem awake1 : ∀ (t : Fin cfg1.N) (w : Fin 14), Cert.KernelIdeal.idle1 w (grid1.coords t) = false := by decide +kernel

/-- The windows' buffers one by one. -/
theorem each1 (c : Dev nD) (t : Fin cfg1.N) (A B : sProp 𝕄) (X : (w : Fin cfg1.W) → (cfg1.win w).block.Idx → Elt F (cfg1.win w).elt) :
    iprop(A ∗ B ∗ bigSep Finset.univ fun w : Fin cfg1.W => owns (c : Thread nD τ) ((cfg1.win w).stage (cfg1.slots t w)) fullShare (X w))
      = iprop(A ∗ B
    ∗ owns (c : Thread nD τ) (st1_0 t) fullShare (X 0)
    ∗ owns (c : Thread nD τ) (st1_1 t) fullShare (X 1)
    ∗ owns (c : Thread nD τ) (st1_2 t) fullShare (X 2)
    ∗ owns (c : Thread nD τ) (st1_3 t) fullShare (X 3)
    ∗ owns (c : Thread nD τ) (st1_4 t) fullShare (X 4)
    ∗ owns (c : Thread nD τ) (st1_5 t) fullShare (X 5)
    ∗ owns (c : Thread nD τ) (st1_6 t) fullShare (X 6)
    ∗ owns (c : Thread nD τ) (st1_7 t) fullShare (X 7)
    ∗ owns (c : Thread nD τ) (st1_8 t) fullShare (X 8)
    ∗ owns (c : Thread nD τ) (st1_9 t) fullShare (X 9)
    ∗ owns (c : Thread nD τ) (st1_10 t) fullShare (X 10)
    ∗ owns (c : Thread nD τ) (st1_11 t) fullShare (X 11)
    ∗ owns (c : Thread nD τ) (st1_12 t) fullShare (X 12)
    ∗ owns (c : Thread nD τ) (st1_13 t) fullShare (X 13))
 := by
  rw [bigSep_W1]

theorem before1_all (V : Dev nD → Valuation τ sig (Elt F)) (c : Dev nD) (t : Fin cfg1.N) :
    iprop((dat1 V c).Φ t.castSucc ∗ (dat1 V c).owesAt () t.castSucc
        ∗ bigSep Finset.univ fun w : Fin cfg1.W => iprop(∃ d, owns c ((cfg1.win w).stage (cfg1.slots t w)) fullShare ((dat1 V c).before w t d)))
      = pre1 V c t := by
  unfold pre1
  rw [bigSep_W1]

theorem after1_all (V : Dev nD → Valuation τ sig (Elt F)) (c : Dev nD) (t : Fin cfg1.N) :
    iprop((dat1 V c).Φ t.succ ∗ (dat1 V c).owesAt () t.succ
        ∗ bigSep Finset.univ fun w : Fin cfg1.W => owns c ((cfg1.win w).stage (cfg1.slots t w)) fullShare ((dat1 V c).after w t))
      = post1 V c t := each1 c t _ _ (fun w => (dat1 V c).after w t)

theorem pointwise1 (V : Dev nD → Valuation τ sig (Elt F)) (c : Dev nD) (t : Fin cfg1.N) :
    iprop((dat1 V c).Φ t.castSucc ∗ (dat1 V c).owesAt () t.castSucc
        ∗ bigSep Finset.univ fun w : Fin cfg1.W => iprop(∃ d, owns c ((cfg1.win w).stage (cfg1.slots t w)) fullShare ((dat1 V c).before w t d)))
      ⊢ wp frame (wpE (defs₀ (F := F)) Variants.none c none) Set.univ (bodyAt1 t) (fun _ => iprop((dat1 V c).Φ t.succ ∗ (dat1 V c).owesAt () t.succ
        ∗ bigSep Finset.univ fun w : Fin cfg1.W => owns c ((cfg1.win w).stage (cfg1.slots t w)) fullShare ((dat1 V c).after w t))) := by
  rw [before1_all, after1_all]
  by_cases ht : t.val = 0
  · exact sound1_0 V c t ht
  · exact sound1_1 V c t ht

/-- The body obligation at every point. -/
theorem body1 (V : Dev nD → Valuation τ sig (Elt F)) (c : Dev nD) :
    BodyObligation (dat1 V c) (defs₀ (F := F)) Variants.none () Set.univ := fun t => by
  have h := pointwise1 V c t
  rw [row1]
  simp only [awake1 t]
  exact h

set_option maxHeartbeats 1600000 in
/-- After the last point the scratch is let go. -/
theorem last1 (V : Dev nD → Valuation τ sig (Elt F)) (c : Dev nD) :
    (dat1 V c).Φ (Fin.last cfg1.N) ⊢ (Pipeline.scopedRest (Ix := Unit) (Name := ℕ) (U := UR sig nD τ) (Lvl := ℕ) (Val := Elt F) spec1 c : sProp 𝕄) := by
  rw [show (dat1 V c).Φ (Fin.last cfg1.N) = iprop(owns (c : Thread nD τ) (Memref.whole cc1_scratch0) fullShare (st1 (V c) 32)
      ∗ Pipeline.scopedRestBut (Ix := Unit) (Name := ℕ) (U := UR sig nD τ) (Lvl := ℕ) (Val := Elt F) spec1 c [cc1_scratch0]) from rfl, scopedRest1_own]
  iintro ⟨HS, HR⟩
  isplitl [HS]; · iexists _; iexact HS
  iexact HR

end Cert.KernelIdeal.Hand

end
-- ==== Proof.RunIdeal.lean ====
module

public import proofs.«01_k».proof.Proof.FwdRunIdeal
public import proofs.«01_k».proof.Proof.BwdRunIdeal
public import proofs.«01_k».proof.Proof.Gen.KernelIdeal.Regions
public import Idealize.ShloMosaic.Lib.Pipeline.RegionsLoop

@[expose] public section

set_option maxRecDepth 16384

noncomputable section

namespace Cert.KernelIdeal.Hand

open Cert.KernelIdeal Cert.KernelIdeal.Gen Cert.Stacks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F] [∀ e, Nonempty (Elt F e)]

local notation "𝕄" => MT nD τ sig Unit (Elt F) ℕ (UR sig nD τ) ℕ

/-! # The two calls as regions of the program, and its frame -/

variable (m : (ℓ : Loc nD τ sig) → Buf (Elt F) ℓ)

/-- What the forward call leaves in its results. -/
def outs4 (r : Ref sig .tc) (c : Dev nD) : Buf (Elt F) ((c : Thread nD τ).loc r) :=
  if h : r = main_v4_0 then h ▸ (dat0 (V3 m) c).arrAt 6 cfg0.N
  else if h : r = main_v4_1 then h ▸ (dat0 (V3 m) c).arrAt 7 cfg0.N
  else V3 m c r

/-- The buffers the backward call finds. -/
def W4 (c : Dev nD) : Valuation τ sig (Elt F) := V4 m (fun _ => outs4 m) c

/-- What the backward call leaves in its results. -/
def outs5 (r : Ref sig .tc) (c : Dev nD) : Buf (Elt F) ((c : Thread nD τ).loc r) :=
  if h : r = main_v5_0 then h ▸ (dat1 (W4 m) c).arrAt 8 cfg1.N
  else if h : r = main_v5_1 then h ▸ (dat1 (W4 m) c).arrAt 9 cfg1.N
  else if h : r = main_v5_2 then h ▸ (dat1 (W4 m) c).arrAt 10 cfg1.N
  else if h : r = main_v5_3 then h ▸ (dat1 (W4 m) c).arrAt 11 cfg1.N
  else if h : r = main_v5_4 then h ▸ (dat1 (W4 m) c).arrAt 12 cfg1.N
  else if h : r = main_v5_5 then h ▸ (dat1 (W4 m) c).arrAt 13 cfg1.N
  else W4 m c r

/-- What either call leaves. -/
def outs : Outs (F := F) := fun n => if n = 4 then outs4 m else outs5 m

theorem V4_outs (c : Dev nD) : V4 m (outs m) c = W4 m c := rfl

/-- The calls' proof data. -/
def pdats : (p : Fin 2) → (c : Dev nD) → Dat τ (Elt F) Unit ℕ (UR sig nD τ) ℕ (cfgs p) c
  | 0 => dat0 (V3 m)
  | 1 => dat1 (W4 m)

/-- What rides beside the buffers: the core owing nothing. -/
def rest (c : Dev nD) : sProp 𝕄 := iprop(∃ W, owes (c : Thread nD τ) (0 : CellTallies nD τ sig Unit) W)

abbrev noL : GSem nD τ sig → Finset Unit := fun _ => ∅
abbrev noLv : GSem nD τ sig → Unit → ℕ := fun _ _ => 0

theorem V4_out0 (outs : Outs (F := F)) (c : Dev nD) : V4 m outs c main_v4_0 = outs 4 main_v4_0 c := by
  unfold V4
  rw [Function.update_of_ne (StableHlo.devRef_ne_of_ne (show main_v4_0 ≠ main_v4_1 by decide))]
  rw [Function.update_self]
theorem outs4_0 (c : Dev nD) : outs4 m main_v4_0 c = (dat0 (V3 m) c).arrAt 6 cfg0.N := by
  unfold outs4
  rw [dif_pos rfl]
theorem V4_out1 (outs : Outs (F := F)) (c : Dev nD) : V4 m outs c main_v4_1 = outs 4 main_v4_1 c := by
  unfold V4
  rw [Function.update_self]
theorem outs4_1 (c : Dev nD) : outs4 m main_v4_1 c = (dat0 (V3 m) c).arrAt 7 cfg0.N := by
  unfold outs4
  rw [dif_neg (show ¬ main_v4_1 = main_v4_0 by decide)]
  rw [dif_pos rfl]

theorem V5_out0 (outs : Outs (F := F)) (c : Dev nD) : V5 m outs c main_v5_0 = outs 5 main_v5_0 c := by
  unfold V5
  rw [Function.update_of_ne (StableHlo.devRef_ne_of_ne (show main_v5_0 ≠ main_v5_5 by decide))]
  rw [Function.update_of_ne (StableHlo.devRef_ne_of_ne (show main_v5_0 ≠ main_v5_4 by decide))]
  rw [Function.update_of_ne (StableHlo.devRef_ne_of_ne (show main_v5_0 ≠ main_v5_3 by decide))]
  rw [Function.update_of_ne (StableHlo.devRef_ne_of_ne (show main_v5_0 ≠ main_v5_2 by decide))]
  rw [Function.update_of_ne (StableHlo.devRef_ne_of_ne (show main_v5_0 ≠ main_v5_1 by decide))]
  rw [Function.update_self]
theorem outs5_0 (c : Dev nD) : outs5 m main_v5_0 c = (dat1 (W4 m) c).arrAt 8 cfg1.N := by
  unfold outs5
  rw [dif_pos rfl]
theorem V5_out1 (outs : Outs (F := F)) (c : Dev nD) : V5 m outs c main_v5_1 = outs 5 main_v5_1 c := by
  unfold V5
  rw [Function.update_of_ne (StableHlo.devRef_ne_of_ne (show main_v5_1 ≠ main_v5_5 by decide))]
  rw [Function.update_of_ne (StableHlo.devRef_ne_of_ne (show main_v5_1 ≠ main_v5_4 by decide))]
  rw [Function.update_of_ne (StableHlo.devRef_ne_of_ne (show main_v5_1 ≠ main_v5_3 by decide))]
  rw [Function.update_of_ne (StableHlo.devRef_ne_of_ne (show main_v5_1 ≠ main_v5_2 by decide))]
  rw [Function.update_self]
theorem outs5_1 (c : Dev nD) : outs5 m main_v5_1 c = (dat1 (W4 m) c).arrAt 9 cfg1.N := by
  unfold outs5
  rw [dif_neg (show ¬ main_v5_1 = main_v5_0 by decide)]
  rw [dif_pos rfl]
theorem V5_out2 (outs : Outs (F := F)) (c : Dev nD) : V5 m outs c main_v5_2 = outs 5 main_v5_2 c := by
  unfold V5
  rw [Function.update_of_ne (StableHlo.devRef_ne_of_ne (show main_v5_2 ≠ main_v5_5 by decide))]
  rw [Function.update_of_ne (StableHlo.devRef_ne_of_ne (show main_v5_2 ≠ main_v5_4 by decide))]
  rw [Function.update_of_ne (StableHlo.devRef_ne_of_ne (show main_v5_2 ≠ main_v5_3 by decide))]
  rw [Function.update_self]
theorem outs5_2 (c : Dev nD) : outs5 m main_v5_2 c = (dat1 (W4 m) c).arrAt 10 cfg1.N := by
  unfold outs5
  rw [dif_neg (show ¬ main_v5_2 = main_v5_0 by decide)]
  rw [dif_neg (show ¬ main_v5_2 = main_v5_1 by decide)]
  rw [dif_pos rfl]
theorem V5_out3 (outs : Outs (F := F)) (c : Dev nD) : V5 m outs c main_v5_3 = outs 5 main_v5_3 c := by
  unfold V5
  rw [Function.update_of_ne (StableHlo.devRef_ne_of_ne (show main_v5_3 ≠ main_v5_5 by decide))]
  rw [Function.update_of_ne (StableHlo.devRef_ne_of_ne (show main_v5_3 ≠ main_v5_4 by decide))]
  rw [Function.update_self]
theorem outs5_3 (c : Dev nD) : outs5 m main_v5_3 c = (dat1 (W4 m) c).arrAt 11 cfg1.N := by
  unfold outs5
  rw [dif_neg (show ¬ main_v5_3 = main_v5_0 by decide)]
  rw [dif_neg (show ¬ main_v5_3 = main_v5_1 by decide)]
  rw [dif_neg (show ¬ main_v5_3 = main_v5_2 by decide)]
  rw [dif_pos rfl]
theorem V5_out4 (outs : Outs (F := F)) (c : Dev nD) : V5 m outs c main_v5_4 = outs 5 main_v5_4 c := by
  unfold V5
  rw [Function.update_of_ne (StableHlo.devRef_ne_of_ne (show main_v5_4 ≠ main_v5_5 by decide))]
  rw [Function.update_self]
theorem outs5_4 (c : Dev nD) : outs5 m main_v5_4 c = (dat1 (W4 m) c).arrAt 12 cfg1.N := by
  unfold outs5
  rw [dif_neg (show ¬ main_v5_4 = main_v5_0 by decide)]
  rw [dif_neg (show ¬ main_v5_4 = main_v5_1 by decide)]
  rw [dif_neg (show ¬ main_v5_4 = main_v5_2 by decide)]
  rw [dif_neg (show ¬ main_v5_4 = main_v5_3 by decide)]
  rw [dif_pos rfl]
theorem V5_out5 (outs : Outs (F := F)) (c : Dev nD) : V5 m outs c main_v5_5 = outs 5 main_v5_5 c := by
  unfold V5
  rw [Function.update_self]
theorem outs5_5 (c : Dev nD) : outs5 m main_v5_5 c = (dat1 (W4 m) c).arrAt 13 cfg1.N := by
  unfold outs5
  rw [dif_neg (show ¬ main_v5_5 = main_v5_0 by decide)]
  rw [dif_neg (show ¬ main_v5_5 = main_v5_1 by decide)]
  rw [dif_neg (show ¬ main_v5_5 = main_v5_2 by decide)]
  rw [dif_neg (show ¬ main_v5_5 = main_v5_3 by decide)]
  rw [dif_neg (show ¬ main_v5_5 = main_v5_4 by decide)]
  rw [dif_pos rfl]

/-- The forward call's arrays at its end, read off the valuation after it. -/
theorem end0 (c : Dev nD) (w : Fin cfg0.W) : (dat0 (V3 m) c).arrAt w cfg0.N = V4 m (outs m) c (Pipeline.arrRef spec0 w) := by
  match w with
  | 0 => exact ((dat0 (V3 m) c).arrAt_in 0 rfl _).trans (V4_of m (outs m) c main_arg0 (by decide)).symm
  | 1 => exact ((dat0 (V3 m) c).arrAt_in 1 rfl _).trans (V4_of m (outs m) c main_arg0 (by decide)).symm
  | 2 => exact ((dat0 (V3 m) c).arrAt_in 2 rfl _).trans (V4_of m (outs m) c main_arg0 (by decide)).symm
  | 3 => exact ((dat0 (V3 m) c).arrAt_in 3 rfl _).trans (V4_of m (outs m) c main_arg1 (by decide)).symm
  | 4 => exact ((dat0 (V3 m) c).arrAt_in 4 rfl _).trans (V4_of m (outs m) c main_v2 (by decide)).symm
  | 5 => exact ((dat0 (V3 m) c).arrAt_in 5 rfl _).trans (V4_of m (outs m) c main_v3 (by decide)).symm
  | 6 => exact (outs4_0 m c).symm.trans (V4_out0 m (outs m) c).symm
  | 7 => exact (outs4_1 m c).symm.trans (V4_out1 m (outs m) c).symm

/-- The backward call's arrays at its end, read off the valuation after it. -/
theorem end1 (c : Dev nD) (w : Fin cfg1.W) : (dat1 (W4 m) c).arrAt w cfg1.N = V5 m (outs m) c (Pipeline.arrRef spec1 w) := by
  match w with
  | 0 => exact ((dat1 (W4 m) c).arrAt_in 0 rfl _).trans (V5_of m (outs m) c main_arg0 (by decide)).symm
  | 1 => exact ((dat1 (W4 m) c).arrAt_in 1 rfl _).trans (V5_of m (outs m) c main_arg0 (by decide)).symm
  | 2 => exact ((dat1 (W4 m) c).arrAt_in 2 rfl _).trans (V5_of m (outs m) c main_arg0 (by decide)).symm
  | 3 => exact ((dat1 (W4 m) c).arrAt_in 3 rfl _).trans (V5_of m (outs m) c main_arg1 (by decide)).symm
  | 4 => exact ((dat1 (W4 m) c).arrAt_in 4 rfl _).trans (V5_of m (outs m) c main_v2 (by decide)).symm
  | 5 => exact ((dat1 (W4 m) c).arrAt_in 5 rfl _).trans (V5_of m (outs m) c main_v3 (by decide)).symm
  | 6 => exact ((dat1 (W4 m) c).arrAt_in 6 rfl _).trans (V5_of m (outs m) c main_v4_1 (by decide)).symm
  | 7 => exact ((dat1 (W4 m) c).arrAt_in 7 rfl _).trans (V5_of m (outs m) c main_arg4 (by decide)).symm
  | 8 => exact (outs5_0 m c).symm.trans (V5_out0 m (outs m) c).symm
  | 9 => exact (outs5_1 m c).symm.trans (V5_out1 m (outs m) c).symm
  | 10 => exact (outs5_2 m c).symm.trans (V5_out2 m (outs m) c).symm
  | 11 => exact (outs5_3 m c).symm.trans (V5_out3 m (outs m) c).symm
  | 12 => exact (outs5_4 m c).symm.trans (V5_out4 m (outs m) c).symm
  | 13 => exact (outs5_5 m c).symm.trans (V5_out5 m (outs m) c).symm

/-- Off its results a call changes nothing. -/
theorem off0 (c : Dev nD) (b : Ref sig .tc) (hb : b ∉ Finset.univ.image (Pipeline.arrRef spec0)) : V4 m (outs m) c b = V3 m c b :=
  V4_of m (outs m) c b fun h => hb (by
    simp only [List.mem_cons, List.not_mem_nil, or_false] at h
    rcases h with rfl | rfl
    · exact Finset.mem_image.mpr ⟨6, Finset.mem_univ _, rfl⟩
    · exact Finset.mem_image.mpr ⟨7, Finset.mem_univ _, rfl⟩)

/-- Call 0 as a region: it is entered with the core's buffers and leaves them with its results written. -/
def reg0 : RegionSeg (pcfgs (F := F)) adm (pdats m) () defs₀ Variants.none noL noLv 0 :=
  { win := winFacts₀0
    block_pos := block_pos0
    stage_whole := stage_whole0
    K := PEmpty
    osem := fun k => k.elim
    ho := Pipeline.OwnSemFacts.none _
    hbody := fun c => (body0 (V3 m) c).loose
    hwaits := Pipeline.hwaits_of_owed_zero (pcfgs (F := F)) adm (pdats m) () noL noLv 0 (fun _ _ => rfl)
    pre := fun c => iprop(StableHlo.held (c : Thread nD τ) (Pipeline.ucRefs τ sig) (V3 m c) ∗ rest c)
    post := fun c => iprop(StableHlo.held (c : Thread nD τ) (Pipeline.ucRefs τ sig) (V4 m (outs m) c) ∗ rest c)
    X := fun _ => iprop(emp)
    Y := fun _ => iprop(emp)
    Z := fun c => Pipeline.unscopedRest (Ix := Unit) (Name := ℕ) (U := UR sig nD τ) (Lvl := ℕ) spec0 c (fun b => V3 m c (Proc.devRef .tc b))
    hentry := fun c => by
      rw [Pipeline.ownSems0_none,
        show StableHlo.held (c : Thread nD τ) (Pipeline.ucRefs τ sig) (V3 m c) = unscopedBufs c (fun b => V3 m c (Proc.devRef .tc b))
          from (Pipeline.unscopedBufs_held (Ix := Unit) (Name := ℕ) (U := UR sig nD τ) (Lvl := ℕ) c (V3 m c)).symm]
      have hsplit : (unscopedBufs c (fun b => V3 m c (Proc.devRef .tc b)) : sProp 𝕄) ⊢
          iprop((pdats m 0 c).arrays ((pdats m 0 c).A) ∗ Pipeline.unscopedRest spec0 c (fun b => V3 m c (Proc.devRef .tc b))) := by
        rw [Pipeline.unscopedBufs_split₀ (Pipeline.pin (pcfgs (F := F)) adm) 0 winFacts₀0.arr_unscoped c]
        exact sep_mono (Pipeline.Dat.arrays_split_shared (pdats m 0 c) sharedIn0 arr_whole0 (fun _ _ => rfl) _ _ (fun _ => rfl)) .rfl
      iintro ⟨⟨Hub, HO⟩, -, -⟩
      ihave H := hsplit $$ Hub
      icases H with ⟨Ha, Hrest⟩
      imodintro
      isplitl [Ha]; · iexact Ha
      isplitr
      · unfold Pipeline.prefHeld
        iapply (show (BI.emp : sProp 𝕄) ⊢ bigSep (Finset.univ : Finset (Fin 0)) _ from by
          rw [show (Finset.univ : Finset (Fin 0)) = ∅ from rfl, BI.bigSep_empty])
        iempintro
      isplitl [HO]
      · unfold Pipeline.Dat.owesAt Pipeline.owesWithin rest
        icases HO with ⟨%W, HO⟩
        iexists W; isplitr; · ipureintro; exact fun _ _ => Or.inl trivial
        iexact HO
      isplitr; · iempintro
      iexact Hrest
    hin := fun c => by
      rw [show (pdats m 0 c).Φ 0 = Pipeline.scopedRest (Ix := Unit) (Name := ℕ) (U := UR sig nD τ) (Lvl := ℕ) (Val := Elt F) spec0 c from rfl]
      iintro ⟨-, -, Hr⟩
      iexact Hr
    hout := fun c => by
      rw [Pipeline.ownSems0_none]
      refine (last0 (V3 m) c).trans ?_
      iintro Hr
      isplitr; · iempintro
      isplitr; · iempintro
      iexact Hr
    hexit := fun c => by
      have hjoin := Pipeline.unscopedBufs_of_arrays_shared (p := 0) (pcfgs (F := F)) adm (Ix := Unit) (Name := ℕ) (U := UR sig nD τ) (Lvl := ℕ)
        winFacts₀0 sharedIn0 arr_whole0 c (pdats m) (fun _ _ => rfl)
        (fun b => V3 m c (Proc.devRef .tc b)) (fun b => V4 m (outs m) c (Proc.devRef .tc b)) ((pdats m 0 c).arrAt · cfg0.N)
        (end0 m c) (off0 m c)
      rw [show StableHlo.held (c : Thread nD τ) (Pipeline.ucRefs τ sig) (V4 m (outs m) c) = unscopedBufs c (fun b => V4 m (outs m) c (Proc.devRef .tc b))
          from (Pipeline.unscopedBufs_held (Ix := Unit) (Name := ℕ) (U := UR sig nD τ) (Lvl := ℕ) c (V4 m (outs m) c)).symm]
      iintro ⟨Ha, HO, -, Hrest⟩
      imodintro
      isplitl [Ha Hrest]
      · iapply hjoin; isplitl [Ha] <;> iassumption
      unfold Pipeline.Dat.owesAt Pipeline.owesWithin rest
      icases HO with ⟨%W, -, HO⟩; iexists W; iexact HO }

/-- Off its results a call changes nothing. -/
theorem off1 (c : Dev nD) (b : Ref sig .tc) (hb : b ∉ Finset.univ.image (Pipeline.arrRef spec1)) : V5 m (outs m) c b = W4 m c b :=
  V5_of m (outs m) c b fun h => hb (by
    simp only [List.mem_cons, List.not_mem_nil, or_false] at h
    rcases h with rfl | rfl | rfl | rfl | rfl | rfl
    · exact Finset.mem_image.mpr ⟨8, Finset.mem_univ _, rfl⟩
    · exact Finset.mem_image.mpr ⟨9, Finset.mem_univ _, rfl⟩
    · exact Finset.mem_image.mpr ⟨10, Finset.mem_univ _, rfl⟩
    · exact Finset.mem_image.mpr ⟨11, Finset.mem_univ _, rfl⟩
    · exact Finset.mem_image.mpr ⟨12, Finset.mem_univ _, rfl⟩
    · exact Finset.mem_image.mpr ⟨13, Finset.mem_univ _, rfl⟩)

/-- Call 1 as a region: it is entered with the core's buffers and leaves them with its results written. -/
def reg1 : RegionSeg (pcfgs (F := F)) adm (pdats m) () defs₀ Variants.none noL noLv 1 :=
  { win := winFacts₀1
    block_pos := block_pos1
    stage_whole := stage_whole1
    K := PEmpty
    osem := fun k => k.elim
    ho := Pipeline.OwnSemFacts.none _
    hbody := fun c => (body1 (W4 m) c).loose
    hwaits := Pipeline.hwaits_of_owed_zero (pcfgs (F := F)) adm (pdats m) () noL noLv 1 (fun _ _ => rfl)
    pre := fun c => iprop(StableHlo.held (c : Thread nD τ) (Pipeline.ucRefs τ sig) (W4 m c) ∗ rest c)
    post := fun c => iprop(StableHlo.held (c : Thread nD τ) (Pipeline.ucRefs τ sig) (V5 m (outs m) c) ∗ rest c)
    X := fun _ => iprop(emp)
    Y := fun _ => iprop(emp)
    Z := fun c => Pipeline.unscopedRest (Ix := Unit) (Name := ℕ) (U := UR sig nD τ) (Lvl := ℕ) spec1 c (fun b => W4 m c (Proc.devRef .tc b))
    hentry := fun c => by
      rw [Pipeline.ownSems0_none,
        show StableHlo.held (c : Thread nD τ) (Pipeline.ucRefs τ sig) (W4 m c) = unscopedBufs c (fun b => W4 m c (Proc.devRef .tc b))
          from (Pipeline.unscopedBufs_held (Ix := Unit) (Name := ℕ) (U := UR sig nD τ) (Lvl := ℕ) c (W4 m c)).symm]
      have hsplit : (unscopedBufs c (fun b => W4 m c (Proc.devRef .tc b)) : sProp 𝕄) ⊢
          iprop((pdats m 1 c).arrays ((pdats m 1 c).A) ∗ Pipeline.unscopedRest spec1 c (fun b => W4 m c (Proc.devRef .tc b))) := by
        rw [Pipeline.unscopedBufs_split₀ (Pipeline.pin (pcfgs (F := F)) adm) 1 winFacts₀1.arr_unscoped c]
        exact sep_mono (Pipeline.Dat.arrays_split_shared (pdats m 1 c) sharedIn1 arr_whole1 (fun _ _ => rfl) _ _ (fun _ => rfl)) .rfl
      iintro ⟨⟨Hub, HO⟩, -, -⟩
      ihave H := hsplit $$ Hub
      icases H with ⟨Ha, Hrest⟩
      imodintro
      isplitl [Ha]; · iexact Ha
      isplitr
      · unfold Pipeline.prefHeld
        iapply (show (BI.emp : sProp 𝕄) ⊢ bigSep (Finset.univ : Finset (Fin 0)) _ from by
          rw [show (Finset.univ : Finset (Fin 0)) = ∅ from rfl, BI.bigSep_empty])
        iempintro
      isplitl [HO]
      · unfold Pipeline.Dat.owesAt Pipeline.owesWithin rest
        icases HO with ⟨%W, HO⟩
        iexists W; isplitr; · ipureintro; exact fun _ _ => Or.inl trivial
        iexact HO
      isplitr; · iempintro
      iexact Hrest
    hin := fun c => by
      rw [show (pdats m 1 c).Φ 0 = Pipeline.scopedRest (Ix := Unit) (Name := ℕ) (U := UR sig nD τ) (Lvl := ℕ) (Val := Elt F) spec1 c from rfl]
      iintro ⟨-, -, Hr⟩
      iexact Hr
    hout := fun c => by
      rw [Pipeline.ownSems0_none]
      refine (last1 (W4 m) c).trans ?_
      iintro Hr
      isplitr; · iempintro
      isplitr; · iempintro
      iexact Hr
    hexit := fun c => by
      have hjoin := Pipeline.unscopedBufs_of_arrays_shared (p := 1) (pcfgs (F := F)) adm (Ix := Unit) (Name := ℕ) (U := UR sig nD τ) (Lvl := ℕ)
        winFacts₀1 sharedIn1 arr_whole1 c (pdats m) (fun _ _ => rfl)
        (fun b => W4 m c (Proc.devRef .tc b)) (fun b => V5 m (outs m) c (Proc.devRef .tc b)) ((pdats m 1 c).arrAt · cfg1.N)
        (end1 m c) (off1 m c)
      rw [show StableHlo.held (c : Thread nD τ) (Pipeline.ucRefs τ sig) (V5 m (outs m) c) = unscopedBufs c (fun b => V5 m (outs m) c (Proc.devRef .tc b))
          from (Pipeline.unscopedBufs_held (Ix := Unit) (Name := ℕ) (U := UR sig nD τ) (Lvl := ℕ) c (V5 m (outs m) c)).symm]
      iintro ⟨Ha, HO, -, Hrest⟩
      imodintro
      isplitl [Ha Hrest]
      · iapply hjoin; isplitl [Ha] <;> iassumption
      unfold Pipeline.Dat.owesAt Pipeline.owesWithin rest
      icases HO with ⟨%W, -, HO⟩; iexists W; iexact HO }

set_option backward.isDefEq.respectTransparency.types false in
/-- The program leaves its arguments as it found them, and its semaphores at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  frame_cond m emb₁ () Variants.none noL noLv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => BI.emp) from by rw [BI.bigSep_emp_const])
      iempintro)
    (fun _ => rest)
    (Pipeline.initEach noL noLv fun c => by
      iintro ⟨⟨-, HO, -, -, -⟩, -⟩
      unfold rest
      iexists ∅
      iexact HO)
    (fun c => .rfl)
    (reg0 m) (fun c => .rfl) (fun c => .rfl) (reg1 m) (fun c => .rfl) (fun c => .rfl)

end Cert.KernelIdeal.Hand

end
-- ==== Proof.lean ====
module

public import proofs.«01_k».proof.Defs
public import proofs.«01_k».proof.Proof.Gen.Kernel
public import proofs.«01_k».proof.Proof.Gen.KernelIdeal
public import proofs.«01_k».proof.Proof.Gen.DownDx
public import proofs.«01_k».proof.Proof.Gen.DownDxIdeal
public import proofs.«01_k».proof.Proof.Gen.DownDxIdeal.Value
public import proofs.«01_k».proof.Proof.Gen.DownDxReferenceIdeal
public import proofs.«01_k».proof.Proof.Gen.DownDxReferenceIdeal.Run
public import proofs.«01_k».proof.Proof.Gen.DownDw
public import proofs.«01_k».proof.Proof.Gen.DownDwIdeal
public import proofs.«01_k».proof.Proof.Gen.DownDwIdeal.Value
public import proofs.«01_k».proof.Proof.Gen.DownDwReferenceIdeal
public import proofs.«01_k».proof.Proof.Gen.DownDwReferenceIdeal.Run
public import proofs.«01_k».proof.Proof.Gen.UpDw
public import proofs.«01_k».proof.Proof.Gen.UpDwIdeal
public import proofs.«01_k».proof.Proof.Gen.UpDwIdeal.Value
public import proofs.«01_k».proof.Proof.Gen.UpDwReferenceIdeal
public import proofs.«01_k».proof.Proof.Gen.UpDwReferenceIdeal.Run
public import proofs.«01_k».proof.Proof.Gen.UpDx
public import proofs.«01_k».proof.Proof.Gen.UpDxIdeal
public import proofs.«01_k».proof.Proof.Gen.UpDxIdeal.Value
public import proofs.«01_k».proof.Proof.Gen.UpDxReferenceIdeal
public import proofs.«01_k».proof.Proof.Gen.UpDxReferenceIdeal.Run
public import proofs.«01_k».proof.Proof.Gen.InDx
public import proofs.«01_k».proof.Proof.Gen.InDxIdeal
public import proofs.«01_k».proof.Proof.Gen.InDxIdeal.Value
public import proofs.«01_k».proof.Proof.Gen.InDxReferenceIdeal
public import proofs.«01_k».proof.Proof.Gen.InDxReferenceIdeal.Run
public import proofs.«01_k».proof.Proof.Gen.InDwA
public import proofs.«01_k».proof.Proof.Gen.InDwAIdeal
public import proofs.«01_k».proof.Proof.Gen.InDwAIdeal.Value
public import proofs.«01_k».proof.Proof.Gen.InDwAReferenceIdeal
public import proofs.«01_k».proof.Proof.Gen.InDwAReferenceIdeal.Run
public import proofs.«01_k».proof.Proof.Gen.InDwB
public import proofs.«01_k».proof.Proof.Gen.InDwBIdeal
public import proofs.«01_k».proof.Proof.Gen.InDwBIdeal.Value
public import proofs.«01_k».proof.Proof.Gen.InDwBReferenceIdeal
public import proofs.«01_k».proof.Proof.Gen.InDwBReferenceIdeal.Run
public import proofs.«01_k».proof.Proof.Gen.OutDw
public import proofs.«01_k».proof.Proof.Gen.OutDwIdeal
public import proofs.«01_k».proof.Proof.Gen.OutDwIdeal.Value
public import proofs.«01_k».proof.Proof.Gen.OutDwReferenceIdeal
public import proofs.«01_k».proof.Proof.Gen.OutDwReferenceIdeal.Run
public import proofs.«01_k».proof.Proof.Gen.OutDx
public import proofs.«01_k».proof.Proof.Gen.OutDxIdeal
public import proofs.«01_k».proof.Proof.Gen.OutDxIdeal.Value
public import proofs.«01_k».proof.Proof.Gen.OutDxReferenceIdeal
public import proofs.«01_k».proof.Proof.Gen.OutDxReferenceIdeal.Run
public import proofs.«01_k».proof.Proof.Gen.GateDw
public import proofs.«01_k».proof.Proof.Gen.GateDwIdeal
public import proofs.«01_k».proof.Proof.Gen.GateDwIdeal.Value
public import proofs.«01_k».proof.Proof.Gen.GateDwReferenceIdeal
public import proofs.«01_k».proof.Proof.Gen.GateDwReferenceIdeal.Run
public import proofs.«01_k».proof.Proof.Gen.GateDx
public import proofs.«01_k».proof.Proof.Gen.GateDxIdeal
public import proofs.«01_k».proof.Proof.Gen.GateDxIdeal.Value
public import proofs.«01_k».proof.Proof.Gen.GateDxReferenceIdeal
public import proofs.«01_k».proof.Proof.Gen.GateDxReferenceIdeal.Run
public import proofs.«01_k».proof.Proof.Gen.PleDw
public import proofs.«01_k».proof.Proof.Gen.PleDwIdeal
public import proofs.«01_k».proof.Proof.Gen.PleDwIdeal.Value
public import proofs.«01_k».proof.Proof.Gen.PleDwReferenceIdeal
public import proofs.«01_k».proof.Proof.Gen.PleDwReferenceIdeal.Run
public import proofs.«01_k».proof.Proof.Gen.InFwd
public import proofs.«01_k».proof.Proof.Gen.InFwdIdeal
public import proofs.«01_k».proof.Proof.Gen.InFwdIdeal.Value
public import proofs.«01_k».proof.Proof.Gen.InFwdReferenceIdeal
public import proofs.«01_k».proof.Proof.Gen.InFwdReferenceIdeal.Run
public import proofs.«01_k».proof.Proof.Gen.UpFwd
public import proofs.«01_k».proof.Proof.Gen.UpFwdIdeal
public import proofs.«01_k».proof.Proof.Gen.UpFwdIdeal.Value
public import proofs.«01_k».proof.Proof.Gen.UpFwdReferenceIdeal
public import proofs.«01_k».proof.Proof.Gen.UpFwdReferenceIdeal.Run
public import proofs.«01_k».proof.Proof.Gen.DownFwd
public import proofs.«01_k».proof.Proof.Gen.DownFwdIdeal
public import proofs.«01_k».proof.Proof.Gen.DownFwdIdeal.Value
public import proofs.«01_k».proof.Proof.Gen.DownFwdReferenceIdeal
public import proofs.«01_k».proof.Proof.Gen.DownFwdReferenceIdeal.Run
public import proofs.«01_k».proof.Proof.Gen.OutFwd
public import proofs.«01_k».proof.Proof.Gen.OutFwdIdeal
public import proofs.«01_k».proof.Proof.Gen.OutFwdIdeal.Value
public import proofs.«01_k».proof.Proof.Gen.OutFwdReferenceIdeal
public import proofs.«01_k».proof.Proof.Gen.OutFwdReferenceIdeal.Run
public import proofs.«01_k».proof.Proof.Gen.GateFwd
public import proofs.«01_k».proof.Proof.Gen.GateFwdIdeal
public import proofs.«01_k».proof.Proof.Gen.GateFwdIdeal.Value
public import proofs.«01_k».proof.Proof.Gen.GateFwdReferenceIdeal
public import proofs.«01_k».proof.Proof.Gen.GateFwdReferenceIdeal.Run
public import proofs.«01_k».proof.Proof.Gen.PleFwd
public import proofs.«01_k».proof.Proof.Gen.PleFwdIdeal
public import proofs.«01_k».proof.Proof.Gen.PleFwdIdeal.Value
public import proofs.«01_k».proof.Proof.Gen.PleFwdReferenceIdeal
public import proofs.«01_k».proof.Proof.Gen.PleFwdReferenceIdeal.Run
public import proofs.«01_k».proof.Proof.Gen.Narrow
public import proofs.«01_k».proof.Proof.Gen.NarrowIdeal
public import proofs.«01_k».proof.Proof.Gen.NarrowIdeal.Value
public import proofs.«01_k».proof.Proof.Gen.NarrowReferenceIdeal
public import proofs.«01_k».proof.Proof.Gen.NarrowReferenceIdeal.Run
public import proofs.«01_k».proof.Proof.Gen.NarrowDw
public import proofs.«01_k».proof.Proof.Gen.NarrowDwIdeal
public import proofs.«01_k».proof.Proof.Gen.NarrowDwIdeal.Value
public import proofs.«01_k».proof.Proof.Gen.NarrowDwReferenceIdeal
public import proofs.«01_k».proof.Proof.Gen.NarrowDwReferenceIdeal.Run
public import proofs.«01_k».proof.Proof.Gen.NarrowDx
public import proofs.«01_k».proof.Proof.Gen.NarrowDxIdeal
public import proofs.«01_k».proof.Proof.Gen.NarrowDxIdeal.Value
public import proofs.«01_k».proof.Proof.Gen.NarrowDxReferenceIdeal
public import proofs.«01_k».proof.Proof.Gen.NarrowDxReferenceIdeal.Run
public import proofs.«01_k».proof.Proof.DownDx
public import proofs.«01_k».proof.Proof.DownDw
public import proofs.«01_k».proof.Proof.UpDw
public import proofs.«01_k».proof.Proof.UpDx
public import proofs.«01_k».proof.Proof.InDx
public import proofs.«01_k».proof.Proof.InDwA
public import proofs.«01_k».proof.Proof.InDwB
public import proofs.«01_k».proof.Proof.OutDw
public import proofs.«01_k».proof.Proof.OutDx
public import proofs.«01_k».proof.Proof.GateDw
public import proofs.«01_k».proof.Proof.GateDx
public import proofs.«01_k».proof.Proof.PleDw
public import proofs.«01_k».proof.Proof.InFwd
public import proofs.«01_k».proof.Proof.UpFwd
public import proofs.«01_k».proof.Proof.DownFwd
public import proofs.«01_k».proof.Proof.OutFwd
public import proofs.«01_k».proof.Proof.GateFwd
public import proofs.«01_k».proof.Proof.PleFwd
public import proofs.«01_k».proof.Proof.Narrow
public import proofs.«01_k».proof.Proof.NarrowDw
public import proofs.«01_k».proof.Proof.NarrowDx
public import proofs.«01_k».proof.Proof.Run
public import proofs.«01_k».proof.Proof.RunIdeal
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts,
    Cert.DownDx.Gen.facts, Cert.DownDxIdeal.Gen.facts, Cert.DownDxReferenceIdeal.Gen.facts,
    Cert.DownDw.Gen.facts, Cert.DownDwIdeal.Gen.facts, Cert.DownDwReferenceIdeal.Gen.facts,
    Cert.UpDw.Gen.facts, Cert.UpDwIdeal.Gen.facts, Cert.UpDwReferenceIdeal.Gen.facts,
    Cert.UpDx.Gen.facts, Cert.UpDxIdeal.Gen.facts, Cert.UpDxReferenceIdeal.Gen.facts,
    Cert.InDx.Gen.facts, Cert.InDxIdeal.Gen.facts, Cert.InDxReferenceIdeal.Gen.facts,
    Cert.InDwA.Gen.facts, Cert.InDwAIdeal.Gen.facts, Cert.InDwAReferenceIdeal.Gen.facts,
    Cert.InDwB.Gen.facts, Cert.InDwBIdeal.Gen.facts, Cert.InDwBReferenceIdeal.Gen.facts,
    Cert.OutDw.Gen.facts, Cert.OutDwIdeal.Gen.facts, Cert.OutDwReferenceIdeal.Gen.facts,
    Cert.OutDx.Gen.facts, Cert.OutDxIdeal.Gen.facts, Cert.OutDxReferenceIdeal.Gen.facts,
    Cert.GateDw.Gen.facts, Cert.GateDwIdeal.Gen.facts, Cert.GateDwReferenceIdeal.Gen.facts,
    Cert.GateDx.Gen.facts, Cert.GateDxIdeal.Gen.facts, Cert.GateDxReferenceIdeal.Gen.facts,
    Cert.PleDw.Gen.facts, Cert.PleDwIdeal.Gen.facts, Cert.PleDwReferenceIdeal.Gen.facts,
    Cert.InFwd.Gen.facts, Cert.InFwdIdeal.Gen.facts, Cert.InFwdReferenceIdeal.Gen.facts,
    Cert.UpFwd.Gen.facts, Cert.UpFwdIdeal.Gen.facts, Cert.UpFwdReferenceIdeal.Gen.facts,
    Cert.DownFwd.Gen.facts, Cert.DownFwdIdeal.Gen.facts, Cert.DownFwdReferenceIdeal.Gen.facts,
    Cert.OutFwd.Gen.facts, Cert.OutFwdIdeal.Gen.facts, Cert.OutFwdReferenceIdeal.Gen.facts,
    Cert.GateFwd.Gen.facts, Cert.GateFwdIdeal.Gen.facts, Cert.GateFwdReferenceIdeal.Gen.facts,
    Cert.PleFwd.Gen.facts, Cert.PleFwdIdeal.Gen.facts, Cert.PleFwdReferenceIdeal.Gen.facts,
    Cert.Narrow.Gen.facts, Cert.NarrowIdeal.Gen.facts, Cert.NarrowReferenceIdeal.Gen.facts,
    Cert.NarrowDw.Gen.facts, Cert.NarrowDwIdeal.Gen.facts, Cert.NarrowDwReferenceIdeal.Gen.facts,
    Cert.NarrowDx.Gen.facts, Cert.NarrowDxIdeal.Gen.facts, Cert.NarrowDxReferenceIdeal.Gen.facts,
    fun m g _ => Cert.Kernel.Hand.frame m g,
    fun m g _ => Cert.KernelIdeal.Hand.frame m g,
    Cert.DownDx.Hand.frame, Cert.DownDx.Hand.frameIdeal, Cert.DownDx.Hand.frameReference,
    Cert.DownDw.Hand.frame, Cert.DownDw.Hand.frameIdeal, Cert.DownDw.Hand.frameReference,
    Cert.UpDw.Hand.frame, Cert.UpDw.Hand.frameIdeal, Cert.UpDw.Hand.frameReference,
    Cert.UpDx.Hand.frame, Cert.UpDx.Hand.frameIdeal, Cert.UpDx.Hand.frameReference,
    Cert.InDx.Hand.frame, Cert.InDx.Hand.frameIdeal, Cert.InDx.Hand.frameReference,
    Cert.InDwA.Hand.frame, Cert.InDwA.Hand.frameIdeal, Cert.InDwA.Hand.frameReference,
    Cert.InDwB.Hand.frame, Cert.InDwB.Hand.frameIdeal, Cert.InDwB.Hand.frameReference,
    Cert.OutDw.Hand.frame, Cert.OutDw.Hand.frameIdeal, Cert.OutDw.Hand.frameReference,
    Cert.OutDx.Hand.frame, Cert.OutDx.Hand.frameIdeal, Cert.OutDx.Hand.frameReference,
    Cert.GateDw.Hand.frame, Cert.GateDw.Hand.frameIdeal, Cert.GateDw.Hand.frameReference,
    Cert.GateDx.Hand.frame, Cert.GateDx.Hand.frameIdeal, Cert.GateDx.Hand.frameReference,
    Cert.PleDw.Hand.frame, Cert.PleDw.Hand.frameIdeal, Cert.PleDw.Hand.frameReference,
    Cert.InFwd.Hand.frame, Cert.InFwd.Hand.frameIdeal, Cert.InFwd.Hand.frameReference,
    Cert.UpFwd.Hand.frame, Cert.UpFwd.Hand.frameIdeal, Cert.UpFwd.Hand.frameReference,
    Cert.DownFwd.Hand.frame, Cert.DownFwd.Hand.frameIdeal, Cert.DownFwd.Hand.frameReference,
    Cert.OutFwd.Hand.frame, Cert.OutFwd.Hand.frameIdeal, Cert.OutFwd.Hand.frameReference,
    Cert.GateFwd.Hand.frame, Cert.GateFwd.Hand.frameIdeal, Cert.GateFwd.Hand.frameReference,
    Cert.PleFwd.Hand.frame, Cert.PleFwd.Hand.frameIdeal, Cert.PleFwd.Hand.frameReference,
    Cert.Narrow.Hand.frame, Cert.Narrow.Hand.frameIdeal, Cert.Narrow.Hand.frameReference,
    Cert.NarrowDw.Hand.frame, Cert.NarrowDw.Hand.frameIdeal, Cert.NarrowDw.Hand.frameReference,
    Cert.NarrowDx.Hand.frame, Cert.NarrowDx.Hand.frameIdeal, Cert.NarrowDx.Hand.frameReference,
    trivial, Cert.DownDx.Hand.algebraic,
    trivial, Cert.DownDw.Hand.algebraic,
    trivial, Cert.UpDw.Hand.algebraic,
    trivial, Cert.UpDx.Hand.algebraic,
    trivial, Cert.InDx.Hand.algebraic,
    trivial, Cert.InDwA.Hand.algebraic,
    trivial, Cert.InDwB.Hand.algebraic,
    trivial, Cert.OutDw.Hand.algebraic,
    trivial, Cert.OutDx.Hand.algebraic,
    trivial, Cert.GateDw.Hand.algebraic,
    trivial, Cert.GateDx.Hand.algebraic,
    trivial, Cert.PleDw.Hand.algebraic,
    trivial, Cert.InFwd.Hand.algebraic,
    trivial, Cert.UpFwd.Hand.algebraic,
    trivial, Cert.DownFwd.Hand.algebraic,
    trivial, Cert.OutFwd.Hand.algebraic,
    trivial, Cert.GateFwd.Hand.algebraic,
    trivial, Cert.PleFwd.Hand.algebraic,
    trivial, Cert.Narrow.Hand.algebraic,
    trivial, Cert.NarrowDw.Hand.algebraic,
    trivial, Cert.NarrowDx.Hand.algebraic⟩

end Cert.Proof

end
